-- ==== Defs.lean ====
def Pre_Kernel [hPre_tokens_in_range : Cert.Pre_tokens_in_range.Facts] (m : (ℓ : Loc Cert.Kernel.nD Cert.Kernel.τ Cert.Kernel.sig) → Buf (Elt Bits) ℓ) : Prop :=
  ∀ c : Dev Cert.Kernel.nD,
    (Cert.Pre_tokens_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_tokens_in_range : Cert.Pre_tokens_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_range [hPre_tokens_in_range : Cert.Pre_tokens_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_tokens_in_range : Cert.Pre_tokens_in_range.Facts] (m : (ℓ : Loc Cert.Reference.nD Cert.Reference.τ Cert.Reference.sig) → Buf (Elt Bits) ℓ) : Prop :=
  ∀ c : Dev Cert.Reference.nD,
    (Cert.Pre_tokens_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_experts_in_range : Cert.Pre_experts_in_range.Facts] (m : (ℓ : Loc Cert.Kernel3.nD Cert.Kernel3.τ Cert.Kernel3.sig) → Buf (Elt Bits) ℓ) : Prop :=
  ∀ c : Dev Cert.Kernel3.nD,
    (Cert.Pre_experts_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3))) = (fun _ => 1#1)

def Pre_Kernel3Ideal [hPre_experts_in_range : Cert.Pre_experts_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts_in_range [hPre_experts_in_range : Cert.Pre_experts_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel6 [hPre_owners_in_range : Cert.Pre_owners_in_range.Facts] (m : (ℓ : Loc Cert.Kernel6.nD Cert.Kernel6.τ Cert.Kernel6.sig) → Buf (Elt Bits) ℓ) : Prop :=
  ∀ c : Dev Cert.Kernel6.nD,
    (Cert.Pre_owners_in_range.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4))) = (fun _ => 1#1)

def Pre_Kernel6Ideal [hPre_owners_in_range : Cert.Pre_owners_in_range.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_owners_in_range.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_owners_in_range [hPre_owners_in_range : Cert.Pre_owners_in_range.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_owners_in_range.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_slots_in_range : Cert.Pre_slots_in_range.Facts] (m : (ℓ : Loc Cert.Kernel5.nD Cert.Kernel5.τ Cert.Kernel5.sig) → Buf (Elt Bits) ℓ) : Prop :=
  ∀ c : Dev Cert.Kernel5.nD,
    (Cert.Pre_slots_in_range.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4))) = (fun _ => 1#1)

def Pre_Kernel5Ideal [hPre_slots_in_range : Cert.Pre_slots_in_range.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_slots_in_range.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_slots_in_range [hPre_slots_in_range : Cert.Pre_slots_in_range.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_slots_in_range.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] [hPre_tokens_in_range : Cert.Pre_tokens_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_tokens_in_range [hReferenceIdeal : Cert.ReferenceIdeal.Facts] [hPre_tokens_in_range : Cert.Pre_tokens_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_tokens_in_range : Cert.Pre_tokens_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] [hPre_experts_in_range : Cert.Pre_experts_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] [hPre_experts_in_range : Cert.Pre_experts_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_experts_in_range [hReference3Ideal : Cert.Reference3Ideal.Facts] [hPre_experts_in_range : Cert.Pre_experts_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel6 [hKernel6 : Cert.Kernel6.Facts] [hPre_owners_in_range : Cert.Pre_owners_in_range.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] [hPre_owners_in_range : Cert.Pre_owners_in_range.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_owners_in_range [hReference6Ideal : Cert.Reference6Ideal.Facts] [hPre_owners_in_range : Cert.Pre_owners_in_range.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_owners_in_range m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] [hPre_slots_in_range : Cert.Pre_slots_in_range.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] [hPre_slots_in_range : Cert.Pre_slots_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_slots_in_range [hReference5Ideal : Cert.Reference5Ideal.Facts] [hPre_slots_in_range : Cert.Pre_slots_in_range.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_slots_in_range m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_tokens_in_range : Cert.Pre_tokens_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] [hPre_experts_in_range : Cert.Pre_experts_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel6_Kernel6Ideal : Prop :=
  True

def algebraic_Kernel6Ideal_Reference6Ideal [hKernel6Ideal : Cert.Kernel6Ideal.Facts] [hReference6Ideal : Cert.Reference6Ideal.Facts] [hPre_owners_in_range : Cert.Pre_owners_in_range.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] [hPre_slots_in_range : Cert.Pre_slots_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v38) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  IdealRules.named_const.Statement Cert.Kernel8Ideal.κ "inv_sqrt_head" .f32 0x3DB504F3#32 (((Real.sqrt 128)⁻¹ : ℝ) : EReal)

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v66) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  IdealRules.named_const.Statement Cert.Kernel9Ideal.κ "inv_sqrt_head" .f32 0x3DB504F3#32 (((Real.sqrt 128)⁻¹ : ℝ) : EReal)

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v20)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v20) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v82) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel6 : Cert.Kernel6.Facts) (hKernel6Ideal : Cert.Kernel6Ideal.Facts) (hReference6Ideal : Cert.Reference6Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_tokens_in_range : Cert.Pre_tokens_in_range.Facts) (hPre_experts_in_range : Cert.Pre_experts_in_range.Facts) (hPre_owners_in_range : Cert.Pre_owners_in_range.Facts) (hPre_slots_in_range : Cert.Pre_slots_in_range.Facts),
    quiescent_Kernel (hKernel := hKernel) (hPre_tokens_in_range := hPre_tokens_in_range)
    ∧ quiescent_KernelIdeal (hKernelIdeal := hKernelIdeal) (hPre_tokens_in_range := hPre_tokens_in_range)
    ∧ quiescent_ReferenceIdeal (hReferenceIdeal := hReferenceIdeal)
    ∧ quiescent_ReferenceIdeal_pre_tokens_in_range (hReferenceIdeal := hReferenceIdeal) (hPre_tokens_in_range := hPre_tokens_in_range)
    ∧ quiescent_Reference (hReference := hReference) (hPre_tokens_in_range := hPre_tokens_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_experts_in_range := hPre_experts_in_range)
    ∧ quiescent_Kernel3Ideal (hKernel3Ideal := hKernel3Ideal) (hPre_experts_in_range := hPre_experts_in_range)
    ∧ quiescent_Reference3Ideal (hReference3Ideal := hReference3Ideal)
    ∧ quiescent_Reference3Ideal_pre_experts_in_range (hReference3Ideal := hReference3Ideal) (hPre_experts_in_range := hPre_experts_in_range)
    ∧ quiescent_Kernel6 (hKernel6 := hKernel6) (hPre_owners_in_range := hPre_owners_in_range)
    ∧ quiescent_Kernel6Ideal (hKernel6Ideal := hKernel6Ideal) (hPre_owners_in_range := hPre_owners_in_range)
    ∧ quiescent_Reference6Ideal (hReference6Ideal := hReference6Ideal)
    ∧ quiescent_Reference6Ideal_pre_owners_in_range (hReference6Ideal := hReference6Ideal) (hPre_owners_in_range := hPre_owners_in_range)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_slots_in_range := hPre_slots_in_range)
    ∧ quiescent_Kernel5Ideal (hKernel5Ideal := hKernel5Ideal) (hPre_slots_in_range := hPre_slots_in_range)
    ∧ quiescent_Reference5Ideal (hReference5Ideal := hReference5Ideal)
    ∧ quiescent_Reference5Ideal_pre_slots_in_range (hReference5Ideal := hReference5Ideal) (hPre_slots_in_range := hPre_slots_in_range)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal) (hPre_tokens_in_range := hPre_tokens_in_range)
    ∧ bitexact_Kernel_Reference (hKernel := hKernel) (hReference := hReference) (hPre_tokens_in_range := hPre_tokens_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_experts_in_range := hPre_experts_in_range)
    ∧ preserves_Kernel6_Kernel6Ideal
    ∧ algebraic_Kernel6Ideal_Reference6Ideal (hKernel6Ideal := hKernel6Ideal) (hReference6Ideal := hReference6Ideal) (hPre_owners_in_range := hPre_owners_in_range)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_slots_in_range := hPre_slots_in_range)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_experts_in_range.lean ====
abbrev S73728x4096 : Shape := ⟨2, ![73728, 4096]⟩
abbrev S32x4096x3072 : Shape := ⟨3, ![32, 4096, 3072]⟩
abbrev S32x3072 : Shape := ⟨2, ![32, 3072]⟩
abbrev S288 : Shape := ⟨1, ![288]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel

variable [Facts]

def fn {F : FTy → Type} [FloatOps F] (main_arg0 : FVec F S73728x4096 .f32) (main_arg1 : FVec F S32x4096x3072 .f32) (main_arg2 : FVec F S32x3072 .f32) (main_arg3 : IVec S288 32) : IVec S_ 1 :=
  let main_c : IVec S_ 32 := constantI S_ 32 0#32
  let main_v0 : IVec S288 32 := broadcastInDim S288 ![] bcast_S_S288 main_c
  let main_v1 : IVec S288 1 := cmpi .sge main_arg3 main_v0
  let main_c_0 : IVec S_ 32 := constantI S_ 32 32#32
  let main_v2 : IVec S288 32 := broadcastInDim S288 ![] bcast_S_S288 main_c_0
  let main_v3 : IVec S288 1 := cmpi .slt main_arg3 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  main_v5
-- ==== Pre_owners_in_range.lean ====
abbrev S73728x1536 : Shape := ⟨2, ![73728, 1536]⟩
abbrev S32x1536x4096 : Shape := ⟨3, ![32, 1536, 4096]⟩
abbrev S32x4096 : Shape := ⟨2, ![32, 4096]⟩
abbrev S73728 : Shape := ⟨1, ![73728]⟩
abbrev S288 : Shape := ⟨1, ![288]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel

variable [Facts]

def fn {F : FTy → Type} [FloatOps F] (main_arg0 : FVec F S73728x1536 .bf16) (main_arg1 : FVec F S32x1536x4096 .f32) (main_arg2 : FVec F S32x4096 .f32) (main_arg3 : FVec F S73728 .f32) (main_arg4 : IVec S288 32) : IVec S_ 1 :=
  let main_c : IVec S_ 32 := constantI S_ 32 0#32
  let main_v0 : IVec S288 32 := broadcastInDim S288 ![] bcast_S_S288 main_c
  let main_v1 : IVec S288 1 := cmpi .sge main_arg4 main_v0
  let main_c_0 : IVec S_ 32 := constantI S_ 32 32#32
  let main_v2 : IVec S288 32 := broadcastInDim S288 ![] bcast_S_S288 main_c_0
  let main_v3 : IVec S288 1 := cmpi .slt main_arg4 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  main_v5
-- ==== Pre_slots_in_range.lean ====
abbrev S16384x4096 : Shape := ⟨2, ![16384, 4096]⟩
abbrev S8x1x4096 : Shape := ⟨3, ![8, 1, 4096]⟩
abbrev S4096 : Shape := ⟨1, ![4096]⟩
abbrev S73728x4096 : Shape := ⟨2, ![73728, 4096]⟩
abbrev S65536 : Shape := ⟨1, ![65536]⟩
abbrev S_ : Shape := ⟨0, ![]⟩

class Facts : Prop where
  bcast_S_S65536 : S_.BroadcastsInDim S65536 (![] : Fin 0 → Fin S65536.rank)
  reducesTo_S65536_S_d0 : S65536.ReducesTo [0] S_
  h_S_ : 0 < S_.numel

variable [Facts]

def fn {F : FTy → Type} [FloatOps F] (main_arg0 : FVec F S16384x4096 .f32) (main_arg1 : FVec F S8x1x4096 .f32) (main_arg2 : FVec F S4096 .f32) (main_arg3 : FVec F S73728x4096 .f32) (main_arg4 : IVec S65536 32) : IVec S_ 1 :=
  let main_c : IVec S_ 32 := constantI S_ 32 0#32
  let main_v0 : IVec S65536 32 := broadcastInDim S65536 ![] bcast_S_S65536 main_c
  let main_v1 : IVec S65536 1 := cmpi .sge main_arg4 main_v0
  let main_c_0 : IVec S_ 32 := constantI S_ 32 73728#32
  let main_v2 : IVec S65536 32 := broadcastInDim S65536 ![] bcast_S_S65536 main_c_0
  let main_v3 : IVec S65536 1 := cmpi .slt main_arg4 main_v2
  let main_v4 : IVec S65536 1 := andi main_v1 main_v3
  let main_c_1 : IVec S_ 1 := constantI S_ 1 1#1
  let main_v5 : IVec S_ 1 := (fun x v => Host.reduce IntOp.andi x v reducesTo_S65536_S_d0 h_S_) main_v4 main_c_1
  main_v5
-- ==== Pre_tokens_in_range.lean ====
abbrev S73728 : Shape := ⟨1, ![73728]⟩
abbrev S16384x4096 : Shape := ⟨2, ![16384, 4096]⟩
abbrev S_ : Shape := ⟨0, ![]⟩

class Facts : Prop where
  bcast_S_S73728 : S_.BroadcastsInDim S73728 (![] : Fin 0 → Fin S73728.rank)
  reducesTo_S73728_S_d0 : S73728.ReducesTo [0] S_
  h_S_ : 0 < S_.numel

variable [Facts]

def fn {F : FTy → Type} [FloatOps F] (main_arg0 : IVec S73728 32) (main_arg1 : FVec F S16384x4096 .f32) : IVec S_ 1 :=
  let main_c : IVec S_ 32 := constantI S_ 32 0#32
  let main_v0 : IVec S73728 32 := broadcastInDim S73728 ![] bcast_S_S73728 main_c
  let main_v1 : IVec S73728 1 := cmpi .sge main_arg0 main_v0
  let main_c_0 : IVec S_ 32 := constantI S_ 32 16384#32
  let main_v2 : IVec S73728 32 := broadcastInDim S73728 ![] bcast_S_S73728 main_c_0
  let main_v3 : IVec S73728 1 := cmpi .slt main_arg0 main_v2
  let main_v4 : IVec S73728 1 := andi main_v1 main_v3
  let main_c_1 : IVec S_ 1 := constantI S_ 1 1#1
  let main_v5 : IVec S_ 1 := (fun x v => Host.reduce IntOp.andi x v reducesTo_S73728_S_d0 h_S_) main_v4 main_c_1
  main_v5
-- ==== Kernel.lean ====
abbrev S73728 : Shape := ⟨1, ![73728]⟩
abbrev S16384x4096 : Shape := ⟨2, ![16384, 4096]⟩
abbrev S73728x4096 : Shape := ⟨2, ![73728, 4096]⟩
abbrev S256 : Shape := ⟨1, ![256]⟩
abbrev S_ : Shape := ⟨0, ![]⟩
abbrev S1 : Shape := ⟨1, ![1]⟩
abbrev S1x4096 : Shape := ⟨2, ![1, 4096]⟩

abbrev nBuf : Space → Nat
  | .hbm => 3
  | .vmem => 0
  | .smem => 2
  | _ => 0

abbrev bufTy : (tb : Table) → Fin (tcTables nBuf tb) → BufTy
  | .hbm, ⟨0, _⟩ => ⟨S73728, .i32⟩
  | .hbm, ⟨1, _⟩ => ⟨S16384x4096, .f32⟩
  | .hbm, ⟨2, _⟩ => ⟨S73728x4096, .f32⟩
  | .local _ .smem, ⟨0, _⟩ => ⟨S256, .i32⟩
  | .local _ .smem, ⟨1, _⟩ => ⟨S256, .i32⟩
  | _, _ => ⟨S73728, .i32⟩

abbrev bufScoped : (cs : CoreSpace) → Fin (nBuf (.core cs)) → Bool
  | .smem, ⟨0, _⟩ => true
  | .smem, ⟨1, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![288], ![false]⟩

@[reducible] def k0_t1_loop : Scf.Loop 32 :=
  let c0_i32 : BitVec 32 := 0#32
  let c256_i32_0 : BitVec 32 := 256#32
  let v1 : BitVec 32 := Scalar.addi c0_i32 c256_i32_0
  let c1_i32 : BitVec 32 := 1#32
  ⟨c0_i32, v1, c1_i32⟩
def k0_off1 (k0_t1 : Fin k0_t1_loop.trips) : Fin 1 → Nat :=
  let c0_i32 : BitVec 32 := 0#32
  let c1_i32 : BitVec 32 := 1#32
  let arg5 : BitVec 32 := Scf.iv c0_i32 c1_i32 k0_t1
  let v3 : Index := Scalar.indexCast arg5
  ![v3.toNat]
def k0_off2 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg5 : BitVec 32 := Scf.iv c0_i32 c1_i32 k0_t1
  let v5 : BitVec 32 := Scalar.addi v0 arg5
  let c0_i32_6 : BitVec 32 := 0#32
  ![v5.toNat, 0]
def k0_off3 (v4 : BitVec 32) : Fin 2 → Nat :=
  let c0_i32_7 : BitVec 32 := 0#32
  ![v4.toNat, 0]

def k0_chk1 (v4 : BitVec 32) : Prop :=
  (∀ a, (k0_off3 v4) a + S1x4096.size a ≤ S16384x4096.size a)
theorem k0_off3_inb : ∀ (v4 : BitVec 32) (k0_hw1 : k0_chk1 v4), ∀ a, (k0_off3 v4) a + S1x4096.size a ≤ S16384x4096.size a := fun v4 k0_hw1 => k0_hw1

@[reducible] def k0_t2_loop : Scf.Loop 32 :=
  let c0_i32_2 : BitVec 32 := 0#32
  let c256_i32_3 : BitVec 32 := 256#32
  let v2 : BitVec 32 := Scalar.addi c0_i32_2 c256_i32_3
  let c1_i32_4 : BitVec 32 := 1#32
  ⟨c0_i32_2, v2, c1_i32_4⟩
def k0_off4 (k0_t2 : Fin k0_t2_loop.trips) : Fin 1 → Nat :=
  let c0_i32_2 : BitVec 32 := 0#32
  let c1_i32_4 : BitVec 32 := 1#32
  let arg5 : BitVec 32 := Scf.iv c0_i32_2 c1_i32_4 k0_t2
  let v3 : Index := Scalar.indexCast arg5
  ![v3.toNat]
def k0_off5 (i : grid0.Coords) (k0_t2 : Fin k0_t2_loop.trips) : Fin 2 → Nat :=
  let arg0 : BitVec 32 := BitVec.ofNat 32 (i 0).val
  let c256_i32 : BitVec 32 := 256#32
  let v0 : BitVec 32 := Scalar.muli arg0 c256_i32
  let c0_i32_2 : BitVec 32 := 0#32
  let c1_i32_4 : BitVec 32 := 1#32
  let arg5 : BitVec 32 := Scf.iv c0_i32_2 c1_i32_4 k0_t2
  let v5 : BitVec 32 := Scalar.addi v0 arg5
  let c0_i32_6 : BitVec 32 := 0#32
  ![v5.toNat, 0]
def k0_off6 (v4 : BitVec 32) : Fin 2 → Nat :=
  let c0_i32_7 : BitVec 32 := 0#32
  ![v4.toNat, 0]

def k0_chk2 (v4 : BitVec 32) : Prop :=
  (∀ a, (k0_off6 v4) a + S1x4096.size a ≤ S16384x4096.size a)
theorem k0_off6_inb : ∀ (v4 : BitVec 32) (k0_hw2 : k0_chk2 v4), ∀ a, (k0_off6 v4) a + S1x4096.size a ≤ S16384x4096.size a := fun v4 k0_hw2 => k0_hw2

def cc0_transform_0 (i : grid0.Coords) : Fin 1 → Nat :=
  let arg0 : BitVec 32 := BitVec.ofNat 32 (i 0).val
  let c0_i32 : BitVec 32 := 0#32
  ![arg0.toNat]

abbrev stage0_0 : Fin 2 → Memref sig .tc .smem S256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== Reference.lean ====
abbrev S73728 : Shape := ⟨1, ![73728]⟩
abbrev S16384x4096 : Shape := ⟨2, ![16384, 4096]⟩
abbrev S_ : Shape := ⟨0, ![]⟩
abbrev S73728x1 : Shape := ⟨2, ![73728, 1]⟩
abbrev S73728x4096 : Shape := ⟨2, ![73728, 4096]⟩

abbrev nBuf : Space → Nat
  | .hbm => 11
  | .vmem => 0
  | .smem => 0
  | _ => 0

abbrev bufTy : (tb : Table) → Fin (tcTables nBuf tb) → BufTy
  | .hbm, ⟨0, _⟩ => ⟨S73728, .i32⟩
  | .hbm, ⟨1, _⟩ => ⟨S16384x4096, .f32⟩
  | .hbm, ⟨2, _⟩ => ⟨S_, .i32⟩
  | .hbm, ⟨3, _⟩ => ⟨S73728, .i32⟩
  | .hbm, ⟨4, _⟩ => ⟨S73728, .i1⟩
  | .hbm, ⟨5, _⟩ => ⟨S_, .i32⟩
  | .hbm, ⟨6, _⟩ => ⟨S73728, .i32⟩
  | .hbm, ⟨7, _⟩ => ⟨S73728, .i32⟩
  | .hbm, ⟨8, _⟩ => ⟨S73728, .i32⟩
  | .hbm, ⟨9, _⟩ => ⟨S73728x1, .i32⟩
  | .hbm, ⟨10, _⟩ => ⟨S73728x4096, .f32⟩
  | _, _ => ⟨S73728, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel2.lean ====
abbrev S4x4096x4096 : Shape := ⟨3, ![4, 4096, 4096]⟩
abbrev S4x4096 : Shape := ⟨2, ![4, 4096]⟩
abbrev S4096 : Shape := ⟨1, ![4096]⟩
abbrev S4096x24576 : Shape := ⟨2, ![4096, 24576]⟩
abbrev S24576 : Shape := ⟨1, ![24576]⟩
abbrev S4096x20544 : Shape := ⟨2, ![4096, 20544]⟩
abbrev S1x4096 : Shape := ⟨2, ![1, 4096]⟩
abbrev S_ : Shape := ⟨0, ![]⟩
abbrev S3x4096 : Shape := ⟨2, ![3, 4096]⟩
abbrev S8x4096 : Shape := ⟨2, ![8, 4096]⟩
abbrev S1x24576 : Shape := ⟨2, ![1, 24576]⟩
abbrev S8x24576 : Shape := ⟨2, ![8, 24576]⟩
abbrev S4096x512 : Shape := ⟨2, ![4096, 512]⟩
abbrev S1x512 : Shape := ⟨2, ![1, 512]⟩
abbrev S8x512 : Shape := ⟨2, ![8, 512]⟩
abbrev S8x1x4096 : Shape := ⟨3, ![8, 1, 4096]⟩
abbrev S4096x4096 : Shape := ⟨2, ![4096, 4096]⟩
abbrev S4096x16384 : Shape := ⟨2, ![4096, 16384]⟩
abbrev S4096x20480 : Shape := ⟨2, ![4096, 20480]⟩
abbrev S1x512x4096 : Shape := ⟨3, ![1, 512, 4096]⟩
abbrev S1x1x4096 : Shape := ⟨3, ![1, 1, 4096]⟩
abbrev S512x4096 : Shape := ⟨2, ![512, 4096]⟩
abbrev S512 : Shape := ⟨1, ![512]⟩
abbrev S512x1 : Shape := ⟨2, ![512, 1]⟩
abbrev S16384x4096 : Shape := ⟨2, ![16384, 4096]⟩
abbrev S16384x20480 : Shape := ⟨2, ![16384, 20480]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 25
  | .vmem => 22
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .f32⟩
  | .hbm, ⟨2, _⟩ => ⟨S4096, .f32⟩
  | .hbm, ⟨3, _⟩ => ⟨S4096x24576, .f32⟩
  | .hbm, ⟨4, _⟩ => ⟨S24576, .f32⟩
  | .hbm, ⟨5, _⟩ => ⟨S4096, .f32⟩
  | .hbm, ⟨6, _⟩ => ⟨S4096x20544, .f32⟩
  | .hbm, ⟨7, _⟩ => ⟨S1x4096, .f32⟩
  | .hbm, ⟨8, _⟩ => ⟨S_, .f32⟩
  | .hbm, ⟨9, _⟩ => ⟨S3x4096, .f32⟩
  | .hbm, ⟨10, _⟩ => ⟨S8x4096, .f32⟩
  | .hbm, ⟨11, _⟩ => ⟨S1x24576, .f32⟩
  | .hbm, ⟨12, _⟩ => ⟨S8x24576, .f32⟩
  | .hbm, ⟨13, _⟩ => ⟨S8x4096, .f32⟩
  | .hbm, ⟨14, _⟩ => ⟨S8x1x4096, .f32⟩
  | .hbm, ⟨15, _⟩ => ⟨S8x4096, .f32⟩
  | .hbm, ⟨16, _⟩ => ⟨S8x1x4096, .f32⟩
  | .hbm, ⟨17, _⟩ => ⟨S4096x4096, .f32⟩
  | .hbm, ⟨18, _⟩ => ⟨S4096x16384, .f32⟩
  | .hbm, ⟨19, _⟩ => ⟨S4096x20480, .f32⟩
  | .hbm, ⟨20, _⟩ => ⟨S4096x20480, .bf16⟩
  | .hbm, ⟨21, _⟩ => ⟨S1x4096, .f32⟩
  | .hbm, ⟨22, _⟩ => ⟨S4x4096x4096, .bf16⟩
  | .hbm, ⟨23, _⟩ => ⟨S16384x4096, .bf16⟩
  | .hbm, ⟨24, _⟩ => ⟨S16384x20480, .f32⟩
  | .local _ .vmem, ⟨0, _⟩ => ⟨S8x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | .local _ .vmem, ⟨7, _⟩ => ⟨S1x512x4096, .f32⟩
  | .local _ .vmem, ⟨8, _⟩ => ⟨S1x512x4096, .f32⟩
  | .local _ .vmem, ⟨9, _⟩ => ⟨S1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x1x4096, .f32⟩
  | .local _ .vmem, ⟨13, _⟩ => ⟨S1x1x4096, .f32⟩
  | .local _ .vmem, ⟨14, _⟩ => ⟨S1x512x4096, .bf16⟩
  | .local _ .vmem, ⟨15, _⟩ => ⟨S1x512x4096, .bf16⟩
  | .local _ .vmem, ⟨16, _⟩ => ⟨S1024x4096, .bf16⟩
  | .local _ .vmem, ⟨17, _⟩ => ⟨S1024x4096, .bf16⟩
  | .local _ .vmem, ⟨18, _⟩ => ⟨S4096x1024, .bf16⟩
  | .local _ .vmem, ⟨19, _⟩ => ⟨S4096x1024, .bf16⟩
  | .local _ .vmem, ⟨20, _⟩ => ⟨S1024x1024, .f32⟩
  | .local _ .vmem, ⟨21, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512x4096 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![16, 20], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== Reference2Ideal.lean ====
abbrev S4x4096x4096 : Shape := ⟨3, ![4, 4096, 4096]⟩
abbrev S4x4096 : Shape := ⟨2, ![4, 4096]⟩
abbrev S4096 : Shape := ⟨1, ![4096]⟩
abbrev S4096x24576 : Shape := ⟨2, ![4096, 24576]⟩
abbrev S24576 : Shape := ⟨1, ![24576]⟩
abbrev S4096x20544 : Shape := ⟨2, ![4096, 20544]⟩
abbrev S_ : Shape := ⟨0, ![]⟩
abbrev S4x24576 : Shape := ⟨2, ![4, 24576]⟩
abbrev S1x24576 : Shape := ⟨2, ![1, 24576]⟩
abbrev S4x1x4096 : Shape := ⟨3, ![4, 1, 4096]⟩
abbrev S4x4096x1 : Shape := ⟨3, ![4, 4096, 1]⟩
abbrev S1x1x4096 : Shape := ⟨3, ![1, 1, 4096]⟩
abbrev S16384x4096 : Shape := ⟨2, ![16384, 4096]⟩
abbrev S16384x20544 : Shape := ⟨2, ![16384, 20544]⟩
abbrev S16384x16384 : Shape := ⟨2, ![16384, 16384]⟩
abbrev S16384x20480 : Shape := ⟨2, ![16384, 20480]⟩

abbrev nBuf : Space → Nat
  | .hbm => 52
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .f32⟩
  | .hbm, ⟨2, _⟩ => ⟨S4096, .f32⟩
  | .hbm, ⟨3, _⟩ => ⟨S4096x24576, .f32⟩
  | .hbm, ⟨4, _⟩ => ⟨S24576, .f32⟩
  | .hbm, ⟨5, _⟩ => ⟨S4096, .f32⟩
  | .hbm, ⟨6, _⟩ => ⟨S4096x20544, .f32⟩
  | .hbm, ⟨7, _⟩ => ⟨S4x4096, .f32⟩
  | .hbm, ⟨8, _⟩ => ⟨S4x4096, .f32⟩
  | .hbm, ⟨9, _⟩ => ⟨S_, .f32⟩
  | .hbm, ⟨10, _⟩ => ⟨S4x4096, .f32⟩
  | .hbm, ⟨11, _⟩ => ⟨S4x4096, .f32⟩
  | .hbm, ⟨12, _⟩ => ⟨S_, .f32⟩
  | .hbm, ⟨13, _⟩ => ⟨S4x4096, .f32⟩
  | .hbm, ⟨14, _⟩ => ⟨S4x4096, .f32⟩
  | .hbm, ⟨15, _⟩ => ⟨S4x4096, .f32⟩
  | .hbm, ⟨16, _⟩ => ⟨S4x24576, .f32⟩
  | .hbm, ⟨17, _⟩ => ⟨S1x24576, .f32⟩
  | .hbm, ⟨18, _⟩ => ⟨S4x24576, .f32⟩
  | .hbm, ⟨19, _⟩ => ⟨S4x24576, .f32⟩
  | .hbm, ⟨20, _⟩ => ⟨S4x4096, .f32⟩
  | .hbm, ⟨21, _⟩ => ⟨S4x1x4096, .f32⟩
  | .hbm, ⟨22, _⟩ => ⟨S4x4096, .f32⟩
  | .hbm, ⟨23, _⟩ => ⟨S4x1x4096, .f32⟩
  | .hbm, ⟨24, _⟩ => ⟨S4x4096x4096, .f32⟩
  | .hbm, ⟨25, _⟩ => ⟨S_, .f32⟩
  | .hbm, ⟨26, _⟩ => ⟨S4x4096, .f32⟩
  | .hbm, ⟨27, _⟩ => ⟨S4x4096x1, .f32⟩
  | .hbm, ⟨28, _⟩ => ⟨S_, .f32⟩
  | .hbm, ⟨29, _⟩ => ⟨S4x4096x1, .f32⟩
  | .hbm, ⟨30, _⟩ => ⟨S4x4096x1, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S4x4096x1, .f32⟩
  | .hbm, ⟨35, _⟩ => ⟨S4x4096x4096, .f32⟩
  | .hbm, ⟨36, _⟩ => ⟨S4x4096x4096, .f32⟩
  | .hbm, ⟨37, _⟩ => ⟨S1x1x4096, .f32⟩
  | .hbm, ⟨38, _⟩ => ⟨S4x4096x4096, .f32⟩
  | .hbm, ⟨39, _⟩ => ⟨S4x4096x4096, .f32⟩
  | .hbm, ⟨40, _⟩ => ⟨S_, .f32⟩
  | .hbm, ⟨41, _⟩ => ⟨S4x1x4096, .f32⟩
  | .hbm, ⟨42, _⟩ => ⟨S4x1x4096, .f32⟩
  | .hbm, ⟨43, _⟩ => ⟨S4x4096x4096, .f32⟩
  | .hbm, ⟨44, _⟩ => ⟨S4x4096x4096, .f32⟩
  | .hbm, ⟨45, _⟩ => ⟨S4x4096x4096, .f32⟩
  | .hbm, ⟨46, _⟩ => ⟨S4x4096x4096, .f32⟩
  | .hbm, ⟨47, _⟩ => ⟨S16384x4096, .f32⟩
  | .hbm, ⟨48, _⟩ => ⟨S16384x20544, .f32⟩
  | .hbm, ⟨49, _⟩ => ⟨S16384x4096, .f32⟩
  | .hbm, ⟨50, _⟩ => ⟨S16384x16384, .f32⟩
  | .hbm, ⟨51, _⟩ => ⟨S16384x20480, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Kernel3.lean ====
abbrev S73728x4096 : Shape := ⟨2, ![73728, 4096]⟩
abbrev S32x4096x3072 : Shape := ⟨3, ![32, 4096, 3072]⟩
abbrev S32x3072 : Shape := ⟨2, ![32, 3072]⟩
abbrev S288 : Shape := ⟨1, ![288]⟩
abbrev S32x1x3072 : Shape := ⟨3, ![32, 1, 3072]⟩
abbrev S73728x1536 : Shape := ⟨2, ![73728, 1536]⟩
abbrev S256x4096 : Shape := ⟨2, ![256, 4096]⟩
abbrev S1x4096x512 : Shape := ⟨3, ![1, 4096, 512]⟩
abbrev S1 : Shape := ⟨1, ![1]⟩
abbrev S1x1x512 : Shape := ⟨3, ![1, 1, 512]⟩
abbrev S256x512 : Shape := ⟨2, ![256, 512]⟩
abbrev S4096x512 : Shape := ⟨2, ![4096, 512]⟩
abbrev S1x512 : Shape := ⟨2, ![1, 512]⟩

abbrev nBuf : Space → Nat
  | .hbm => 7
  | .vmem => 12
  | .smem => 1
  | _ => 0

abbrev bufTy : (tb : Table) → Fin (tcTables nBuf tb) → BufTy
  | .hbm, ⟨0, _⟩ => ⟨S73728x4096, .f32⟩
  | .hbm, ⟨1, _⟩ => ⟨S32x4096x3072, .f32⟩
  | .hbm, ⟨2, _⟩ => ⟨S32x3072, .f32⟩
  | .hbm, ⟨3, _⟩ => ⟨S32x4096x3072, .bf16⟩
  | .hbm, ⟨4, _⟩ => ⟨S32x1x3072, .f32⟩
  | .hbm, ⟨5, _⟩ => ⟨S32x1x3072, .f32⟩
  | .hbm, ⟨6, _⟩ => ⟨S73728x1536, .bf16⟩
  | .local _ .vmem, ⟨0, _⟩ => ⟨S256x4096, .f32⟩
  | .local _ .vmem, ⟨1, _⟩ => ⟨S256x4096, .f32⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S256x512, .bf16⟩
  | .local _ .vmem, ⟨11, _⟩ => ⟨S256x512, .bf16⟩
  | .local _ .smem, ⟨0, _⟩ => ⟨S288, .i32⟩
  | _, _ => ⟨S73728x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![3, 288], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c3_i32 : BitVec 32 := 3#32
  let v2 : BitVec 32 := Scalar.addi c3_i32 arg0
  let c0_i32 : BitVec 32 := 0#32
  let c0_i32_0 : BitVec 32 := 0#32
  ![v1.toNat, c0_i32.toNat, v2.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat, arg0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c3_i32 : BitVec 32 := 3#32
  let v2 : BitVec 32 := Scalar.addi c3_i32 arg0
  let c0_i32 : BitVec 32 := 0#32
  let c0_i32_0 : BitVec 32 := 0#32
  ![v1.toNat, c0_i32.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S73728x4096 : Shape := ⟨2, ![73728, 4096]⟩
abbrev S32x4096x3072 : Shape := ⟨3, ![32, 4096, 3072]⟩
abbrev S32x3072 : Shape := ⟨2, ![32, 3072]⟩
abbrev S288 : Shape := ⟨1, ![288]⟩
abbrev S288x256x4096 : Shape := ⟨3, ![288, 256, 4096]⟩
abbrev S_ : Shape := ⟨0, ![]⟩
abbrev S288x1 : Shape := ⟨2, ![288, 1]⟩
abbrev S288x4096x3072 : Shape := ⟨3, ![288, 4096, 3072]⟩
abbrev S288x256x3072 : Shape := ⟨3, ![288, 256, 3072]⟩
abbrev S288x3072 : Shape := ⟨2, ![288, 3072]⟩
abbrev S288x1x3072 : Shape := ⟨3, ![288, 1, 3072]⟩
abbrev S288x256x1536 : Shape := ⟨3, ![288, 256, 1536]⟩
abbrev S73728x1536 : Shape := ⟨2, ![73728, 1536]⟩

abbrev nBuf : Space → Nat
  | .hbm => 58
  | .vmem => 0
  | .smem => 0
  | _ => 0

abbrev bufTy : (tb : Table) → Fin (tcTables nBuf tb) → BufTy
  | .hbm, ⟨0, _⟩ => ⟨S73728x4096, .f32⟩
  | .hbm, ⟨1, _⟩ => ⟨S32x4096x3072, .f32⟩
  | .hbm, ⟨2, _⟩ => ⟨S32x3072, .f32⟩
  | .hbm, ⟨3, _⟩ => ⟨S288, .i32⟩
  | .hbm, ⟨4, _⟩ => ⟨S288x256x4096, .f32⟩
  | .hbm, ⟨5, _⟩ => ⟨S_, .i32⟩
  | .hbm, ⟨6, _⟩ => ⟨S288, .i32⟩
  | .hbm, ⟨7, _⟩ => ⟨S288, .i1⟩
  | .hbm, ⟨8, _⟩ => ⟨S_, .i32⟩
  | .hbm, ⟨9, _⟩ => ⟨S288, .i32⟩
  | .hbm, ⟨10, _⟩ => ⟨S288, .i32⟩
  | .hbm, ⟨11, _⟩ => ⟨S288, .i32⟩
  | .hbm, ⟨12, _⟩ => ⟨S288x1, .i32⟩
  | .hbm, ⟨13, _⟩ => ⟨S288x4096x3072, .f32⟩
  | .hbm, ⟨14, _⟩ => ⟨S288x256x3072, .f32⟩
  | .hbm, ⟨15, _⟩ => ⟨S_, .i32⟩
  | .hbm, ⟨16, _⟩ => ⟨S288, .i32⟩
  | .hbm, ⟨17, _⟩ => ⟨S288, .i1⟩
  | .hbm, ⟨18, _⟩ => ⟨S_, .i32⟩
  | .hbm, ⟨19, _⟩ => ⟨S288, .i32⟩
  | .hbm, ⟨20, _⟩ => ⟨S288, .i32⟩
  | .hbm, ⟨21, _⟩ => ⟨S288, .i32⟩
  | .hbm, ⟨22, _⟩ => ⟨S288x1, .i32⟩
  | .hbm, ⟨23, _⟩ => ⟨S288x3072, .f32⟩
  | .hbm, ⟨24, _⟩ => ⟨S288x1x3072, .f32⟩
  | .hbm, ⟨25, _⟩ => ⟨S288x256x3072, .f32⟩
  | .hbm, ⟨26, _⟩ => ⟨S288x256x3072, .f32⟩
  | .hbm, ⟨27, _⟩ => ⟨S288x256x1536, .f32⟩
  | .hbm, ⟨28, _⟩ => ⟨S288x256x1536, .f32⟩
  | .hbm, ⟨29, _⟩ => ⟨S_, .f32⟩
  | .hbm, ⟨30, _⟩ => ⟨S288x256x1536, .f32⟩
  | .hbm, ⟨31, _⟩ => ⟨S288x256x1536, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S288x256x1536, .f32⟩
  | .hbm, ⟨36, _⟩ => ⟨S288x256x1536, .f32⟩
  | .hbm, ⟨37, _⟩ => ⟨S_, .f32⟩
  | .hbm, ⟨38, _⟩ => ⟨S288x256x1536, .f32⟩
  | .hbm, ⟨39, _⟩ => ⟨S288x256x1536, .f32⟩
  | .hbm, ⟨40, _⟩ => ⟨S_, .f32⟩
  | .hbm, ⟨41, _⟩ => ⟨S288x256x1536, .f32⟩
  | .hbm, ⟨42, _⟩ => ⟨S288x256x1536, .f32⟩
  | .hbm, ⟨43, _⟩ => ⟨S288x256x1536, .f32⟩
  | .hbm, ⟨44, _⟩ => ⟨S288x256x1536, .f32⟩
  | .hbm, ⟨45, _⟩ => ⟨S_, .f32⟩
  | .hbm, ⟨46, _⟩ => ⟨S288x256x1536, .f32⟩
  | .hbm, ⟨47, _⟩ => ⟨S288x256x1536, .f32⟩
  | .hbm, ⟨48, _⟩ => ⟨S_, .f32⟩
  | .hbm, ⟨49, _⟩ => ⟨S288x256x1536, .f32⟩
  | .hbm, ⟨50, _⟩ => ⟨S288x256x1536, .f32⟩
  | .hbm, ⟨51, _⟩ => ⟨S288x256x1536, .f32⟩
  | .hbm, ⟨52, _⟩ => ⟨S_, .f32⟩
  | .hbm, ⟨53, _⟩ => ⟨S288x256x1536, .f32⟩
  | .hbm, ⟨54, _⟩ => ⟨S288x256x1536, .f32⟩
  | .hbm, ⟨55, _⟩ => ⟨S288x256x1536, .f32⟩
  | .hbm, ⟨56, _⟩ => ⟨S73728x1536, .f32⟩
  | .hbm, ⟨57, _⟩ => ⟨S73728x1536, .bf16⟩
  | _, _ => ⟨S73728x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== Kernel6.lean ====
abbrev S73728x1536 : Shape := ⟨2, ![73728, 1536]⟩
abbrev S32x1536x4096 : Shape := ⟨3, ![32, 1536, 4096]⟩
abbrev S32x4096 : Shape := ⟨2, ![32, 4096]⟩
abbrev S73728 : Shape := ⟨1, ![73728]⟩
abbrev S288 : Shape := ⟨1, ![288]⟩
abbrev S32x1x4096 : Shape := ⟨3, ![32, 1, 4096]⟩
abbrev S73728x1 : Shape := ⟨2, ![73728, 1]⟩
abbrev S73728x4096 : Shape := ⟨2, ![73728, 4096]⟩
abbrev S256x1536 : Shape := ⟨2, ![256, 1536]⟩
abbrev S1x1536x1024 : Shape := ⟨3, ![1, 1536, 1024]⟩
abbrev S1 : Shape := ⟨1, ![1]⟩
abbrev S1x1x1024 : Shape := ⟨3, ![1, 1, 1024]⟩
abbrev S256x1 : Shape := ⟨2, ![256, 1]⟩
abbrev S256x1024 : Shape := ⟨2, ![256, 1024]⟩
abbrev S1536x1024 : Shape := ⟨2, ![1536, 1024]⟩
abbrev S1x1024 : Shape := ⟨2, ![1, 1024]⟩

abbrev nBuf : Space → Nat
  | .hbm => 8
  | .vmem => 10
  | .smem => 1
  | _ => 0

abbrev bufTy : (tb : Table) → Fin (tcTables nBuf tb) → BufTy
  | .hbm, ⟨0, _⟩ => ⟨S73728x1536, .bf16⟩
  | .hbm, ⟨1, _⟩ => ⟨S32x1536x4096, .f32⟩
  | .hbm, ⟨2, _⟩ => ⟨S32x4096, .f32⟩
  | .hbm, ⟨3, _⟩ => ⟨S73728, .f32⟩
  | .hbm, ⟨4, _⟩ => ⟨S32x1536x4096, .bf16⟩
  | .hbm, ⟨5, _⟩ => ⟨S32x1x4096, .f32⟩
  | .hbm, ⟨6, _⟩ => ⟨S73728x1, .f32⟩
  | .hbm, ⟨7, _⟩ => ⟨S73728x4096, .f32⟩
  | .local _ .vmem, ⟨0, _⟩ => ⟨S256x1536, .bf16⟩
  | .local _ .vmem, ⟨1, _⟩ => ⟨S256x1536, .bf16⟩
  | .local _ .vmem, ⟨2, _⟩ => ⟨S1x1536x1024, .bf16⟩
  | .local _ .vmem, ⟨3, _⟩ => ⟨S1x1536x1024, .bf16⟩
  | .local _ .vmem, ⟨4, _⟩ => ⟨S1x1x1024, .f32⟩
  | .local _ .vmem, ⟨5, _⟩ => ⟨S1x1x1024, .f32⟩
  | .local _ .vmem, ⟨6, _⟩ => ⟨S256x1, .f32⟩
  | .local _ .vmem, ⟨7, _⟩ => ⟨S256x1, .f32⟩
  | .local _ .vmem, ⟨8, _⟩ => ⟨S256x1024, .f32⟩
  | .local _ .vmem, ⟨9, _⟩ => ⟨S256x1024, .f32⟩
  | .local _ .smem, ⟨0, _⟩ => ⟨S288, .i32⟩
  | _, _ => ⟨S73728x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 288], ![false, false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S73728x1536 : Shape := ⟨2, ![73728, 1536]⟩
abbrev S32x1536x4096 : Shape := ⟨3, ![32, 1536, 4096]⟩
abbrev S32x4096 : Shape := ⟨2, ![32, 4096]⟩
abbrev S73728 : Shape := ⟨1, ![73728]⟩
abbrev S288 : Shape := ⟨1, ![288]⟩
abbrev S288x256x1536 : Shape := ⟨3, ![288, 256, 1536]⟩
abbrev S_ : Shape := ⟨0, ![]⟩
abbrev S288x1 : Shape := ⟨2, ![288, 1]⟩
abbrev S288x1536x4096 : Shape := ⟨3, ![288, 1536, 4096]⟩
abbrev S288x256x4096 : Shape := ⟨3, ![288, 256, 4096]⟩
abbrev S288x4096 : Shape := ⟨2, ![288, 4096]⟩
abbrev S288x1x4096 : Shape := ⟨3, ![288, 1, 4096]⟩
abbrev S288x256 : Shape := ⟨2, ![288, 256]⟩
abbrev S288x256x1 : Shape := ⟨3, ![288, 256, 1]⟩
abbrev S73728x4096 : Shape := ⟨2, ![73728, 4096]⟩

abbrev nBuf : Space → Nat
  | .hbm => 34
  | .vmem => 0
  | .smem => 0
  | _ => 0

abbrev bufTy : (tb : Table) → Fin (tcTables nBuf tb) → BufTy
  | .hbm, ⟨0, _⟩ => ⟨S73728x1536, .bf16⟩
  | .hbm, ⟨1, _⟩ => ⟨S32x1536x4096, .f32⟩
  | .hbm, ⟨2, _⟩ => ⟨S32x4096, .f32⟩
  | .hbm, ⟨3, _⟩ => ⟨S73728, .f32⟩
  | .hbm, ⟨4, _⟩ => ⟨S288, .i32⟩
  | .hbm, ⟨5, _⟩ => ⟨S73728x1536, .f32⟩
  | .hbm, ⟨6, _⟩ => ⟨S288x256x1536, .f32⟩
  | .hbm, ⟨7, _⟩ => ⟨S_, .i32⟩
  | .hbm, ⟨8, _⟩ => ⟨S288, .i32⟩
  | .hbm, ⟨9, _⟩ => ⟨S288, .i1⟩
  | .hbm, ⟨10, _⟩ => ⟨S_, .i32⟩
  | .hbm, ⟨11, _⟩ => ⟨S288, .i32⟩
  | .hbm, ⟨12, _⟩ => ⟨S288, .i32⟩
  | .hbm, ⟨13, _⟩ => ⟨S288, .i32⟩
  | .hbm, ⟨14, _⟩ => ⟨S288x1, .i32⟩
  | .hbm, ⟨15, _⟩ => ⟨S288x1536x4096, .f32⟩
  | .hbm, ⟨16, _⟩ => ⟨S288x256x4096, .f32⟩
  | .hbm, ⟨17, _⟩ => ⟨S_, .i32⟩
  | .hbm, ⟨18, _⟩ => ⟨S288, .i32⟩
  | .hbm, ⟨19, _⟩ => ⟨S288, .i1⟩
  | .hbm, ⟨20, _⟩ => ⟨S_, .i32⟩
  | .hbm, ⟨21, _⟩ => ⟨S288, .i32⟩
  | .hbm, ⟨22, _⟩ => ⟨S288, .i32⟩
  | .hbm, ⟨23, _⟩ => ⟨S288, .i32⟩
  | .hbm, ⟨24, _⟩ => ⟨S288x1, .i32⟩
  | .hbm, ⟨25, _⟩ => ⟨S288x4096, .f32⟩
  | .hbm, ⟨26, _⟩ => ⟨S288x1x4096, .f32⟩
  | .hbm, ⟨27, _⟩ => ⟨S288x256x4096, .f32⟩
  | .hbm, ⟨28, _⟩ => ⟨S288x256x4096, .f32⟩
  | .hbm, ⟨29, _⟩ => ⟨S288x256, .f32⟩
  | .hbm, ⟨30, _⟩ => ⟨S288x256x1, .f32⟩
  | .hbm, ⟨31, _⟩ => ⟨S288x256x4096, .f32⟩
  | .hbm, ⟨32, _⟩ => ⟨S288x256x4096, .f32⟩
  | .hbm, ⟨33, _⟩ => ⟨S73728x4096, .f32⟩
  | _, _ => ⟨S73728x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel4.lean ====
abbrev S4x4096x2048 : Shape := ⟨3, ![4, 4096, 2048]⟩
abbrev S128 : Shape := ⟨1, ![128]⟩
abbrev S16384x2048 : Shape := ⟨2, ![16384, 2048]⟩
abbrev S2048x4096 : Shape := ⟨2, ![2048, 4096]⟩
abbrev S16384x20480 : Shape := ⟨2, ![16384, 20480]⟩
abbrev S4096x4096 : Shape := ⟨2, ![4096, 4096]⟩
abbrev S4x4096x4096 : Shape := ⟨3, ![4, 4096, 4096]⟩
abbrev S8x1x4096 : Shape := ⟨3, ![8, 1, 4096]⟩
abbrev S4x4096x20480 : Shape := ⟨3, ![4, 4096, 20480]⟩
abbrev S1x128 : Shape := ⟨2, ![1, 128]⟩
abbrev S1x512x512 : Shape := ⟨3, ![1, 512, 512]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S16384x4096 : Shape := ⟨2, ![16384, 4096]⟩
abbrev S512x2048 : Shape := ⟨2, ![512, 2048]⟩
abbrev S2048x1024 : Shape := ⟨2, ![2048, 1024]⟩
abbrev S512x1024 : Shape := ⟨2, ![512, 1024]⟩
abbrev S1024x4096 : Shape := ⟨2, ![1024, 4096]⟩
abbrev S4096x1024 : Shape := ⟨2, ![4096, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 20
  | .vmem => 33
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S128, .f32⟩
  | .hbm, ⟨3, _⟩ => ⟨S16384x2048, .f32⟩
  | .hbm, ⟨4, _⟩ => ⟨S2048x4096, .f32⟩
  | .hbm, ⟨5, _⟩ => ⟨S2048x4096, .f32⟩
  | .hbm, ⟨6, _⟩ => ⟨S16384x20480, .f32⟩
  | .hbm, ⟨7, _⟩ => ⟨S4096x4096, .f32⟩
  | .hbm, ⟨8, _⟩ => ⟨S4x4096x4096, .f32⟩
  | .hbm, ⟨9, _⟩ => ⟨S8x1x4096, .f32⟩
  | .hbm, ⟨10, _⟩ => ⟨S4x4096x20480, .f32⟩
  | .hbm, ⟨11, _⟩ => ⟨S1x128, .f32⟩
  | .hbm, ⟨12, _⟩ => ⟨S4x4096x2048, .bf16⟩
  | .hbm, ⟨13, _⟩ => ⟨S16384x2048, .bf16⟩
  | .hbm, ⟨14, _⟩ => ⟨S2048x4096, .bf16⟩
  | .hbm, ⟨15, _⟩ => ⟨S2048x4096, .bf16⟩
  | .hbm, ⟨16, _⟩ => ⟨S16384x4096, .bf16⟩
  | .hbm, ⟨17, _⟩ => ⟨S16384x4096, .f32⟩
  | .hbm, ⟨18, _⟩ => ⟨S4096x4096, .bf16⟩
  | .hbm, ⟨19, _⟩ => ⟨S16384x4096, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x128, .f32⟩
  | .local _ .vmem, ⟨7, _⟩ => ⟨S1x512x512, .bf16⟩
  | .local _ .vmem, ⟨8, _⟩ => ⟨S1x512x512, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | .local _ .vmem, ⟨12, _⟩ => ⟨S512x2048, .f32⟩
  | .local _ .vmem, ⟨13, _⟩ => ⟨S2048x1024, .bf16⟩
  | .local _ .vmem, ⟨14, _⟩ => ⟨S2048x1024, .bf16⟩
  | .local _ .vmem, ⟨15, _⟩ => ⟨S2048x1024, .bf16⟩
  | .local _ .vmem, ⟨16, _⟩ => ⟨S2048x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S1024x4096, .bf16⟩
  | .local _ .vmem, ⟨24, _⟩ => ⟨S1024x4096, .bf16⟩
  | .local _ .vmem, ⟨25, _⟩ => ⟨S4096x1024, .bf16⟩
  | .local _ .vmem, ⟨26, _⟩ => ⟨S4096x1024, .bf16⟩
  | .local _ .vmem, ⟨27, _⟩ => ⟨S1024x1024, .f32⟩
  | .local _ .vmem, ⟨28, _⟩ => ⟨S1024x1024, .f32⟩
  | .local _ .vmem, ⟨29, _⟩ => ⟨S1x1x1024, .f32⟩
  | .local _ .vmem, ⟨30, _⟩ => ⟨S1x1x1024, .f32⟩
  | .local _ .vmem, ⟨31, _⟩ => ⟨S1024x1024, .f32⟩
  | .local _ .vmem, ⟨32, _⟩ => ⟨S1024x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg4_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21
abbrev cc1_sem6_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem3_1 : DmaSem sig := 30
abbrev cc2_sem4_0 : DmaSem sig := 31
abbrev cc2_sem4_1 : DmaSem sig := 32

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg2
  let c0_i32 : BitVec 32 := 0#32
  ![arg0.toNat, arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev grid1 : Pipeline.Grid := ⟨2, ![32, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc1_transform_5 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![16, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== Reference4Ideal.lean ====
abbrev S4x4096x2048 : Shape := ⟨3, ![4, 4096, 2048]⟩
abbrev S128 : Shape := ⟨1, ![128]⟩
abbrev S16384x2048 : Shape := ⟨2, ![16384, 2048]⟩
abbrev S2048x4096 : Shape := ⟨2, ![2048, 4096]⟩
abbrev S16384x20480 : Shape := ⟨2, ![16384, 20480]⟩
abbrev S4096x4096 : Shape := ⟨2, ![4096, 4096]⟩
abbrev S4x4096x4096 : Shape := ⟨3, ![4, 4096, 4096]⟩
abbrev S8x1x4096 : Shape := ⟨3, ![8, 1, 4096]⟩
abbrev S4x4096x16x128 : Shape := ⟨4, ![4, 4096, 16, 128]⟩
abbrev S_ : Shape := ⟨0, ![]⟩
abbrev S4x4096x16 : Shape := ⟨3, ![4, 4096, 16]⟩
abbrev S4x4096x16x1 : Shape := ⟨4, ![4, 4096, 16, 1]⟩
abbrev S1x1x1x128 : Shape := ⟨4, ![1, 1, 1, 128]⟩
abbrev S16384x8192 : Shape := ⟨2, ![16384, 8192]⟩
abbrev S16384x4096 : Shape := ⟨2, ![16384, 4096]⟩
abbrev S4x1x4096 : Shape := ⟨3, ![4, 1, 4096]⟩

abbrev nBuf : Space → Nat
  | .hbm => 64
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S128, .f32⟩
  | .hbm, ⟨3, _⟩ => ⟨S16384x2048, .f32⟩
  | .hbm, ⟨4, _⟩ => ⟨S2048x4096, .f32⟩
  | .hbm, ⟨5, _⟩ => ⟨S2048x4096, .f32⟩
  | .hbm, ⟨6, _⟩ => ⟨S16384x20480, .f32⟩
  | .hbm, ⟨7, _⟩ => ⟨S4096x4096, .f32⟩
  | .hbm, ⟨8, _⟩ => ⟨S4x4096x4096, .f32⟩
  | .hbm, ⟨9, _⟩ => ⟨S8x1x4096, .f32⟩
  | .hbm, ⟨10, _⟩ => ⟨S4x4096x2048, .f32⟩
  | .hbm, ⟨11, _⟩ => ⟨S4x4096x16x128, .f32⟩
  | .hbm, ⟨12, _⟩ => ⟨S16384x2048, .f32⟩
  | .hbm, ⟨13, _⟩ => ⟨S4x4096x16x128, .f32⟩
  | .hbm, ⟨14, _⟩ => ⟨S4x4096x16x128, .f32⟩
  | .hbm, ⟨15, _⟩ => ⟨S_, .f32⟩
  | .hbm, ⟨16, _⟩ => ⟨S4x4096x16, .f32⟩
  | .hbm, ⟨17, _⟩ => ⟨S4x4096x16x1, .f32⟩
  | .hbm, ⟨18, _⟩ => ⟨S_, .f32⟩
  | .hbm, ⟨19, _⟩ => ⟨S4x4096x16x1, .f32⟩
  | .hbm, ⟨20, _⟩ => ⟨S4x4096x16x1, .f32⟩
  | .hbm, ⟨21, _⟩ => ⟨S_, .f32⟩
  | .hbm, ⟨22, _⟩ => ⟨S4x4096x16x1, .f32⟩
  | .hbm, ⟨23, _⟩ => ⟨S4x4096x16x1, .f32⟩
  | .hbm, ⟨24, _⟩ => ⟨S4x4096x16x1, .f32⟩
  | .hbm, ⟨25, _⟩ => ⟨S4x4096x16x128, .f32⟩
  | .hbm, ⟨26, _⟩ => ⟨S4x4096x16x128, .f32⟩
  | .hbm, ⟨27, _⟩ => ⟨S1x1x1x128, .f32⟩
  | .hbm, ⟨28, _⟩ => ⟨S4x4096x16x128, .f32⟩
  | .hbm, ⟨29, _⟩ => ⟨S4x4096x16x128, .f32⟩
  | .hbm, ⟨30, _⟩ => ⟨S4x4096x16x128, .f32⟩
  | .hbm, ⟨31, _⟩ => ⟨S4x4096x16x128, .f32⟩
  | .hbm, ⟨32, _⟩ => ⟨S_, .f32⟩
  | .hbm, ⟨33, _⟩ => ⟨S4x4096x16x128, .f32⟩
  | .hbm, ⟨34, _⟩ => ⟨S4x4096x16x128, .f32⟩
  | .hbm, ⟨35, _⟩ => ⟨S_, .f32⟩
  | .hbm, ⟨36, _⟩ => ⟨S4x4096x16x128, .f32⟩
  | .hbm, ⟨37, _⟩ => ⟨S4x4096x16x128, .f32⟩
  | .hbm, ⟨38, _⟩ => ⟨S4x4096x16x128, .f32⟩
  | .hbm, ⟨39, _⟩ => ⟨S4x4096x16x128, .f32⟩
  | .hbm, ⟨40, _⟩ => ⟨S16384x2048, .f32⟩
  | .hbm, ⟨41, _⟩ => ⟨S16384x8192, .f32⟩
  | .hbm, ⟨42, _⟩ => ⟨S16384x8192, .f32⟩
  | .hbm, ⟨43, _⟩ => ⟨S16384x8192, .f32⟩
  | .hbm, ⟨44, _⟩ => ⟨S_, .f32⟩
  | .hbm, ⟨45, _⟩ => ⟨S16384x8192, .f32⟩
  | .hbm, ⟨46, _⟩ => ⟨S16384x8192, .f32⟩
  | .hbm, ⟨47, _⟩ => ⟨S_, .f32⟩
  | .hbm, ⟨48, _⟩ => ⟨S16384x8192, .f32⟩
  | .hbm, ⟨49, _⟩ => ⟨S16384x8192, .f32⟩
  | .hbm, ⟨50, _⟩ => ⟨S16384x4096, .f32⟩
  | .hbm, ⟨51, _⟩ => ⟨S16384x4096, .f32⟩
  | .hbm, ⟨52, _⟩ => ⟨S16384x4096, .f32⟩
  | .hbm, ⟨53, _⟩ => ⟨S16384x4096, .f32⟩
  | .hbm, ⟨54, _⟩ => ⟨S16384x4096, .f32⟩
  | .hbm, ⟨55, _⟩ => ⟨S16384x4096, .f32⟩
  | .hbm, ⟨56, _⟩ => ⟨S16384x4096, .f32⟩
  | .hbm, ⟨57, _⟩ => ⟨S16384x4096, .f32⟩
  | .hbm, ⟨58, _⟩ => ⟨S4x4096x4096, .f32⟩
  | .hbm, ⟨59, _⟩ => ⟨S4x1x4096, .f32⟩
  | .hbm, ⟨60, _⟩ => ⟨S4x4096x4096, .f32⟩
  | .hbm, ⟨61, _⟩ => ⟨S4x4096x4096, .f32⟩
  | .hbm, ⟨62, _⟩ => ⟨S4x4096x4096, .f32⟩
  | .hbm, ⟨63, _⟩ => ⟨S16384x4096, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]
-- ==== Kernel5.lean ====
abbrev S16384x4096 : Shape := ⟨2, ![16384, 4096]⟩
abbrev S8x1x4096 : Shape := ⟨3, ![8, 1, 4096]⟩
abbrev S4096 : Shape := ⟨1, ![4096]⟩
abbrev S73728x4096 : Shape := ⟨2, ![73728, 4096]⟩
abbrev S65536 : Shape := ⟨1, ![65536]⟩
abbrev S1x4096 : Shape := ⟨2, ![1, 4096]⟩
abbrev S512 : Shape := ⟨1, ![512]⟩
abbrev S128x4096 : Shape := ⟨2, ![128, 4096]⟩
abbrev S1x1x4096 : Shape := ⟨3, ![1, 1, 4096]⟩
abbrev S4x128x4096 : Shape := ⟨3, ![4, 128, 4096]⟩
abbrev S_ : Shape := ⟨0, ![]⟩
abbrev S1 : Shape := ⟨1, ![1]⟩
abbrev S1x128x4096 : Shape := ⟨3, ![1, 128, 4096]⟩
abbrev S128 : Shape := ⟨1, ![128]⟩
abbrev S128x1 : Shape := ⟨2, ![128, 1]⟩

abbrev nBuf : Space → Nat
  | .hbm => 7
  | .vmem => 8
  | .smem => 2
  | _ => 0

abbrev bufTy : (tb : Table) → Fin (tcTables nBuf tb) → BufTy
  | .hbm, ⟨0, _⟩ => ⟨S16384x4096, .f32⟩
  | .hbm, ⟨1, _⟩ => ⟨S8x1x4096, .f32⟩
  | .hbm, ⟨2, _⟩ => ⟨S4096, .f32⟩
  | .hbm, ⟨3, _⟩ => ⟨S73728x4096, .f32⟩
  | .hbm, ⟨4, _⟩ => ⟨S65536, .i32⟩
  | .hbm, ⟨5, _⟩ => ⟨S1x4096, .f32⟩
  | .hbm, ⟨6, _⟩ => ⟨S16384x4096, .f32⟩
  | .local _ .vmem, ⟨0, _⟩ => ⟨S128x4096, .f32⟩
  | .local _ .vmem, ⟨1, _⟩ => ⟨S128x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x4096, .f32⟩
  | .local _ .vmem, ⟨5, _⟩ => ⟨S128x4096, .f32⟩
  | .local _ .vmem, ⟨6, _⟩ => ⟨S128x4096, .f32⟩
  | .local _ .vmem, ⟨7, _⟩ => ⟨S4x128x4096, .f32⟩
  | .local _ .smem, ⟨0, _⟩ => ⟨S512, .i32⟩
  | .local _ .smem, ⟨1, _⟩ => ⟨S512, .i32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c512_i32 : BitVec 32 := 512#32
  let v0 : BitVec 32 := Scalar.addi c0_i32 c512_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg9 : BitVec 32 := Scf.iv c0_i32 c1_i32 k0_t1
  let v34 : Index := Scalar.indexCast arg9
  ![v34.toNat]
def k0_off2 (k0_t1 : Fin k0_t1_loop.trips) : Fin 3 → Nat :=
  let c0_i32 : BitVec 32 := 0#32
  let c1_i32 : BitVec 32 := 1#32
  let arg9 : BitVec 32 := Scf.iv c0_i32 c1_i32 k0_t1
  let c4_i32 : BitVec 32 := 4#32
  let c0_i32_24 : BitVec 32 := 0#32
  let v36 : BitVec 1 := Scalar.cmpi .eq c4_i32 c0_i32_24
  let c1_i32_25 : BitVec 32 := 1#32
  let v37 : BitVec 32 := Scalar.select v36 c1_i32_25 c4_i32
  let v38 : BitVec 32 := Scalar.remsi arg9 v37
  let c0_i32_27 : BitVec 32 := 0#32
  let v40 : BitVec 1 := Scalar.cmpi .slt v38 c0_i32_27
  let c0_i32_28 : BitVec 32 := 0#32
  let v41 : BitVec 1 := Scalar.cmpi .slt v37 c0_i32_28
  let v42 : BitVec 1 := Scalar.xori v40 v41
  let c0_i32_26 : BitVec 32 := 0#32
  let v39 : BitVec 1 := Scalar.cmpi .ne v38 c0_i32_26
  let v43 : BitVec 1 := Scalar.andi v42 v39
  let v44 : BitVec 32 := Scalar.addi v38 v37
  let v45 : BitVec 32 := Scalar.select v43 v44 v38
  let c0_i32_30 : BitVec 32 := 0#32
  let v47 : BitVec 1 := Scalar.cmpi .sgt arg9 c0_i32_30
  let v48 : BitVec 32 := Scalar.extui v47
  let c0_i32_31 : BitVec 32 := 0#32
  let v49 : BitVec 1 := Scalar.cmpi .slt arg9 c0_i32_31
  let v50 : BitVec 32 := Scalar.extui v49
  let v51 : BitVec 32 := Scalar.subi v48 v50
  let c4_i32_29 : BitVec 32 := 4#32
  let c0_i32_32 : BitVec 32 := 0#32
  let v52 : BitVec 1 := Scalar.cmpi .sgt c4_i32_29 c0_i32_32
  let v53 : BitVec 32 := Scalar.extui v52
  let c0_i32_33 : BitVec 32 := 0#32
  let v54 : BitVec 1 := Scalar.cmpi .slt c4_i32_29 c0_i32_33
  let v55 : BitVec 32 := Scalar.extui v54
  let v56 : BitVec 32 := Scalar.subi v53 v55
  let v57 : BitVec 1 := Scalar.cmpi .ne v51 v56
  let v58 : BitVec 32 := Scalar.remsi arg9 c4_i32_29
  let c0_i32_34 : BitVec 32 := 0#32
  let v59 : BitVec 1 := Scalar.cmpi .ne v58 c0_i32_34
  let v60 : BitVec 1 := Scalar.andi v57 v59
  let v46 : BitVec 32 := Scalar.divsi arg9 c4_i32_29
  let c1_i32_35 : BitVec 32 := 1#32
  let v61 : BitVec 32 := Scalar.subi v46 c1_i32_35
  let v62 : BitVec 32 := Scalar.select v60 v61 v46
  let c0_i32_36 : BitVec 32 := 0#32
  ![v45.toNat, v62.toNat, 0]
def k0_off3 (v35 : BitVec 32) : Fin 2 → Nat :=
  let c0_i32_37 : BitVec 32 := 0#32
  ![v35.toNat, 0]

def k0_chk1 (v35 : BitVec 32) : Prop :=
  (∀ a, (k0_off3 v35) a + S1x4096.size a ≤ S73728x4096.size a)
theorem k0_off3_inb : ∀ (v35 : BitVec 32) (k0_hw1 : k0_chk1 v35), ∀ a, (k0_off3 v35) a + S1x4096.size a ≤ S73728x4096.size a := fun v35 k0_hw1 => k0_hw1

@[reducible] def k0_t2_loop : Scf.Loop 32 :=
  let c0_i32_1 : BitVec 32 := 0#32
  let c512_i32_2 : BitVec 32 := 512#32
  let v1 : BitVec 32 := Scalar.addi c0_i32_1 c512_i32_2
  let c1_i32_3 : BitVec 32 := 1#32
  ⟨c0_i32_1, v1, c1_i32_3⟩
def k0_off4 (k0_t2 : Fin k0_t2_loop.trips) : Fin 1 → Nat :=
  let c0_i32_1 : BitVec 32 := 0#32
  let c1_i32_3 : BitVec 32 := 1#32
  let arg9 : BitVec 32 := Scf.iv c0_i32_1 c1_i32_3 k0_t2
  let v34 : Index := Scalar.indexCast arg9
  ![v34.toNat]
def k0_off5 (k0_t2 : Fin k0_t2_loop.trips) : Fin 3 → Nat :=
  let c0_i32_1 : BitVec 32 := 0#32
  let c1_i32_3 : BitVec 32 := 1#32
  let arg9 : BitVec 32 := Scf.iv c0_i32_1 c1_i32_3 k0_t2
  let c4_i32 : BitVec 32 := 4#32
  let c0_i32_24 : BitVec 32 := 0#32
  let v36 : BitVec 1 := Scalar.cmpi .eq c4_i32 c0_i32_24
  let c1_i32_25 : BitVec 32 := 1#32
  let v37 : BitVec 32 := Scalar.select v36 c1_i32_25 c4_i32
  let v38 : BitVec 32 := Scalar.remsi arg9 v37
  let c0_i32_27 : BitVec 32 := 0#32
  let v40 : BitVec 1 := Scalar.cmpi .slt v38 c0_i32_27
  let c0_i32_28 : BitVec 32 := 0#32
  let v41 : BitVec 1 := Scalar.cmpi .slt v37 c0_i32_28
  let v42 : BitVec 1 := Scalar.xori v40 v41
  let c0_i32_26 : BitVec 32 := 0#32
  let v39 : BitVec 1 := Scalar.cmpi .ne v38 c0_i32_26
  let v43 : BitVec 1 := Scalar.andi v42 v39
  let v44 : BitVec 32 := Scalar.addi v38 v37
  let v45 : BitVec 32 := Scalar.select v43 v44 v38
  let c0_i32_30 : BitVec 32 := 0#32
  let v47 : BitVec 1 := Scalar.cmpi .sgt arg9 c0_i32_30
  let v48 : BitVec 32 := Scalar.extui v47
  let c0_i32_31 : BitVec 32 := 0#32
  let v49 : BitVec 1 := Scalar.cmpi .slt arg9 c0_i32_31
  let v50 : BitVec 32 := Scalar.extui v49
  let v51 : BitVec 32 := Scalar.subi v48 v50
  let c4_i32_29 : BitVec 32 := 4#32
  let c0_i32_32 : BitVec 32 := 0#32
  let v52 : BitVec 1 := Scalar.cmpi .sgt c4_i32_29 c0_i32_32
  let v53 : BitVec 32 := Scalar.extui v52
  let c0_i32_33 : BitVec 32 := 0#32
  let v54 : BitVec 1 := Scalar.cmpi .slt c4_i32_29 c0_i32_33
  let v55 : BitVec 32 := Scalar.extui v54
  let v56 : BitVec 32 := Scalar.subi v53 v55
  let v57 : BitVec 1 := Scalar.cmpi .ne v51 v56
  let v58 : BitVec 32 := Scalar.remsi arg9 c4_i32_29
  let c0_i32_34 : BitVec 32 := 0#32
  let v59 : BitVec 1 := Scalar.cmpi .ne v58 c0_i32_34
  let v60 : BitVec 1 := Scalar.andi v57 v59
  let v46 : BitVec 32 := Scalar.divsi arg9 c4_i32_29
  let c1_i32_35 : BitVec 32 := 1#32
  let v61 : BitVec 32 := Scalar.subi v46 c1_i32_35
  let v62 : BitVec 32 := Scalar.select v60 v61 v46
  let c0_i32_36 : BitVec 32 := 0#32
  ![v45.toNat, v62.toNat, 0]
def k0_off6 (v35 : BitVec 32) : Fin 2 → Nat :=
  let c0_i32_37 : BitVec 32 := 0#32
  ![v35.toNat, 0]

def k0_chk2 (v35 : BitVec 32) : Prop :=
  (∀ a, (k0_off6 v35) a + S1x4096.size a ≤ S73728x4096.size a)
theorem k0_off6_inb : ∀ (v35 : BitVec 32) (k0_hw2 : k0_chk2 v35), ∀ a, (k0_off6 v35) a + S1x4096.size a ≤ S73728x4096.size a := fun v35 k0_hw2 => k0_hw2

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S16384x4096 : Shape := ⟨2, ![16384, 4096]⟩
abbrev S8x1x4096 : Shape := ⟨3, ![8, 1, 4096]⟩
abbrev S4096 : Shape := ⟨1, ![4096]⟩
abbrev S73728x4096 : Shape := ⟨2, ![73728, 4096]⟩
abbrev S65536 : Shape := ⟨1, ![65536]⟩
abbrev S_ : Shape := ⟨0, ![]⟩
abbrev S65536x1 : Shape := ⟨2, ![65536, 1]⟩
abbrev S65536x4096 : Shape := ⟨2, ![65536, 4096]⟩
abbrev S16384x4x4096 : Shape := ⟨3, ![16384, 4, 4096]⟩
abbrev S4x4096x4096 : Shape := ⟨3, ![4, 4096, 4096]⟩
abbrev S4x1x4096 : Shape := ⟨3, ![4, 1, 4096]⟩
abbrev S4x4096 : Shape := ⟨2, ![4, 4096]⟩
abbrev S4x4096x1 : Shape := ⟨3, ![4, 4096, 1]⟩
abbrev S1x1x4096 : Shape := ⟨3, ![1, 1, 4096]⟩

abbrev nBuf : Space → Nat
  | .hbm => 40
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S8x1x4096, .f32⟩
  | .hbm, ⟨2, _⟩ => ⟨S4096, .f32⟩
  | .hbm, ⟨3, _⟩ => ⟨S73728x4096, .f32⟩
  | .hbm, ⟨4, _⟩ => ⟨S65536, .i32⟩
  | .hbm, ⟨5, _⟩ => ⟨S_, .i32⟩
  | .hbm, ⟨6, _⟩ => ⟨S65536, .i32⟩
  | .hbm, ⟨7, _⟩ => ⟨S65536, .i1⟩
  | .hbm, ⟨8, _⟩ => ⟨S_, .i32⟩
  | .hbm, ⟨9, _⟩ => ⟨S65536, .i32⟩
  | .hbm, ⟨10, _⟩ => ⟨S65536, .i32⟩
  | .hbm, ⟨11, _⟩ => ⟨S65536, .i32⟩
  | .hbm, ⟨12, _⟩ => ⟨S65536x1, .i32⟩
  | .hbm, ⟨13, _⟩ => ⟨S65536x4096, .f32⟩
  | .hbm, ⟨14, _⟩ => ⟨S16384x4x4096, .f32⟩
  | .hbm, ⟨15, _⟩ => ⟨S_, .f32⟩
  | .hbm, ⟨16, _⟩ => ⟨S16384x4096, .f32⟩
  | .hbm, ⟨17, _⟩ => ⟨S4x4096x4096, .f32⟩
  | .hbm, ⟨18, _⟩ => ⟨S4x4096x4096, .f32⟩
  | .hbm, ⟨19, _⟩ => ⟨S4x1x4096, .f32⟩
  | .hbm, ⟨20, _⟩ => ⟨S4x4096x4096, .f32⟩
  | .hbm, ⟨21, _⟩ => ⟨S4x4096x4096, .f32⟩
  | .hbm, ⟨22, _⟩ => ⟨S4x4096x4096, .f32⟩
  | .hbm, ⟨23, _⟩ => ⟨S4x4096x4096, .f32⟩
  | .hbm, ⟨24, _⟩ => ⟨S_, .f32⟩
  | .hbm, ⟨25, _⟩ => ⟨S4x4096, .f32⟩
  | .hbm, ⟨26, _⟩ => ⟨S4x4096x1, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S_, .f32⟩
  | .hbm, ⟨31, _⟩ => ⟨S4x4096x1, .f32⟩
  | .hbm, ⟨32, _⟩ => ⟨S4x4096x1, .f32⟩
  | .hbm, ⟨33, _⟩ => ⟨S4x4096x1, .f32⟩
  | .hbm, ⟨34, _⟩ => ⟨S4x4096x4096, .f32⟩
  | .hbm, ⟨35, _⟩ => ⟨S4x4096x4096, .f32⟩
  | .hbm, ⟨36, _⟩ => ⟨S1x1x4096, .f32⟩
  | .hbm, ⟨37, _⟩ => ⟨S4x4096x4096, .f32⟩
  | .hbm, ⟨38, _⟩ => ⟨S4x4096x4096, .f32⟩
  | .hbm, ⟨39, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel7.lean ====
abbrev S16384x20480 : Shape := ⟨2, ![16384, 20480]⟩
abbrev S2048 : Shape := ⟨1, ![2048]⟩
abbrev S4x4096x20480 : Shape := ⟨3, ![4, 4096, 20480]⟩
abbrev S1x2048 : Shape := ⟨2, ![1, 2048]⟩
abbrev S4x4096x2048 : Shape := ⟨3, ![4, 4096, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 6
  | .smem => 0
  | _ => 0

abbrev bufTy : (tb : Table) → Fin (tcTables nBuf tb) → BufTy
  | .hbm, ⟨0, _⟩ => ⟨S16384x20480, .f32⟩
  | .hbm, ⟨1, _⟩ => ⟨S2048, .f32⟩
  | .hbm, ⟨2, _⟩ => ⟨S2048, .f32⟩
  | .hbm, ⟨3, _⟩ => ⟨S4x4096x20480, .f32⟩
  | .hbm, ⟨4, _⟩ => ⟨S1x2048, .f32⟩
  | .hbm, ⟨5, _⟩ => ⟨S1x2048, .f32⟩
  | .hbm, ⟨6, _⟩ => ⟨S4x4096x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S1x2048, .f32⟩
  | .local _ .vmem, ⟨4, _⟩ => ⟨S1x256x2048, .f32⟩
  | .local _ .vmem, ⟨5, _⟩ => ⟨S1x256x2048, .f32⟩
  | _, _ => ⟨S16384x20480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S16384x20480 : Shape := ⟨2, ![16384, 20480]⟩
abbrev S2048 : Shape := ⟨1, ![2048]⟩
abbrev S4x4096x20480 : Shape := ⟨3, ![4, 4096, 20480]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S16384x20480, .f32⟩
  | .hbm, ⟨1, _⟩ => ⟨S2048, .f32⟩
  | .hbm, ⟨2, _⟩ => ⟨S2048, .f32⟩
  | .hbm, ⟨3, _⟩ => ⟨S4x4096x20480, .f32⟩
  | .hbm, ⟨4, _⟩ => ⟨S4x4096x2048, .f32⟩
  | .hbm, ⟨5, _⟩ => ⟨S4x4096x2048, .f32⟩
  | .hbm, ⟨6, _⟩ => ⟨S4x4096x2048, .f32⟩
  | .hbm, ⟨7, _⟩ => ⟨S_, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | .hbm, ⟨11, _⟩ => ⟨S_, .f32⟩
  | .hbm, ⟨12, _⟩ => ⟨S4x4096x2048, .f32⟩
  | .hbm, ⟨13, _⟩ => ⟨S4x4096x2048, .f32⟩
  | .hbm, ⟨14, _⟩ => ⟨S4x4096x2048, .f32⟩
  | .hbm, ⟨15, _⟩ => ⟨S_, .f32⟩
  | .hbm, ⟨16, _⟩ => ⟨S4x4096x2048, .f32⟩
  | .hbm, ⟨17, _⟩ => ⟨S4x4096x2048, .f32⟩
  | .hbm, ⟨18, _⟩ => ⟨S_, .f32⟩
  | .hbm, ⟨19, _⟩ => ⟨S4x4096x2048, .f32⟩
  | .hbm, ⟨20, _⟩ => ⟨S4x4096x2048, .f32⟩
  | .hbm, ⟨21, _⟩ => ⟨S4x4096x2048, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S_, .f32⟩
  | .hbm, ⟨32, _⟩ => ⟨S4x4096, .f32⟩
  | .hbm, ⟨33, _⟩ => ⟨S4x4096x1, .f32⟩
  | .hbm, ⟨34, _⟩ => ⟨S_, .f32⟩
  | .hbm, ⟨35, _⟩ => ⟨S4x4096x1, .f32⟩
  | .hbm, ⟨36, _⟩ => ⟨S4x4096x1, .f32⟩
  | .hbm, ⟨37, _⟩ => ⟨S4x4096x2048, .f32⟩
  | .hbm, ⟨38, _⟩ => ⟨S4x4096x2048, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S4x4096x1, .f32⟩
  | .hbm, ⟨43, _⟩ => ⟨S4x4096x2048, .f32⟩
  | .hbm, ⟨44, _⟩ => ⟨S4x4096x2048, .f32⟩
  | .hbm, ⟨45, _⟩ => ⟨S1x1x2048, .f32⟩
  | .hbm, ⟨46, _⟩ => ⟨S4x4096x2048, .f32⟩
  | .hbm, ⟨47, _⟩ => ⟨S4x4096x2048, .f32⟩
  | .hbm, ⟨48, _⟩ => ⟨S1x1x2048, .f32⟩
  | .hbm, ⟨49, _⟩ => ⟨S4x4096x2048, .f32⟩
  | .hbm, ⟨50, _⟩ => ⟨S4x4096x2048, .f32⟩
  | _, _ => ⟨S16384x20480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel8.lean ====
abbrev S16384x20480 : Shape := ⟨2, ![16384, 20480]⟩
abbrev S5x6144 : Shape := ⟨2, ![5, 6144]⟩
abbrev S4x4096x20480 : Shape := ⟨3, ![4, 4096, 20480]⟩
abbrev S4x4096x6144 : Shape := ⟨3, ![4, 4096, 6144]⟩
abbrev S1x8x512 : Shape := ⟨3, ![1, 8, 512]⟩
abbrev S1x512x512 : Shape := ⟨3, ![1, 512, 512]⟩
abbrev S5x512 : Shape := ⟨2, ![5, 512]⟩
abbrev S8x512 : Shape := ⟨2, ![8, 512]⟩
abbrev S512x512 : Shape := ⟨2, ![512, 512]⟩
abbrev S528x512 : Shape := ⟨2, ![528, 512]⟩
abbrev S1x512 : Shape := ⟨2, ![1, 512]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 10
  | .smem => 0
  | _ => 0

abbrev bufTy : (tb : Table) → Fin (tcTables nBuf tb) → BufTy
  | .hbm, ⟨0, _⟩ => ⟨S16384x20480, .f32⟩
  | .hbm, ⟨1, _⟩ => ⟨S5x6144, .f32⟩
  | .hbm, ⟨2, _⟩ => ⟨S4x4096x20480, .f32⟩
  | .hbm, ⟨3, _⟩ => ⟨S4x4096x6144, .f32⟩
  | .local _ .vmem, ⟨0, _⟩ => ⟨S1x8x512, .f32⟩
  | .local _ .vmem, ⟨1, _⟩ => ⟨S1x8x512, .f32⟩
  | .local _ .vmem, ⟨2, _⟩ => ⟨S1x512x512, .f32⟩
  | .local _ .vmem, ⟨3, _⟩ => ⟨S1x512x512, .f32⟩
  | .local _ .vmem, ⟨4, _⟩ => ⟨S1x8x512, .f32⟩
  | .local _ .vmem, ⟨5, _⟩ => ⟨S1x8x512, .f32⟩
  | .local _ .vmem, ⟨6, _⟩ => ⟨S5x512, .f32⟩
  | .local _ .vmem, ⟨7, _⟩ => ⟨S5x512, .f32⟩
  | .local _ .vmem, ⟨8, _⟩ => ⟨S1x512x512, .f32⟩
  | .local _ .vmem, ⟨9, _⟩ => ⟨S1x512x512, .f32⟩
  | _, _ => ⟨S16384x20480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 12], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![arg0.toNat, v2.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S5x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel8Ideal.lean ====
variable {F : FTy → Type} [FloatOps F] [Named F]
def κ : String → Option EReal := fun
  | "inv_sqrt_head" => some (((Real.sqrt 128)⁻¹ : ℝ) : EReal)
  | _ => none
-- ==== Reference8Ideal.lean ====
abbrev S16384x20480 : Shape := ⟨2, ![16384, 20480]⟩
abbrev S5x6144 : Shape := ⟨2, ![5, 6144]⟩
abbrev S4x4096x20480 : Shape := ⟨3, ![4, 4096, 20480]⟩
abbrev S4x4096x6144 : Shape := ⟨3, ![4, 4096, 6144]⟩
abbrev S_ : Shape := ⟨0, ![]⟩
abbrev S4x4100x6144 : Shape := ⟨3, ![4, 4100, 6144]⟩
abbrev S1x6144 : Shape := ⟨2, ![1, 6144]⟩
abbrev S6144 : Shape := ⟨1, ![6144]⟩
abbrev S1x1x6144 : Shape := ⟨3, ![1, 1, 6144]⟩
abbrev S4x4096x2048 : Shape := ⟨3, ![4, 4096, 2048]⟩
abbrev S4x4096x16x128 : Shape := ⟨4, ![4, 4096, 16, 128]⟩
abbrev S4x4096x16 : Shape := ⟨3, ![4, 4096, 16]⟩
abbrev S4x4096x16x1 : Shape := ⟨4, ![4, 4096, 16, 1]⟩

abbrev nBuf : Space → Nat
  | .hbm => 85
  | .vmem => 0
  | .smem => 0
  | _ => 0

abbrev bufTy : (tb : Table) → Fin (tcTables nBuf tb) → BufTy
  | .hbm, ⟨0, _⟩ => ⟨S16384x20480, .f32⟩
  | .hbm, ⟨1, _⟩ => ⟨S5x6144, .f32⟩
  | .hbm, ⟨2, _⟩ => ⟨S4x4096x20480, .f32⟩
  | .hbm, ⟨3, _⟩ => ⟨S4x4096x6144, .f32⟩
  | .hbm, ⟨4, _⟩ => ⟨S_, .i32⟩
  | .hbm, ⟨5, _⟩ => ⟨S_, .f32⟩
  | .hbm, ⟨6, _⟩ => ⟨S4x4100x6144, .f32⟩
  | .hbm, ⟨7, _⟩ => ⟨S4x4096x6144, .f32⟩
  | .hbm, ⟨8, _⟩ => ⟨S1x6144, .f32⟩
  | .hbm, ⟨9, _⟩ => ⟨S6144, .f32⟩
  | .hbm, ⟨10, _⟩ => ⟨S1x1x6144, .f32⟩
  | .hbm, ⟨11, _⟩ => ⟨S4x4096x6144, .f32⟩
  | .hbm, ⟨12, _⟩ => ⟨S4x4096x6144, .f32⟩
  | .hbm, ⟨13, _⟩ => ⟨S_, .f32⟩
  | .hbm, ⟨14, _⟩ => ⟨S4x4096x6144, .f32⟩
  | .hbm, ⟨15, _⟩ => ⟨S4x4096x6144, .f32⟩
  | .hbm, ⟨16, _⟩ => ⟨S4x4096x6144, .f32⟩
  | .hbm, ⟨17, _⟩ => ⟨S1x6144, .f32⟩
  | .hbm, ⟨18, _⟩ => ⟨S6144, .f32⟩
  | .hbm, ⟨19, _⟩ => ⟨S1x1x6144, .f32⟩
  | .hbm, ⟨20, _⟩ => ⟨S4x4096x6144, .f32⟩
  | .hbm, ⟨21, _⟩ => ⟨S4x4096x6144, .f32⟩
  | .hbm, ⟨22, _⟩ => ⟨S4x4096x6144, .f32⟩
  | .hbm, ⟨23, _⟩ => ⟨S4x4096x6144, .f32⟩
  | .hbm, ⟨24, _⟩ => ⟨S1x6144, .f32⟩
  | .hbm, ⟨25, _⟩ => ⟨S6144, .f32⟩
  | .hbm, ⟨26, _⟩ => ⟨S1x1x6144, .f32⟩
  | .hbm, ⟨27, _⟩ => ⟨S4x4096x6144, .f32⟩
  | .hbm, ⟨28, _⟩ => ⟨S4x4096x6144, .f32⟩
  | .hbm, ⟨29, _⟩ => ⟨S4x4096x6144, .f32⟩
  | .hbm, ⟨30, _⟩ => ⟨S4x4096x6144, .f32⟩
  | .hbm, ⟨31, _⟩ => ⟨S1x6144, .f32⟩
  | .hbm, ⟨32, _⟩ => ⟨S6144, .f32⟩
  | .hbm, ⟨33, _⟩ => ⟨S1x1x6144, .f32⟩
  | .hbm, ⟨34, _⟩ => ⟨S4x4096x6144, .f32⟩
  | .hbm, ⟨35, _⟩ => ⟨S4x4096x6144, .f32⟩
  | .hbm, ⟨36, _⟩ => ⟨S4x4096x6144, .f32⟩
  | .hbm, ⟨37, _⟩ => ⟨S4x4096x6144, .f32⟩
  | .hbm, ⟨38, _⟩ => ⟨S1x6144, .f32⟩
  | .hbm, ⟨39, _⟩ => ⟨S6144, .f32⟩
  | .hbm, ⟨40, _⟩ => ⟨S1x1x6144, .f32⟩
  | .hbm, ⟨41, _⟩ => ⟨S4x4096x6144, .f32⟩
  | .hbm, ⟨42, _⟩ => ⟨S4x4096x6144, .f32⟩
  | .hbm, ⟨43, _⟩ => ⟨S4x4096x6144, .f32⟩
  | .hbm, ⟨44, _⟩ => ⟨S4x4096x6144, .f32⟩
  | .hbm, ⟨45, _⟩ => ⟨S4x4096x6144, .f32⟩
  | .hbm, ⟨46, _⟩ => ⟨S_, .f32⟩
  | .hbm, ⟨47, _⟩ => ⟨S4x4096x6144, .f32⟩
  | .hbm, ⟨48, _⟩ => ⟨S4x4096x6144, .f32⟩
  | .hbm, ⟨49, _⟩ => ⟨S_, .f32⟩
  | .hbm, ⟨50, _⟩ => ⟨S4x4096x6144, .f32⟩
  | .hbm, ⟨51, _⟩ => ⟨S4x4096x6144, .f32⟩
  | .hbm, ⟨52, _⟩ => ⟨S4x4096x6144, .f32⟩
  | .hbm, ⟨53, _⟩ => ⟨S4x4096x2048, .f32⟩
  | .hbm, ⟨54, _⟩ => ⟨S4x4096x16x128, .f32⟩
  | .hbm, ⟨55, _⟩ => ⟨S4x4096x16x128, .f32⟩
  | .hbm, ⟨56, _⟩ => ⟨S_, .f32⟩
  | .hbm, ⟨57, _⟩ => ⟨S4x4096x16, .f32⟩
  | .hbm, ⟨58, _⟩ => ⟨S4x4096x16x1, .f32⟩
  | .hbm, ⟨59, _⟩ => ⟨S_, .f32⟩
  | .hbm, ⟨60, _⟩ => ⟨S4x4096x16x1, .f32⟩
  | .hbm, ⟨61, _⟩ => ⟨S4x4096x16x1, .f32⟩
  | .hbm, ⟨62, _⟩ => ⟨S4x4096x16x1, .f32⟩
  | .hbm, ⟨63, _⟩ => ⟨S4x4096x16x128, .f32⟩
  | .hbm, ⟨64, _⟩ => ⟨S4x4096x16x128, .f32⟩
  | .hbm, ⟨65, _⟩ => ⟨S4x4096x2048, .f32⟩
  | .hbm, ⟨66, _⟩ => ⟨S4x4096x2048, .f32⟩
  | .hbm, ⟨67, _⟩ => ⟨S4x4096x2048, .f32⟩
  | .hbm, ⟨68, _⟩ => ⟨S4x4096x16x128, .f32⟩
  | .hbm, ⟨69, _⟩ => ⟨S4x4096x16x128, .f32⟩
  | .hbm, ⟨70, _⟩ => ⟨S_, .f32⟩
  | .hbm, ⟨71, _⟩ => ⟨S4x4096x16, .f32⟩
  | .hbm, ⟨72, _⟩ => ⟨S4x4096x16x1, .f32⟩
  | .hbm, ⟨73, _⟩ => ⟨S_, .f32⟩
  | .hbm, ⟨74, _⟩ => ⟨S4x4096x16x1, .f32⟩
  | .hbm, ⟨75, _⟩ => ⟨S4x4096x16x1, .f32⟩
  | .hbm, ⟨76, _⟩ => ⟨S4x4096x16x1, .f32⟩
  | .hbm, ⟨77, _⟩ => ⟨S4x4096x16x128, .f32⟩
  | .hbm, ⟨78, _⟩ => ⟨S4x4096x16x128, .f32⟩
  | .hbm, ⟨79, _⟩ => ⟨S4x4096x2048, .f32⟩
  | .hbm, ⟨80, _⟩ => ⟨S_, .f32⟩
  | .hbm, ⟨81, _⟩ => ⟨S_, .f32⟩
  | .hbm, ⟨82, _⟩ => ⟨S4x4096x2048, .f32⟩
  | .hbm, ⟨83, _⟩ => ⟨S4x4096x2048, .f32⟩
  | .hbm, ⟨84, _⟩ => ⟨S4x4096x6144, .f32⟩
  | _, _ => ⟨S16384x20480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_0 : Ref sig .tc := ⟨.hbm, 56, rfl⟩
abbrev main_v43 : Ref sig .tc := ⟨.hbm, 57, rfl⟩
abbrev main_v44 : Ref sig .tc := ⟨.hbm, 58, rfl⟩
abbrev main_cst_1 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_2 : Ref sig .tc := ⟨.hbm, 70, rfl⟩
abbrev main_v55 : Ref sig .tc := ⟨.hbm, 71, rfl⟩
abbrev main_v56 : Ref sig .tc := ⟨.hbm, 72, rfl⟩
abbrev main_cst_3 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_4 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== Kernel9.lean ====
abbrev S4x256x4096 : Shape := ⟨3, ![4, 256, 4096]⟩
abbrev S4x4096 : Shape := ⟨2, ![4, 4096]⟩
abbrev S4096 : Shape := ⟨1, ![4096]⟩
abbrev S4096x24576 : Shape := ⟨2, ![4096, 24576]⟩
abbrev S24576 : Shape := ⟨1, ![24576]⟩
abbrev S4096x20544 : Shape := ⟨2, ![4096, 20544]⟩
abbrev S5x6144 : Shape := ⟨2, ![5, 6144]⟩
abbrev S1x4096 : Shape := ⟨2, ![1, 4096]⟩
abbrev S_ : Shape := ⟨0, ![]⟩
abbrev S3x4096 : Shape := ⟨2, ![3, 4096]⟩
abbrev S8x4096 : Shape := ⟨2, ![8, 4096]⟩
abbrev S1x24576 : Shape := ⟨2, ![1, 24576]⟩
abbrev S8x24576 : Shape := ⟨2, ![8, 24576]⟩
abbrev S4096x512 : Shape := ⟨2, ![4096, 512]⟩
abbrev S1x512 : Shape := ⟨2, ![1, 512]⟩
abbrev S8x512 : Shape := ⟨2, ![8, 512]⟩
abbrev S8x1x4096 : Shape := ⟨3, ![8, 1, 4096]⟩
abbrev S4096x4096 : Shape := ⟨2, ![4096, 4096]⟩
abbrev S4096x16384 : Shape := ⟨2, ![4096, 16384]⟩
abbrev S4096x20480 : Shape := ⟨2, ![4096, 20480]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩
abbrev S1024x4096 : Shape := ⟨2, ![1024, 4096]⟩
abbrev S4096x1024 : Shape := ⟨2, ![4096, 1024]⟩
abbrev S1024x1024 : Shape := ⟨2, ![1024, 1024]⟩
abbrev S5x4096 : Shape := ⟨2, ![5, 4096]⟩
abbrev S1x8x512 : Shape := ⟨3, ![1, 8, 512]⟩
abbrev S1x256x512 : Shape := ⟨3, ![1, 256, 512]⟩
abbrev S5x512 : Shape := ⟨2, ![5, 512]⟩
abbrev S256x512 : Shape := ⟨2, ![256, 512]⟩
abbrev S272x512 : Shape := ⟨2, ![272, 512]⟩
abbrev S256x128 : Shape := ⟨2, ![256, 128]⟩

abbrev nBuf : Space → Nat
  | .hbm => 30
  | .vmem => 29
  | .smem => 0
  | _ => 0

abbrev bufTy : (tb : Table) → Fin (tcTables nBuf tb) → BufTy
  | .hbm, ⟨0, _⟩ => ⟨S4x256x4096, .f32⟩
  | .hbm, ⟨1, _⟩ => ⟨S4x4096, .f32⟩
  | .hbm, ⟨2, _⟩ => ⟨S4096, .f32⟩
  | .hbm, ⟨3, _⟩ => ⟨S4096x24576, .f32⟩
  | .hbm, ⟨4, _⟩ => ⟨S24576, .f32⟩
  | .hbm, ⟨5, _⟩ => ⟨S4096, .f32⟩
  | .hbm, ⟨6, _⟩ => ⟨S4096x20544, .f32⟩
  | .hbm, ⟨7, _⟩ => ⟨S5x6144, .f32⟩
  | .hbm, ⟨8, _⟩ => ⟨S1x4096, .f32⟩
  | .hbm, ⟨9, _⟩ => ⟨S_, .f32⟩
  | .hbm, ⟨10, _⟩ => ⟨S3x4096, .f32⟩
  | .hbm, ⟨11, _⟩ => ⟨S8x4096, .f32⟩
  | .hbm, ⟨12, _⟩ => ⟨S1x24576, .f32⟩
  | .hbm, ⟨13, _⟩ => ⟨S8x24576, .f32⟩
  | .hbm, ⟨14, _⟩ => ⟨S8x4096, .f32⟩
  | .hbm, ⟨15, _⟩ => ⟨S8x1x4096, .f32⟩
  | .hbm, ⟨16, _⟩ => ⟨S8x4096, .f32⟩
  | .hbm, ⟨17, _⟩ => ⟨S8x1x4096, .f32⟩
  | .hbm, ⟨18, _⟩ => ⟨S4096x4096, .f32⟩
  | .hbm, ⟨19, _⟩ => ⟨S4096x16384, .f32⟩
  | .hbm, ⟨20, _⟩ => ⟨S4096x20480, .f32⟩
  | .hbm, ⟨21, _⟩ => ⟨S4096x20480, .bf16⟩
  | .hbm, ⟨22, _⟩ => ⟨S1x4096, .f32⟩
  | .hbm, ⟨23, _⟩ => ⟨S4x256x4096, .bf16⟩
  | .hbm, ⟨24, _⟩ => ⟨S1024x4096, .bf16⟩
  | .hbm, ⟨25, _⟩ => ⟨S4096x4096, .bf16⟩
  | .hbm, ⟨26, _⟩ => ⟨S1024x4096, .f32⟩
  | .hbm, ⟨27, _⟩ => ⟨S4x256x4096, .f32⟩
  | .hbm, ⟨28, _⟩ => ⟨S5x4096, .f32⟩
  | .hbm, ⟨29, _⟩ => ⟨S4x256x4096, .f32⟩
  | .local _ .vmem, ⟨0, _⟩ => ⟨S8x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | .local _ .vmem, ⟨7, _⟩ => ⟨S1x256x4096, .f32⟩
  | .local _ .vmem, ⟨8, _⟩ => ⟨S1x256x4096, .f32⟩
  | .local _ .vmem, ⟨9, _⟩ => ⟨S1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x256x4096, .bf16⟩
  | .local _ .vmem, ⟨13, _⟩ => ⟨S1x256x4096, .bf16⟩
  | .local _ .vmem, ⟨14, _⟩ => ⟨S1024x4096, .bf16⟩
  | .local _ .vmem, ⟨15, _⟩ => ⟨S4096x1024, .bf16⟩
  | .local _ .vmem, ⟨16, _⟩ => ⟨S4096x1024, .bf16⟩
  | .local _ .vmem, ⟨17, _⟩ => ⟨S1024x1024, .f32⟩
  | .local _ .vmem, ⟨18, _⟩ => ⟨S1024x1024, .f32⟩
  | .local _ .vmem, ⟨19, _⟩ => ⟨S1x8x512, .f32⟩
  | .local _ .vmem, ⟨20, _⟩ => ⟨S1x8x512, .f32⟩
  | .local _ .vmem, ⟨21, _⟩ => ⟨S1x256x512, .f32⟩
  | .local _ .vmem, ⟨22, _⟩ => ⟨S1x256x512, .f32⟩
  | .local _ .vmem, ⟨23, _⟩ => ⟨S1x8x512, .f32⟩
  | .local _ .vmem, ⟨24, _⟩ => ⟨S1x8x512, .f32⟩
  | .local _ .vmem, ⟨25, _⟩ => ⟨S5x512, .f32⟩
  | .local _ .vmem, ⟨26, _⟩ => ⟨S5x512, .f32⟩
  | .local _ .vmem, ⟨27, _⟩ => ⟨S1x256x512, .f32⟩
  | .local _ .vmem, ⟨28, _⟩ => ⟨S1x256x512, .f32⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg3_1 : Ref sig .tc := ⟨.vmem, 26, rfl⟩
abbrev cc3_stg4_0 : Ref sig .tc := ⟨.vmem, 27, rfl⟩
abbrev cc3_stg4_1 : Ref sig .tc := ⟨.vmem, 28, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem3_1 : DmaSem sig := 26
abbrev cc3_sem4_0 : DmaSem sig := 27
abbrev cc3_sem4_1 : DmaSem sig := 28

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x256x4096 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![1, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S1024x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨3, ![4, 1, 8], ![false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c32_i32 : BitVec 32 := 32#32
  let v1 : BitVec 32 := Scalar.muli v0 c32_i32
  let c31_i32 : BitVec 32 := 31#32
  let v2 : BitVec 32 := Scalar.minsi v1 c31_i32
  let c0_i32 : BitVec 32 := 0#32
  ![arg0.toNat, v2.toNat, arg2.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc3_transform_4 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage3_0 : Fin 2 → Memref sig .tc .vmem S1x8x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x256x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, true]

abbrev stage3_2 : Fin 2 → Memref sig .tc .vmem S1x8x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, true]

abbrev stage3_3 : Fin 2 → Memref sig .tc .vmem S5x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, false, true]

abbrev stage3_4 : Fin 2 → Memref sig .tc .vmem S1x256x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, true]
-- ==== Kernel9Ideal.lean ====
variable {F : FTy → Type} [FloatOps F] [Named F]
def κ : String → Option EReal := fun
  | "inv_sqrt_head" => some (((Real.sqrt 128)⁻¹ : ℝ) : EReal)
  | _ => none
-- ==== Reference9Ideal.lean ====
abbrev S4x256x4096 : Shape := ⟨3, ![4, 256, 4096]⟩
abbrev S4x4096 : Shape := ⟨2, ![4, 4096]⟩
abbrev S4096 : Shape := ⟨1, ![4096]⟩
abbrev S4096x24576 : Shape := ⟨2, ![4096, 24576]⟩
abbrev S24576 : Shape := ⟨1, ![24576]⟩
abbrev S4096x20544 : Shape := ⟨2, ![4096, 20544]⟩
abbrev S5x6144 : Shape := ⟨2, ![5, 6144]⟩
abbrev S1x4096 : Shape := ⟨2, ![1, 4096]⟩
abbrev S_ : Shape := ⟨0, ![]⟩
abbrev S1x24576 : Shape := ⟨2, ![1, 24576]⟩
abbrev S1x1x4096 : Shape := ⟨3, ![1, 1, 4096]⟩
abbrev S4x256 : Shape := ⟨2, ![4, 256]⟩
abbrev S4x256x1 : Shape := ⟨3, ![4, 256, 1]⟩
abbrev S1024x4096 : Shape := ⟨2, ![1024, 4096]⟩
abbrev S4096x4096 : Shape := ⟨2, ![4096, 4096]⟩
abbrev S4x260x4096 : Shape := ⟨3, ![4, 260, 4096]⟩
abbrev S4x256x2048 : Shape := ⟨3, ![4, 256, 2048]⟩
abbrev S4x256x16x128 : Shape := ⟨4, ![4, 256, 16, 128]⟩
abbrev S4x256x16 : Shape := ⟨3, ![4, 256, 16]⟩
abbrev S4x256x16x1 : Shape := ⟨4, ![4, 256, 16, 1]⟩

abbrev nBuf : Space → Nat
  | .hbm => 116
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S4x4096, .f32⟩
  | .hbm, ⟨2, _⟩ => ⟨S4096, .f32⟩
  | .hbm, ⟨3, _⟩ => ⟨S4096x24576, .f32⟩
  | .hbm, ⟨4, _⟩ => ⟨S24576, .f32⟩
  | .hbm, ⟨5, _⟩ => ⟨S4096, .f32⟩
  | .hbm, ⟨6, _⟩ => ⟨S4096x20544, .f32⟩
  | .hbm, ⟨7, _⟩ => ⟨S5x6144, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S_, .f32⟩
  | .hbm, ⟨12, _⟩ => ⟨S1x4096, .f32⟩
  | .hbm, ⟨13, _⟩ => ⟨S1x4096, .f32⟩
  | .hbm, ⟨14, _⟩ => ⟨S_, .f32⟩
  | .hbm, ⟨15, _⟩ => ⟨S1x4096, .f32⟩
  | .hbm, ⟨16, _⟩ => ⟨S1x4096, .f32⟩
  | .hbm, ⟨17, _⟩ => ⟨S1x4096, .f32⟩
  | .hbm, ⟨18, _⟩ => ⟨S1x24576, .f32⟩
  | .hbm, ⟨19, _⟩ => ⟨S1x24576, .f32⟩
  | .hbm, ⟨20, _⟩ => ⟨S1x24576, .f32⟩
  | .hbm, ⟨21, _⟩ => ⟨S1x4096, .f32⟩
  | .hbm, ⟨22, _⟩ => ⟨S1x1x4096, .f32⟩
  | .hbm, ⟨23, _⟩ => ⟨S1x4096, .f32⟩
  | .hbm, ⟨24, _⟩ => ⟨S1x1x4096, .f32⟩
  | .hbm, ⟨25, _⟩ => ⟨S4x256x4096, .f32⟩
  | .hbm, ⟨26, _⟩ => ⟨S_, .f32⟩
  | .hbm, ⟨27, _⟩ => ⟨S4x256, .f32⟩
  | .hbm, ⟨28, _⟩ => ⟨S4x256x1, .f32⟩
  | .hbm, ⟨29, _⟩ => ⟨S_, .f32⟩
  | .hbm, ⟨30, _⟩ => ⟨S4x256x1, .f32⟩
  | .hbm, ⟨31, _⟩ => ⟨S4x256x1, .f32⟩
  | .hbm, ⟨32, _⟩ => ⟨S_, .f32⟩
  | .hbm, ⟨33, _⟩ => ⟨S4x256x1, .f32⟩
  | .hbm, ⟨34, _⟩ => ⟨S4x256x1, .f32⟩
  | .hbm, ⟨35, _⟩ => ⟨S4x256x1, .f32⟩
  | .hbm, ⟨36, _⟩ => ⟨S4x256x4096, .f32⟩
  | .hbm, ⟨37, _⟩ => ⟨S4x256x4096, .f32⟩
  | .hbm, ⟨38, _⟩ => ⟨S1x1x4096, .f32⟩
  | .hbm, ⟨39, _⟩ => ⟨S4x256x4096, .f32⟩
  | .hbm, ⟨40, _⟩ => ⟨S4x256x4096, .f32⟩
  | .hbm, ⟨41, _⟩ => ⟨S_, .f32⟩
  | .hbm, ⟨42, _⟩ => ⟨S1x1x4096, .f32⟩
  | .hbm, ⟨43, _⟩ => ⟨S1x1x4096, .f32⟩
  | .hbm, ⟨44, _⟩ => ⟨S4x256x4096, .f32⟩
  | .hbm, ⟨45, _⟩ => ⟨S4x256x4096, .f32⟩
  | .hbm, ⟨46, _⟩ => ⟨S4x256x4096, .f32⟩
  | .hbm, ⟨47, _⟩ => ⟨S4x256x4096, .f32⟩
  | .hbm, ⟨48, _⟩ => ⟨S1024x4096, .f32⟩
  | .hbm, ⟨49, _⟩ => ⟨S4096x4096, .f32⟩
  | .hbm, ⟨50, _⟩ => ⟨S1024x4096, .f32⟩
  | .hbm, ⟨51, _⟩ => ⟨S4x256x4096, .f32⟩
  | .hbm, ⟨52, _⟩ => ⟨S_, .i32⟩
  | .hbm, ⟨53, _⟩ => ⟨S_, .f32⟩
  | .hbm, ⟨54, _⟩ => ⟨S4x260x4096, .f32⟩
  | .hbm, ⟨55, _⟩ => ⟨S4x256x4096, .f32⟩
  | .hbm, ⟨56, _⟩ => ⟨S1x4096, .f32⟩
  | .hbm, ⟨57, _⟩ => ⟨S4096, .f32⟩
  | .hbm, ⟨58, _⟩ => ⟨S1x1x4096, .f32⟩
  | .hbm, ⟨59, _⟩ => ⟨S4x256x4096, .f32⟩
  | .hbm, ⟨60, _⟩ => ⟨S4x256x4096, .f32⟩
  | .hbm, ⟨61, _⟩ => ⟨S_, .f32⟩
  | .hbm, ⟨62, _⟩ => ⟨S4x256x4096, .f32⟩
  | .hbm, ⟨63, _⟩ => ⟨S4x256x4096, .f32⟩
  | .hbm, ⟨64, _⟩ => ⟨S4x256x4096, .f32⟩
  | .hbm, ⟨65, _⟩ => ⟨S1x4096, .f32⟩
  | .hbm, ⟨66, _⟩ => ⟨S4096, .f32⟩
  | .hbm, ⟨67, _⟩ => ⟨S1x1x4096, .f32⟩
  | .hbm, ⟨68, _⟩ => ⟨S4x256x4096, .f32⟩
  | .hbm, ⟨69, _⟩ => ⟨S4x256x4096, .f32⟩
  | .hbm, ⟨70, _⟩ => ⟨S4x256x4096, .f32⟩
  | .hbm, ⟨71, _⟩ => ⟨S4x256x4096, .f32⟩
  | .hbm, ⟨72, _⟩ => ⟨S1x4096, .f32⟩
  | .hbm, ⟨73, _⟩ => ⟨S4096, .f32⟩
  | .hbm, ⟨74, _⟩ => ⟨S1x1x4096, .f32⟩
  | .hbm, ⟨75, _⟩ => ⟨S4x256x4096, .f32⟩
  | .hbm, ⟨76, _⟩ => ⟨S4x256x4096, .f32⟩
  | .hbm, ⟨77, _⟩ => ⟨S4x256x4096, .f32⟩
  | .hbm, ⟨78, _⟩ => ⟨S4x256x4096, .f32⟩
  | .hbm, ⟨79, _⟩ => ⟨S1x4096, .f32⟩
  | .hbm, ⟨80, _⟩ => ⟨S4096, .f32⟩
  | .hbm, ⟨81, _⟩ => ⟨S1x1x4096, .f32⟩
  | .hbm, ⟨82, _⟩ => ⟨S4x256x4096, .f32⟩
  | .hbm, ⟨83, _⟩ => ⟨S4x256x4096, .f32⟩
  | .hbm, ⟨84, _⟩ => ⟨S4x256x4096, .f32⟩
  | .hbm, ⟨85, _⟩ => ⟨S4x256x4096, .f32⟩
  | .hbm, ⟨86, _⟩ => ⟨S1x4096, .f32⟩
  | .hbm, ⟨87, _⟩ => ⟨S4096, .f32⟩
  | .hbm, ⟨88, _⟩ => ⟨S1x1x4096, .f32⟩
  | .hbm, ⟨89, _⟩ => ⟨S4x256x4096, .f32⟩
  | .hbm, ⟨90, _⟩ => ⟨S4x256x4096, .f32⟩
  | .hbm, ⟨91, _⟩ => ⟨S4x256x4096, .f32⟩
  | .hbm, ⟨92, _⟩ => ⟨S4x256x4096, .f32⟩
  | .hbm, ⟨93, _⟩ => ⟨S4x256x4096, .f32⟩
  | .hbm, ⟨94, _⟩ => ⟨S_, .f32⟩
  | .hbm, ⟨95, _⟩ => ⟨S4x256x4096, .f32⟩
  | .hbm, ⟨96, _⟩ => ⟨S4x256x4096, .f32⟩
  | .hbm, ⟨97, _⟩ => ⟨S_, .f32⟩
  | .hbm, ⟨98, _⟩ => ⟨S4x256x4096, .f32⟩
  | .hbm, ⟨99, _⟩ => ⟨S4x256x4096, .f32⟩
  | .hbm, ⟨100, _⟩ => ⟨S4x256x4096, .f32⟩
  | .hbm, ⟨101, _⟩ => ⟨S4x256x2048, .f32⟩
  | .hbm, ⟨102, _⟩ => ⟨S4x256x16x128, .f32⟩
  | .hbm, ⟨103, _⟩ => ⟨S4x256x16x128, .f32⟩
  | .hbm, ⟨104, _⟩ => ⟨S_, .f32⟩
  | .hbm, ⟨105, _⟩ => ⟨S4x256x16, .f32⟩
  | .hbm, ⟨106, _⟩ => ⟨S4x256x16x1, .f32⟩
  | .hbm, ⟨107, _⟩ => ⟨S_, .f32⟩
  | .hbm, ⟨108, _⟩ => ⟨S4x256x16x1, .f32⟩
  | .hbm, ⟨109, _⟩ => ⟨S4x256x16x1, .f32⟩
  | .hbm, ⟨110, _⟩ => ⟨S4x256x16x1, .f32⟩
  | .hbm, ⟨111, _⟩ => ⟨S4x256x16x128, .f32⟩
  | .hbm, ⟨112, _⟩ => ⟨S4x256x16x128, .f32⟩
  | .hbm, ⟨113, _⟩ => ⟨S4x256x2048, .f32⟩
  | .hbm, ⟨114, _⟩ => ⟨S4x256x2048, .f32⟩
  | .hbm, ⟨115, _⟩ => ⟨S4x256x4096, .f32⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c : Ref sig .tc := ⟨.hbm, 52, rfl⟩
abbrev main_call1_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_3 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_call2_v0 : Ref sig .tc := ⟨.hbm, 92, rfl⟩
abbrev main_call2_v1 : Ref sig .tc := ⟨.hbm, 93, rfl⟩
abbrev main_call2_cst : Ref sig .tc := ⟨.hbm, 94, rfl⟩
abbrev main_call2_v2 : Ref sig .tc := ⟨.hbm, 95, rfl⟩
abbrev main_call2_v3 : Ref sig .tc := ⟨.hbm, 96, rfl⟩
abbrev main_call2_cst_0 : Ref sig .tc := ⟨.hbm, 97, rfl⟩
abbrev main_call2_v4 : Ref sig .tc := ⟨.hbm, 98, rfl⟩
abbrev main_call2_v5 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_4 : Ref sig .tc := ⟨.hbm, 104, rfl⟩
abbrev main_v73 : Ref sig .tc := ⟨.hbm, 105, rfl⟩
abbrev main_v74 : Ref sig .tc := ⟨.hbm, 106, rfl⟩
abbrev main_cst_5 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩

abbrev nD : Nat := 1
abbrev τ : Topo := Topo.v7x

variable {F : FTy → Type} [FloatOps F]
-- ==== Proof.DispatchPoint.lean ====
/- One grid point of the row dispatch: 256 row copies started on one DMA semaphore by a first loop and
   waited for by a second. Hand-written. -/
module

public import proofs.«01_k».proof.Proof.Gen.KernelIdeal.Skeleton
public import proofs.«01_k».proof.Proof.Gen.KernelIdeal.Loops
public import Idealize.ShloMosaic.Lib.Batch
public import Idealize.ShloMosaic.Lib.Ring
public import Idealize.ShloMosaic.Lib.Tactic
public import Idealize.ShloMosaic.Lib.Pipeline.FrameBody
public import Idealize.ShloMosaic.Lib.Pipeline.FrameValue

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem trips1 : k0_t1_loop.trips = 256 := by decide
theorem trips2 : k0_t2_loop.trips = 256 := by decide

variable (c : Dev nD) (i : grid0.Coords) (arg1 : Memref sig .tc .smem S256 .i32) (harg1 : arg1.IsWhole)

/-- The word the trip reads. -/
abbrev wordAt (f : Buf (Elt F) (arg1.view.loc (c : Thread nD τ))) (k : Fin k0_t1_loop.trips) : BitVec 32 :=
  View.readAt (Elt F) arg1.view (Rect.unit (s := S256) (k0_off1 k) S1.size (k0_off1_inb k)).toLoadRect f (Shape.Idx.first (numel1_S1.symm ▸ Nat.one_pos))

def dstRow (k : Fin k0_t1_loop.trips) : Memref sig .tc .hbm S1x4096 .f32 :=
  (Memref.whole main_v0).slice (Rect.unit (s := S73728x4096) (k0_off2 i k) S1x4096.size (k0_off2_inb i k)) (fun _ => rfl)
def srcRow (w : BitVec 32) (h : k0_chk1 w) : Memref sig .tc .hbm S1x4096 .f32 :=
  (Memref.whole main_arg1).slice (Rect.unit (s := S16384x4096) (k0_off3 w) S1x4096.size (k0_off3_inb w h)) (fun _ => rfl)

/-- One row's amount on the semaphore. -/
abbrev NN : ℕ := sig.dmaCredit .tc (Kind.tc.table .hbm) main_v0.idx S1x4096 .f32

variable (f : Buf (Elt F) (arg1.view.loc (c : Thread nD τ))) (hw : ∀ k, k0_chk1 (wordAt c arg1 f k))
  (x : Buf (Elt F) ((c : Thread nD τ).loc main_arg1)) (y g : Buf (Elt F) ((c : Thread nD τ).loc main_v0))

/-- What the `k`-th copy delivers: its row of the result at the final contents, and its share of its source row. -/
def deliver (k : Fin k0_t1_loop.trips) : sProp 𝕄 :=
  iprop(((dstRow i k).view.loc (c : Thread nD τ) ↦[(dstRow i k).view.set]{fullShare} g)
    ∗ ((srcRow (wordAt c arg1 f k) (hw k)).view.loc (c : Thread nD τ) ↦[(srcRow (wordAt c arg1 f k) (hw k)).view.set]{Transfers.shareTokN fullShare k.val} x))

instance deliver_storable (k) : BI.Storable (upEmb : UEmb _ 𝕄) (deliver (F := F) c i arg1 f hw x g k) := by
  unfold deliver dstRow srcRow; infer_instance

abbrev batch (j u : ℕ) : sProp 𝕄 :=
  Transfers.Batch (countersEmb (U := Pipeline.UD sig nD τ)) (c : Thread nD τ) (.dma cc0_scratch0.sem) () NN (deliver (F := F) c i arg1 f hw x g) j u

/-- A row of the result in hand, at the contents it had. -/
def rowHeld (z : Buf (Elt F) ((c : Thread nD τ).loc main_v0)) (k : Fin k0_t1_loop.trips) : sProp 𝕄 :=
  (dstRow i k).view.loc (c : Thread nD τ) ↦[(dstRow i k).view.set]{fullShare} z

/-- A share of a source row in hand. -/
def srcHeld (k : Fin k0_t1_loop.trips) : sProp 𝕄 :=
  (srcRow (wordAt c arg1 f k) (hw k)).view.loc (c : Thread nD τ) ↦[(srcRow (wordAt c arg1 f k) (hw k)).view.set]{Transfers.shareTokN fullShare k.val} x

/-- The prefetched words, held. -/
abbrev wordsHeld : sProp 𝕄 := arg1.view.loc (c : Thread nD τ) ↦[arg1.view.set]{fullShare} f

/-- Before trip `k` of the first loop: `k` copies started, none waited for, the later rows and shares still in hand. -/
def issueAt (k : ℕ) (_ : Unit) : sProp 𝕄 :=
  iprop(wordsHeld c arg1 f ∗ batch c i arg1 f hw x g k 0
    ∗ bigSep (Ring.rangeSet k0_t1_loop.trips k k0_t1_loop.trips) (rowHeld c i y)
    ∗ bigSep (Ring.rangeSet k0_t1_loop.trips k k0_t1_loop.trips) (srcHeld c arg1 f hw x))

/-- A copied row lands at the final contents. -/
theorem landed (k : Fin k0_t1_loop.trips)
    (hg : (dstRow i k).view.read (Elt F) g = (srcRow (wordAt c arg1 f k) (hw k)).view.read (Elt F) x) :
    iprop(((dstRow i k).view.loc (c : Thread nD τ) ↦[(dstRow i k).view.set]{fullShare}
        ((dstRow i k).view.write (Elt F) y (ReadAs.same.apply ((srcRow (wordAt c arg1 f k) (hw k)).view.read (Elt F) x)) Finset.univ))
      ∗ ((srcRow (wordAt c arg1 f k) (hw k)).view.loc (c : Thread nD τ) ↦[(srcRow (wordAt c arg1 f k) (hw k)).view.set]{Transfers.shareTokN fullShare k.val} x))
    ⊢ deliver (F := F) c i arg1 f hw x g k := by
  unfold deliver
  refine sep_mono (Entails.of_eq (pointsTo_congr fun j hj => ?_)) .rfl
  show (dstRow i k).view.write (Elt F) y ((srcRow (wordAt c arg1 f k) (hw k)).view.read (Elt F) x) Finset.univ j = g j
  rw [← hg]
  exact (congrFun (View.write_read_eq_piecewise (v := (dstRow i k).view) y g Finset.univ) j).trans (Finset.piecewise_eq_of_mem _ _ _ hj)

/-- One trip of the first loop. -/
theorem issue_step (k : Fin k0_t1_loop.trips) (acc : Unit)
    (hg : (dstRow i k).view.read (Elt F) g = (srcRow (wordAt c arg1 f k) (hw k)).view.read (Elt F) x) :
    issueAt c i arg1 f hw x y g k acc ⊢ wp frame (wpE (defs₀ (F := F)) Variants.none (c : Thread nD τ) none) Set.univ
      (k0_t1_body (F := F) i arg1 harg1 (Memref.whole main_arg1) (Memref.isWhole_whole _) (Memref.whole main_v0) (Memref.isWhole_whole _) cc0_scratch0 k acc)
      (issueAt c i arg1 f hw x y g (k.val + 1)) := by
  have hk := k.isLt
  unfold issueAt
  rw [Ring.bigSep_rangeSet_head (Φ := rowHeld c i y) hk hk, Ring.bigSep_rangeSet_head (Φ := srcHeld c arg1 f hw x) hk hk]
  unfold k0_t1_body
  iintro ⟨HW, HB, ⟨HY, HYs⟩, HX, HXs⟩
  sl_exec
  unfold rowHeld srcHeld
  iapply (Transfers.wp_dmaBatch (countersEmb (U := Pipeline.UD sig nD τ)) Variants.none (c : Thread nD τ) none
    (src := srcRow (wordAt c arg1 f k) (hw k)) (dst := dstRow i k) (via := .same) (sm := .dma cc0_scratch0.sem) (q := Transfers.shareTokN fullShare k.val)
    (fs := x) (fd := y) (Sd := (dstRow i k).view.set) (D := deliver (F := F) c i arg1 f hw x g) (j := k.val) (u := 0)
    () NN rfl (Finset.Subset.refl _) hk (Nat.zero_le _) (landed c i arg1 f hw x y g k hg)) $$ [HX HY HB]
  · isplitl [HX]; · iexact HX
    isplitl [HY]; · iexact HY
    iexact HB
  iintro HB
  sl_step
  isplitl [HW]; · iexact HW
  isplitl [HB]; · iexact HB
  isplitl [HYs]; · iexact HYs
  iexact HXs

/-- Before trip `k` of the second loop: every copy started, the waits so far recorded; before the last trip the
    batch with `k` rows' units consumed, after it the semaphore at zero and every delivery. -/
def drainAt (k : ℕ) (_ : Unit) : sProp 𝕄 :=
  iprop(wordsHeld c arg1 f ∗ (∃ W, owes (c : Thread nD τ) 0 W)
    ∗ (if k < k0_t1_loop.trips then batch c i arg1 f hw x g k0_t1_loop.trips (k * NN)
       else iprop(semVal ((c : Thread nD τ), SemLoc.dma cc0_scratch0.sem) 0 ∗ bigSep Finset.univ (deliver (F := F) c i arg1 f hw x g))))

/-- The word a trip of the second loop reads. -/
abbrev wordAt2 (k : Fin k0_t2_loop.trips) : BitVec 32 :=
  View.readAt (Elt F) arg1.view (Rect.unit (s := S256) (k0_off4 k) S1.size (k0_off4_inb k)).toLoadRect f (Shape.Idx.first (numel1_S1.symm ▸ Nat.one_pos))

theorem NN_pos : 0 < NN := by decide

theorem drain_step (k : Fin k0_t2_loop.trips) (acc : Unit) (hw2 : k0_chk2 (wordAt2 c arg1 f k)) :
    drainAt c i arg1 f hw x g k acc ⊢ wp frame (wpE (defs₀ (F := F)) Variants.none (c : Thread nD τ) none) Set.univ
      (k0_t2_body (F := F) i arg1 harg1 (Memref.whole main_arg1) (Memref.isWhole_whole _) (Memref.whole main_v0) (Memref.isWhole_whole _) cc0_scratch0 k acc)
      (drainAt c i arg1 f hw x g (k.val + 1)) := by
  have hk : k.val < k0_t1_loop.trips := k.isLt
  unfold drainAt
  rw [if_pos hk]
  rcases Nat.lt_or_ge (k.val + 1) k0_t1_loop.trips with h1 | h1
  · rw [if_pos h1]
    unfold k0_t2_body
    iintro ⟨HW, ⟨%W, HO⟩, HB⟩
    sl_exec
    iapply (Transfers.wp_waitBatch (countersEmb (U := Pipeline.UD sig nD τ)) Variants.none (c : Thread nD τ) none () (N := NN) rfl
      (D := deliver (F := F) c i arg1 f hw x g) (u := k.val * NN) (W := W) ?_) $$ [HB HO]
    · have h2 := Nat.mul_lt_mul_of_pos_left h1 NN_pos
      rw [Nat.mul_comm NN (k.val + 1), Nat.succ_mul] at h2
      exact h2
    · isplitl [HB]; · iexact HB
      iexact HO
    iintro ⟨HB, HO⟩
    sl_step
    isplitl [HW]; · iexact HW
    isplitl [HO]; · iexists _; iexact HO
    rw [Nat.succ_mul]
    iexact HB
  · rw [if_neg (Nat.not_lt.mpr h1)]
    unfold k0_t2_body
    iintro ⟨HW, ⟨%W, HO⟩, HB⟩
    sl_exec
    iapply (Transfers.wp_waitBatchLast (countersEmb (U := Pipeline.UD sig nD τ)) Variants.none (c : Thread nD τ) none () (N := NN) rfl NN_pos
      (D := deliver (F := F) c i arg1 f hw x g) (u := k.val * NN) (W := W) ?_) $$ [HB HO]
    · rw [← Nat.succ_mul, Nat.mul_comm]; congr 1; omega
    · isplitl [HB]; · iexact HB
      iexact HO
    iintro ⟨Hall, Hc, HO⟩
    sl_step
    isplitl [HW]; · iexact HW
    isplitl [HO]; · iexists _; iexact HO
    isplitl [Hc]; · iexact Hc
    iexact Hall

/-! ## The rows as sets of elements -/

/-- The elements of a row of the result. -/
def dstSet (k : Fin k0_t1_loop.trips) : Finset S73728x4096.Idx :=
  (Rect.unit (s := S73728x4096) (k0_off2 i k) S1x4096.size (k0_off2_inb i k)).set

theorem dstRow_set (k : Fin k0_t1_loop.trips) : (dstRow i k).view.set = dstSet i k := View.set_slice_whole _ _

theorem mem_dstSet (k : Fin k0_t1_loop.trips) (j : S73728x4096.Idx) :
    j ∈ dstSet i k ↔ (j 0).val = 256 * (i 0).val + k.val := by
  unfold dstSet
  rw [Rect.mem_set_unit]
  have h1 : (j 1).val < 4096 := (j 1).isLt
  rw [k0_off2_eq]
  constructor
  · intro H
    have a0 : 256 * (i 0).val + k.val ≤ (j 0).val ∧ (j 0).val < 256 * (i 0).val + k.val + 1 := H 0
    omega
  · intro H a; fin_cases a
    · show 256 * (i 0).val + k.val ≤ (j 0).val ∧ (j 0).val < 256 * (i 0).val + k.val + 1; omega
    · show 0 ≤ (j 1).val ∧ (j 1).val < 0 + 4096; omega

/-- The rows this point writes. -/
def blockSet : Finset S73728x4096.Idx := Finset.univ.biUnion (dstSet i)

theorem mem_blockSet (j : S73728x4096.Idx) : j ∈ blockSet i ↔ 256 * (i 0).val ≤ (j 0).val ∧ (j 0).val < 256 * (i 0).val + 256 := by
  unfold blockSet
  rw [Finset.mem_biUnion]
  constructor
  · intro ⟨k, _, hk⟩
    have h1 := lt_of_lt_of_eq k.isLt trips1
    rw [mem_dstSet] at hk
    omega
  · intro ⟨h1, h2⟩
    refine ⟨⟨(j 0).val - 256 * (i 0).val, by rw [trips1]; omega⟩, Finset.mem_univ _, (mem_dstSet _ _ _).mpr ?_⟩
    show (j 0).val = 256 * (i 0).val + ((j 0).val - 256 * (i 0).val)
    omega

theorem dstSet_disjoint (b b' : Fin k0_t1_loop.trips) (hne : b ≠ b') : Disjoint (dstSet i b) (dstSet i b') := by
  rw [Finset.disjoint_left]
  intro j hj hj'
  rw [mem_dstSet] at hj hj'
  exact hne (Fin.ext (by omega))

/-- The block's elements held are its rows held. -/
theorem block_rows (z : Buf (Elt F) ((c : Thread nD τ).loc main_v0)) :
    ((c : Thread nD τ).loc main_v0 ↦[blockSet i]{fullShare} z : sProp 𝕄) = bigSep Finset.univ (rowHeld c i z) := by
  refine (Ring.pointsTo_sub_blocks (ℓ := (c : Thread nD τ).loc main_v0) (dstSet i) (dstSet_disjoint i) (blockSet i) rfl z).trans
    (BI.bigSep_congr fun k _ => ?_)
  unfold rowHeld
  rw [dstRow_set]
  rfl

/-- The elements of the source row a copy reads. -/
def srcSet (k : Fin k0_t1_loop.trips) : Finset S16384x4096.Idx :=
  (Rect.unit (s := S16384x4096) (k0_off3 (wordAt c arg1 f k)) S1x4096.size (k0_off3_inb _ (hw k))).set

theorem srcRow_set (k : Fin k0_t1_loop.trips) : (srcRow (wordAt c arg1 f k) (hw k)).view.set = srcSet c arg1 f hw k := View.set_slice_whole _ _

theorem srcHeld_eq (k : Fin k0_t1_loop.trips) :
    (srcHeld c arg1 f hw x k : sProp 𝕄) = ((c : Thread nD τ).loc main_arg1 ↦[srcSet c arg1 f hw k]{Transfers.shareTokN fullShare k.val} x) := by
  unfold srcHeld
  rw [srcRow_set]
  rfl

/-- What is left of a share of the source beside one row's. -/
def srcLeft (k : Fin k0_t1_loop.trips) : sProp 𝕄 :=
  (c : Thread nD τ).loc main_arg1 ↦[Finset.univ \ srcSet c arg1 f hw k]{Transfers.shareTokN fullShare k.val} x

/-- The source held whole: a remaining share, and for each copy a share of its row and of the other elements. -/
theorem src_shares :
    ((c : Thread nD τ).loc main_arg1 ↦{fullShare} x : sProp 𝕄)
      ⊣⊢ iprop(((c : Thread nD τ).loc main_arg1 ↦{Transfers.shareDrop fullShare k0_t1_loop.trips} x)
        ∗ bigSep Finset.univ (srcHeld c arg1 f hw x) ∗ bigSep Finset.univ (srcLeft c arg1 f hw x)) := by
  have hs : bigSep Finset.univ (fun k : Fin k0_t1_loop.trips => ((c : Thread nD τ).loc main_arg1 ↦{Transfers.shareTok fullShare _ k} x : sProp 𝕄))
      = iprop(bigSep Finset.univ (srcHeld c arg1 f hw x) ∗ bigSep Finset.univ (srcLeft c arg1 f hw x)) := by
    refine Eq.trans (BI.bigSep_congr fun k _ => ?_) (BI.bigSep_sep _ _ _)
    have h := pointsTo_split_subset (Ix := Unit) (Name := ℕ) (U := Pipeline.UD sig nD τ) (Lvl := ℕ) (ℓ := (c : Thread nD τ).loc main_arg1)
      (q := Transfers.shareTokN fullShare k.val) (f := x) (Finset.subset_univ (srcSet c arg1 f hw k))
    rw [srcHeld_eq]
    exact BI.equiv_iff.mp ⟨h.1, h.2⟩
  have ht := Transfers.pointsTo_toks (Ix := Unit) (Name := ℕ) (U := Pipeline.UD sig nD τ) (Lvl := ℕ) (ℓ := (c : Thread nD τ).loc main_arg1) (S := Finset.univ) (f := x) fullShare k0_t1_loop.trips
  rw [hs] at ht
  exact ht

/-- Every delivery is every row of the block at the final contents and every share of a source row. -/
theorem deliveries :
    (bigSep Finset.univ (deliver (F := F) c i arg1 f hw x g) : sProp 𝕄)
      = iprop(bigSep Finset.univ (rowHeld c i g) ∗ bigSep Finset.univ (srcHeld c arg1 f hw x)) :=
  BI.bigSep_sep _ _ _

/-! ## The whole point -/

/-- One grid point: the words and the source unchanged, the semaphore at zero again, and the result array at contents
    whose rows of this block are the named source rows and which are unchanged elsewhere. -/
theorem point (hw2 : ∀ k, k0_chk2 (wordAt2 c arg1 f k))
    (hg : ∀ k, (dstRow i k).view.read (Elt F) g = (srcRow (wordAt c arg1 f k) (hw k)).view.read (Elt F) x)
    (hy : ∀ j, j ∉ blockSet i → g j = y j) (W : Waits sig Unit) :
    iprop(wordsHeld c arg1 f ∗ ((c : Thread nD τ).loc main_arg1 ↦{fullShare} x) ∗ ((c : Thread nD τ).loc main_v0 ↦{fullShare} y)
        ∗ semVal ((c : Thread nD τ), SemLoc.dma cc0_scratch0.sem) 0 ∗ owes (c : Thread nD τ) 0 W)
      ⊢ wp frame (wpE (defs₀ (F := F)) Variants.none (c : Thread nD τ) none) Set.univ
        (cc0_dispatch (F := F) i arg1 harg1 (Memref.whole main_arg1) (Memref.isWhole_whole _) (Memref.whole main_v0) (Memref.isWhole_whole _) cc0_scratch0)
        (fun _ => iprop(wordsHeld c arg1 f ∗ ((c : Thread nD τ).loc main_arg1 ↦{fullShare} x) ∗ ((c : Thread nD τ).loc main_v0 ↦{fullShare} g)
          ∗ semVal ((c : Thread nD τ), SemLoc.dma cc0_scratch0.sem) 0 ∗ ∃ W, owes (c : Thread nD τ) 0 W)) := by
  iintro ⟨HW, HX, HY, Hc, HO⟩
  ihave HX' := (src_shares c arg1 f hw x).1 $$ HX
  icases HX' with ⟨HXd, HXr, HXl⟩
  ihave HY' := (pointsTo_split_subset (Finset.subset_univ (blockSet i))).1 $$ HY
  icases HY' with ⟨HYb, HYl⟩
  ihave HYr := (Entails.of_eq (block_rows c i y)) $$ HYb
  imod (Transfers.batch_alloc' (Lvl := ℕ) (countersEmb (U := Pipeline.UD sig nD τ)) (c : Thread nD τ) () NN
    (deliver (F := F) c i arg1 f hw x g) (sm := .dma cc0_scratch0.sem) (E := Set.univ)) $$ Hc with HB
  rw [cc0_dispatch_eq_skeleton]
  sl_unfold [cc0_dispatch_skel]
  sl_for (issueAt c i arg1 f hw x y g) $$ [HW HB HYr HXr]
  · intro k acc; exact issue_step c i arg1 harg1 f hw x y g k acc (hg k)
  · unfold issueAt
    rw [Ring.rangeSet_univ]
    isplitl [HW]; · iexact HW
    isplitl [HB]; · iexact HB
    isplitl [HYr]; · iexact HYr
    iexact HXr
  iintro %acc HI
  ihave HI' := (show issueAt c i arg1 f hw x y g k0_t1_loop.trips acc ⊢ iprop(wordsHeld c arg1 f ∗ batch c i arg1 f hw x g k0_t1_loop.trips 0) from by
    unfold issueAt
    iintro ⟨HW, HB, -, -⟩
    isplitl [HW] <;> iassumption) $$ HI
  icases HI' with ⟨HW, HB⟩
  sl_for (drainAt c i arg1 f hw x g) $$ [HW HB HO]
  · intro k acc; exact drain_step c i arg1 harg1 f hw x g k acc (hw2 k)
  · unfold drainAt
    rw [if_pos (by rw [trips1]; omega), Nat.zero_mul]
    isplitl [HW]; · iexact HW
    isplitl [HO]; · iexists _; iexact HO
    iexact HB
  iintro %acc HL
  ihave HL' := (show drainAt c i arg1 f hw x g k0_t2_loop.trips acc ⊢ iprop(wordsHeld c arg1 f ∗ (∃ W, owes (c : Thread nD τ) 0 W)
      ∗ semVal ((c : Thread nD τ), SemLoc.dma cc0_scratch0.sem) 0 ∗ bigSep Finset.univ (deliver (F := F) c i arg1 f hw x g)) from by
    unfold drainAt
    rw [if_neg (Nat.lt_irrefl _)]) $$ HL
  icases HL' with ⟨HW, HO, Hc, Hall⟩
  ihave Hd := (Entails.of_eq (deliveries c i arg1 f hw x g)) $$ Hall
  icases Hd with ⟨HYr, HXr⟩
  sl_step
  isplitl [HW]; · iexact HW
  isplitl [HXd HXr HXl]
  · iapply (src_shares c arg1 f hw x).2
    isplitl [HXd]; · iexact HXd
    isplitl [HXr] <;> iassumption
  isplitl [HYr HYl]
  · iapply (pointsTo_split_subset (Finset.subset_univ (blockSet i))).2
    isplitl [HYr]
    · iapply (Entails.of_eq (block_rows c i g).symm); iexact HYr
    · iapply (Entails.of_eq (pointsTo_congr (ℓ := (c : Thread nD τ).loc main_v0) (f := y) (g := g) fun j hj => (hy j (Finset.mem_sdiff.mp hj).2).symm)); iexact HYl
  isplitl [Hc]; · iexact Hc
  iexact HO

end Cert.KernelIdeal.Hand

end
-- ==== Proof.DispatchRun.lean ====
/- The row dispatch as a whole: its launch over the grid, the result array's contents point by point, and the run to the
   rows that the slot table names. Hand-written. -/
module

public import proofs.«01_k».proof.Proof.DispatchPoint
public import proofs.«01_k».proof.Proof.Gen.KernelIdeal.Launch
public import proofs.«01_k».proof.Proof.Gen.KernelIdeal.Points
public import Idealize.ShloMosaic.Lib.Pipeline.ValueKit
public import Idealize.ShloMosaic.Lib.ValueIdxCore

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Core `c`'s buffers as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-! ## The result's contents -/

/-- The rows of `x` that the words `w` name, a word past the last row read as the last row. -/
def rowsOf (w : S73728.Idx → BitVec 32) (x : S16384x4096.Idx → Elt F .f32) : S73728x4096.Idx → Elt F .f32 :=
  fun j => x (ix2 ⟨min (w (ix1 (j 0))).toNat 16383, by omega⟩ (j 1))

/-- The result after the first `t` blocks of 256 rows. -/
def outAt (c : Dev nD) (t : ℕ) : S73728x4096.Idx → Elt F .f32 :=
  fun j => if (j 0).val < 256 * t then rowsOf (V m c main_arg0) (V m c main_arg1) j else V m c main_v0 j

/-- The buffers with the result after `t` blocks. -/
def G (t : ℕ) (c : Dev nD) (b : Ref sig .tc) : Buf (Elt F) ((c : Thread nD τ).loc b) :=
  if h : b = main_v0 then h ▸ (outAt m c t : Buf (Elt F) ((c : Thread nD τ).loc main_v0)) else V m c b

theorem G_v0 (t : ℕ) (c : Dev nD) : G m t c main_v0 = outAt m c t := by
  unfold G; rw [dif_pos rfl]

theorem outAt_zero (c : Dev nD) : outAt m c 0 = V m c main_v0 := by
  funext j; unfold outAt; rw [if_neg (by omega)]

theorem outAt_last (c : Dev nD) : outAt m c 288 = rowsOf (V m c main_arg0) (V m c main_arg1) := by
  funext j; unfold outAt; rw [if_pos (by have : (j 0).val < 73728 := (j 0).isLt; omega)]

/-! ## The words of a point -/

/-- The words prefetched for a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem coords0 (t : Fin cfg0.N) : (grid0.coords t 0).val = t.val := by
  have h : t.val < 288 := lt_of_lt_of_eq t.isLt N_0
  have e := Pipeline.Grid.coords_val (G := grid0) t 0 (S := 1) (B := 288) (by decide) rfl
  omega

theorem index0 (t : Fin cfg0.N) : win0_0.index t = ![t.val] := by
  have h : t.val < 288 := lt_of_lt_of_eq t.isLt N_0
  show cc0_transform_0 (grid0.coords t) = _
  unfold cc0_transform_0
  dsimp only
  rw [coords0, BitVec.toNat_ofNat, Nat.mod_eq_of_lt (by omega)]

theorem iblk_apply (c : Dev nD) (t : Fin cfg0.N) (z : S256.Idx) (h : 256 * t.val + (z 0).val < 73728) :
    iblk m c 0 t z = V m c main_arg0 (ix1 ⟨256 * t.val + (z 0).val, h⟩) := by
  blk_ext [iblk, V, index0 t]

/-- The word a trip of the first loop reads, off the block of the slot table. -/
theorem wordAt_eq (c : Dev nD) (arg1 : Memref sig .tc .smem S256 .i32) (f : Buf (Elt F) (arg1.view.loc (c : Thread nD τ)))
    (t : Fin cfg0.N) (hf : arg1.view.read (Elt F) f = iblk m c 0 t) (k : Fin k0_t1_loop.trips) (h : 256 * t.val + k.val < 73728) :
    wordAt c arg1 f k = V m c main_arg0 (ix1 ⟨256 * t.val + k.val, h⟩) := by
  unfold wordAt
  rw [View.readAt_apply, hf]
  have e : ∀ z : S256.Idx, (z 0).val = k.val → iblk m c 0 t z = V m c main_arg0 (ix1 ⟨256 * t.val + k.val, h⟩) := fun z hz => by
    rw [iblk_apply m c t z (by omega)]
    simp only [hz]
  refine e _ ?_
  show k0_off1 k 0 + 1 * 0 = k.val
  rw [k0_off1_eq]
  rfl

/-- The word a trip of the second loop reads. -/
theorem wordAt2_eq (c : Dev nD) (arg1 : Memref sig .tc .smem S256 .i32) (f : Buf (Elt F) (arg1.view.loc (c : Thread nD τ)))
    (t : Fin cfg0.N) (hf : arg1.view.read (Elt F) f = iblk m c 0 t) (k : Fin k0_t2_loop.trips) (h : 256 * t.val + k.val < 73728) :
    wordAt2 c arg1 f k = V m c main_arg0 (ix1 ⟨256 * t.val + k.val, h⟩) := by
  unfold wordAt2
  rw [View.readAt_apply, hf]
  have e : ∀ z : S256.Idx, (z 0).val = k.val → iblk m c 0 t z = V m c main_arg0 (ix1 ⟨256 * t.val + k.val, h⟩) := fun z hz => by
    rw [iblk_apply m c t z (by omega)]
    simp only [hz]
  refine e _ ?_
  show k0_off4 k 0 + 1 * 0 = k.val
  rw [k0_off4_eq]
  rfl

/-- A word below 16384 names a row of the source. -/
theorem chk1_of_lt (v : BitVec 32) (h : v.toNat < 16384) : k0_chk1 v := by
  intro a
  fin_cases a
  · show v.toNat + 1 ≤ 16384; omega
  · show 0 + 4096 ≤ 4096; omega

theorem chk2_of_lt (v : BitVec 32) (h : v.toNat < 16384) : k0_chk2 v := by
  intro a
  fin_cases a
  · show v.toNat + 1 ≤ 16384; omega
  · show 0 + 4096 ≤ 4096; omega

/-- A row of the result at contents that are the named rows there reads as the named source row. -/
theorem row_reads (c : Dev nD) (i : grid0.Coords) (k : Fin k0_t1_loop.trips) (v : BitVec 32) (hv : k0_chk1 v)
    (x : S16384x4096.Idx → Elt F .f32) (g : S73728x4096.Idx → Elt F .f32) (h : v.toNat < 16384)
    (hg : ∀ j : S73728x4096.Idx, (j 0).val = 256 * (i 0).val + k.val → g j = x (ix2 ⟨v.toNat, h⟩ (j 1))) :
    (dstRow i k).view.read (Elt F) g = (srcRow v hv).view.read (Elt F) x := by
  funext z
  have hz0 : (z 0).val = 0 := by have : (z 0).val < 1 := (z 0).isLt; omega
  obtain ⟨J, hJ⟩ : ∃ J : S73728x4096.Idx, J = (dstRow i k).view.emb z := ⟨_, rfl⟩
  obtain ⟨K, hK⟩ : ∃ K : S16384x4096.Idx, K = (srcRow v hv).view.emb z := ⟨_, rfl⟩
  have hJ0 : (J 0).val = 256 * (i 0).val + k.val := by
    rw [hJ]; show k0_off2 i k 0 + 1 * (z 0).val = _; rw [k0_off2_eq, hz0]; rfl
  have hJ1 : (J 1).val = (z 1).val := by
    rw [hJ]; show k0_off2 i k 1 + 1 * (z 1).val = _; rw [k0_off2_eq]; show 0 + 1 * (z 1).val = _; omega
  have hK0 : (K 0).val = v.toNat := by
    rw [hK]; show v.toNat + 1 * (z 0).val = _; omega
  have hK1 : (K 1).val = (z 1).val := by
    rw [hK]; show 0 + 1 * (z 1).val = _; omega
  show g ((dstRow i k).view.emb z) = x ((srcRow v hv).view.emb z)
  refine Eq.trans (congrArg g hJ.symm) (Eq.trans ?_ (congrArg x hK))
  rw [hg J hJ0]
  refine congrArg x (funext fun a => Fin.ext ?_)
  match a with
  | ⟨0, _⟩ => exact hK0.symm
  | ⟨1, _⟩ => exact hJ1.trans hK1.symm

/-! ## The launch -/

/-- The kernel's own semaphore. -/
abbrev osem0 : Fin 1 → SemLoc sig := fun _ => SemLoc.dma cc0_scratch0.sem
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch0.sem) 0 := by
  rw [Pipeline.ownSems0_eq_of_list c osem0 [0] (by decide) (by decide)]; rfl

/-- The array the copies read, and the array they write. -/
def H0 : Finset (Ref sig .tc) := {main_arg1}
def R0 : Finset (Ref sig .tc) := {main_v0}
theorem H0_sub : H0 ⊆ Pipeline.restRefs sig spec0 := by decide
theorem R0_sub : R0 ⊆ Pipeline.restRefs sig spec0 \ H0 := by decide
theorem read0_eq (c : Dev nD) :
    (bigSep H0 (fun b => ((c : Thread nD τ).loc b) ↦{fullShare} V m c b) : sProp 𝕄) = ((c : Thread nD τ).loc main_arg1 ↦{fullShare} V m c main_arg1) := by
  rw [BI.bigSep_eq_bigSepL_of_eq [main_arg1] (by decide) (by decide)]; rfl
theorem routed0_eq (c : Dev nD) (t : ℕ) :
    (Pipeline.routed R0 c (G m t c) : sProp 𝕄) = ((c : Thread nD τ).loc main_v0 ↦{fullShare} outAt m c t) := by
  unfold Pipeline.routed
  rw [BI.bigSep_eq_bigSepL_of_eq [main_v0] (by decide) (by decide), ← G_v0]; rfl

/-- What the launch holds before point `t`. -/
def Phi (t : ℕ) (c : Dev nD) : sProp 𝕄 := Pipeline.ΦDRG osem0 spec0 H0 R0 (V m) (G m t) c

theorem Phi_eq (t : ℕ) (c : Dev nD) :
    (Phi m t c : sProp 𝕄) = iprop(Pipeline.scopedRest (Ix := Unit) (Name := ℕ) (U := Pipeline.UD sig nD τ) (Lvl := ℕ) (Val := Elt F) spec0 c ∗ (∃ r, prngReg c r)
      ∗ semVal ((c : Thread nD τ), SemLoc.dma cc0_scratch0.sem) 0
      ∗ ((c : Thread nD τ).loc main_arg1 ↦{fullShare} V m c main_arg1) ∗ ((c : Thread nD τ).loc main_v0 ↦{fullShare} outAt m c t)) := by
  unfold Phi
  rw [Pipeline.ΦDRG_eq, ownSems00_eq, read0_eq, routed0_eq]

/-- The proof data of the one pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ t := Phi m t.val c
  q _ := fullShare
  owed _ := 0

theorem A_eq (c : Dev nD) (w : Fin cfg0.W) : (dats m 0 c).A w = V m c (Pipeline.arrRef spec0 w) := by
  dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => rfl) t d).trans rfl

/-- Every word of the slot table names a row. -/
abbrev InRange : Prop := ∀ c : Dev nD, ∀ y : S73728.Idx, BitVec.toNat (w := 32) (V m c main_arg0 y) < 16384

variable (hm : InRange m)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t))

include hm in
theorem sound_body (c : Dev nD) (t : Fin cfg0.N) :
    bodyPre m c t ⊢ wp frame (wpE (defs₀ (F := F)) Variants.none c none) Set.univ (bodyAt0 t) (fun _ => bodyPost m c t) := by
  have ht : t.val < 288 := lt_of_lt_of_eq t.isLt N_0
  unfold bodyPre bodyPost bodyAt0
  rw [show (dats m 0 c).Φ t.castSucc = Phi m t.val c from rfl, show (dats m 0 c).Φ t.succ = Phi m (t.val + 1) c from rfl, Phi_eq, Phi_eq,
    show (dats m 0 c).after 0 t = iblk m c 0 t from rfl]
  unfold Dat.owesAt Pipeline.owesWithin
  rw [show (dats m 0 c).owed t.castSucc = 0 from rfl, show (dats m 0 c).owed t.succ = 0 from rfl]
  simp only [before0_0]
  unfold owns
  iintro ⟨⟨HS, Hg, Hc, HX, HY⟩, ⟨%W, -, HO⟩, ⟨%d0, %f, %hf, HW⟩⟩
  have hlt : ∀ k : Fin k0_t1_loop.trips, 256 * t.val + k.val < 73728 := fun k => by have := lt_of_lt_of_eq k.isLt trips1; omega
  have hlt2 : ∀ k : Fin k0_t2_loop.trips, 256 * t.val + k.val < 73728 := fun k => by have := lt_of_lt_of_eq k.isLt trips2; omega
  have hw : ∀ k, k0_chk1 (wordAt c (st0_0 t) f k) := fun k => chk1_of_lt _ (by
    rw [wordAt_eq m c (st0_0 t) f t hf k (hlt k)]; exact hm c _)
  have hw2 : ∀ k, k0_chk2 (wordAt2 c (st0_0 t) f k) := fun k => chk2_of_lt _ (by
    rw [wordAt2_eq m c (st0_0 t) f t hf k (hlt2 k)]; exact hm c _)
  iapply (wp_wand_r _ _ _)
  isplitl [HW HX HY Hc HO]
  · iapply (point c (grid0.coords t) (st0_0 t) (hstage0_0 ((cfg0.slots t 0).cast nbuf0_0)) f hw (V m c main_arg1) (outAt m c t.val) (outAt m c (t.val + 1)) hw2 ?_ ?_ W)
    · intro k
      have e := wordAt_eq m c (st0_0 t) f t hf k (hlt k)
      refine row_reads c _ k _ (hw k) _ _ (by rw [e]; exact hm c _) fun j hj => ?_
      rw [coords0] at hj
      have hk := lt_of_lt_of_eq k.isLt trips1
      unfold outAt
      rw [if_pos (by omega)]
      unfold rowsOf
      refine congrArg _ (congrArg (fun r => ix2 r (j 1)) (Fin.ext ?_))
      show min (V m c main_arg0 (ix1 (j 0)) : BitVec 32).toNat 16383 = (wordAt c (st0_0 t) f k).toNat
      rw [e, show (ix1 (j 0) : S73728.Idx) = ix1 ⟨256 * t.val + k.val, hlt k⟩ from congrArg ix1 (Fin.ext hj)]
      have := hm c (ix1 ⟨256 * t.val + k.val, hlt k⟩)
      omega
    · intro j hj
      rw [mem_blockSet, coords0] at hj
      unfold outAt
      by_cases h : (j 0).val < 256 * t.val
      · rw [if_pos h, if_pos (by omega)]
      · rw [if_neg h, if_neg (by omega)]
    isplitl [HW]; · iexact HW
    isplitl [HX]; · iexact HX
    isplitl [HY]; · iexact HY
    isplitl [Hc]; · iexact Hc
    iexact HO
  iintro %_ ⟨HW, HX, HY, Hc, ⟨%W', HO⟩⟩
  isplitl [HS Hg Hc HX HY]
  · isplitl [HS]; · iexact HS
    isplitl [Hg]; · iexact Hg
    isplitl [Hc]; · iexact Hc
    isplitl [HX]; · iexact HX
    iexact HY
  isplitl [HO]
  · iexists W'; isplitr; · ipureintro; exact fun _ _ => Or.inl trivial
    iexact HO
  iexists f
  isplitr; · ipureintro; exact hf
  iexact HW

theorem defs₀_row (t : Fin cfg0.N) :
    defs₀ (F := F) .tc cfg0.body (cfg0.bodyArgs t (cfg0.slots t)) = bodyAt0 t := by
  unfold defs₀; rw [Defs.onTc_tc]

include hm in
theorem body_obligation (c : Dev nD) : BodyObligation (dats (F := F) m 0 c) (defs₀ (F := F)) Variants.none () Set.univ := fun t => by
  rw [bigSep_W0, bigSep_W0, defs₀_row]
  exact triple_restated (sound_body m hm c t) rfl .rfl fun _ => .rfl

set_option backward.isDefEq.respectTransparency.types false in
include hm in
theorem run_main : θ_run defs (onTc (τ := τ) (main (F := F))) (s₀ m ρ)
    (fun r => Pipeline.FramePostRG cfgs (dats m) 0 R0 (V m) (G m 288) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m hm c).loose) (hshare := fun c => (dats m 0 c).share_full fun _ => rfl)
    (howed := fun _ _ => rfl) (V := V m) (hmain := hmain m Variants.none) (hA := A_eq m) (G := G m 288)
    (hin := fun c => by
      show _ ⊢ Phi m 0 c
      unfold Phi
      rw [Pipeline.ΦDRG_eq, Pipeline.ΦDRG_eq, routed0_eq, outAt_zero, show (Pipeline.routed R0 c (V m c) : sProp 𝕄) = ((c : Thread nD τ).loc main_v0 ↦{fullShare} V m c main_v0) from by
        unfold Pipeline.routed; rw [BI.bigSep_eq_bigSepL_of_eq [main_v0] (by decide) (by decide)]; rfl])
    (hout := fun c => by
      show Phi m (Fin.last cfg0.N).val c ⊢ _
      rw [show (Fin.last cfg0.N).val = 288 from N_0]
      exact .rfl)

end Cert.KernelIdeal.Hand

end
-- ==== Proof.Dispatch.lean ====
/- The row dispatch's claims: the precondition read as a bound on the slot table's words, the kernel's run to the rows that
   these words name, and the reference's gather read as the same rows. Hand-written. -/
module

public import proofs.«01_k».proof.Defs
public import proofs.«01_k».proof.Proof.DispatchRun
public import proofs.«01_k».proof.Proof.Gen.Kernel
public import proofs.«01_k».proof.Proof.Gen.ReferenceIdeal
public import proofs.«01_k».proof.Proof.Gen.ReferenceIdeal.Run
public import proofs.«01_k».proof.Proof.Gen.Reference
public import proofs.«01_k».proof.Proof.Gen.Pre_tokens_in_range
public import Idealize.ShloMosaic.Lib.Routing.Ops
public import Idealize.ShloMosaic.Lib.ReduceAll
public import Idealize.ShloMosaic.Lib.Claim

@[expose] public section

noncomputable section

namespace Cert.KernelIdeal.Hand

open Cert.KernelIdeal Cert.KernelIdeal.Gen
open Idealize.ShloMosaic Idealize.ShloMosaic.TcCoe Idealize.SL.Sem

variable {F : FTy → Type} [FloatOps F]

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

/-- The precondition's predicate bounds every word of the slot table. -/
theorem words_lt (w : S73728.Idx → BitVec 32) (x : S16384x4096.Idx → F .f32)
    (h : Cert.Pre_tokens_in_range.fn (F := F) w x = fun _ => 1#1) (y : S73728.Idx) : (w y).toNat < 16384 := by
  have : Subsingleton Cert.Pre_tokens_in_range.S_.Idx := ⟨fun a b => funext fun i => i.elim0⟩
  have e := Host.reduce_andi_all _ _ _ _ _ (congrFun h (fun i => i.elim0)) y
  simp only [andi, cmpi, broadcastInDim, constantI, IntOp.cmpi, andi_ofBool, ofBool_eq_one, Bool.and_eq_true] at e
  obtain ⟨hge, hlt⟩ := e
  simp only [BitVec.sle, BitVec.slt, decide_eq_true_eq, BitVec.toInt, BitVec.toNat_ofNat] at hge hlt
  omega

variable (m : (ℓ : Loc nD τ sig) → Buf (Elt F) ℓ) (ρ : Dev nD → PrngReg)

/-- The dispatch's run, for any float values: the result holds the rows that the words name, the arguments are unchanged
    and every semaphore is at zero. -/
theorem run_rows (hm : InRange m) : θ_run defs (onTc (τ := τ) (main (F := F))) ⟨m, fun _ => 0, ρ⟩ (fun r => (∀ c : Dev nD,
      r.2.mem ((c.tc : Thread nD τ).loc main_v0) = rowsOf (V m c main_arg0) (V m c main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(h.1.2 c main_v0 (by decide)).trans ((G_v0 m 288 c).trans (outAt_last m c)),
      ((h.1.1 c).1 0).trans (((dats m 0 c).arrAt_in 0 rfl _).trans (A_eq m c 0)),
      (h.1.1 c).2 main_arg1 (Finset.mem_sdiff.mpr ⟨Pipeline.mem_restRefs_of main_arg1 (by decide) (by decide), by decide⟩)⟩, h.2⟩)
    (run_main m ρ hm)

/-- The reference's gather, at words in range, is the same rows. -/
theorem gather_rows (w : S73728.Idx → BitVec 32) (x : S16384x4096.Idx → Elt F .f32) (hw : ∀ y, (w y).toNat < 16384) :
    Host.gather Cert.ReferenceIdeal.gather_S16384x4096_S73728x1_S73728x4096_1_0_n_n_0_1_14096 x
      (broadcastInDim Cert.ReferenceIdeal.S73728x1 ![0] Cert.ReferenceIdeal.Gen.bcast_S73728_S73728x1_0
        (select (cmpi .slt w (broadcastInDim Cert.ReferenceIdeal.S73728 ![] Cert.ReferenceIdeal.Gen.bcast_S_S73728 (constantI Cert.ReferenceIdeal.S_ 32 0#32)))
          (addi w (broadcastInDim Cert.ReferenceIdeal.S73728 ![] Cert.ReferenceIdeal.Gen.bcast_S_S73728 (constantI Cert.ReferenceIdeal.S_ 32 16384#32))) w))
      = rowsOf w x := by
  funext j
  obtain ⟨r, y, rfl⟩ : ∃ r y, j = ix2 r y := ⟨j 0, j 1, eq_ix2 j⟩
  have h := hw (ix1 r)
  refine (Routing.gather_row (b := ⟨(w (ix1 r)).toNat, h⟩) _ rfl rfl rfl rfl rfl x _ r y ?_ (by decide)).trans ?_
  · have hs : BitVec.slt (w (ix1 r)) 0#32 = false := by
      simp only [BitVec.slt, BitVec.toInt, BitVec.toNat_ofNat, decide_eq_false_iff_not]
      omega
    have e : (select (cmpi .slt w (broadcastInDim Cert.ReferenceIdeal.S73728 ![] Cert.ReferenceIdeal.Gen.bcast_S_S73728 (constantI Cert.ReferenceIdeal.S_ 32 0#32)))
          (addi w (broadcastInDim Cert.ReferenceIdeal.S73728 ![] Cert.ReferenceIdeal.Gen.bcast_S_S73728 (constantI Cert.ReferenceIdeal.S_ 32 16384#32))) w) (ix1 r) = w (ix1 r) := by
      simp only [select, cmpi, IntOp.cmpi, broadcastInDim, constantI, hs]
      rfl
    refine Eq.trans ?_ (e.trans (by simp))
    unfold broadcastInDim
    refine congrArg _ (funext fun a => ?_)
    match a with
    | ⟨0, _⟩ => rfl
  · unfold rowsOf
    refine congrArg x (congrArg (fun a => ix2 a y) (Fin.ext ?_))
    show (w (ix1 r)).toNat = min (w (ix1 r)).toNat 16383
    omega

/-- The reference's run, for any float values, at words in range: the same rows. -/
theorem ref_rows (m : (ℓ : Loc Cert.ReferenceIdeal.nD Cert.ReferenceIdeal.τ Cert.ReferenceIdeal.sig) → Buf (Elt F) ℓ)
    (ρ : Dev Cert.ReferenceIdeal.nD → PrngReg) (w : Dev Cert.ReferenceIdeal.nD → S73728.Idx → BitVec 32)
    (x : Dev Cert.ReferenceIdeal.nD → S16384x4096.Idx → Elt F .f32) (hw : ∀ c y, (w c y).toNat < 16384)
    (h0 : ∀ c : Dev Cert.ReferenceIdeal.nD, m ((c.tc : Thread Cert.ReferenceIdeal.nD Cert.ReferenceIdeal.τ).loc Cert.ReferenceIdeal.main_arg0) = w c)
    (h1 : ∀ c : Dev Cert.ReferenceIdeal.nD, m ((c.tc : Thread Cert.ReferenceIdeal.nD Cert.ReferenceIdeal.τ).loc Cert.ReferenceIdeal.main_arg1) = x c) :
    θ_run Cert.ReferenceIdeal.defs (onTc (τ := Cert.ReferenceIdeal.τ) (Cert.ReferenceIdeal.main (F := F))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v6) = rowsOf (w c) (x c)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run Cert.ReferenceIdeal.defs _ _).mono (fun _ h c =>
    ⟨(h c).1.trans (by rw [h0 c, h1 c]; exact gather_rows (w c) (x c) (hw c)), (h c).2⟩) (Cert.ReferenceIdeal.Value.run m ρ)

/-- The reference's frame, for any float values: its arguments are unchanged and it has no semaphore. -/
theorem ref_frame (m : (ℓ : Loc Cert.ReferenceIdeal.nD Cert.ReferenceIdeal.τ Cert.ReferenceIdeal.sig) → Buf (Elt F) ℓ)
    (ρ : Dev Cert.ReferenceIdeal.nD → PrngReg) :
    θ_run Cert.ReferenceIdeal.defs (onTc (τ := Cert.ReferenceIdeal.τ) (Cert.ReferenceIdeal.main (F := F))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  by
  refine OrdCont.mono (θ_run (Cert.ReferenceIdeal.defs (F := F)) _ _) ?_ (Cert.ReferenceIdeal.Value.run m ρ)
  intro r h
  refine And.intro (fun c => (h c).2) ?_
  exact sem_eq_zero_of_no_sems (sig := Cert.ReferenceIdeal.sig) (by decide) r.2

/-! ## The claims -/

/-- The kernel's two printed body tables are one. -/
theorem defs₀_eq : Cert.Kernel.defs₀ (F := F) = Cert.KernelIdeal.defs₀ (F := F) := by
  have h : @Cert.Kernel.cc0_dispatch F _ = @Cert.KernelIdeal.cc0_dispatch F _ := rfl
  unfold Cert.Kernel.defs₀ Cert.KernelIdeal.defs₀
  congr 1
  funext x y
  match x, y with
  | 0, (t, s) => exact congrFun (congrFun (congrFun (congrFun (congrFun (congrFun (congrFun (congrFun h _) _) _) _) _) _) _) _
  | ⟨_ + 1, h⟩, _ => exact absurd h (Nat.not_lt.2 (Nat.le_add_left _ _))

theorem defs_eq : Cert.Kernel.defs (F := F) = Cert.KernelIdeal.defs (F := F) :=
  congrArg (Pipeline.defs Cert.KernelIdeal.pcfgs) defs₀_eq

/-- The kernel's run at the machine's float values. -/
theorem run_kernel (m : (ℓ : Loc Cert.Kernel.nD Cert.Kernel.τ Cert.Kernel.sig) → Buf (Elt Bits) ℓ) (ρ : Dev Cert.Kernel.nD → PrngReg)
    (hm : InRange (F := Bits) m) : θ_run (Cert.Kernel.defs (F := Bits)) (onTc (τ := Cert.Kernel.τ) (Cert.Kernel.main (F := Bits))) ⟨m, fun _ => 0, ρ⟩ (fun r => (∀ c : Dev nD,
      r.2.mem ((c.tc : Thread nD τ).loc main_v0) = rowsOf (F := Bits) (V (F := Bits) m c main_arg0) (V (F := Bits) m c main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  have h := run_rows (F := Bits) m ρ hm
  rw [← defs_eq] at h
  exact h

theorem frame_kernel : Cert.quiescent_Kernel := fun m ρ h =>
  (θ_run (Cert.Kernel.defs (F := Bits)) _ _).mono (fun _ h => ⟨fun c => (h.1 c).2, h.2⟩) (run_kernel m ρ fun c => words_lt _ _ (h c))

theorem frame_kernelIdeal : Cert.quiescent_KernelIdeal := fun m ρ h =>
  (θ_run Cert.KernelIdeal.defs _ _).mono (fun _ h => ⟨fun c => (h.1 c).2, h.2⟩) (run_rows m ρ fun c => words_lt _ _ (h c))

theorem frame_referenceIdeal : Cert.quiescent_ReferenceIdeal := fun m ρ _ => ref_frame m ρ

theorem frame_referenceIdeal_pre : Cert.quiescent_ReferenceIdeal_pre_tokens_in_range := fun m ρ _ => ref_frame m ρ

theorem frame_reference : Cert.quiescent_Reference := fun m ρ _ => ref_frame (F := Bits) m ρ

theorem algebraic : Cert.algebraic_KernelIdeal_ReferenceIdeal := fun m ρ m' ρ' h e =>
  have hm : InRange m := fun c => words_lt _ _ (h c)
  ⟨fun c => rowsOf (V m c main_arg0) (V m c main_arg1),
    (θ_run Cert.KernelIdeal.defs _ _).mono (fun _ h => h.1) (run_rows m ρ hm),
    ref_rows m' ρ' (fun c => V m c main_arg0) (fun c => V m c main_arg1) hm (fun c => (e c).1) (fun c => (e c).2)⟩

theorem bitexact : Cert.bitexact_Kernel_Reference := fun m ρ m' ρ' h e => by
  have hm : InRange (F := Bits) m := fun c => words_lt _ _ (h c)
  refine ⟨fun c => rowsOf (F := Bits) (V (F := Bits) m c main_arg0) (V (F := Bits) m c main_arg1), ?_, ?_⟩
  · exact (θ_run (Cert.Kernel.defs (F := Bits)) _ _).mono (fun _ h => h.1) (run_kernel m ρ hm)
  · exact ref_rows (F := Bits) m' ρ' (fun c => V (F := Bits) m c main_arg0) (fun c => V (F := Bits) m c main_arg1) hm (fun c => (e c).1) (fun c => (e c).2)

end Cert.KernelIdeal.Hand

end
-- ==== Proof.Dense.lean ====
module

public import Idealize.ShloMosaic.Lib.StackMember
public import Idealize.ShloMosaic.Lib.KernelVsHost

@[expose] public section

/-! # A matrix product read at an entry

The two spellings of a plain product, the host's and a kernel's accumulated into zeros, at exact arithmetic. -/

noncomputable section

namespace Cert.Dense

open Idealize.ShloMosaic Idealize.ShloMosaic.ValueIdx Idealize.ShloMosaic.StackMember
open scoped BigOperators

variable {M K N : ℕ} (φ₁ φ₂ : FTy)

/-- An entry of the host's product: the sum over the contracted coordinate. -/
theorem dot_apply (x : FVec Ideal ⟨2, ![M, K]⟩ φ₁) (y : FVec Ideal ⟨2, ![K, N]⟩ φ₂) (i : (⟨2, ![M, N]⟩ : Shape).Idx) :
    (Host.dotGeneral (DotDims.plain M K N) none x y i : EReal)
      = ∑ k : Fin K, (x (ix2 (i 0 : Fin M) k) : EReal) * y (ix2 k (i 1 : Fin N)) :=
  (congrArg _ (eq_ix2 i)).trans (dotGeneral_plain_apply none x y (i 0) (i 1))

/-- An entry of a kernel's product into zeros: the same sum. -/
theorem matmul_apply (x : FVec Ideal ⟨2, ![M, K]⟩ φ₁) (y : FVec Ideal ⟨2, ![K, N]⟩ φ₂) (i : (⟨2, ![M, N]⟩ : Shape).Idx) :
    (matmul (DotDims.plain M K N) none x y (constant ⟨2, ![M, N]⟩ .f32 0x00000000#32) i : EReal)
      = ∑ k : Fin K, (x (ix2 (i 0 : Fin M) k) : EReal) * y (ix2 k (i 1 : Fin N)) :=
  (congrFun (matmul_zero_eq_dotGeneral _ none x y) i).trans (dot_apply φ₁ φ₂ x y i)

end Cert.Dense

end
-- ==== Proof.Norm.lean ====
module

public import Idealize.ShloMosaic.Lib.StackMember
public import Idealize.ShloMosaic.Lib.KernelVsHost
public import Idealize.ShloMosaic.Lib.IdealHost

@[expose] public section

/-! # Rows divided by the root of their mean square

The kernels' normalization of a block of rows and the references' normalization of the sequences, at exact arithmetic; and the
logistic as the references spell it. -/

noncomputable section

namespace Cert.Norm

open Idealize.ShloMosaic Idealize.ShloMosaic.ValueIdx
open scoped BigOperators

/-- A row divided by the root of its mean square, the row's length and the small addend being the words that both programs carry. -/
def rms {N : ℕ} (w : BitVec 32) (z : Fin N → EReal) (j : Fin N) : EReal :=
  z j * Ideal.rsqrt (Ideal.div (∑ k : Fin N, z k * z k) (Ideal.ofBits .f32 w) + Ideal.ofBits .f32 0x358637BD#32)

/-- The same for rows of 4096 entries. -/
abbrev normed (z : Fin 4096 → EReal) (j : Fin 4096) : EReal := rms 0x45800000#32 z j

/-- The kernel's sum of a row of `M`, set as a column. -/
theorem sum_apply {M N : ℕ} (Y : FVec Ideal ⟨2, ![M, N]⟩ .f32) (hr : (⟨2, ![M, N]⟩ : Shape).Reduces [1] ⟨1, ![M]⟩)
    (hs : (⟨1, ![M]⟩ : Shape).ShapeCasts ⟨2, ![M, 1]⟩) (r : Fin M) :
    (shapeCast ⟨2, ![M, 1]⟩ (multiReduction .add [1] ⟨1, ![M]⟩ Y 0x00000000#32 hr (.inl rfl) rfl) hs (ix2 r (0 : Fin 1)) : EReal)
      = ∑ k : Fin N, Y (ix2 r k) := by
  refine (shapeCast_apply _ _ _ (ix1 r) ?_).trans ((Ideal.multiReduction_add_single _ _ _ _ _ _).trans
    (Finset.sum_congr (M := EReal) rfl fun k _ => ?_))
  · refine (Shape.rowMajor_val_one _).trans (Eq.trans ?_ (Shape.rowMajor_val_two _).symm)
    show r.val = r.val * 1 + 0
    omega
  · have e : (hr.lift (ix1 r) k : (⟨2, ![M, N]⟩ : Shape).Idx) = ix2 r k := by
      funext a
      match a with
      | ⟨0, _⟩ => rfl
      | ⟨1, _⟩ => rfl
    exact congrArg Y e

/-- A column spread over the rows' entries. -/
theorem spread_apply {M N : ℕ} {α : Type} (v : (⟨2, ![M, 1]⟩ : Shape).Idx → α) (hb : (⟨2, ![M, 1]⟩ : Shape).Broadcasts ⟨2, ![M, N]⟩)
    (r : Fin M) (j : Fin N) : broadcastTo ⟨2, ![M, N]⟩ v hb (ix2 r j) = v (ix2 r (0 : Fin 1)) := by
  refine broadcastTo_apply _ _ _ (ix2 r (0 : Fin 1)) fun a => ?_
  match a with
  | ⟨0, _⟩ =>
    show r.val = if M = 1 then 0 else r.val
    split <;> omega
  | ⟨1, _⟩ => rfl

/-- One row spread over the rows of a block. -/
theorem row_apply {M N : ℕ} {α : Type} (v : (⟨2, ![1, N]⟩ : Shape).Idx → α) (hb : (⟨2, ![1, N]⟩ : Shape).Broadcasts ⟨2, ![M, N]⟩)
    (r : Fin M) (j : Fin N) : broadcastTo ⟨2, ![M, N]⟩ v hb (ix2 r j) = v (ix2 (0 : Fin 1) j) := by
  refine broadcastTo_apply _ _ _ (ix2 (0 : Fin 1) j) fun a => ?_
  match a with
  | ⟨0, _⟩ => rfl
  | ⟨1, _⟩ =>
    show j.val = if N = 1 then 0 else j.val
    split <;> omega

/-- The kernel's normalization of a block of `M` rows, row by row. -/
theorem norm_apply {M N : ℕ} {w : BitVec 32} (X : FVec Ideal ⟨2, ![M, N]⟩ .f32) (hr : (⟨2, ![M, N]⟩ : Shape).Reduces [1] ⟨1, ![M]⟩)
    (hs : (⟨1, ![M]⟩ : Shape).ShapeCasts ⟨2, ![M, 1]⟩) (hb : (⟨2, ![M, 1]⟩ : Shape).Broadcasts ⟨2, ![M, N]⟩)
    (r : Fin M) (j : Fin N) :
    (mulf X (broadcastTo ⟨2, ![M, N]⟩ (rsqrt (addf (divf (shapeCast ⟨2, ![M, 1]⟩
        (multiReduction .add [1] ⟨1, ![M]⟩ (mulf X X) 0x00000000#32 hr (.inl rfl) rfl) hs)
        (broadcast ⟨2, ![M, 1]⟩ (Scalar.ofBits .f32 w))) (broadcast ⟨2, ![M, 1]⟩ (Scalar.ofBits .f32 0x358637BD#32))))
        hb) (ix2 r j) : EReal)
      = rms w (fun k => X (ix2 r k)) j :=
  congrArg (fun b : EReal => X (ix2 r j) * b) ((spread_apply _ _ _ _).trans
    (congrArg (fun a : EReal => Ideal.rsqrt (Ideal.div a (Ideal.ofBits .f32 w) + Ideal.ofBits .f32 0x358637BD#32)) (sum_apply (mulf X X) hr hs r)))

/-- The references' normalization of the sequences, read at an entry. -/
theorem host_norm_apply {L : ℕ} (X : FVec Ideal ⟨3, ![4, L, 4096]⟩ .f32)
    (h1 : (⟨3, ![4, L, 1]⟩ : Shape).BroadcastsInDim ⟨3, ![4, L, 4096]⟩ (![0, 1, 2] : Fin 3 → Fin 3))
    (h2 : (⟨2, ![4, L]⟩ : Shape).BroadcastsInDim ⟨3, ![4, L, 1]⟩ (![0, 1] : Fin 2 → Fin 3))
    (hr : (⟨3, ![4, L, 4096]⟩ : Shape).Reduces [2] ⟨2, ![4, L]⟩) (h3 : (⟨3, ![4, L, 4096]⟩ : Shape).ReducesTo [2] ⟨2, ![4, L]⟩) (h4 : 0 < (⟨0, ![]⟩ : Shape).numel)
    (h5 : (⟨0, ![]⟩ : Shape).BroadcastsInDim ⟨3, ![4, L, 1]⟩ (![] : Fin 0 → Fin 3)) (b : Fin 4) (s : Fin L) (j : Fin 4096) :
    (mulf X (broadcastInDim ⟨3, ![4, L, 4096]⟩ ![0, 1, 2] h1 (Host.rsqrt (addf (Host.divf
        (broadcastInDim ⟨3, ![4, L, 1]⟩ ![0, 1] h2 (Host.reduceAdd (mulf X X) (constant (F := Ideal) ⟨0, ![]⟩ .f32 0x00000000#32) h3 h4))
        (broadcastInDim ⟨3, ![4, L, 1]⟩ ![] h5 (constant (F := Ideal) ⟨0, ![]⟩ .f32 0x45800000#32)))
        (broadcastInDim ⟨3, ![4, L, 1]⟩ ![] h5 (constant (F := Ideal) ⟨0, ![]⟩ .f32 0x358637BD#32))))) (ix3 b s j) : EReal)
      = normed (fun k => X (ix3 b s k)) j := by
  have e1 : (broadcastInDim ⟨3, ![4, L, 1]⟩ ![0, 1] h2 (Host.reduceAdd (mulf X X) (constant (F := Ideal) ⟨0, ![]⟩ .f32 0x00000000#32) h3 h4)
      (ix3 b s (0 : Fin 1)) : EReal) = ∑ k : Fin 4096, X (ix3 b s k) * X (ix3 b s k) := by
    refine (broadcastInDim_apply _ _ _ _ (ix2 b s) fun a => ?_).trans ((ValueIdx.hostReduceAdd_apply _ _ _ _ _).trans
      ((Ideal.hostReduceAdd_single _ hr _ _ _).trans ?_))
    · match a with
      | ⟨0, _⟩ => rfl
      | ⟨1, _⟩ => show s.val = if L = 1 then 0 else s.val; split_ifs <;> omega
    · refine (congrArg₂ (fun a b : EReal => a + b) Ideal.ofBits_zero_f32 (Finset.sum_congr (M := EReal) rfl fun k _ => ?_)).trans (zero_add _)
      refine congrArg (fun i : (⟨3, ![4, L, 4096]⟩ : Shape).Idx => ((X i : EReal) * X i)) (funext fun a => ?_)
      match a with
      | ⟨0, _⟩ => rfl
      | ⟨1, _⟩ => rfl
      | ⟨2, _⟩ => rfl
  refine congrArg (fun a : EReal => X (ix3 b s j) * a) ?_
  refine (broadcastInDim_apply _ _ _ _ (ix3 b s (0 : Fin 1)) fun a => ?_).trans ?_
  · match a with
    | ⟨0, _⟩ => rfl
    | ⟨1, _⟩ => show s.val = if L = 1 then 0 else s.val; split_ifs <;> omega
    | ⟨2, _⟩ => rfl
  · exact congrArg (fun a : EReal => Ideal.rsqrt (Ideal.div a (Ideal.ofBits .f32 0x45800000#32) + Ideal.ofBits .f32 0x358637BD#32)) e1

/-- One over one plus the exponential of the negation is the logistic. -/
theorem logistic_quotient (z : EReal) :
    Ideal.div (Ideal.ofBits .f32 0x3F800000#32) (Ideal.ofBits .f32 0x3F800000#32 + Ideal.exp (-z)) = Ideal.logistic z := by
  have one : (Ideal.ofBits .f32 0x3F800000#32 : EReal) = 1 := by
    simp [Ideal.ofBits, Ideal.ieee, -EReal.coe_mul]; norm_num
  rw [one]
  rfl

end Cert.Norm

end
-- ==== Proof.InProj.lean ====
module

public import proofs.«01_k».proof.Defs
public import proofs.«01_k».proof.Proof.Dense
public import proofs.«01_k».proof.Proof.Norm
public import proofs.«01_k».proof.Proof.Gen.Kernel2.Frame
public import proofs.«01_k».proof.Proof.Gen.Kernel2Ideal.Frame
public import proofs.«01_k».proof.Proof.Gen.Reference2Ideal
public import proofs.«01_k».proof.Proof.Gen.Reference2Ideal.Run
public import Idealize.ShloMosaic.Lib.Claim
public import Idealize.ShloMosaic.Lib.Pipeline.ValueKit.Geometry
public import Idealize.ShloMosaic.Lib.Pipeline.ValueKit.Acc

@[expose] public section

/-! # The modulation, the modulated norm and the input projection

Three tiled calls in a row. The first multiplies the activated conditioning rows by the modulation's weights; two of the six
column ranges of its result are the shift and the scale of the second, which normalizes the rows of the sequences; the third
multiplies those rows by the columns of the input weights that are kept. Each array is one expression of its call's
arguments. The reference multiplies by all the columns of the input weights and cuts the decay columns out of the result, the
kernel cuts them out of the weights: both read the same column of the weights. -/

noncomputable section

namespace Cert.Kernel2Ideal.Hand

open Cert.Kernel2Ideal Cert.Kernel2Ideal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)
open Idealize.ShloMosaic.ValueIdx
open Cert.Norm (normed)
open scoped BigOperators

/-! ## The values -/

/-- The weights' column that the result's column `j` is the product with: the 64 decay columns are stepped over. -/
def col (j : Fin 20480) : Fin 20544 := if h : j.val < 4096 then ⟨j.val, by omega⟩ else ⟨j.val + 64, by omega⟩

/-- Column `j` of the modulation of one conditioning row. -/
def modul (z : Fin 4096 → EReal) (wm : S4096x24576.Idx → EReal) (bm : S24576.Idx → EReal) (j : Fin 24576) : EReal :=
  (∑ k : Fin 4096, z k * Ideal.logistic (z k) * wm (ix2 k j)) + bm (ix1 j)

/-- The conditioning rows' modulation, the bias a one-row array. -/
def modRows (z : S8x4096.Idx → EReal) (wm : S4096x24576.Idx → EReal) (bm : S1x24576.Idx → EReal) (r : Fin 8) (j : Fin 24576) : EReal :=
  (∑ k : Fin 4096, z (ix2 r k) * Ideal.logistic (z (ix2 r k)) * wm (ix2 k j)) + bm (ix2 (0 : Fin 1) j)

/-- The product of the rows `a` and the kept columns `b`. -/
def prod (a : S16384x4096.Idx → EReal) (b : S4096x20480.Idx → EReal) (r : Fin 16384) (j : Fin 20480) : EReal :=
  ∑ k : Fin 4096, a (ix2 r k) * b (ix2 k j)

/-- A sequence's row of the eight conditioning rows. -/
def cond (b : Fin 4) : Fin 8 := ⟨b.val, by omega⟩

/-- A row's norm under its gain, scale and shift. -/
def modded (z : Fin 4096 → EReal) (g sc sh : EReal) (j : Fin 4096) : EReal :=
  normed z j * g * (Ideal.ofBits .f32 0x3F800000#32 + sc) + sh

/-- The modulated norm at sequence `b`, position `s` and column `j`: the shift is the modulation's first column range, the scale its second. -/
def hid (x : S4x4096x4096.Idx → EReal) (cn : S4x4096.Idx → EReal) (wm : S4096x24576.Idx → EReal) (bm : S24576.Idx → EReal)
    (g : S4096.Idx → EReal) (b : Fin 4) (s j : Fin 4096) : EReal :=
  modded (fun k => x (ix3 b s k)) (g (ix1 j)) (modul (fun k => cn (ix2 b k)) wm bm ⟨4096 + j.val, by omega⟩)
    (modul (fun k => cn (ix2 b k)) wm bm ⟨0 + j.val, by omega⟩) j

/-- The sequence that a row of the flattened sequences falls in, and its position there. -/
def seqOf (r : Fin 16384) : Fin 4 := ⟨r.val / 4096, by omega⟩
def posOf (r : Fin 16384) : Fin 4096 := ⟨r.val % 4096, by omega⟩

/-- The projection at row `r` of the flattened sequences and column `j`. -/
def outp (x : S4x4096x4096.Idx → EReal) (cn : S4x4096.Idx → EReal) (wm : S4096x24576.Idx → EReal) (bm : S24576.Idx → EReal)
    (g : S4096.Idx → EReal) (w : S4096x20544.Idx → EReal) (r : Fin 16384) (j : Fin 20480) : EReal :=
  ∑ k : Fin 4096, hid x cn wm bm g (seqOf r) (posOf r) k * w (ix2 k (col j))

/-- A block of the modulation, from its input blocks. -/
theorem out0_apply (x0 : Vec Ideal S8x4096 .f32) (x1 : Vec Ideal S4096x512 .f32) (x2 : Vec Ideal S1x512 .f32) (y : S8x512.Idx) :
    (out0_3 x0 x1 x2 y : EReal)
      = (∑ k : Fin 4096, (x0 (ix2 (y 0) k) : EReal) * Ideal.logistic (x0 (ix2 (y 0) k)) * x1 (ix2 k (y 1))) + x2 (ix2 (0 : Fin 1) (y 1)) := by
  unfold out0_3
  rw [View.canon_unit_zero (by decide)]
  repeat rw [View.ld_unit_zero (by decide)]
  unfold k0_pay1
  rw [shapeCast_self, shapeCast_self]
  have e1 := Dense.matmul_apply .bf16 .bf16 (truncf (F := Ideal) .bf16 (mulf x0 (logistic x0)) bitsLt_bf16_f32)
    (truncf (F := Ideal) .bf16 x1 bitsLt_bf16_f32) y
  refine congrArg₂ (fun a b : EReal => a + b) e1 (broadcastTo_apply _ _ y (ix2 (0 : Fin 1) (y 1)) fun a => ?_)
  match a with
  | ⟨0, _⟩ => rfl
  | ⟨1, _⟩ => rfl

/-- A block of the modulated norm, from its input blocks. -/
theorem out1_apply (x0 : Vec Ideal S1x512x4096 .f32) (x1 : Vec Ideal S1x4096 .f32) (x2 x3 : Vec Ideal S1x1x4096 .f32)
    (y : S1x512x4096.Idx) :
    (out1_4 x0 x1 x2 x3 y : EReal)
      = modded (fun k => x0 (ix3 (0 : Fin 1) (y 1) k)) (x1 (ix2 (0 : Fin 1) (y 2))) (x2 (ix3 (0 : Fin 1) (0 : Fin 1) (y 2)))
          (x3 (ix3 (0 : Fin 1) (0 : Fin 1) (y 2))) (y 2) := by
  unfold out1_4
  rw [View.canon_unit_zero (by decide)]
  repeat rw [View.ld_unit_zero (by decide)]
  unfold k1_pay1
  rw [shapeCast_self]
  have row : ∀ x : Vec Ideal S1x1x4096 .f32, broadcastTo S512x4096 (shapeCast S1x4096 x shapeCasts_S1x1x4096_S1x4096)
      broadcasts_S1x4096_S512x4096 (ix2 (y 1) (y 2) : S512x4096.Idx) = x (ix3 (0 : Fin 1) (0 : Fin 1) (y 2)) := fun x => by
    refine (broadcastTo_apply _ _ _ (ix2 (0 : Fin 1) (y 2)) fun a => ?_).trans (shapeCast_apply _ _ _ _ ?_)
    · match a with
      | ⟨0, _⟩ => rfl
      | ⟨1, _⟩ => rfl
    · refine (Shape.rowMajor_val_three _).trans (Eq.trans ?_ (Shape.rowMajor_val_two _).symm)
      rfl
  refine (shapeCast_apply _ _ _ (ix2 (y 1) (y 2) : S512x4096.Idx) ?_).trans ?_
  · refine (Shape.rowMajor_val_two _).trans (Eq.trans ?_ (Shape.rowMajor_val_three _).symm)
    have h0 : (y 0).val = 0 := by have := (y 0).isLt; change (y 0).val < 1 at this; omega
    show (y 1).val * 4096 + (y 2).val = ((y 0).val * 512 + (y 1).val) * 4096 + (y 2).val
    rw [h0]; omega
  · unfold modded
    refine congrArg₂ (fun a b : EReal => a + b) (congrArg₂ (fun a b : EReal => a * b) (congrArg₂ (fun a b : EReal => a * b)
      ((Norm.norm_apply (shapeCast S512x4096 x0 shapeCasts_S1x512x4096_S512x4096) reduces_S512x4096_S512 shapeCasts_S512_S512x1
        broadcasts_S512x1_S512x4096 (y 1) (y 2)).trans (congrArg (fun z => normed z (y 2)) (funext fun k => ?_))) ?_) ?_) (row x3)
    · refine shapeCast_apply _ _ _ _ ?_
      refine (Shape.rowMajor_val_three _).trans (Eq.trans ?_ (Shape.rowMajor_val_two _).symm)
      show (0 * 512 + (y 1).val) * 4096 + k.val = (y 1).val * 4096 + k.val
      omega
    · refine broadcastTo_apply _ _ _ (ix2 (0 : Fin 1) (y 2)) fun a => ?_
      match a with
      | ⟨0, _⟩ => rfl
      | ⟨1, _⟩ => rfl
    · refine (broadcastTo_apply _ _ _ (ix2 (0 : Fin 1) (y 2)) fun a => ?_).trans
        (congrArg (fun a : EReal => Ideal.ofBits .f32 0x3F800000#32 + a) (shapeCast_apply _ _ _ (ix3 (0 : Fin 1) (0 : Fin 1) (y 2)) ?_))
      · match a with
        | ⟨0, _⟩ => rfl
        | ⟨1, _⟩ => rfl
      · refine (Shape.rowMajor_val_three _).trans (Eq.trans ?_ (Shape.rowMajor_val_two _).symm)
        rfl

/-- A block of the projection is the product of its two input blocks. -/
theorem out2_apply (x0 : Vec Ideal S1024x4096 .bf16) (x1 : Vec Ideal S4096x1024 .bf16) (y : S1024x1024.Idx) :
    out2_2 x0 x1 y = ∑ k : Fin 4096, (x0 (ix2 (y 0) k) : EReal) * x1 (ix2 k (y 1)) := by
  unfold out2_2
  rw [View.canon_unit_zero (by decide), View.ld_unit_zero (by decide), View.ld_unit_zero (by decide)]
  unfold k2_pay1
  rw [shapeCast_self, shapeCast_self]
  exact Dense.matmul_apply .bf16 .bf16 x0 x1 y

/-- Entry (k, j) of two column ranges of `x`, [0, 4096) and [4160, 20544), set side by side: the entry of `x` at the
    column stepped over. -/
theorem side_by_side {α : Type} {n : ℕ} (x : (⟨2, ![n, 20544]⟩ : Shape).Idx → α)
    (h1 : (⟨2, ![n, 20544]⟩ : Shape).Slices ![0, 0] ⟨2, ![n, 4096]⟩)
    (h2 : (⟨2, ![n, 20544]⟩ : Shape).Slices ![0, 4160] ⟨2, ![n, 16384]⟩)
    (h : Shape.Concatenates [⟨2, ![n, 4096]⟩, ⟨2, ![n, 16384]⟩] ⟨2, ![n, 20480]⟩ 1) (k : Fin n) (j : Fin 20480) :
    concatenate ⟨2, ![n, 20480]⟩ 1 [⟨⟨2, ![n, 4096]⟩, extractStridedSlice ⟨2, ![n, 4096]⟩ ![0, 0] x h1⟩,
      ⟨⟨2, ![n, 16384]⟩, extractStridedSlice ⟨2, ![n, 16384]⟩ ![0, 4160] x h2⟩] h (ix2 k j) = x (ix2 k (col j)) := by
  by_cases hj : j.val < 4096
  · refine (concatenate_pair_apply_left (s₁ := ⟨2, ![n, 4096]⟩) (s₂ := ⟨2, ![n, 16384]⟩) (1 : Fin 2) _ _ h (ix2 k j) rfl
      (ix2 k (⟨j.val, hj⟩ : Fin 4096)) fun b => ?_).trans ?_
    · match b with
      | ⟨0, _⟩ => rfl
      | ⟨1, _⟩ => rfl
    · refine extractStridedSlice_apply _ _ _ _ (ix2 k (col j)) fun b => ?_
      match b with
      | ⟨0, _⟩ => exact (Nat.zero_add _).symm
      | ⟨1, _⟩ => show (col j).val = 0 + j.val; rw [col, dif_pos hj]; exact (Nat.zero_add _).symm
  · refine (concatenate_pair_apply_right (s₁ := ⟨2, ![n, 4096]⟩) (s₂ := ⟨2, ![n, 16384]⟩) (1 : Fin 2) _ _ h (ix2 k j) rfl rfl
      (ix2 k (⟨j.val - 4096, by omega⟩ : Fin 16384)) (fun b hb => ?_) ?_).trans ?_
    · match b with
      | ⟨0, _⟩ => rfl
      | ⟨1, _⟩ => exact absurd rfl hb
    · show j.val - 4096 + 4096 = j.val; omega
    · refine extractStridedSlice_apply _ _ _ _ (ix2 k (col j)) fun b => ?_
      match b with
      | ⟨0, _⟩ => exact (Nat.zero_add _).symm
      | ⟨1, _⟩ => show (col j).val = 4160 + (j.val - 4096); rw [col, dif_neg hj]; show j.val + 64 = _; omega

/-! ## The arrays after the three calls -/

theorem idx0 : ∀ t : Fin cfg0.N, win0_0.index t = ![0, 0] ∧ win0_1.index t = ![0, (grid0.coords t 0).val]
    ∧ win0_2.index t = ![0, (grid0.coords t 0).val] ∧ win0_3.index t = ![0, (grid0.coords t 0).val] :=
  (by decide +kernel : ∀ t : Fin grid0.N, _)

theorem idx1 : ∀ t : Fin cfg1.N, win1_0.index t = ![(grid1.coords t 0).val, (grid1.coords t 1).val, 0] ∧ win1_1.index t = ![0, 0]
    ∧ win1_2.index t = ![(grid1.coords t 0).val, 0, 0] ∧ win1_3.index t = ![(grid1.coords t 0).val, 0, 0]
    ∧ win1_4.index t = ![(grid1.coords t 0).val, (grid1.coords t 1).val, 0] := (by decide +kernel : ∀ t : Fin grid1.N, _)

theorem idx2 : ∀ t : Fin cfg2.N, win2_0.index t = ![(grid2.coords t 0).val, 0] ∧ win2_1.index t = ![0, (grid2.coords t 1).val]
    ∧ win2_2.index t = ![(grid2.coords t 0).val, (grid2.coords t 1).val] := (by decide +kernel : ∀ t : Fin grid2.N, _)

variable (V : (c : Dev nD) → (b : Ref sig .tc) → Buf (Elt Ideal) ((c : Thread nD τ).loc b)) (c : Dev nD)

/-- The modulation's array after its call. -/
theorem final0 (i : S8x24576.Idx) : ((dat0 V c).arrAt 3 cfg0.N i : EReal)
    = modRows (V c main_v2) (V c main_arg3) (V c main_v3) (i 0) (i 1) := by
  have h : (dat0 V c).arrAt 3 cfg0.N = fun i : S8x24576.Idx =>
      modRows (V c main_v2) (V c main_arg3) (V c main_v3) (i 0) (i 1) := by
    refine (dat0 V c).arrAt_eq_of_covers 3 _ (by decide +kernel) fun t hf y => ?_
    obtain ⟨h0, h1, h2, h3⟩ := idx0 t
    blk_simp
    rw [after0_3, out0_apply]
    unfold modRows
    refine congrArg₂ (fun a b : EReal => a + b) (Finset.sum_congr (M := EReal) rfl fun k _ => congrArg₂ (fun a b : EReal => a * b)
      (congrArg (fun a : EReal => a * Ideal.logistic a) (congrArg (V c main_v2) (funext fun a => Fin.ext ?_)))
      (congrArg (V c main_arg3) (funext fun a => Fin.ext ?_))) (congrArg (V c main_v3) (funext fun a => Fin.ext ?_))
    · match a with
      | ⟨0, _⟩ =>
        show ((win0_0.blk t).view.emb (ix2 (y 0) k : S8x4096.Idx) 0).val = ((win0_3.blk t).view.emb y 0).val
        blk_simp [h0, h3]; rfl
      | ⟨1, _⟩ =>
        show ((win0_0.blk t).view.emb (ix2 (y 0) k : S8x4096.Idx) 1).val = k.val
        blk_simp [h0]; rfl
    · match a with
      | ⟨0, _⟩ =>
        show ((win0_1.blk t).view.emb (ix2 k (y 1) : S4096x512.Idx) 0).val = k.val
        blk_simp [h1]; rfl
      | ⟨1, _⟩ =>
        show ((win0_1.blk t).view.emb (ix2 k (y 1) : S4096x512.Idx) 1).val = ((win0_3.blk t).view.emb y 1).val
        blk_simp [h1, h3]; rfl
    · match a with
      | ⟨0, _⟩ =>
        show ((win0_2.blk t).view.emb (ix2 0 (y 1) : S1x512.Idx) 0).val = 0
        blk_simp [h2]
      | ⟨1, _⟩ =>
        show ((win0_2.blk t).view.emb (ix2 0 (y 1) : S1x512.Idx) 1).val = ((win0_3.blk t).view.emb y 1).val
        blk_simp [h2, h3]; rfl
  exact congrFun h i

/-- The modulated norm's array after its call. -/
theorem final1 (b : Fin 4) (s j : Fin 4096) : ((dat1 V c).arrAt 4 cfg1.N (ix3 b s j) : EReal)
    = modded (fun k => V c main_arg0 (ix3 b s k)) (V c main_v13 (ix2 (0 : Fin 1) j))
        (V c main_v8 (ix3 (cond b) (0 : Fin 1) j)) (V c main_v6 (ix3 (cond b) (0 : Fin 1) j)) j := by
  have h : (dat1 V c).arrAt 4 cfg1.N = fun i : S4x4096x4096.Idx =>
      modded (fun k => V c main_arg0 (ix3 (i 0 : Fin 4) (i 1 : Fin 4096) k)) (V c main_v13 (ix2 (0 : Fin 1) (i 2 : Fin 4096)))
        (V c main_v8 (ix3 (cond (i 0 : Fin 4)) (0 : Fin 1) (i 2 : Fin 4096)))
        (V c main_v6 (ix3 (cond (i 0 : Fin 4)) (0 : Fin 1) (i 2 : Fin 4096))) (i 2 : Fin 4096) := by
    refine (dat1 V c).arrAt_eq_of_covers 4 _ (by decide +kernel) fun t hf y => ?_
    obtain ⟨h0, h1, h2, h3, h4⟩ := idx1 t
    blk_simp
    rw [after1_4, out1_apply]
    have ej : (y 2 : Fin 4096) = ((win1_4.blk t).view.emb y 2 : Fin 4096) := Fin.ext (by
      show (y 2).val = ((win1_4.blk t).view.emb y 2).val
      blk_simp [h4])
    have row : ∀ k : Fin 4096, iblk1 V c 0 t (ix3 (0 : Fin 1) (y 1) k : S1x512x4096.Idx)
        = V c main_arg0 (ix3 ((win1_4.blk t).view.emb y 0 : Fin 4) ((win1_4.blk t).view.emb y 1 : Fin 4096) k) := fun k => by
      refine congrArg (V c main_arg0) (funext fun a => Fin.ext ?_)
      match a with
      | ⟨0, _⟩ =>
        show ((win1_0.blk t).view.emb (ix3 0 (y 1) k : S1x512x4096.Idx) 0).val = ((win1_4.blk t).view.emb y 0).val
        blk_simp [h0, h4]
      | ⟨1, _⟩ =>
        show ((win1_0.blk t).view.emb (ix3 0 (y 1) k : S1x512x4096.Idx) 1).val = ((win1_4.blk t).view.emb y 1).val
        blk_simp [h0, h4]; rfl
      | ⟨2, _⟩ =>
        show ((win1_0.blk t).view.emb (ix3 0 (y 1) k : S1x512x4096.Idx) 2).val = k.val
        blk_simp [h0]; rfl
    have gain : iblk1 V c 1 t (ix2 (0 : Fin 1) (y 2) : S1x4096.Idx) = V c main_v13 (ix2 (0 : Fin 1) ((win1_4.blk t).view.emb y 2 : Fin 4096)) := by
      refine congrArg (V c main_v13) (funext fun a => Fin.ext ?_)
      match a with
      | ⟨0, _⟩ =>
        show ((win1_1.blk t).view.emb (ix2 0 (y 2) : S1x4096.Idx) 0).val = 0
        blk_simp [h1]
      | ⟨1, _⟩ =>
        show ((win1_1.blk t).view.emb (ix2 0 (y 2) : S1x4096.Idx) 1).val = ((win1_4.blk t).view.emb y 2).val
        blk_simp [h1, h4]; rfl
    have scale : iblk1 V c 2 t (ix3 (0 : Fin 1) (0 : Fin 1) (y 2) : S1x1x4096.Idx)
        = V c main_v8 (ix3 (cond ((win1_4.blk t).view.emb y 0 : Fin 4)) (0 : Fin 1) ((win1_4.blk t).view.emb y 2 : Fin 4096)) := by
      refine congrArg (V c main_v8) (funext fun a => Fin.ext ?_)
      match a with
      | ⟨0, _⟩ =>
        show ((win1_2.blk t).view.emb (ix3 0 0 (y 2) : S1x1x4096.Idx) 0).val = ((win1_4.blk t).view.emb y 0).val
        blk_simp [h2, h4]
      | ⟨1, _⟩ =>
        show ((win1_2.blk t).view.emb (ix3 0 0 (y 2) : S1x1x4096.Idx) 1).val = 0
        blk_simp [h2]
      | ⟨2, _⟩ =>
        show ((win1_2.blk t).view.emb (ix3 0 0 (y 2) : S1x1x4096.Idx) 2).val = ((win1_4.blk t).view.emb y 2).val
        blk_simp [h2, h4]; rfl
    have shift : iblk1 V c 3 t (ix3 (0 : Fin 1) (0 : Fin 1) (y 2) : S1x1x4096.Idx)
        = V c main_v6 (ix3 (cond ((win1_4.blk t).view.emb y 0 : Fin 4)) (0 : Fin 1) ((win1_4.blk t).view.emb y 2 : Fin 4096)) := by
      refine congrArg (V c main_v6) (funext fun a => Fin.ext ?_)
      match a with
      | ⟨0, _⟩ =>
        show ((win1_3.blk t).view.emb (ix3 0 0 (y 2) : S1x1x4096.Idx) 0).val = ((win1_4.blk t).view.emb y 0).val
        blk_simp [h3, h4]
      | ⟨1, _⟩ =>
        show ((win1_3.blk t).view.emb (ix3 0 0 (y 2) : S1x1x4096.Idx) 1).val = 0
        blk_simp [h3]
      | ⟨2, _⟩ =>
        show ((win1_3.blk t).view.emb (ix3 0 0 (y 2) : S1x1x4096.Idx) 2).val = ((win1_4.blk t).view.emb y 2).val
        blk_simp [h3, h4]; rfl
    rw [gain, scale, shift]
    exact congrArg₂ (fun (z : Fin 4096 → EReal) (j : Fin 4096) => modded z _ _ _ j) (funext row) ej
  exact congrFun h (ix3 b s j)

/-- The projection's array after its call. -/
theorem final2 (i : S16384x20480.Idx) : ((dat2 V c).arrAt 2 cfg2.N i : EReal)
    = prod (V c main_v15) (V c main_v12) (i 0) (i 1) := by
  have h : (dat2 V c).arrAt 2 cfg2.N
      = fun i : S16384x20480.Idx => prod (V c main_v15) (V c main_v12) (i 0) (i 1) := by
    refine (dat2 V c).arrAt_eq_of_covers 2 _ (by decide +kernel) fun t hf y => ?_
    obtain ⟨h0, h1, h2⟩ := idx2 t
    blk_simp
    rw [after2_2, out2_apply]
    unfold prod
    refine Finset.sum_congr (M := EReal) rfl fun k _ => congrArg₂ (fun a b : EReal => a * b)
      (congrArg (V c main_v15) (funext fun a => Fin.ext ?_)) (congrArg (V c main_v12) (funext fun a => Fin.ext ?_))
    · match a with
      | ⟨0, _⟩ =>
        show ((win2_0.blk t).view.emb (ix2 (y 0) k : S1024x4096.Idx) 0).val = ((win2_2.blk t).view.emb y 0).val
        blk_simp [h0, h2]; rfl
      | ⟨1, _⟩ =>
        show ((win2_0.blk t).view.emb (ix2 (y 0) k : S1024x4096.Idx) 1).val = k.val
        blk_simp [h0]; rfl
    · match a with
      | ⟨0, _⟩ =>
        show ((win2_1.blk t).view.emb (ix2 k (y 1) : S4096x1024.Idx) 0).val = k.val
        blk_simp [h1]; rfl
      | ⟨1, _⟩ =>
        show ((win2_1.blk t).view.emb (ix2 k (y 1) : S4096x1024.Idx) 1).val = ((win2_2.blk t).view.emb y 1).val
        blk_simp [h1, h2]; rfl
  exact congrFun h i

/-! ## The run -/

variable (m : (ℓ : Loc nD τ sig) → Buf (Elt Ideal) ℓ) (ρ : Dev nD → PrngReg)

/-- What the three calls leave in the result, from the launch's arguments. -/
def result (c : Dev nD) : S16384x20480.Idx → EReal := fun i =>
  outp (m ((c : Thread nD τ).loc main_arg0)) (m ((c : Thread nD τ).loc main_arg1)) (m ((c : Thread nD τ).loc main_arg3))
    (m ((c : Thread nD τ).loc main_arg4)) (m ((c : Thread nD τ).loc main_arg5)) (m ((c : Thread nD τ).loc main_arg6)) (i 0) (i 1)

/-- The first four of the eight stacked rows. -/
theorem cond_apply (x : S4x4096.Idx → EReal) (p : S1x4096.Idx → EReal) (q : S3x4096.Idx → EReal)
    (h : Shape.Concatenates [S4x4096, S1x4096, S3x4096] S8x4096 0) (b : Fin 4) (k : Fin 4096) :
    concatenate S8x4096 0 [⟨S4x4096, x⟩, ⟨S1x4096, p⟩, ⟨S3x4096, q⟩] h (ix2 (cond b) k) = x (ix2 b k) := by
  refine concatenate_apply_piece (t := S8x4096) (0 : Fin 2) [⟨S4x4096, x⟩, ⟨S1x4096, p⟩, ⟨S3x4096, q⟩] h (ix2 (cond b) k) 0
    (Nat.zero_lt_succ _) S4x4096 x rfl rfl 0 rfl (ix2 b k) (fun a ha => ?_) (Nat.zero_add _)
  match a with
  | ⟨0, _⟩ => exact absurd rfl ha
  | ⟨1, _⟩ => rfl

/-- The conditioning rows when the first call starts: the first four are the sequences' own. -/
theorem V1_v2 (b : Fin 4) (k : Fin 4096) : (V1 m ρ c main_v2 : S8x4096.Idx → EReal) (ix2 (cond b) k)
    = (m ((c : Thread nD τ).loc main_arg1) : S4x4096.Idx → EReal) (ix2 b k) := by
  have e : (V1 m ρ c main_v2 : S8x4096.Idx → EReal) = concatenate S8x4096 0
      [⟨S4x4096, (m ((c : Thread nD τ).loc main_arg1) : S4x4096.Idx → EReal)⟩,
       ⟨S1x4096, broadcastInDim S1x4096 ![1] bcast_S4096_S1x4096_1 (m ((c : Thread nD τ).loc main_arg2) : S4096.Idx → EReal)⟩,
       ⟨S3x4096, broadcastInDim S3x4096 ![] bcast_S_S3x4096 (constant (F := Ideal) S_ .f32 0x00000000#32)⟩]
      concatenates_S4x4096_S1x4096_S3x4096_S8x4096_d0 := by
    show StableHlo.after hostOps0 (W0 m ρ c) (Proc.devRef .tc main_v2) = _
    unfold hostOps0; after_results; rfl
  exact (congrFun e _).trans (cond_apply _ _ _ _ b k)

theorem V1_v3 (j : Fin 24576) : (V1 m ρ c main_v3 : S1x24576.Idx → EReal) (ix2 (0 : Fin 1) j)
    = (m ((c : Thread nD τ).loc main_arg4) : S24576.Idx → EReal) (ix1 j) := by
  have e : (V1 m ρ c main_v3 : S1x24576.Idx → EReal)
      = shapeCast S1x24576 (m ((c : Thread nD τ).loc main_arg4) : S24576.Idx → EReal) shapeCasts_S24576_S1x24576 := by
    show StableHlo.after hostOps0 (W0 m ρ c) (Proc.devRef .tc main_v3) = _
    unfold hostOps0; after_results; rfl
  refine (congrFun e _).trans (shapeCast_apply _ _ _ _ ?_)
  refine (Shape.rowMajor_val_one _).trans (Eq.trans ?_ (Shape.rowMajor_val_two _).symm)
  show j.val = 0 * 24576 + j.val
  omega

/-- The modulation when the second call starts, at a sequence's row. -/
theorem W2_v4 (b : Fin 4) (j : Fin 24576) : (W2 m ρ c (Proc.devRef .tc main_v4) : S8x24576.Idx → EReal) (ix2 (cond b) j)
    = modul (fun k => (m ((c : Thread nD τ).loc main_arg1) : S4x4096.Idx → EReal) (ix2 b k)) (m ((c : Thread nD τ).loc main_arg3))
        (m ((c : Thread nD τ).loc main_arg4)) j := by
  refine (congrFun (W2_arr m ρ c 3) (ix2 (cond b) j)).trans ((final0 (V1 m ρ) c (ix2 (cond b) j)).trans ?_)
  unfold modRows modul
  rw [show V1 m ρ c main_arg3 = m ((c : Thread nD τ).loc main_arg3) from W1_args m ρ c main_arg3 (by decide)]
  refine congrArg₂ (fun a b : EReal => a + b) (Finset.sum_congr (M := EReal) rfl fun k _ =>
    congrArg (fun a : EReal => a * Ideal.logistic a * _) (V1_v2 c m ρ b k)) (V1_v3 c m ρ j)

/-- A column range of the modulation, its rows set one by one. -/
theorem range_apply (X : S8x24576.Idx → EReal) (off : ℕ) (ho : off + 4096 ≤ 24576) (hs : S8x24576.Slices ![0, off] S8x4096)
    (h : S8x4096.ShapeCasts S8x1x4096) (r : Fin 8) (j : Fin 4096) :
    shapeCast S8x1x4096 (extractStridedSlice S8x4096 ![0, off] X hs) h (ix3 r (0 : Fin 1) j) = X (ix2 r ⟨off + j.val, by omega⟩) := by
  refine (shapeCast_apply _ _ _ (ix2 r j) ?_).trans (extractStridedSlice_apply _ _ hs _ _ fun a => ?_)
  · refine (Shape.rowMajor_val_two _).trans (Eq.trans ?_ (Shape.rowMajor_val_three _).symm)
    show r.val * 4096 + j.val = (r.val * 1 + 0) * 4096 + j.val
    omega
  · match a with
    | ⟨0, _⟩ => show r.val = 0 + r.val; omega
    | ⟨1, _⟩ => rfl

theorem V3_v6 (b : Fin 4) (j : Fin 4096) : (V3 m ρ c main_v6 : S8x1x4096.Idx → EReal) (ix3 (cond b) (0 : Fin 1) j)
    = modul (fun k => (m ((c : Thread nD τ).loc main_arg1) : S4x4096.Idx → EReal) (ix2 b k)) (m ((c : Thread nD τ).loc main_arg3))
        (m ((c : Thread nD τ).loc main_arg4)) ⟨0 + j.val, by omega⟩ := by
  have e : (V3 m ρ c main_v6 : S8x1x4096.Idx → EReal) = shapeCast S8x1x4096 (extractStridedSlice S8x4096 ![0, 0]
      (W2 m ρ c (Proc.devRef .tc main_v4) : S8x24576.Idx → EReal) slices_S8x24576_S8x4096_0_0) shapeCasts_S8x4096_S8x1x4096 := by
    show StableHlo.after hostOps1 (W2 m ρ c) (Proc.devRef .tc main_v6) = _
    unfold hostOps1; after_results; rfl
  exact (congrFun e _).trans ((range_apply _ 0 (by omega) _ _ _ _).trans (W2_v4 c m ρ b _))

theorem V3_v8 (b : Fin 4) (j : Fin 4096) : (V3 m ρ c main_v8 : S8x1x4096.Idx → EReal) (ix3 (cond b) (0 : Fin 1) j)
    = modul (fun k => (m ((c : Thread nD τ).loc main_arg1) : S4x4096.Idx → EReal) (ix2 b k)) (m ((c : Thread nD τ).loc main_arg3))
        (m ((c : Thread nD τ).loc main_arg4)) ⟨4096 + j.val, by omega⟩ := by
  have e : (V3 m ρ c main_v8 : S8x1x4096.Idx → EReal) = shapeCast S8x1x4096 (extractStridedSlice S8x4096 ![0, 4096]
      (W2 m ρ c (Proc.devRef .tc main_v4) : S8x24576.Idx → EReal) slices_S8x24576_S8x4096_0_4096) shapeCasts_S8x4096_S8x1x4096 := by
    show StableHlo.after hostOps1 (W2 m ρ c) (Proc.devRef .tc main_v8) = _
    unfold hostOps1; after_results; rfl
  exact (congrFun e _).trans ((range_apply _ 4096 (by omega) _ _ _ _).trans (W2_v4 c m ρ b _))

theorem V3_v13 (j : Fin 4096) : (V3 m ρ c main_v13 : S1x4096.Idx → EReal) (ix2 (0 : Fin 1) j)
    = (m ((c : Thread nD τ).loc main_arg5) : S4096.Idx → EReal) (ix1 j) := by
  have e : (V3 m ρ c main_v13 : S1x4096.Idx → EReal)
      = shapeCast S1x4096 (m ((c : Thread nD τ).loc main_arg5) : S4096.Idx → EReal) shapeCasts_S4096_S1x4096 := by
    refine Eq.trans ?_ (congrArg (fun x : S4096.Idx → EReal => shapeCast S1x4096 x shapeCasts_S4096_S1x4096) (W2_args m ρ c main_arg5 (by decide)))
    show StableHlo.after hostOps1 (W2 m ρ c) (Proc.devRef .tc main_v13) = _
    unfold hostOps1; after_results; rfl
  refine (congrFun e _).trans (shapeCast_apply _ _ _ _ ?_)
  refine (Shape.rowMajor_val_one _).trans (Eq.trans ?_ (Shape.rowMajor_val_two _).symm)
  show j.val = 0 * 4096 + j.val
  omega

/-- The weights when the last call starts: the kept columns, side by side. -/
theorem V5_v12 (k : Fin 4096) (j : Fin 20480) : (V5 m ρ c main_v12 : S4096x20480.Idx → EReal) (ix2 k j)
    = (m ((c : Thread nD τ).loc main_arg6) : S4096x20544.Idx → EReal) (ix2 k (col j)) := by
  have e : (V3 m ρ c main_v12 : S4096x20480.Idx → EReal) = concatenate S4096x20480 1
      [⟨S4096x4096, extractStridedSlice S4096x4096 ![0, 0] (m ((c : Thread nD τ).loc main_arg6) : S4096x20544.Idx → EReal) slices_S4096x20544_S4096x4096_0_0⟩,
       ⟨S4096x16384, extractStridedSlice S4096x16384 ![0, 4160] (m ((c : Thread nD τ).loc main_arg6) : S4096x20544.Idx → EReal) slices_S4096x20544_S4096x16384_0_4160⟩]
      concatenates_S4096x4096_S4096x16384_S4096x20480_d1 := by
    rw [← W2_args m ρ c main_arg6 (by decide)]
    show StableHlo.after hostOps1 (W2 m ρ c) (Proc.devRef .tc main_v12) = _
    unfold hostOps1; after_results; rfl
  exact (congrFun ((W5_of m ρ c main_v12 (by decide)).trans (W4_of m ρ c main_v12 (by decide))) (ix2 k j)).trans
    ((congrFun e (ix2 k j)).trans (side_by_side _ slices_S4096x20544_S4096x4096_0_0 slices_S4096x20544_S4096x16384_0_4160
      concatenates_S4096x4096_S4096x16384_S4096x20480_d1 k j))

/-- A row of the flattened sequences is the row of the sequence it falls in. -/
theorem flat_apply (x : S4x4096x4096.Idx → EReal) (h : S4x4096x4096.ShapeCasts S16384x4096) (r : Fin 16384) (j : Fin 4096) :
    shapeCast S16384x4096 x h (ix2 r j) = x (ix3 (seqOf r) (posOf r) j) := by
  refine shapeCast_apply _ _ _ _ ?_
  refine (Shape.rowMajor_val_three _).trans (Eq.trans ?_ (Shape.rowMajor_val_two _).symm)
  show (r.val / 4096 * 4096 + r.val % 4096) * 4096 + j.val = r.val * 4096 + j.val
  omega

/-- The rows that the projection reads. -/
theorem V5_v15 (r : Fin 16384) (k : Fin 4096) : (V5 m ρ c main_v15 : S16384x4096.Idx → EReal) (ix2 r k)
    = hid (m ((c : Thread nD τ).loc main_arg0)) (m ((c : Thread nD τ).loc main_arg1)) (m ((c : Thread nD τ).loc main_arg3))
      (m ((c : Thread nD τ).loc main_arg4)) (m ((c : Thread nD τ).loc main_arg5)) (seqOf r) (posOf r) k := by
  have e : (V5 m ρ c main_v15 : S16384x4096.Idx → EReal)
      = shapeCast S16384x4096 (W4 m ρ c (Proc.devRef .tc main_v14) : S4x4096x4096.Idx → EReal) shapeCasts_S4x4096x4096_S16384x4096 := by
    show StableHlo.after hostOps2 (W4 m ρ c) (Proc.devRef .tc main_v15) = _
    unfold hostOps2; after_results; rfl
  refine (congrFun e _).trans ((flat_apply _ _ r k).trans ((congrFun (W4_arr m ρ c 4) _).trans ((final1 (V3 m ρ) c _ _ k).trans ?_)))
  unfold hid
  rw [V3_v6, V3_v8, V3_v13, show V3 m ρ c main_arg0 = m ((c : Thread nD τ).loc main_arg0) from W3_args m ρ c main_arg0 (by decide)]

/-- The last array, from the arguments. -/
theorem W6_result : (W6 m ρ c (Proc.devRef .tc main_v16) : S16384x20480.Idx → EReal) = result m c := by
  refine (W6_arr m ρ c 2).trans (funext fun i => (final2 (V5 m ρ) c i).trans ?_)
  unfold prod result outp
  exact Finset.sum_congr (M := EReal) rfl fun k _ => congrArg₂ (fun a b : EReal => a * b) (V5_v15 c m ρ (i 0) k) (V5_v12 c m ρ k (i 1))

set_option backward.isDefEq.respectTransparency.types false in
/-- The launch over the six stretches of the program, read at the result and at the arguments. -/
theorem run : θ_run defs (onTc (τ := τ) (main (F := Ideal))) ⟨m, fun _ => 0, ρ⟩ (fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ))
        ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨(h c _ (mem_uc main_v16 (by decide))).trans (W6_result c m ρ),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

/-! ## The reference and the claims -/

/-- The reference's modulation, cut at a column range and set as rows. -/
theorem ref_modul (cn : FVec Ideal S4x4096 .f32) (wm : FVec Ideal S4096x24576 .f32) (bm : FVec Ideal S24576 .f32) (off : ℕ) (ho : off + 4096 ≤ 24576)
    (h0 : Cert.Reference2Ideal.S_.BroadcastsInDim S4x4096 (![] : Fin 0 → Fin 2))
    (h1 : S1x24576.BroadcastsInDim Cert.Reference2Ideal.S4x24576 (![0, 1] : Fin 2 → Fin 2)) (h2 : S24576.BroadcastsInDim S1x24576 (![1] : Fin 1 → Fin 2))
    (hs : Cert.Reference2Ideal.S4x24576.Slices ![0, off] S4x4096)
    (h3 : S4x4096.BroadcastsInDim Cert.Reference2Ideal.S4x1x4096 (![0, 2] : Fin 2 → Fin 3)) (b : Fin 4) (j : Fin 4096) :
    (broadcastInDim Cert.Reference2Ideal.S4x1x4096 ![0, 2] h3 (extractStridedSlice S4x4096 ![0, off]
      (addf (Host.dotGeneral Cert.Reference2Ideal.dot_S4x4096_S4096x24576_S4x24576_1_0_0_1_n_n none (mulf cn (Host.divf
          (broadcastInDim S4x4096 ![] h0 (constant (F := Ideal) Cert.Reference2Ideal.S_ .f32 0x3F800000#32))
          (addf (broadcastInDim S4x4096 ![] h0 (constant (F := Ideal) Cert.Reference2Ideal.S_ .f32 0x3F800000#32)) (Host.exp (Host.negf cn))))) wm)
        (broadcastInDim Cert.Reference2Ideal.S4x24576 ![0, 1] h1 (broadcastInDim S1x24576 ![1] h2 bm))) hs) (ix3 b (0 : Fin 1) j) : EReal)
      = modul (fun k => cn (ix2 b k)) wm bm ⟨off + j.val, by omega⟩ := by
  refine (broadcastInDim_apply _ _ _ _ (ix2 b j) fun a => ?_).trans ((extractStridedSlice_apply _ _ hs _
    (ix2 b (⟨off + j.val, by omega⟩ : Fin 24576)) fun a => ?_).trans ?_)
  · match a with
    | ⟨0, _⟩ => rfl
    | ⟨1, _⟩ => rfl
  · match a with
    | ⟨0, _⟩ => show b.val = 0 + b.val; omega
    | ⟨1, _⟩ => rfl
  · refine congrArg₂ (fun a b : EReal => a + b) ((Dense.dot_apply .f32 .f32 _ wm (ix2 b (⟨off + j.val, by omega⟩ : Fin 24576))).trans
      (Finset.sum_congr (M := EReal) rfl fun k _ => congrArg (fun a : EReal => cn (ix2 b k) * a * wm (ix2 k (⟨off + j.val, by omega⟩ : Fin 24576)))
        (Norm.logistic_quotient (cn (ix2 b k))))) ?_
    refine (broadcastInDim_apply _ _ _ _ (ix2 (0 : Fin 1) (⟨off + j.val, by omega⟩ : Fin 24576)) fun a => ?_).trans
      (broadcastInDim_apply _ _ _ _ (ix1 (⟨off + j.val, by omega⟩ : Fin 24576)) fun a => ?_)
    · match a with
      | ⟨0, _⟩ => rfl
      | ⟨1, _⟩ => rfl
    · match a with
      | ⟨0, _⟩ => rfl

/-- A row set at every position of its sequence. -/
theorem along_apply (z : Cert.Reference2Ideal.S4x1x4096.Idx → EReal)
    (h : Cert.Reference2Ideal.S4x1x4096.BroadcastsInDim S4x4096x4096 (![0, 1, 2] : Fin 3 → Fin 3)) (b : Fin 4) (s j : Fin 4096) :
    broadcastInDim S4x4096x4096 ![0, 1, 2] h z (ix3 b s j) = z (ix3 b (0 : Fin 1) j) := by
  refine broadcastInDim_apply _ _ _ _ _ fun a => ?_
  match a with
  | ⟨0, _⟩ => rfl
  | ⟨1, _⟩ => rfl
  | ⟨2, _⟩ => rfl

/-- The reference's term is the result. -/
theorem ref_term (m' : (ℓ : Loc Cert.Reference2Ideal.nD Cert.Reference2Ideal.τ Cert.Reference2Ideal.sig) → Buf (Elt Ideal) ℓ)
    (c : Dev Cert.Reference2Ideal.nD) (i : S16384x20480.Idx) : (Cert.Reference2Ideal.Value.res_out0 (F := Ideal) m' c : S16384x20480.Idx → EReal) i
      = outp (m' ((c.tc : Thread _ _).loc Cert.Reference2Ideal.main_arg0)) (m' ((c.tc : Thread _ _).loc Cert.Reference2Ideal.main_arg1))
          (m' ((c.tc : Thread _ _).loc Cert.Reference2Ideal.main_arg3)) (m' ((c.tc : Thread _ _).loc Cert.Reference2Ideal.main_arg4))
          (m' ((c.tc : Thread _ _).loc Cert.Reference2Ideal.main_arg5)) (m' ((c.tc : Thread _ _).loc Cert.Reference2Ideal.main_arg6)) (i 0) (i 1) := by
  unfold Cert.Reference2Ideal.Value.res_out0 Cert.Reference2Ideal.Value.res_main_v32
  refine (congrArg _ (eq_ix2 i)).trans ((side_by_side _ Cert.Reference2Ideal.Facts₀.slices_S16384x20544_S16384x4096_0_0
    Cert.Reference2Ideal.Facts₀.slices_S16384x20544_S16384x16384_0_4160
    Cert.Reference2Ideal.Facts₀.concatenates_S16384x4096_S16384x16384_S16384x20480_d1 (i 0) (i 1)).trans
    ((Dense.dot_apply .f32 .f32 _ _ (ix2 (i 0) (col (i 1)))).trans (Finset.sum_congr (M := EReal) rfl fun k _ =>
      congrArg (fun a : EReal => a * _) ((flat_apply _ _ (i 0) k).trans ?_))))
  unfold hid modded
  refine congrArg₂ (fun a b : EReal => a + b) (congrArg₂ (fun a b : EReal => a * b) (congrArg₂ (fun a b : EReal => a * b)
    (Norm.host_norm_apply _ _ _ (by decide) _ _ _ _ _ k) ?_) ((along_apply _ _ _ _ k).trans (congrArg (fun a : EReal => Ideal.ofBits .f32 0x3F800000#32 + a)
      (ref_modul _ _ _ 4096 (by omega) _ _ _ _ _ _ k)))) ((along_apply _ _ _ _ k).trans (ref_modul _ _ _ 0 (by omega) _ _ _ _ _ _ k))
  refine (broadcastInDim_apply _ _ _ _ (ix3 (0 : Fin 1) (0 : Fin 1) k) fun a => ?_).trans (broadcastInDim_apply _ _ _ _ (ix1 k) fun a => ?_)
  · match a with
    | ⟨0, _⟩ => rfl
    | ⟨1, _⟩ => rfl
    | ⟨2, _⟩ => rfl
  · match a with
    | ⟨0, _⟩ => rfl

theorem frame_kernel : Cert.quiescent_Kernel2 := fun m ρ _ => Cert.Kernel2.Gen.frame m ρ

theorem frame_kernelIdeal : Cert.quiescent_Kernel2Ideal := fun m ρ _ => frame m ρ

theorem frame_referenceIdeal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

theorem algebraic : Cert.algebraic_Kernel2Ideal_Reference2Ideal := fun m ρ m' ρ' _ e =>
  ⟨fun c => result m c, run m ρ,
    (θ_run Cert.Reference2Ideal.defs _ _).mono (fun r h c => ⟨(h c).1.trans (by
        obtain ⟨a0, a1, a2, a3, a4, a5, a6⟩ := e c
        funext i
        refine (ref_term m' c i).trans ?_
        rw [a0, a1, a3, a4, a5, a6]
        rfl), (h c).2⟩)
      (Cert.Reference2Ideal.Value.run m' ρ')⟩

end Cert.Kernel2Ideal.Hand

end
-- ==== Proof.Heads.lean ====
module

public import proofs.«01_k».proof.Proof.Norm

@[expose] public section

/-! # Columns in heads of 128

A row of columns cut into heads of 128: the kernels work on each head of a block of four and set the results side by side, the
references fold the columns into a further axis. -/

noncomputable section

namespace Cert.Heads

open Idealize.ShloMosaic Idealize.ShloMosaic.ValueIdx Cert.Norm
open scoped BigOperators

/-- The `k`-th column of the head that column `j` lies in. -/
def mate {N : ℕ} (hN : N % 128 = 0) (j : Fin N) (k : Fin 128) : Fin N := ⟨j.val / 128 * 128 + k.val, by omega⟩

/-- A column's place in its head. -/
def place {N : ℕ} (j : Fin N) : Fin 128 := ⟨j.val % 128, by omega⟩

/-- Four heads set side by side, read at a column. -/
theorem four_apply {α : Type} {M : ℕ} (x : Fin 4 → (⟨2, ![M, 128]⟩ : Shape).Idx → α)
    (h : Shape.Concatenates [⟨2, ![M, 128]⟩, ⟨2, ![M, 128]⟩, ⟨2, ![M, 128]⟩, ⟨2, ![M, 128]⟩] ⟨2, ![M, 512]⟩ 1) (r : Fin M) (q : Fin 512) :
    concatenate ⟨2, ![M, 512]⟩ 1 [⟨⟨2, ![M, 128]⟩, x 0⟩, ⟨⟨2, ![M, 128]⟩, x 1⟩, ⟨⟨2, ![M, 128]⟩, x 2⟩, ⟨⟨2, ![M, 128]⟩, x 3⟩] h (ix2 r q)
      = x ⟨q.val / 128, by omega⟩ (ix2 r (place q)) := by
  have key : ∀ (n : ℕ) (hn : n < 4) (hk : n < 4) (pre : ℕ) (hq : q.val / 128 = n)
      (hx : ([⟨⟨2, ![M, 128]⟩, x 0⟩, ⟨⟨2, ![M, 128]⟩, x 1⟩, ⟨⟨2, ![M, 128]⟩, x 2⟩, ⟨⟨2, ![M, 128]⟩, x 3⟩] : List ((s : Shape) × (s.Idx → α)))[n]
        = ⟨⟨2, ![M, 128]⟩, x ⟨n, hn⟩⟩)
      (hp : (((([⟨⟨2, ![M, 128]⟩, x 0⟩, ⟨⟨2, ![M, 128]⟩, x 1⟩, ⟨⟨2, ![M, 128]⟩, x 2⟩, ⟨⟨2, ![M, 128]⟩, x 3⟩] : List ((s : Shape) × (s.Idx → α))).take n).map
        (·.1)).map fun s => if h : s.rank = 2 then s.size ((1 : Fin 2).cast h.symm) else 0).sum = pre) (hpn : pre = 128 * n),
      concatenate ⟨2, ![M, 512]⟩ 1 [⟨⟨2, ![M, 128]⟩, x 0⟩, ⟨⟨2, ![M, 128]⟩, x 1⟩, ⟨⟨2, ![M, 128]⟩, x 2⟩, ⟨⟨2, ![M, 128]⟩, x 3⟩] h (ix2 r q)
        = x ⟨q.val / 128, by omega⟩ (ix2 r (place q)) := by
    intro n hn hk pre hq hx hp hpn
    rw [show (⟨q.val / 128, by omega⟩ : Fin 4) = ⟨n, hn⟩ from Fin.ext hq]
    refine concatenate_apply_piece (t := ⟨2, ![M, 512]⟩) (1 : Fin 2) [⟨⟨2, ![M, 128]⟩, x 0⟩, ⟨⟨2, ![M, 128]⟩, x 1⟩, ⟨⟨2, ![M, 128]⟩, x 2⟩, ⟨⟨2, ![M, 128]⟩, x 3⟩] h (ix2 r q) n hk ⟨2, ![M, 128]⟩ (x ⟨n, hn⟩) hx rfl pre hp
      (ix2 r (place q)) (fun a ha => ?_) ?_
    · match a with
      | ⟨0, _⟩ => rfl
      | ⟨1, _⟩ => exact absurd rfl ha
    · show pre + q.val % 128 = q.val
      omega
  have hq : q.val / 128 < 4 := by omega
  rcases (by omega : q.val / 128 = 0 ∨ q.val / 128 = 1 ∨ q.val / 128 = 2 ∨ q.val / 128 = 3) with e | e | e | e
  · exact key 0 (by omega) (by omega) 0 e rfl rfl rfl
  · exact key 1 (by omega) (by omega) 128 e rfl rfl rfl
  · exact key 2 (by omega) (by omega) 256 e rfl rfl rfl
  · exact key 3 (by omega) (by omega) 384 e rfl rfl rfl

/-- Four heads side by side hold `v` at a column if the head that the column lies in does. -/
theorem four_eq {α : Type} {M : ℕ} (a b c d : (⟨2, ![M, 128]⟩ : Shape).Idx → α)
    (h : Shape.Concatenates [⟨2, ![M, 128]⟩, ⟨2, ![M, 128]⟩, ⟨2, ![M, 128]⟩, ⟨2, ![M, 128]⟩] ⟨2, ![M, 512]⟩ 1) (r : Fin M) (q : Fin 512) (v : α)
    (ha : q.val / 128 = 0 → a (ix2 r (place q)) = v) (hb : q.val / 128 = 1 → b (ix2 r (place q)) = v)
    (hc : q.val / 128 = 2 → c (ix2 r (place q)) = v) (hd : q.val / 128 = 3 → d (ix2 r (place q)) = v) :
    concatenate ⟨2, ![M, 512]⟩ 1 [⟨⟨2, ![M, 128]⟩, a⟩, ⟨⟨2, ![M, 128]⟩, b⟩, ⟨⟨2, ![M, 128]⟩, c⟩, ⟨⟨2, ![M, 128]⟩, d⟩] h (ix2 r q) = v := by
  refine (four_apply ![a, b, c, d] h r q).trans ?_
  have hq : q.val / 128 < 4 := by omega
  rcases (by omega : q.val / 128 = 0 ∨ q.val / 128 = 1 ∨ q.val / 128 = 2 ∨ q.val / 128 = 3) with e | e | e | e
  · rw [show (⟨q.val / 128, hq⟩ : Fin 4) = 0 from Fin.ext e]; exact ha e
  · rw [show (⟨q.val / 128, hq⟩ : Fin 4) = 1 from Fin.ext e]; exact hb e
  · rw [show (⟨q.val / 128, hq⟩ : Fin 4) = 2 from Fin.ext e]; exact hc e
  · rw [show (⟨q.val / 128, hq⟩ : Fin 4) = 3 from Fin.ext e]; exact hd e

/-- One head of a block of 512 columns. -/
theorem head_apply {α : Type} {M : ℕ} (X : (⟨2, ![M, 512]⟩ : Shape).Idx → α) (off : ℕ) (hs : (⟨2, ![M, 512]⟩ : Shape).Slices ![0, off] ⟨2, ![M, 128]⟩)
    (r : Fin M) (k : Fin 128) (q : Fin 512) (hq : q.val = off + k.val) :
    extractStridedSlice ⟨2, ![M, 128]⟩ ![0, off] X hs (ix2 r k) = X (ix2 r q) := by
  refine extractStridedSlice_apply _ _ hs _ _ fun a => ?_
  match a with
  | ⟨0, _⟩ => show r.val = 0 + r.val; omega
  | ⟨1, _⟩ => exact hq

/-- A normalized head times its gain times the gate `z` and the gate's logistic. -/
def gate (o z g : Fin 128 → EReal) (j : Fin 128) : EReal := rms 0x43000000#32 o j * g j * (z j * Ideal.logistic (z j))

/-- The kernel's gated norm of one head, for a block of `M` rows. -/
theorem gate_apply {M : ℕ} (O Z : FVec Ideal ⟨2, ![M, 128]⟩ .f32) (G : FVec Ideal ⟨2, ![1, 128]⟩ .f32)
    (hr : (⟨2, ![M, 128]⟩ : Shape).Reduces [1] ⟨1, ![M]⟩) (hs : (⟨1, ![M]⟩ : Shape).ShapeCasts ⟨2, ![M, 1]⟩)
    (hb : (⟨2, ![M, 1]⟩ : Shape).Broadcasts ⟨2, ![M, 128]⟩) (hg : (⟨2, ![1, 128]⟩ : Shape).Broadcasts ⟨2, ![M, 128]⟩)
    (hc : (⟨2, ![1, 128]⟩ : Shape).ShapeCasts ⟨2, ![1, 128]⟩) (r : Fin M) (j : Fin 128) :
    (mulf (mulf (mulf O (broadcastTo ⟨2, ![M, 128]⟩ (rsqrt (addf (divf (shapeCast ⟨2, ![M, 1]⟩
        (multiReduction .add [1] ⟨1, ![M]⟩ (mulf O O) 0x00000000#32 hr (.inl rfl) rfl) hs)
        (broadcast ⟨2, ![M, 1]⟩ (Scalar.ofBits .f32 0x43000000#32))) (broadcast ⟨2, ![M, 1]⟩ (Scalar.ofBits .f32 0x358637BD#32)))) hb))
        (broadcastTo ⟨2, ![M, 128]⟩ (shapeCast ⟨2, ![1, 128]⟩ G hc) hg)) (mulf Z (logistic Z)) (ix2 r j) : EReal)
      = gate (fun k => O (ix2 r k)) (fun k => Z (ix2 r k)) (fun k => G (ix2 (0 : Fin 1) k)) j := by
  rw [shapeCast_self]
  exact congrArg₂ (fun a b : EReal => a * b * (Z (ix2 r j) * Ideal.logistic (Z (ix2 r j)))) (norm_apply O hr hs hb r j) (row_apply G hg r j)

/-- The same, the head one of the four of a block of 512 columns. -/
theorem gate_head {M : ℕ} (X Y : FVec Ideal ⟨2, ![M, 512]⟩ .f32) (off : ℕ) (hx : (⟨2, ![M, 512]⟩ : Shape).Slices ![0, off] ⟨2, ![M, 128]⟩)
    (G : FVec Ideal ⟨2, ![1, 128]⟩ .f32)
    (hr : (⟨2, ![M, 128]⟩ : Shape).Reduces [1] ⟨1, ![M]⟩) (hs : (⟨1, ![M]⟩ : Shape).ShapeCasts ⟨2, ![M, 1]⟩)
    (hb : (⟨2, ![M, 1]⟩ : Shape).Broadcasts ⟨2, ![M, 128]⟩) (hg : (⟨2, ![1, 128]⟩ : Shape).Broadcasts ⟨2, ![M, 128]⟩)
    (hc : (⟨2, ![1, 128]⟩ : Shape).ShapeCasts ⟨2, ![1, 128]⟩) (r : Fin M) (q : Fin 512) (hq : q.val / 128 * 128 = off) :
    (mulf (mulf (mulf (extractStridedSlice ⟨2, ![M, 128]⟩ ![0, off] X hx) (broadcastTo ⟨2, ![M, 128]⟩ (rsqrt (addf (divf (shapeCast ⟨2, ![M, 1]⟩
        (multiReduction .add [1] ⟨1, ![M]⟩ (mulf (extractStridedSlice ⟨2, ![M, 128]⟩ ![0, off] X hx) (extractStridedSlice ⟨2, ![M, 128]⟩ ![0, off] X hx))
          0x00000000#32 hr (.inl rfl) rfl) hs)
        (broadcast ⟨2, ![M, 1]⟩ (Scalar.ofBits .f32 0x43000000#32))) (broadcast ⟨2, ![M, 1]⟩ (Scalar.ofBits .f32 0x358637BD#32)))) hb))
        (broadcastTo ⟨2, ![M, 128]⟩ (shapeCast ⟨2, ![1, 128]⟩ G hc) hg))
        (mulf (extractStridedSlice ⟨2, ![M, 128]⟩ ![0, off] Y hx) (logistic (extractStridedSlice ⟨2, ![M, 128]⟩ ![0, off] Y hx))) (ix2 r (place q)) : EReal)
      = gate (fun k => X (ix2 r (mate (by decide) q k))) (fun k => Y (ix2 r (mate (by decide) q k))) (fun k => G (ix2 (0 : Fin 1) k)) (place q) := by
  have e : ∀ k : Fin 128, (mate (by decide) q k : Fin 512).val = off + k.val := fun k => by rw [← hq]; rfl
  refine (gate_apply _ _ G hr hs hb hg hc r (place q)).trans ?_
  exact congrArg₂ (fun a b => gate a b (fun k => G (ix2 (0 : Fin 1) k)) (place q))
    (funext fun k => head_apply X off hx r k _ (e k)) (funext fun k => head_apply Y off hx r k _ (e k))

/-- The references' sum over a head, set as a unit axis. -/
theorem host_sum_apply {L : ℕ} (Y : FVec Ideal ⟨4, ![4, L, 16, 128]⟩ .f32)
    (h2 : (⟨3, ![4, L, 16]⟩ : Shape).BroadcastsInDim ⟨4, ![4, L, 16, 1]⟩ (![0, 1, 2] : Fin 3 → Fin 4))
    (hr : (⟨4, ![4, L, 16, 128]⟩ : Shape).Reduces [3] ⟨3, ![4, L, 16]⟩) (h3 : (⟨4, ![4, L, 16, 128]⟩ : Shape).ReducesTo [3] ⟨3, ![4, L, 16]⟩) (h4 : 0 < (⟨0, ![]⟩ : Shape).numel)
    (b : Fin 4) (s : Fin L) (n : Fin 16) :
    (broadcastInDim ⟨4, ![4, L, 16, 1]⟩ ![0, 1, 2] h2 (Host.reduceAdd Y (constant (F := Ideal) ⟨0, ![]⟩ .f32 0x00000000#32) h3 h4)
      (ix4 b s n (0 : Fin 1)) : EReal) = ∑ k : Fin 128, Y (ix4 b s n k) := by
  refine (broadcastInDim_apply _ _ _ _ (ix3 b s n) fun a => ?_).trans ((ValueIdx.hostReduceAdd_apply _ _ _ _ _).trans
    ((Ideal.hostReduceAdd_single _ hr _ _ _).trans ?_))
  · match a with
    | ⟨0, _⟩ => rfl
    | ⟨1, _⟩ => show s.val = if L = 1 then 0 else s.val; split_ifs <;> omega
    | ⟨2, _⟩ => rfl
  · refine (congrArg₂ (fun a b : EReal => a + b) Ideal.ofBits_zero_f32 (Finset.sum_congr (M := EReal) rfl fun k _ => ?_)).trans (zero_add _)
    refine congrArg Y (funext fun a => ?_)
    match a with
    | ⟨0, _⟩ => rfl
    | ⟨1, _⟩ => rfl
    | ⟨2, _⟩ => rfl
    | ⟨3, _⟩ => rfl

/-- A value per head spread over the head. -/
theorem host_spread_apply {α : Type} {L : ℕ} (v : (⟨4, ![4, L, 16, 1]⟩ : Shape).Idx → α)
    (h1 : (⟨4, ![4, L, 16, 1]⟩ : Shape).BroadcastsInDim ⟨4, ![4, L, 16, 128]⟩ (![0, 1, 2, 3] : Fin 4 → Fin 4))
    (b : Fin 4) (s : Fin L) (n : Fin 16) (k : Fin 128) :
    broadcastInDim ⟨4, ![4, L, 16, 128]⟩ ![0, 1, 2, 3] h1 v (ix4 b s n k) = v (ix4 b s n (0 : Fin 1)) := by
  refine broadcastInDim_apply _ _ _ _ (ix4 b s n (0 : Fin 1)) fun a => ?_
  match a with
  | ⟨0, _⟩ => rfl
  | ⟨1, _⟩ => show s.val = if L = 1 then 0 else s.val; split_ifs <;> omega
  | ⟨2, _⟩ => rfl
  | ⟨3, _⟩ => rfl

/-- One over a head's length, the small addend being the word that both programs carry. -/
def overLength (z : Fin 128 → EReal) : EReal := Ideal.rsqrt ((∑ k : Fin 128, z k * z k) + Ideal.ofBits .f32 0x358637BD#32)

/-- The references' heads of unit length: 2048 columns of `Y` from `off` on, folded into heads, each divided by its length, unfolded. -/
theorem host_unit_apply {L N : ℕ} (Y : FVec Ideal ⟨3, ![4, L, N]⟩ .f32) (off : ℕ) (ho : off + 2048 ≤ N)
    (hy : (⟨3, ![4, L, N]⟩ : Shape).Slices ![0, 0, off] ⟨3, ![4, L, 2048]⟩)
    (hf : (⟨3, ![4, L, 2048]⟩ : Shape).ShapeCasts ⟨4, ![4, L, 16, 128]⟩)
    (hu : (⟨4, ![4, L, 16, 128]⟩ : Shape).ShapeCasts ⟨3, ![4, L, 2048]⟩)
    (h1 : (⟨4, ![4, L, 16, 1]⟩ : Shape).BroadcastsInDim ⟨4, ![4, L, 16, 128]⟩ (![0, 1, 2, 3] : Fin 4 → Fin 4))
    (h2 : (⟨3, ![4, L, 16]⟩ : Shape).BroadcastsInDim ⟨4, ![4, L, 16, 1]⟩ (![0, 1, 2] : Fin 3 → Fin 4))
    (hr : (⟨4, ![4, L, 16, 128]⟩ : Shape).Reduces [3] ⟨3, ![4, L, 16]⟩) (h3 : (⟨4, ![4, L, 16, 128]⟩ : Shape).ReducesTo [3] ⟨3, ![4, L, 16]⟩) (h4 : 0 < (⟨0, ![]⟩ : Shape).numel)
    (h5 : (⟨0, ![]⟩ : Shape).BroadcastsInDim ⟨4, ![4, L, 16, 1]⟩ (![] : Fin 0 → Fin 4))
    (b : Fin 4) (s : Fin L) (j : Fin 2048) :
    (shapeCast ⟨3, ![4, L, 2048]⟩ (mulf (shapeCast ⟨4, ![4, L, 16, 128]⟩ (extractStridedSlice ⟨3, ![4, L, 2048]⟩ ![0, 0, off] Y hy) hf)
      (broadcastInDim ⟨4, ![4, L, 16, 128]⟩ ![0, 1, 2, 3] h1 (Host.rsqrt (addf
        (broadcastInDim ⟨4, ![4, L, 16, 1]⟩ ![0, 1, 2] h2 (Host.reduceAdd
          (mulf (shapeCast ⟨4, ![4, L, 16, 128]⟩ (extractStridedSlice ⟨3, ![4, L, 2048]⟩ ![0, 0, off] Y hy) hf)
            (shapeCast ⟨4, ![4, L, 16, 128]⟩ (extractStridedSlice ⟨3, ![4, L, 2048]⟩ ![0, 0, off] Y hy) hf))
          (constant (F := Ideal) ⟨0, ![]⟩ .f32 0x00000000#32) h3 h4))
        (broadcastInDim ⟨4, ![4, L, 16, 1]⟩ ![] h5 (constant (F := Ideal) ⟨0, ![]⟩ .f32 0x358637BD#32)))))) hu (ix3 b s j) : EReal)
      = Y (ix3 b s ⟨off + j.val, by omega⟩) * overLength (fun k => Y (ix3 b s ⟨off + (mate (by decide) j k).val, by omega⟩)) := by
  have fold : ∀ k : Fin 128, shapeCast ⟨4, ![4, L, 16, 128]⟩ (extractStridedSlice ⟨3, ![4, L, 2048]⟩ ![0, 0, off] Y hy) hf
      (ix4 b s (⟨j.val / 128, by omega⟩ : Fin 16) k) = Y (ix3 b s ⟨off + (mate (by decide) j k).val, by omega⟩) := fun k => by
    refine (shapeCast_apply _ _ _ (ix3 b s (mate (by decide) j k)) ?_).trans (extractStridedSlice_apply _ _ hy _ _ fun a => ?_)
    · refine (Shape.rowMajor_val_three _).trans (Eq.trans ?_ (Shape.rowMajor_val_four _).symm)
      show (b.val * L + s.val) * 2048 + (j.val / 128 * 128 + k.val) = ((b.val * L + s.val) * 16 + j.val / 128) * 128 + k.val
      omega
    · match a with
      | ⟨0, _⟩ => show b.val = 0 + b.val; omega
      | ⟨1, _⟩ => show s.val = 0 + s.val; omega
      | ⟨2, _⟩ => rfl
  refine (shapeCast_apply _ _ _ (ix4 b s (⟨j.val / 128, by omega⟩ : Fin 16) (place j)) ?_).trans
    (congrArg₂ (fun a b : EReal => a * b) ((fold (place j)).trans (congrArg Y ?_)) ((host_spread_apply _ h1 _ _ _ _).trans ?_))
  · refine (Shape.rowMajor_val_four _).trans (Eq.trans ?_ (Shape.rowMajor_val_three _).symm)
    show ((b.val * L + s.val) * 16 + j.val / 128) * 128 + j.val % 128 = (b.val * L + s.val) * 2048 + j.val
    omega
  · refine congrArg (ix3 b s) (Fin.ext ?_)
    show off + (j.val / 128 * 128 + j.val % 128) = off + j.val
    omega
  · exact congrArg (fun a : EReal => Ideal.rsqrt (a + Ideal.ofBits .f32 0x358637BD#32)) ((host_sum_apply _ h2 hr h3 h4 _ _ _).trans
      (Finset.sum_congr (M := EReal) rfl fun k _ => congrArg₂ (fun a b : EReal => a * b) (fold k) (fold k)))

/-- The references' gated norm, read at an entry of a head. -/
theorem host_gate_apply (O Z : FVec Ideal ⟨4, ![4, 4096, 16, 128]⟩ .f32) (g : FVec Ideal ⟨1, ![128]⟩ .f32)
    (h1 : (⟨4, ![4, 4096, 16, 1]⟩ : Shape).BroadcastsInDim ⟨4, ![4, 4096, 16, 128]⟩ (![0, 1, 2, 3] : Fin 4 → Fin 4))
    (h2 : (⟨3, ![4, 4096, 16]⟩ : Shape).BroadcastsInDim ⟨4, ![4, 4096, 16, 1]⟩ (![0, 1, 2] : Fin 3 → Fin 4))
    (h3 : (⟨4, ![4, 4096, 16, 128]⟩ : Shape).ReducesTo [3] ⟨3, ![4, 4096, 16]⟩) (h4 : 0 < (⟨0, ![]⟩ : Shape).numel)
    (h5 : (⟨0, ![]⟩ : Shape).BroadcastsInDim ⟨4, ![4, 4096, 16, 1]⟩ (![] : Fin 0 → Fin 4))
    (h6 : (⟨4, ![1, 1, 1, 128]⟩ : Shape).BroadcastsInDim ⟨4, ![4, 4096, 16, 128]⟩ (![0, 1, 2, 3] : Fin 4 → Fin 4))
    (h7 : (⟨1, ![128]⟩ : Shape).BroadcastsInDim ⟨4, ![1, 1, 1, 128]⟩ (![3] : Fin 1 → Fin 4))
    (h8 : (⟨0, ![]⟩ : Shape).BroadcastsInDim ⟨4, ![4, 4096, 16, 128]⟩ (![] : Fin 0 → Fin 4))
    (b : Fin 4) (s : Fin 4096) (n : Fin 16) (j : Fin 128) :
    (mulf (mulf (mulf O (broadcastInDim ⟨4, ![4, 4096, 16, 128]⟩ ![0, 1, 2, 3] h1 (Host.rsqrt (addf (Host.divf
        (broadcastInDim ⟨4, ![4, 4096, 16, 1]⟩ ![0, 1, 2] h2 (Host.reduceAdd (mulf O O) (constant (F := Ideal) ⟨0, ![]⟩ .f32 0x00000000#32) h3 h4))
        (broadcastInDim ⟨4, ![4, 4096, 16, 1]⟩ ![] h5 (constant (F := Ideal) ⟨0, ![]⟩ .f32 0x43000000#32)))
        (broadcastInDim ⟨4, ![4, 4096, 16, 1]⟩ ![] h5 (constant (F := Ideal) ⟨0, ![]⟩ .f32 0x358637BD#32))))))
        (broadcastInDim ⟨4, ![4, 4096, 16, 128]⟩ ![0, 1, 2, 3] h6 (broadcastInDim ⟨4, ![1, 1, 1, 128]⟩ ![3] h7 g)))
        (mulf Z (Host.divf (broadcastInDim ⟨4, ![4, 4096, 16, 128]⟩ ![] h8 (constant (F := Ideal) ⟨0, ![]⟩ .f32 0x3F800000#32))
          (addf (broadcastInDim ⟨4, ![4, 4096, 16, 128]⟩ ![] h8 (constant (F := Ideal) ⟨0, ![]⟩ .f32 0x3F800000#32)) (Host.exp (Host.negf Z)))))
        (ix4 b s n j) : EReal)
      = gate (fun k => O (ix4 b s n k)) (fun k => Z (ix4 b s n k)) (fun k => g (ix1 k)) j := by
  have eg : broadcastInDim ⟨4, ![4, 4096, 16, 128]⟩ ![0, 1, 2, 3] h6 (broadcastInDim ⟨4, ![1, 1, 1, 128]⟩ ![3] h7 g) (ix4 b s n j) = g (ix1 j) := by
    refine (broadcastInDim_apply _ _ _ _ (ix4 (0 : Fin 1) (0 : Fin 1) (0 : Fin 1) j) fun a => ?_).trans
      (broadcastInDim_apply _ _ _ _ (ix1 j) fun a => ?_)
    · match a with
      | ⟨0, _⟩ => rfl
      | ⟨1, _⟩ => rfl
      | ⟨2, _⟩ => rfl
      | ⟨3, _⟩ => rfl
    · match a with
      | ⟨0, _⟩ => rfl
  refine congrArg₂ (fun a b : EReal => a * b) (congrArg₂ (fun a b : EReal => a * b) (congrArg (fun a : EReal => O (ix4 b s n j) * a) ?_) eg) ?_
  · exact (host_spread_apply _ h1 b s n j).trans (congrArg (fun a : EReal => Ideal.rsqrt (Ideal.div a (Ideal.ofBits .f32 0x43000000#32)
      + Ideal.ofBits .f32 0x358637BD#32)) (host_sum_apply (mulf O O) h2 (by decide) h3 h4 b s n))
  · exact congrArg (fun a : EReal => Z (ix4 b s n j) * a) (logistic_quotient (Z (ix4 b s n j)))

end Cert.Heads

end
-- ==== Proof.Merge.lean ====
module

public import proofs.«01_k».proof.Defs
public import proofs.«01_k».proof.Proof.Dense
public import proofs.«01_k».proof.Proof.Norm
public import proofs.«01_k».proof.Proof.Heads
public import proofs.«01_k».proof.Proof.Gen.Kernel4.Frame
public import proofs.«01_k».proof.Proof.Gen.Kernel4Ideal.Frame
public import proofs.«01_k».proof.Proof.Gen.Reference4Ideal
public import proofs.«01_k».proof.Proof.Gen.Reference4Ideal.Run
public import Idealize.ShloMosaic.Lib.Claim
public import Idealize.ShloMosaic.Lib.Pipeline.ValueKit.Geometry
public import Idealize.ShloMosaic.Lib.Pipeline.ValueKit.Acc

@[expose] public section

/-! # The gated norm, the gated merge and the output projection

Three tiled calls in a row. The first normalizes each head of the two scans' sum and gates it; a block of the second is, entry by
entry, the sum of the two gated up-projections; a block of the third is the residual's block plus the gate times the merged rows'
product with the output weights. Each array is one expression of its call's arguments, and each call reads the array of the one
before it. -/

noncomputable section

namespace Cert.Kernel4Ideal.Hand

open Cert.Kernel4Ideal Cert.Kernel4Ideal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)
open Idealize.ShloMosaic.ValueIdx
open Cert.Heads (gate mate place four_eq gate_head host_gate_apply)
open scoped BigOperators

/-! ## The values -/

/-- The sequence and the place in it of a row of the flattened tokens. -/
def seqOf (r : Fin 16384) : Fin 4 := ⟨r.val / 4096, by omega⟩
def posOf (r : Fin 16384) : Fin 4096 := ⟨r.val % 4096, by omega⟩

/-- The gate's columns among the projections. -/
def gateCol (k : Fin 2048) : Fin 20480 := ⟨6144 + k.val, by omega⟩

/-- The sum of the two scans. -/
def both (oa ob : S4x4096x2048.Idx → EReal) (i : S4x4096x2048.Idx) : EReal := oa i + ob i

/-- Column `k` of the gated norm of row `r`: its head of the two scans' sum, normalized and gated. -/
def delta (oa ob : S4x4096x2048.Idx → EReal) (g : S128.Idx → EReal) (p : S16384x20480.Idx → EReal) (r : Fin 16384) (k : Fin 2048) : EReal :=
  gate (fun t => both oa ob (ix3 (seqOf r) (posOf r) (mate (by decide) k t)))
    (fun t => p (ix2 r (gateCol (mate (by decide) k t)))) (fun t => g (ix1 t)) (place k)

/-- The merged latent at (r, j): each branch's up-projection times the logistic of its gate. -/
def merged (ya yb : S16384x2048.Idx → EReal) (wa wb : S2048x4096.Idx → EReal) (p : S16384x20480.Idx → EReal)
    (r : Fin 16384) (j : Fin 4096) : EReal :=
  Ideal.logistic (p (ix2 r (⟨12288 + j.val, by omega⟩ : Fin 20480))) * (∑ k : Fin 2048, ya (ix2 r k) * wa (ix2 k j))
    + Ideal.logistic (p (ix2 r (⟨16384 + j.val, by omega⟩ : Fin 20480))) * (∑ k : Fin 2048, yb (ix2 r k) * wb (ix2 k j))

/-- The residual stream at (r, j) after the output projection of `z`. -/
def resid (z : Fin 16384 → Fin 4096 → EReal) (wo : S4096x4096.Idx → EReal) (x : S4x4096x4096.Idx → EReal)
    (gt : S8x1x4096.Idx → EReal) (r : Fin 16384) (j : Fin 4096) : EReal :=
  x (ix3 (⟨r.val / 4096, by omega⟩ : Fin 4) (⟨r.val % 4096, by omega⟩ : Fin 4096) j)
    + gt (ix3 (⟨r.val / 4096, by omega⟩ : Fin 8) (0 : Fin 1) j) * (∑ k : Fin 4096, z r k * wo (ix2 k j))

/-- A block of the gated norm, from its input blocks. -/
theorem out0_apply (x0 x1 x2 : Vec Ideal S1x512x512 .f32) (x3 : Vec Ideal S1x128 .f32) (y : S1x512x512.Idx) :
    (out0_4 x0 x1 x2 x3 y : EReal)
      = gate (fun t => x0 (ix3 (0 : Fin 1) (y 1) (mate (by decide) (y 2 : Fin 512) t)) + x1 (ix3 (0 : Fin 1) (y 1) (mate (by decide) (y 2 : Fin 512) t)))
          (fun t => x2 (ix3 (0 : Fin 1) (y 1) (mate (by decide) (y 2 : Fin 512) t))) (fun t => x3 (ix2 (0 : Fin 1) t)) (place (y 2 : Fin 512)) := by
  unfold out0_4
  rw [View.canon_unit_zero (by decide)]
  repeat rw [View.ld_unit_zero (by decide)]
  unfold k0_pay1 k0_pay6 k0_pay5 k0_pay4
  have flat : ∀ (x : Vec Ideal S1x512x512 .f32) (k : Fin 512), shapeCast S512x512 x shapeCasts_S1x512x512_S512x512 (ix2 (y 1 : Fin 512) k)
      = x (ix3 (0 : Fin 1) (y 1) k) := fun x k => by
    refine shapeCast_apply _ _ _ _ ?_
    refine (Shape.rowMajor_val_three _).trans (Eq.trans ?_ (Shape.rowMajor_val_two _).symm)
    show (0 * 512 + (y 1).val) * 512 + k.val = (y 1).val * 512 + k.val
    omega
  have read : ∀ off : ℕ, (y 2 : Fin 512).val / 128 * 128 = off → gate (fun t => k0_pay2 x0 x1 (ix2 (y 1 : Fin 512) (mate (by decide) (y 2 : Fin 512) t)))
      (fun t => k0_pay3 x2 (ix2 (y 1 : Fin 512) (mate (by decide) (y 2 : Fin 512) t))) (fun t => x3 (ix2 (0 : Fin 1) t)) (place (y 2 : Fin 512)) = _ :=
    fun _ _ => congrArg₂ (fun a b => gate a b (fun t => x3 (ix2 (0 : Fin 1) t)) (place (y 2 : Fin 512)))
      (funext fun t => congrArg₂ (fun a b : EReal => a + b) (flat x0 _) (flat x1 _)) (funext fun t => flat x2 _)
  refine (shapeCast_apply _ _ _ (ix2 (y 1) (y 2) : S512x512.Idx) ?_).trans ?_
  · refine (Shape.rowMajor_val_two _).trans (Eq.trans ?_ (Shape.rowMajor_val_three _).symm)
    have h0 : (y 0).val = 0 := by have := (y 0).isLt; change (y 0).val < 1 at this; omega
    show (y 1).val * 512 + (y 2).val = ((y 0).val * 512 + (y 1).val) * 512 + (y 2).val
    rw [h0]; omega
  · refine four_eq (M := 512) _ _ _ _ concatenates_S512x128_S512x128_S512x128_S512x128_S512x512_d1 (y 1) (y 2) _ (fun e => ?_) (fun e => ?_) (fun e => ?_) (fun e => ?_)
    · exact (gate_head (k0_pay2 x0 x1) (k0_pay3 x2) 0 _ x3 _ _ _ _ _ (y 1) (y 2) (by rw [e])).trans (read 0 (by rw [e]))
    · exact (gate_head (k0_pay2 x0 x1) (k0_pay3 x2) 128 _ x3 _ _ _ _ _ (y 1) (y 2) (by rw [e])).trans (read 128 (by rw [e]))
    · exact (gate_head (k0_pay2 x0 x1) (k0_pay3 x2) 256 _ x3 _ _ _ _ _ (y 1) (y 2) (by rw [e])).trans (read 256 (by rw [e]))
    · exact (gate_head (k0_pay2 x0 x1) (k0_pay3 x2) 384 _ x3 _ _ _ _ _ (y 1) (y 2) (by rw [e])).trans (read 384 (by rw [e]))

/-- A block of the merge, from its input blocks. -/
theorem out1_apply (x0 : Vec Ideal S512x2048 .bf16) (x1 : Vec Ideal S512x2048 .f32) (x2 x3 : Vec Ideal S2048x1024 .bf16)
    (x4 x5 : Vec Ideal S512x1024 .f32) (y : S512x1024.Idx) :
    (out1_6 x0 x1 x2 x3 x4 x5 y : EReal)
      = Ideal.logistic (x4 y) * (∑ k : Fin 2048, (x0 (ix2 (y 0) k) : EReal) * x2 (ix2 k (y 1)))
        + Ideal.logistic (x5 y) * (∑ k : Fin 2048, (x1 (ix2 (y 0) k) : EReal) * x3 (ix2 k (y 1))) := by
  unfold out1_6
  rw [View.canon_unit_zero (by decide)]
  repeat rw [View.ld_unit_zero (by decide)]
  unfold k1_pay1
  repeat rw [shapeCast_self]
  have e1 := Dense.matmul_apply .bf16 .bf16 x0 x2 y
  have e2 := Dense.matmul_apply .bf16 .bf16 (truncf (F := Ideal) .bf16 x1 bitsLt_bf16_f32) x3 y
  exact congrArg₂ (fun a b : EReal => Ideal.logistic (x4 y) * a + Ideal.logistic (x5 y) * b) e1 e2

/-- A block of the output projection, from its input blocks. -/
theorem out2_apply (x0 : Vec Ideal S1024x4096 .bf16) (x1 : Vec Ideal S4096x1024 .bf16) (x2 : Vec Ideal S1024x1024 .f32)
    (x3 : Vec Ideal S1x1x1024 .f32) (y : S1024x1024.Idx) :
    (out2_4 x0 x1 x2 x3 y : EReal)
      = x2 y + x3 (ix3 (0 : Fin 1) (0 : Fin 1) (y 1 : Fin 1024)) * (∑ k : Fin 4096, (x0 (ix2 (y 0) k) : EReal) * x1 (ix2 k (y 1))) := by
  unfold out2_4
  rw [View.canon_unit_zero (by decide)]
  repeat rw [View.ld_unit_zero (by decide)]
  unfold k2_pay1
  rw [shapeCast_self, shapeCast_self, shapeCast_self]
  have e1 := Dense.matmul_apply .bf16 .bf16 x0 x1 y
  have e2 : broadcastTo S1024x1024 (shapeCast S1x1024 x3 shapeCasts_S1x1x1024_S1x1024) broadcasts_S1x1024_S1024x1024 y
      = x3 (ix3 (0 : Fin 1) (0 : Fin 1) (y 1 : Fin 1024)) := by
    refine (broadcastTo_apply _ _ y (ix2 (0 : Fin 1) (y 1 : Fin 1024)) fun a => ?_).trans (shapeCast_apply _ _ _ _ ?_)
    · match a with
      | ⟨0, _⟩ => rfl
      | ⟨1, _⟩ => rfl
    · refine (Shape.rowMajor_val_three _).trans (Eq.trans ?_ (Shape.rowMajor_val_two _).symm)
      rfl
  exact congrArg₂ (fun a b : EReal => x2 y + a * b) e2 e1

/-! ## The arrays after the calls -/

variable (m : (ℓ : Loc nD τ sig) → Buf (Elt Ideal) ℓ) (ρ : Dev nD → PrngReg)

theorem idx0 : ∀ t : Fin cfg0.N, win0_0.index t = ![(grid0.coords t 0).val, (grid0.coords t 1).val, (grid0.coords t 2).val]
    ∧ win0_1.index t = ![(grid0.coords t 0).val, (grid0.coords t 1).val, (grid0.coords t 2).val]
    ∧ win0_2.index t = ![(grid0.coords t 0).val, (grid0.coords t 1).val, 12 + (grid0.coords t 2).val] ∧ win0_3.index t = ![0, 0]
    ∧ win0_4.index t = ![(grid0.coords t 0).val, (grid0.coords t 1).val, (grid0.coords t 2).val] := (by decide +kernel : ∀ t : Fin grid0.N, _)

theorem idx1 : ∀ t : Fin cfg1.N, win1_0.index t = ![(grid1.coords t 0).val, 0] ∧ win1_1.index t = ![(grid1.coords t 0).val, 0]
    ∧ win1_2.index t = ![0, (grid1.coords t 1).val] ∧ win1_3.index t = ![0, (grid1.coords t 1).val]
    ∧ win1_4.index t = ![(grid1.coords t 0).val, 12 + (grid1.coords t 1).val]
    ∧ win1_5.index t = ![(grid1.coords t 0).val, 16 + (grid1.coords t 1).val]
    ∧ win1_6.index t = ![(grid1.coords t 0).val, (grid1.coords t 1).val] := (by decide +kernel : ∀ t : Fin grid1.N, _)

theorem idx2 : ∀ t : Fin cfg2.N, win2_0.index t = ![(grid2.coords t 0).val, 0] ∧ win2_1.index t = ![0, (grid2.coords t 1).val]
    ∧ win2_2.index t = ![(grid2.coords t 0).val, (grid2.coords t 1).val]
    ∧ win2_3.index t = ![(grid2.coords t 0).val / 4, 0, (grid2.coords t 1).val]
    ∧ win2_4.index t = ![(grid2.coords t 0).val, (grid2.coords t 1).val] := (by decide +kernel : ∀ t : Fin grid2.N, _)

/-- The gated norm's array after its call. -/
theorem final0 (V : (c : Dev nD) → (b : Ref sig .tc) → Buf (Elt Ideal) ((c : Thread nD τ).loc b)) (c : Dev nD) (b : Fin 4) (s : Fin 4096) (j : Fin 2048) :
    ((dat0 V c).arrAt 4 cfg0.N (ix3 b s j) : EReal)
      = gate (fun t => both (V c main_arg0) (V c main_arg1) (ix3 b s (mate (by decide) j t)))
          (fun t => V c main_v0 (ix3 b s (gateCol (mate (by decide) j t)))) (fun t => V c main_v1 (ix2 (0 : Fin 1) t)) (place j) := by
  have h : (dat0 V c).arrAt 4 cfg0.N
      = fun i : S4x4096x2048.Idx => gate (fun t => both (V c main_arg0) (V c main_arg1) (ix3 (i 0) (i 1) (mate (by decide) (i 2 : Fin 2048) t)))
          (fun t => V c main_v0 (ix3 (i 0) (i 1) (gateCol (mate (by decide) (i 2 : Fin 2048) t)))) (fun t => V c main_v1 (ix2 (0 : Fin 1) t)) (place (i 2 : Fin 2048)) := by
    refine (dat0 V c).arrAt_eq_of_covers 4 _ (by decide +kernel) fun t hf y => ?_
    obtain ⟨h0, h1, h2, h3, h4⟩ := idx0 t
    blk_simp
    rw [after0_4, out0_apply]
    have hp : place (y 2 : Fin 512) = place ((win0_4.blk t).view.emb y 2 : Fin 2048) := by
      refine Fin.ext ?_
      show (y 2).val % 128 = ((win0_4.blk t).view.emb y 2).val % 128
      blk_simp [h4]
      omega
    rw [hp]
    refine congrArg₂ (fun a b => gate a b _ _) (funext fun q => congrArg₂ (fun a b : EReal => a + b) ?_ ?_) (funext fun q => ?_)
      |>.trans (congrArg (fun a => gate _ _ a _) (funext fun q => ?_))
    · refine congrArg (V c main_arg0) (funext fun a => Fin.ext ?_)
      match a with
      | ⟨0, _⟩ =>
        show ((win0_0.blk t).view.emb (ix3 (0 : Fin 1) (y 1) (mate (by decide) (y 2 : Fin 512) q) : S1x512x512.Idx) 0).val = ((win0_4.blk t).view.emb y 0).val
        blk_simp [h0, h4]
      | ⟨1, _⟩ =>
        show ((win0_0.blk t).view.emb (ix3 (0 : Fin 1) (y 1) (mate (by decide) (y 2 : Fin 512) q) : S1x512x512.Idx) 1).val = ((win0_4.blk t).view.emb y 1).val
        blk_simp [h0, h4]; rfl
      | ⟨2, _⟩ =>
        show ((win0_0.blk t).view.emb (ix3 (0 : Fin 1) (y 1) (mate (by decide) (y 2 : Fin 512) q) : S1x512x512.Idx) 2).val
          = ((win0_4.blk t).view.emb y 2).val / 128 * 128 + q.val
        blk_simp [h0, h4]
        show _ + ((y 2).val / 128 * 128 + q.val) = _
        omega
    · refine congrArg (V c main_arg1) (funext fun a => Fin.ext ?_)
      match a with
      | ⟨0, _⟩ =>
        show ((win0_1.blk t).view.emb (ix3 (0 : Fin 1) (y 1) (mate (by decide) (y 2 : Fin 512) q) : S1x512x512.Idx) 0).val = ((win0_4.blk t).view.emb y 0).val
        blk_simp [h1, h4]
      | ⟨1, _⟩ =>
        show ((win0_1.blk t).view.emb (ix3 (0 : Fin 1) (y 1) (mate (by decide) (y 2 : Fin 512) q) : S1x512x512.Idx) 1).val = ((win0_4.blk t).view.emb y 1).val
        blk_simp [h1, h4]; rfl
      | ⟨2, _⟩ =>
        show ((win0_1.blk t).view.emb (ix3 (0 : Fin 1) (y 1) (mate (by decide) (y 2 : Fin 512) q) : S1x512x512.Idx) 2).val
          = ((win0_4.blk t).view.emb y 2).val / 128 * 128 + q.val
        blk_simp [h1, h4]
        show _ + ((y 2).val / 128 * 128 + q.val) = _
        omega
    · refine congrArg (V c main_v0) (funext fun a => Fin.ext ?_)
      match a with
      | ⟨0, _⟩ =>
        show ((win0_2.blk t).view.emb (ix3 (0 : Fin 1) (y 1) (mate (by decide) (y 2 : Fin 512) q) : S1x512x512.Idx) 0).val = ((win0_4.blk t).view.emb y 0).val
        blk_simp [h2, h4]
      | ⟨1, _⟩ =>
        show ((win0_2.blk t).view.emb (ix3 (0 : Fin 1) (y 1) (mate (by decide) (y 2 : Fin 512) q) : S1x512x512.Idx) 1).val = ((win0_4.blk t).view.emb y 1).val
        blk_simp [h2, h4]; rfl
      | ⟨2, _⟩ =>
        show ((win0_2.blk t).view.emb (ix3 (0 : Fin 1) (y 1) (mate (by decide) (y 2 : Fin 512) q) : S1x512x512.Idx) 2).val
          = 6144 + (((win0_4.blk t).view.emb y 2).val / 128 * 128 + q.val)
        blk_simp [h2, h4]
        show _ + ((y 2).val / 128 * 128 + q.val) = _
        omega
    · refine congrArg (V c main_v1) (funext fun a => Fin.ext ?_)
      match a with
      | ⟨0, _⟩ =>
        show ((win0_3.blk t).view.emb (ix2 (0 : Fin 1) q : S1x128.Idx) 0).val = 0
        blk_simp [h3]
      | ⟨1, _⟩ =>
        show ((win0_3.blk t).view.emb (ix2 (0 : Fin 1) q : S1x128.Idx) 1).val = q.val
        blk_simp [h3]; rfl
  exact congrFun h (ix3 b s j)

/-- The merge's array after its call. -/
theorem final1 (V : (c : Dev nD) → (b : Ref sig .tc) → Buf (Elt Ideal) ((c : Thread nD τ).loc b)) (c : Dev nD) (i : S16384x4096.Idx) :
    ((dat1 V c).arrAt 6 cfg1.N i : EReal)
      = merged (V c main_v3) (V c main_arg3) (V c main_v4) (V c main_v5) (V c main_arg6) (i 0) (i 1) := by
  have h : (dat1 V c).arrAt 6 cfg1.N
      = fun i : S16384x4096.Idx => merged (V c main_v3) (V c main_arg3) (V c main_v4) (V c main_v5) (V c main_arg6) (i 0) (i 1) := by
    refine (dat1 V c).arrAt_eq_of_covers 6 _ (by decide +kernel) fun t hf y => ?_
    obtain ⟨h0, h1, h2, h3, h4, h5, h6⟩ := idx1 t
    blk_simp
    rw [after1_6, out1_apply]
    unfold merged
    refine congrArg₂ (fun a b : EReal => a + b)
      (congrArg₂ (fun a b : EReal => a * b) (congrArg Ideal.logistic ?_)
        (Finset.sum_congr (M := EReal) rfl fun k _ => congrArg₂ (fun a b : EReal => a * b) ?_ ?_))
      (congrArg₂ (fun a b : EReal => a * b) (congrArg Ideal.logistic ?_)
        (Finset.sum_congr (M := EReal) rfl fun k _ => congrArg₂ (fun a b : EReal => a * b) ?_ ?_))
    · refine congrArg (V c main_arg6) (funext fun a => Fin.ext ?_)
      match a with
      | ⟨0, _⟩ =>
        show ((win1_4.blk t).view.emb y 0).val = ((win1_6.blk t).view.emb y 0).val
        blk_simp [h4, h6]
      | ⟨1, _⟩ =>
        show ((win1_4.blk t).view.emb y 1).val = 12288 + ((win1_6.blk t).view.emb y 1).val
        blk_simp [h4, h6]; omega
    · refine congrArg (V c main_v3) (funext fun a => Fin.ext ?_)
      match a with
      | ⟨0, _⟩ =>
        show ((win1_0.blk t).view.emb (ix2 (y 0) k : S512x2048.Idx) 0).val = ((win1_6.blk t).view.emb y 0).val
        blk_simp [h0, h6]; rfl
      | ⟨1, _⟩ =>
        show ((win1_0.blk t).view.emb (ix2 (y 0) k : S512x2048.Idx) 1).val = k.val
        blk_simp [h0]; rfl
    · refine congrArg (V c main_v4) (funext fun a => Fin.ext ?_)
      match a with
      | ⟨0, _⟩ =>
        show ((win1_2.blk t).view.emb (ix2 k (y 1) : S2048x1024.Idx) 0).val = k.val
        blk_simp [h2]; rfl
      | ⟨1, _⟩ =>
        show ((win1_2.blk t).view.emb (ix2 k (y 1) : S2048x1024.Idx) 1).val = ((win1_6.blk t).view.emb y 1).val
        blk_simp [h2, h6]; rfl
    · refine congrArg (V c main_arg6) (funext fun a => Fin.ext ?_)
      match a with
      | ⟨0, _⟩ =>
        show ((win1_5.blk t).view.emb y 0).val = ((win1_6.blk t).view.emb y 0).val
        blk_simp [h5, h6]
      | ⟨1, _⟩ =>
        show ((win1_5.blk t).view.emb y 1).val = 16384 + ((win1_6.blk t).view.emb y 1).val
        blk_simp [h5, h6]; omega
    · refine congrArg (V c main_arg3) (funext fun a => Fin.ext ?_)
      match a with
      | ⟨0, _⟩ =>
        show ((win1_1.blk t).view.emb (ix2 (y 0) k : S512x2048.Idx) 0).val = ((win1_6.blk t).view.emb y 0).val
        blk_simp [h1, h6]; rfl
      | ⟨1, _⟩ =>
        show ((win1_1.blk t).view.emb (ix2 (y 0) k : S512x2048.Idx) 1).val = k.val
        blk_simp [h1]; rfl
    · refine congrArg (V c main_v5) (funext fun a => Fin.ext ?_)
      match a with
      | ⟨0, _⟩ =>
        show ((win1_3.blk t).view.emb (ix2 k (y 1) : S2048x1024.Idx) 0).val = k.val
        blk_simp [h3]; rfl
      | ⟨1, _⟩ =>
        show ((win1_3.blk t).view.emb (ix2 k (y 1) : S2048x1024.Idx) 1).val = ((win1_6.blk t).view.emb y 1).val
        blk_simp [h3, h6]; rfl
  exact congrFun h i

/-- The output projection's array after its call. -/
theorem final2 (V : (c : Dev nD) → (b : Ref sig .tc) → Buf (Elt Ideal) ((c : Thread nD τ).loc b)) (c : Dev nD)
    (x : S4x4096x4096.Idx → EReal)
    (hx : ∀ (r : Fin 16384) (j : Fin 4096), (V c main_v7 (ix2 r j) : EReal)
      = x (ix3 (⟨r.val / 4096, by omega⟩ : Fin 4) (⟨r.val % 4096, by omega⟩ : Fin 4096) j)) (i : S16384x4096.Idx) :
    ((dat2 V c).arrAt 4 cfg2.N i : EReal)
      = resid (fun r k => V c main_v6 (ix2 r k)) (V c main_v8) x (V c main_arg9) (i 0) (i 1) := by
  have h : (dat2 V c).arrAt 4 cfg2.N
      = fun i : S16384x4096.Idx => resid (fun r k => V c main_v6 (ix2 r k)) (V c main_v8) x (V c main_arg9) (i 0) (i 1) := by
    refine (dat2 V c).arrAt_eq_of_covers 4 _ (by decide +kernel) fun t hf y => ?_
    obtain ⟨h0, h1, h2, h3, h4⟩ := idx2 t
    blk_simp
    rw [after2_4, out2_apply]
    unfold resid
    refine congrArg₂ (fun a b : EReal => a + b) ((congrArg (V c main_v7) (funext fun a => Fin.ext ?_)).trans (hx _ _))
      (congrArg₂ (fun a b : EReal => a * b) (congrArg (V c main_arg9) (funext fun a => Fin.ext ?_))
        (Finset.sum_congr (M := EReal) rfl fun k _ => congrArg₂ (fun a b : EReal => a * b)
          (congrArg (V c main_v6) (funext fun a => Fin.ext ?_)) (congrArg (V c main_v8) (funext fun a => Fin.ext ?_))))
    · match a with
      | ⟨0, _⟩ =>
        show ((win2_2.blk t).view.emb y 0).val = ((win2_4.blk t).view.emb y 0).val
        blk_simp [h2, h4]
      | ⟨1, _⟩ =>
        show ((win2_2.blk t).view.emb y 1).val = ((win2_4.blk t).view.emb y 1).val
        blk_simp [h2, h4]
    · match a with
      | ⟨0, _⟩ =>
        show ((win2_3.blk t).view.emb (ix3 0 0 (y 1) : S1x1x1024.Idx) 0).val = ((win2_4.blk t).view.emb y 0).val / 4096
        blk_simp [h3, h4]
        idx_bounds y
        omega
      | ⟨1, _⟩ =>
        show ((win2_3.blk t).view.emb (ix3 0 0 (y 1) : S1x1x1024.Idx) 1).val = 0
        blk_simp [h3]
      | ⟨2, _⟩ =>
        show ((win2_3.blk t).view.emb (ix3 0 0 (y 1) : S1x1x1024.Idx) 2).val = ((win2_4.blk t).view.emb y 1).val
        blk_simp [h3, h4]; rfl
    · match a with
      | ⟨0, _⟩ =>
        show ((win2_0.blk t).view.emb (ix2 (y 0) k : S1024x4096.Idx) 0).val = ((win2_4.blk t).view.emb y 0).val
        blk_simp [h0, h4]; rfl
      | ⟨1, _⟩ =>
        show ((win2_0.blk t).view.emb (ix2 (y 0) k : S1024x4096.Idx) 1).val = k.val
        blk_simp [h0]; rfl
    · match a with
      | ⟨0, _⟩ =>
        show ((win2_1.blk t).view.emb (ix2 k (y 1) : S4096x1024.Idx) 0).val = k.val
        blk_simp [h1]; rfl
      | ⟨1, _⟩ =>
        show ((win2_1.blk t).view.emb (ix2 k (y 1) : S4096x1024.Idx) 1).val = ((win2_4.blk t).view.emb y 1).val
        blk_simp [h1, h4]; rfl
  exact congrFun h i

/-! ## The run -/

/-- What the three calls leave in the result, from the launch's arguments. -/
def result (c : Dev nD) : S16384x4096.Idx → EReal := fun i =>
  resid (merged (fun i => delta (m ((c : Thread nD τ).loc main_arg0)) (m ((c : Thread nD τ).loc main_arg1)) (m ((c : Thread nD τ).loc main_arg2))
        (m ((c : Thread nD τ).loc main_arg6)) (i 0) (i 1)) (m ((c : Thread nD τ).loc main_arg3)) (m ((c : Thread nD τ).loc main_arg4))
      (m ((c : Thread nD τ).loc main_arg5)) (m ((c : Thread nD τ).loc main_arg6)))
    (m ((c : Thread nD τ).loc main_arg7)) (m ((c : Thread nD τ).loc main_arg8)) (m ((c : Thread nD τ).loc main_arg9)) (i 0) (i 1)

/-- The projections' rows, folded into the sequences. -/
theorem V1_v0 (c : Dev nD) (r : Fin 16384) (j : Fin 20480) : (V1 m ρ c main_v0 : S4x4096x20480.Idx → EReal) (ix3 (seqOf r) (posOf r) j)
    = (m ((c : Thread nD τ).loc main_arg6) : S16384x20480.Idx → EReal) (ix2 r j) := by
  have e : (V1 m ρ c main_v0 : S4x4096x20480.Idx → EReal)
      = shapeCast S4x4096x20480 (m ((c : Thread nD τ).loc main_arg6) : S16384x20480.Idx → EReal) shapeCasts_S16384x20480_S4x4096x20480 := by
    show StableHlo.after hostOps0 (W0 m ρ c) (Proc.devRef .tc main_v0) = _
    unfold hostOps0; after_results; rfl
  refine (congrFun e _).trans (shapeCast_apply _ _ _ _ ?_)
  refine (Shape.rowMajor_val_two _).trans (Eq.trans ?_ (Shape.rowMajor_val_three _).symm)
  show r.val * 20480 + j.val = (r.val / 4096 * 4096 + r.val % 4096) * 20480 + j.val
  omega

theorem V1_v1 (c : Dev nD) (k : Fin 128) : (V1 m ρ c main_v1 : S1x128.Idx → EReal) (ix2 (0 : Fin 1) k)
    = (m ((c : Thread nD τ).loc main_arg2) : S128.Idx → EReal) (ix1 k) := by
  have e : (V1 m ρ c main_v1 : S1x128.Idx → EReal) = shapeCast S1x128 (m ((c : Thread nD τ).loc main_arg2) : S128.Idx → EReal) shapeCasts_S128_S1x128 := by
    show StableHlo.after hostOps0 (W0 m ρ c) (Proc.devRef .tc main_v1) = _
    unfold hostOps0; after_results; rfl
  refine (congrFun e _).trans (shapeCast_apply _ _ _ _ ?_)
  refine (Shape.rowMajor_val_one _).trans (Eq.trans ?_ (Shape.rowMajor_val_two _).symm)
  show k.val = 0 * 128 + k.val
  omega

/-- The gated norm's rows, as the merge reads them. -/
theorem V3_v3 (c : Dev nD) (r : Fin 16384) (k : Fin 2048) : (V3 m ρ c main_v3 : S16384x2048.Idx → EReal) (ix2 r k)
    = delta (m ((c : Thread nD τ).loc main_arg0)) (m ((c : Thread nD τ).loc main_arg1)) (m ((c : Thread nD τ).loc main_arg2))
        (m ((c : Thread nD τ).loc main_arg6)) r k := by
  have e : (V3 m ρ c main_v3 : S16384x2048.Idx → EReal)
      = shapeCast S16384x2048 (W2 m ρ c (Proc.devRef .tc main_v2) : S4x4096x2048.Idx → EReal) shapeCasts_S4x4096x2048_S16384x2048 := by
    show StableHlo.after hostOps1 (W2 m ρ c) (Proc.devRef .tc main_v3) = _
    unfold hostOps1; after_results; rfl
  refine (congrFun e _).trans ((shapeCast_apply _ _ _ (ix3 (seqOf r) (posOf r) k) ?_).trans ?_)
  · refine (Shape.rowMajor_val_three _).trans (Eq.trans ?_ (Shape.rowMajor_val_two _).symm)
    show (r.val / 4096 * 4096 + r.val % 4096) * 2048 + k.val = r.val * 2048 + k.val
    omega
  · refine (congrFun (W2_arr m ρ c 4) _).trans ((final0 (V1 m ρ) c (seqOf r) (posOf r) k).trans ?_)
    rw [show V1 m ρ c main_arg0 = m ((c : Thread nD τ).loc main_arg0) from W1_args m ρ c main_arg0 (by decide),
      show V1 m ρ c main_arg1 = m ((c : Thread nD τ).loc main_arg1) from W1_args m ρ c main_arg1 (by decide)]
    unfold delta
    exact congrArg₂ (fun a b => gate _ a b _) (funext fun t => V1_v0 m ρ c r _) (funext fun t => V1_v1 m ρ c t)

theorem V3_v4 (c : Dev nD) : (V3 m ρ c main_v4 : S2048x4096.Idx → EReal) = m ((c : Thread nD τ).loc main_arg4) := by
  refine Eq.trans ?_ (W2_args m ρ c main_arg4 (by decide))
  show StableHlo.after hostOps1 (W2 m ρ c) (Proc.devRef .tc main_v4) = _
  unfold hostOps1; after_results; rfl

theorem V3_v5 (c : Dev nD) : (V3 m ρ c main_v5 : S2048x4096.Idx → EReal) = m ((c : Thread nD τ).loc main_arg5) := by
  refine Eq.trans ?_ (W2_args m ρ c main_arg5 (by decide))
  show StableHlo.after hostOps1 (W2 m ρ c) (Proc.devRef .tc main_v5) = _
  unfold hostOps1; after_results; rfl

theorem V5_v8 (c : Dev nD) : (V5 m ρ c main_v8 : S4096x4096.Idx → EReal) = m ((c : Thread nD τ).loc main_arg7) := by
  refine Eq.trans ?_ (W4_args m ρ c main_arg7 (by decide))
  show StableHlo.after hostOps2 (W4 m ρ c) (Proc.devRef .tc main_v8) = _
  unfold hostOps2; after_results; rfl

theorem V5_v7 (c : Dev nD) : V5 m ρ c main_v7
    = shapeCast S16384x4096 (m ((c : Thread nD τ).loc main_arg8) : S4x4096x4096.Idx → EReal) shapeCasts_S4x4096x4096_S16384x4096 := by
  refine Eq.trans ?_ (congrArg (fun x : S4x4096x4096.Idx → EReal => shapeCast S16384x4096 x shapeCasts_S4x4096x4096_S16384x4096)
    (W4_args m ρ c main_arg8 (by decide)))
  show StableHlo.after hostOps2 (W4 m ρ c) (Proc.devRef .tc main_v7) = _
  unfold hostOps2; after_results; rfl

/-- A row of the flattened tokens is the row of the sequence it falls in. -/
theorem flat_apply (x : S4x4096x4096.Idx → EReal) (h : S4x4096x4096.ShapeCasts S16384x4096) (r : Fin 16384) (j : Fin 4096) :
    shapeCast S16384x4096 x h (ix2 r j) = x (ix3 (⟨r.val / 4096, by omega⟩ : Fin 4) (⟨r.val % 4096, by omega⟩ : Fin 4096) j) := by
  refine shapeCast_apply _ _ _ _ ?_
  rw [Shape.rowMajor_val_two, Shape.rowMajor_val_three]
  show (r.val / 4096 * 4096 + r.val % 4096) * 4096 + j.val = r.val * 4096 + j.val
  omega

/-- The last array, from the arguments. -/
theorem W6_result (c : Dev nD) : (W6 m ρ c (Proc.devRef .tc main_v9) : S16384x4096.Idx → EReal) = result m c := by
  refine (W6_arr m ρ c 4).trans (funext fun i => ?_)
  refine (final2 (V5 m ρ) c (m ((c : Thread nD τ).loc main_arg8)) (fun r j => ?_) i).trans ?_
  · exact (congrFun (V5_v7 m ρ c) (ix2 r j)).trans (flat_apply _ _ r j)
  · unfold result
    rw [V5_v8, show V5 m ρ c main_arg9 = m ((c : Thread nD τ).loc main_arg9) from W5_args m ρ c main_arg9 (by decide)]
    refine congrArg (fun z => resid z _ _ _ (i 0) (i 1)) (funext fun r => funext fun k => ?_)
    refine (congrFun ((W5_of m ρ c main_v6 (by decide)).trans (W4_arr m ρ c 6)) (ix2 r k)).trans ((final1 (V3 m ρ) c (ix2 r k)).trans ?_)
    rw [V3_v4, V3_v5, show V3 m ρ c main_arg3 = m ((c : Thread nD τ).loc main_arg3) from W3_args m ρ c main_arg3 (by decide),
      show V3 m ρ c main_arg6 = m ((c : Thread nD τ).loc main_arg6) from W3_args m ρ c main_arg6 (by decide)]
    exact congrArg (fun z => merged z _ _ _ _ r k) (funext fun i => (congrArg _ (eq_ix2 i)).trans (V3_v3 m ρ c (i 0) (i 1)))

set_option backward.isDefEq.respectTransparency.types false in
/-- The launch over the six stretches of the program, read at the result and at the arguments. -/
theorem run : θ_run defs (onTc (τ := τ) (main (F := Ideal))) ⟨m, fun _ => 0, ρ⟩ (fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ))
        ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨(h c _ (mem_uc main_v9 (by decide))).trans (W6_result m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

/-! ## The reference and the claims -/

/-- The quotient that the reference spells, 1 / (1 + exp (-x)), is the kernel's logistic, column by column of the gates. -/
theorem quotient_apply (p : FVec Ideal S16384x20480 .f32) (hp : S16384x20480.Slices ![0, 12288] Cert.Reference4Ideal.S16384x8192)
    (hb : Cert.Reference4Ideal.S_.BroadcastsInDim Cert.Reference4Ideal.S16384x8192 (![] : Fin 0 → Fin 2)) (off : ℕ) (ho : off + 4096 ≤ 8192)
    (hs : Cert.Reference4Ideal.S16384x8192.Slices ![0, off] S16384x4096) (r : Fin 16384) (j : Fin 4096) :
    (extractStridedSlice S16384x4096 ![0, off]
      (Host.divf (broadcastInDim Cert.Reference4Ideal.S16384x8192 ![] hb (constant (F := Ideal) Cert.Reference4Ideal.S_ .f32 0x3F800000#32))
        (addf (broadcastInDim Cert.Reference4Ideal.S16384x8192 ![] hb (constant (F := Ideal) Cert.Reference4Ideal.S_ .f32 0x3F800000#32))
          (Host.exp (Host.negf (extractStridedSlice Cert.Reference4Ideal.S16384x8192 ![0, 12288] p hp))))) hs (ix2 r j) : EReal)
      = Ideal.logistic (p (ix2 r ⟨12288 + off + j.val, by omega⟩)) := by
  refine (extractStridedSlice_apply _ _ hs (ix2 r j) (ix2 r (⟨off + j.val, by omega⟩ : Fin 8192)) fun a => ?_).trans ?_
  · match a with
    | ⟨0, _⟩ => show r.val = 0 + r.val; omega
    | ⟨1, _⟩ => rfl
  · have e : extractStridedSlice Cert.Reference4Ideal.S16384x8192 ![0, 12288] p hp (ix2 r (⟨off + j.val, by omega⟩ : Fin 8192))
        = p (ix2 r ⟨12288 + off + j.val, by omega⟩) := by
      refine extractStridedSlice_apply _ _ hp _ _ fun a => ?_
      match a with
      | ⟨0, _⟩ => show r.val = 0 + r.val; omega
      | ⟨1, _⟩ => show 12288 + off + j.val = 12288 + (off + j.val); omega
    show Ideal.div (Ideal.ofBits .f32 0x3F800000#32) (Ideal.ofBits .f32 0x3F800000#32 + Ideal.exp (-(extractStridedSlice
      Cert.Reference4Ideal.S16384x8192 ![0, 12288] p hp (ix2 r (⟨off + j.val, by omega⟩ : Fin 8192))))) = _
    rw [e]
    exact Norm.logistic_quotient _

theorem frame_kernel : Cert.quiescent_Kernel4 := fun m ρ _ => Cert.Kernel4.Gen.frame m ρ

theorem frame_kernelIdeal : Cert.quiescent_Kernel4Ideal := fun m ρ _ => frame m ρ

theorem frame_referenceIdeal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

/-- The reference's last sum, read at a token and a column. -/
theorem ref_resid (z : FVec Ideal S16384x4096 .f32) (zf : Fin 16384 → Fin 4096 → EReal) (hz : ∀ r k, z (ix2 r k) = zf r k)
    (w : FVec Ideal S4096x4096 .f32) (x : FVec Ideal S4x4096x4096 .f32) (gt : FVec Ideal S8x1x4096 .f32)
    (h1 : Cert.Reference4Ideal.S4x1x4096.BroadcastsInDim S4x4096x4096 (![0, 1, 2] : Fin 3 → Fin 3)) (h2 : S8x1x4096.Slices ![0, 0, 0] Cert.Reference4Ideal.S4x1x4096)
    (h3 : S16384x4096.ShapeCasts S4x4096x4096) (h4 : S4x4096x4096.ShapeCasts S16384x4096) (r : Fin 16384) (j : Fin 4096) :
    (shapeCast S16384x4096 (addf x (mulf (broadcastInDim S4x4096x4096 ![0, 1, 2] h1 (extractStridedSlice Cert.Reference4Ideal.S4x1x4096 ![0, 0, 0] gt h2))
      (shapeCast S4x4096x4096 (Host.dotGeneral (DotDims.plain 16384 4096 4096) none z w) h3))) h4 (ix2 r j) : EReal) = resid zf w x gt r j := by
  rw [flat_apply]
  have e1 : broadcastInDim S4x4096x4096 ![0, 1, 2] h1 (extractStridedSlice Cert.Reference4Ideal.S4x1x4096 ![0, 0, 0] gt h2)
      (ix3 (⟨r.val / 4096, by omega⟩ : Fin 4) (⟨r.val % 4096, by omega⟩ : Fin 4096) j)
      = gt (ix3 (⟨r.val / 4096, by omega⟩ : Fin 8) (0 : Fin 1) j) := by
    refine (broadcastInDim_apply _ _ _ _ (ix3 (⟨r.val / 4096, by omega⟩ : Fin 4) (0 : Fin 1) j) fun a => ?_).trans
      (extractStridedSlice_apply _ _ h2 _ _ fun a => ?_)
    · match a with
      | ⟨0, _⟩ => rfl
      | ⟨1, _⟩ => rfl
      | ⟨2, _⟩ => rfl
    · match a with
      | ⟨0, _⟩ => show r.val / 4096 = 0 + r.val / 4096; omega
      | ⟨1, _⟩ => rfl
      | ⟨2, _⟩ => show j.val = 0 + j.val; omega
  have e2 : shapeCast S4x4096x4096 (Host.dotGeneral (DotDims.plain 16384 4096 4096) none z w) h3
      (ix3 (⟨r.val / 4096, by omega⟩ : Fin 4) (⟨r.val % 4096, by omega⟩ : Fin 4096) j)
      = ∑ k : Fin 4096, zf r k * w (ix2 k j) := by
    refine (shapeCast_apply _ _ _ (ix2 r j) ?_).trans ((Dense.dot_apply .f32 .f32 z w (ix2 r j)).trans
      (Finset.sum_congr (M := EReal) rfl fun k _ => congrArg (fun a : EReal => a * w (ix2 k j)) (hz r k)))
    rw [Shape.rowMajor_val_two, Shape.rowMajor_val_three]
    show r.val * 4096 + j.val = (r.val / 4096 * 4096 + r.val % 4096) * 4096 + j.val
    omega
  exact congrArg₂ (fun a b : EReal => x (ix3 (⟨r.val / 4096, by omega⟩ : Fin 4) (⟨r.val % 4096, by omega⟩ : Fin 4096) j) + a * b) e1 e2

/-- The reference's gated norm, read at a token and a column. -/
theorem ref_delta (oa ob : FVec Ideal S4x4096x2048 .f32) (g : FVec Ideal S128 .f32) (p : FVec Ideal S16384x20480 .f32)
    (hO : S4x4096x2048.ShapeCasts ⟨4, ![4, 4096, 16, 128]⟩) (hp : S16384x20480.Slices ![0, 6144] S16384x2048)
    (hZ : S16384x2048.ShapeCasts ⟨4, ![4, 4096, 16, 128]⟩) (hY : (⟨4, ![4, 4096, 16, 128]⟩ : Shape).ShapeCasts S16384x2048)
    (Y : FVec Ideal ⟨4, ![4, 4096, 16, 128]⟩ .f32)
    (e : ∀ b s n j, (Y (ix4 b s n j) : EReal) = gate (fun k => shapeCast ⟨4, ![4, 4096, 16, 128]⟩ (addf oa ob) hO (ix4 b s n k))
      (fun k => shapeCast ⟨4, ![4, 4096, 16, 128]⟩ (extractStridedSlice S16384x2048 ![0, 6144] p hp) hZ (ix4 b s n k)) (fun k => g (ix1 k)) j)
    (r : Fin 16384) (k : Fin 2048) : (shapeCast S16384x2048 Y hY (ix2 r k) : EReal) = delta oa ob g p r k := by
  refine (shapeCast_apply _ _ _ (ix4 (seqOf r) (posOf r) (⟨k.val / 128, by omega⟩ : Fin 16) (place k)) ?_).trans ((e _ _ _ _).trans ?_)
  · refine (Shape.rowMajor_val_four _).trans (Eq.trans ?_ (Shape.rowMajor_val_two _).symm)
    show ((r.val / 4096 * 4096 + r.val % 4096) * 16 + k.val / 128) * 128 + k.val % 128 = r.val * 2048 + k.val
    omega
  · unfold delta
    refine congrArg₂ (fun a b => gate a b _ _) (funext fun t => ?_) (funext fun t => ?_)
    · refine shapeCast_apply _ _ _ (ix3 (seqOf r) (posOf r) (mate (by decide) k t)) ?_
      refine (Shape.rowMajor_val_three _).trans (Eq.trans ?_ (Shape.rowMajor_val_four _).symm)
      show (r.val / 4096 * 4096 + r.val % 4096) * 2048 + (k.val / 128 * 128 + t.val)
        = ((r.val / 4096 * 4096 + r.val % 4096) * 16 + k.val / 128) * 128 + t.val
      omega
    · refine (shapeCast_apply _ _ _ (ix2 r (mate (by decide) k t)) ?_).trans (extractStridedSlice_apply _ _ hp _ _ fun a => ?_)
      · refine (Shape.rowMajor_val_two _).trans (Eq.trans ?_ (Shape.rowMajor_val_four _).symm)
        show r.val * 2048 + (k.val / 128 * 128 + t.val)
          = ((r.val / 4096 * 4096 + r.val % 4096) * 16 + k.val / 128) * 128 + t.val
        omega
      · match a with
        | ⟨0, _⟩ => show r.val = 0 + r.val; omega
        | ⟨1, _⟩ => rfl

theorem algebraic : Cert.algebraic_Kernel4Ideal_Reference4Ideal := fun m ρ m' ρ' _ e =>
  ⟨fun c => result m c, run m ρ,
    (θ_run Cert.Reference4Ideal.defs _ _).mono (fun r h c => ⟨(h c).1.trans (by
        obtain ⟨a0, a1, a2, a3, a4, a5, a6, a7, a8, a9⟩ := e c
        rw [a0, a1, a2, a3, a4, a5, a6, a7, a8, a9]
        funext i
        rw [eq_ix2 i]
        refine ref_resid _ _ (fun r k => ?_) _ _ _ _ _ _ _ (i 0) (i 1)
        exact congrArg₂ (fun a b : EReal => a + b)
          (congrArg₂ (fun a b : EReal => a * b) (quotient_apply _ _ _ 0 (by omega) _ r k)
            ((Dense.dot_apply .f32 .f32 _ _ (ix2 r k)).trans (Finset.sum_congr (M := EReal) rfl fun t _ => congrArg (fun a : EReal => a * _)
              (ref_delta _ _ _ _ _ _ _ _ _ (fun _ _ _ _ => host_gate_apply _ _ _ _ _ _ _ _ _ _ _ _ _ _ _) r t))))
          (congrArg₂ (fun a b : EReal => a * b) (quotient_apply _ _ _ 4096 (by omega) _ r k) (Dense.dot_apply .f32 .f32 _ _ (ix2 r k)))), (h c).2⟩)
      (Cert.Reference4Ideal.Value.run m' ρ')⟩

end Cert.Kernel4Ideal.Hand

end
-- ==== Proof.Blocks.lean ====
module

public import Idealize.ShloMosaic.Lib.StackMember
public import Idealize.ShloMosaic.Lib.KernelVsHost
public import Idealize.ShloMosaic.Lib.Routing.Ops

@[expose] public section

/-! # Blocks of rows, each with a table that a word names

Rows in blocks, and a table of matrices: a word per block says which matrix the block's rows meet. The host's spelling gathers
the matrices by the words and multiplies block by block; a kernel's index map reads the word and fetches that matrix. -/

noncomputable section

namespace Cert.Blocks

open Idealize.ShloMosaic Idealize.ShloMosaic.ValueIdx Idealize.ShloMosaic.StackMember
open scoped BigOperators

/-- A block of one matrix of the table, whole in its rows, lies in the table, and its transfer is of whole words. -/
theorem block_ok {E K N B : ℕ} (e : EltTy) (ix : Fin 3 → ℕ) (h0 : ix 0 < E) (h1 : ix 1 = 0) (h2 : (ix 2 + 1) * B ≤ N) :
    ∃ h : (∀ a, (ix a + 1) * (⟨3, ![1, K, B]⟩ : Shape).size a ≤ (⟨3, ![E, K, N]⟩ : Shape).size a),
      e.bits = 32 ∨ (Rect.block (s := ⟨3, ![E, K, N]⟩) (⟨3, ![1, K, B]⟩ : Shape).size ix h).WholeWords e.packing := by
  refine ⟨fun a => ?_, Or.inr (Or.inr ⟨(by decide : 2 ≤ 3), rfl, ?_, rfl⟩)⟩
  · match a with
    | ⟨0, _⟩ => show (ix 0 + 1) * 1 ≤ E; omega
    | ⟨1, _⟩ => show (ix 1 + 1) * K ≤ K; rw [h1]; omega
    | ⟨2, _⟩ => exact h2
  · show ix 1 * K = 0
    rw [h1, Nat.zero_mul]

/-- A word that is not negative is kept by the host's rule that counts a negative index from the end. -/
theorem index_word {n : ℕ} (k : BitVec 32) (w : (⟨1, ![n]⟩ : Shape).Idx → BitVec 32)
    (h : (⟨0, ![]⟩ : Shape).BroadcastsInDim ⟨1, ![n]⟩ (![] : Fin 0 → Fin 1)) (h' : (⟨1, ![n]⟩ : Shape).BroadcastsInDim ⟨2, ![n, 1]⟩ (![0] : Fin 1 → Fin 2))
    (r : Fin n) (hw : (w (ix1 r)).toNat < 2 ^ 31) :
    broadcastInDim ⟨2, ![n, 1]⟩ ![0] h' (select (cmpi .slt w (broadcastInDim ⟨1, ![n]⟩ ![] h (constantI ⟨0, ![]⟩ 32 0#32)))
      (addi w (broadcastInDim ⟨1, ![n]⟩ ![] h (constantI ⟨0, ![]⟩ 32 k))) w) (ix2 r (0 : Fin 1)) = w (ix1 r) := by
  have hs : BitVec.slt (w (ix1 r)) 0#32 = false := by
    simp only [BitVec.slt, BitVec.toInt, BitVec.toNat_ofNat, decide_eq_false_iff_not]
    omega
  refine (broadcastInDim_apply _ _ _ _ (ix1 r) fun a => ?_).trans ?_
  · match a with
    | ⟨0, _⟩ =>
      show r.val = if n = 1 then 0 else r.val
      split <;> omega
  · simp only [select, cmpi, IntOp.cmpi, broadcastInDim, constantI, hs]
    rfl

/-- The host's gather of whole matrices by a word per block. -/
def matDims (E A B n : ℕ) (wf : GatherDims.WF ⟨3, ![E, A, B]⟩ ⟨2, ![n, 1]⟩ ⟨3, ![n, A, B]⟩ [1, 2] [0] [] [0] [] 1 ![1, A, B]) :
    GatherDims ⟨3, ![E, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- An entry of the gathered matrices: the entry of the matrix that the block's word names. -/
theorem gather_mat {α : Type} {E A B n : ℕ} (wf) (x : (⟨3, ![E, A, B]⟩ : Shape).Idx → α) (idx : IVec ⟨2, ![n, 1]⟩ 32)
    (r : Fin n) (a : Fin A) (b : Fin B) (e : Fin E) (he : (idx (ix2 r (0 : Fin 1))).toNat = e.val) (hE : E ≤ 2 ^ 31) :
    Host.gather (matDims E A B n wf) x idx (ix3 r a b) = x (ix3 e a b) := by
  unfold Host.gather
  refine congrArg x (funext fun ax => Fin.ext ?_)
  show (matDims E A B n wf).start (ix3 r a b) idx ax + (matDims E A B n wf).batchCoord (ix3 r a b) ax
    + (matDims E A B n wf).offCoord (ix3 r a b) ax = _
  rw [GatherDims.batchCoord_eq_zero _ _ _ List.not_mem_nil]
  have hax : ax = (0 : Fin 3) ∨ ax = (1 : Fin 3) ∨ ax = (2 : Fin 3) := by
    match ax with
    | ⟨0, _⟩ => exact Or.inl rfl
    | ⟨1, _⟩ => exact Or.inr (Or.inl rfl)
    | ⟨2, _⟩ => exact Or.inr (Or.inr rfl)
  rcases hax with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (matDims E A B n wf).startIndexMap from List.mem_singleton.mpr rfl)]
    have hsi : (matDims E A B n wf).siIdx (ix3 r a b) ⟨List.idxOf (0 : Fin 3) (matDims E A B n wf).startIndexMap,
        List.idxOf_lt_length_iff.2 (List.mem_singleton.mpr rfl)⟩ = ix2 r (0 : Fin 1) := by
      funext c; refine Fin.ext ?_
      match c with
      | ⟨0, _⟩ => rfl
      | ⟨1, _⟩ => rfl
    rw [hsi]
    show min (idx (ix2 r (0 : Fin 1))).toInt.toNat (E - 1) = e.val
    rw [BitVec.toInt, he]
    have := e.isLt
    rw [if_pos (by omega)]
    omega
  · unfold GatherDims.start
    rw [dif_neg (show (1 : Fin 3) ∉ (matDims E A B n wf).startIndexMap from (by decide : (1 : Fin 3) ∉ ([0] : List (Fin 3))))]
    exact (Nat.zero_add _).trans rfl
  · unfold GatherDims.start
    rw [dif_neg (show (2 : Fin 3) ∉ (matDims E A B n wf).startIndexMap from (by decide : (2 : Fin 3) ∉ ([0] : List (Fin 3))))]
    exact (Nat.zero_add _).trans rfl

/-- The number of the matrix that block `b`'s word names, of `E` matrices. -/
def owner {n : ℕ} (E : ℕ) (hE : 0 < E) (w : (⟨1, ![n]⟩ : Shape).Idx → BitVec 32) (b : Fin n) : Fin E :=
  ⟨(w (ix1 b)).toNat % E, Nat.mod_lt _ hE⟩

/-- Where the host multiplies blocks of rows by the matrices that it gathers and adds the gathered biases, an entry is the row's
    product with the named matrix's column, plus the named bias's entry. -/
theorem rows_apply {M K N E n R : ℕ} {hE : 0 < E} (x : FVec Ideal ⟨2, ![M, K]⟩ .f32) (hx : (⟨2, ![M, K]⟩ : Shape).ShapeCasts ⟨3, ![n, R, K]⟩)
    (W : FVec Ideal ⟨3, ![E, K, N]⟩ .f32) (b : FVec Ideal ⟨2, ![E, N]⟩ .f32) (w : (⟨1, ![n]⟩ : Shape).Idx → BitVec 32) (idx : IVec ⟨2, ![n, 1]⟩ 32)
    (wd) (wg) (d : GatherDims (Routing.shape2 E N) (Routing.shape2 n 1) (Routing.shape2 n N)) (hoff : d.offsetDims = [1]) (hcoll : d.collapsedSliceDims = [0])
    (hob : d.operandBatchingDims = []) (hsim : d.startIndexMap = [0]) (hivd : d.indexVectorDim = 1)
    (h1 : (⟨3, ![n, 1, N]⟩ : Shape).BroadcastsInDim ⟨3, ![n, R, N]⟩ (![0, 1, 2] : Fin 3 → Fin 3))
    (h2 : (⟨2, ![n, N]⟩ : Shape).BroadcastsInDim ⟨3, ![n, 1, N]⟩ (![0, 2] : Fin 2 → Fin 3))
    (g : Fin n) (a : Fin R) (f : Fin N) (r : Fin M) (hr : r.val = g.val * R + a.val)
    (hi : idx (ix2 g (0 : Fin 1)) = w (ix1 g)) (hw : (w (ix1 g)).toNat < E) (hE31 : E < 2 ^ 31) :
    (addf (Host.dotGeneral (⟨[2], [1], [1], [2], [0], [0], wd⟩ : DotDims ⟨3, ![n, R, K]⟩ ⟨3, ![n, K, N]⟩ ⟨3, ![n, R, N]⟩) none
        (shapeCast ⟨3, ![n, R, K]⟩ x hx) (Host.gather (matDims E K N n wg) W idx))
      (broadcastInDim ⟨3, ![n, R, N]⟩ ![0, 1, 2] h1 (broadcastInDim ⟨3, ![n, 1, N]⟩ ![0, 2] h2 (Host.gather d b idx))) (ix3 g a f) : EReal)
      = (∑ k : Fin K, (x (ix2 r k) : EReal) * W (ix3 (owner E hE w g) k f)) + b (ix2 (owner E hE w g) f) := by
  have ho : (owner E hE w g).val = (w (ix1 g)).toNat := Nat.mod_eq_of_lt hw
  refine congrArg₂ (fun a b : EReal => a + b) ((dotGeneral_stack_apply wd none _ _ g a f).trans
    (Finset.sum_congr (M := EReal) rfl fun k _ => congrArg₂ (fun a b : EReal => a * b) ?_ ?_)) ?_
  · refine shapeCast_apply _ _ _ (ix2 r k) ?_
    refine (Shape.rowMajor_val_two _).trans (Eq.trans ?_ (Shape.rowMajor_val_three _).symm)
    show r.val * K + k.val = (g.val * R + a.val) * K + k.val
    rw [hr]
  · exact gather_mat wg W idx g k f (owner E hE w g) (by rw [hi, ho]) (Nat.le_of_lt hE31)
  · refine (broadcastInDim_apply _ _ _ _ (ix3 g (0 : Fin 1) f) fun a => ?_).trans ((broadcastInDim_apply _ _ _ _ (ix2 g f) fun a => ?_).trans
      (Routing.gather_row d hoff hcoll hob hsim hivd b idx g f (owner E hE w g) (by rw [hi, ho]; simp) hE31))
    · match a with
      | ⟨0, _⟩ => show g.val = if n = 1 then 0 else g.val; split <;> omega
      | ⟨1, _⟩ => rfl
      | ⟨2, _⟩ => show f.val = if N = 1 then 0 else f.val; split <;> omega
    · match a with
      | ⟨0, _⟩ => show g.val = if n = 1 then 0 else g.val; split <;> omega
      | ⟨1, _⟩ => show f.val = if N = 1 then 0 else f.val; split <;> omega

end Cert.Blocks

end
-- ==== Proof.Ffn1.lean ====
module

public import proofs.«01_k».proof.Defs
public import proofs.«01_k».proof.Proof.Dense
public import proofs.«01_k».proof.Proof.Blocks
public import proofs.«01_k».proof.Proof.Gen.Kernel3.Frame
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Pre_experts_in_range
public import Idealize.ShloMosaic.Lib.ReduceAll
public import Idealize.ShloMosaic.Lib.Claim
public import Idealize.ShloMosaic.Lib.Pipeline.ValueKit.Geometry
public import Idealize.ShloMosaic.Lib.Pipeline.ValueKit.Acc
public import Idealize.ShloMosaic.Lib.Pipeline.Covers

@[expose] public section

/-! # The experts' first product and its activation

A block of 256 rows goes through the first matrix of the expert that the block's word names, and the two halves of the product
meet in the gated activation. The word is read by the index maps: it must name one of the 32 experts. -/

noncomputable section

/-! ## The words, as the precondition bounds them -/

namespace Cert.Ffn1

open Idealize.ShloMosaic Idealize.ShloMosaic.ValueIdx

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

/-- The precondition's predicate bounds every block's word. -/
theorem words_lt {F : FTy → Type} [FloatOps F] (x : FVec F Cert.Pre_experts_in_range.S73728x4096 .f32)
    (w1 : FVec F Cert.Pre_experts_in_range.S32x4096x3072 .f32) (b1 : FVec F Cert.Pre_experts_in_range.S32x3072 .f32)
    (e : IVec Cert.Pre_experts_in_range.S288 32) (h : Cert.Pre_experts_in_range.fn (F := F) x w1 b1 e = fun _ => 1#1)
    (y : Cert.Pre_experts_in_range.S288.Idx) : (e y).toNat < 32 := by
  have : Subsingleton Cert.Pre_experts_in_range.S_.Idx := ⟨fun a b => funext fun i => i.elim0⟩
  have e := Host.reduce_andi_all _ _ _ _ _ (congrFun h (fun i => i.elim0)) y
  simp only [andi, cmpi, broadcastInDim, constantI, IntOp.cmpi, andi_ofBool, ofBool_eq_one, Bool.and_eq_true] at e
  obtain ⟨hge, hlt⟩ := e
  simp only [BitVec.sle, BitVec.slt, decide_eq_true_eq, BitVec.toInt, BitVec.toNat_ofNat] at hge hlt
  omega

end Cert.Ffn1

/-! ## The idealized program: every index map stays in its array -/

namespace Cert.Kernel3Ideal.Hand

open Cert.Kernel3Ideal Cert.Kernel3Ideal.Gen Idealize.ShloMosaic Idealize.ShloMosaic.TcCoe Idealize.ShloMosaic.ValueIdx

variable {F : FTy → Type} [FloatOps F]

/-- The word that the index maps read at a point is the table's at the point's block. -/
theorem word_at (pf : pre0.Contents (Elt F)) (i : grid0.Coords) :
    pf.at 0 (Rect.unit (s := S288) (k0_off1 i) S1.size (k0_off1_inb i)) numel1_S1 = pf 0 (ix1 (i 1)) := by
  refine congrArg (pf 0) (funext fun a => Fin.ext ?_)
  match a with
  | ⟨0, _⟩ =>
    show k0_off1 i 0 + 1 * 0 = (i 1).val
    rw [k0_off1_eq]
    rfl

theorem map1 (pf : pre0.Contents (Elt F)) (i : grid0.Coords) : cc0_transform_1 k0_off1_inb numel1_S1 pf i
    = ![(pf 0 (ix1 (i 1)) : BitVec 32).toNat, 0, (BitVec.ofNat 32 (i 0).val).toNat] :=
  congrArg (fun w : BitVec 32 => ![w.toNat, 0, (BitVec.ofNat 32 (i 0).val).toNat]) (word_at pf i)

theorem map2 (pf : pre0.Contents (Elt F)) (i : grid0.Coords) : cc0_transform_2 k0_off1_inb numel1_S1 pf i
    = ![(pf 0 (ix1 (i 1)) : BitVec 32).toNat, 0, (Scalar.addi 3#32 (BitVec.ofNat 32 (i 0).val)).toNat] :=
  congrArg (fun w : BitVec 32 => ![w.toNat, 0, (Scalar.addi 3#32 (BitVec.ofNat 32 (i 0).val)).toNat]) (word_at pf i)

theorem map3 (pf : pre0.Contents (Elt F)) (i : grid0.Coords) : cc0_transform_3 k0_off1_inb numel1_S1 pf i
    = ![(pf 0 (ix1 (i 1)) : BitVec 32).toNat, 0, (BitVec.ofNat 32 (i 0).val).toNat] :=
  congrArg (fun w : BitVec 32 => ![w.toNat, 0, (BitVec.ofNat 32 (i 0).val).toNat]) (word_at pf i)

theorem map4 (pf : pre0.Contents (Elt F)) (i : grid0.Coords) : cc0_transform_4 k0_off1_inb numel1_S1 pf i
    = ![(pf 0 (ix1 (i 1)) : BitVec 32).toNat, 0, (Scalar.addi 3#32 (BitVec.ofNat 32 (i 0).val)).toNat] :=
  congrArg (fun w : BitVec 32 => ![w.toNat, 0, (Scalar.addi 3#32 (BitVec.ofNat 32 (i 0).val)).toNat]) (word_at pf i)

/-- The column block's number, as the maps compute it. -/
theorem col (i : grid0.Coords) : (BitVec.ofNat 32 (i 0).val).toNat = (i 0).val
    ∧ (Scalar.addi 3#32 (BitVec.ofNat 32 (i 0).val)).toNat = 3 + (i 0).val :=
  (by decide : ∀ j : Fin 3, (BitVec.ofNat 32 j.val).toNat = j.val ∧ (Scalar.addi 3#32 (BitVec.ofNat 32 j.val)).toNat = 3 + j.val) (i 0)

/-- Words that name experts keep every block in its array. -/
theorem ok_words (pf : pre0.Contents (Elt F)) (h : ∀ y : S288.Idx, (pf 0 y : BitVec 32).toNat < 32) : ok0 pf := by
  have hi : ∀ i : grid0.Coords, (i 0).val < 3 := fun i => (i 0).isLt
  refine ⟨fun i => ?_, fun i => ?_, fun i => ?_, fun i => ?_⟩
  · refine Cert.Blocks.block_ok (E := 32) (K := 4096) (N := 3072) (B := 512) .bf16 _ ?_ ?_ ?_ <;> rw [map1]
    · exact h _
    · rfl
    · show ((BitVec.ofNat 32 (i 0).val).toNat + 1) * 512 ≤ 3072
      rw [(col i).1]; have := hi i; omega
  · refine Cert.Blocks.block_ok (E := 32) (K := 4096) (N := 3072) (B := 512) .bf16 _ ?_ ?_ ?_ <;> rw [map2]
    · exact h _
    · rfl
    · show ((Scalar.addi 3#32 (BitVec.ofNat 32 (i 0).val)).toNat + 1) * 512 ≤ 3072
      rw [(col i).2]; have := hi i; omega
  · refine Cert.Blocks.block_ok (E := 32) (K := 1) (N := 3072) (B := 512) .f32 _ ?_ ?_ ?_ <;> rw [map3]
    · exact h _
    · rfl
    · show ((BitVec.ofNat 32 (i 0).val).toNat + 1) * 512 ≤ 3072
      rw [(col i).1]; have := hi i; omega
  · refine Cert.Blocks.block_ok (E := 32) (K := 1) (N := 3072) (B := 512) .f32 _ ?_ ?_ ?_ <;> rw [map4]
    · exact h _
    · rfl
    · show ((Scalar.addi 3#32 (BitVec.ofNat 32 (i 0).val)).toNat + 1) * 512 ≤ 3072
      rw [(col i).2]; have := hi i; omega

theorem tbl_eq (m : (ℓ : Loc nD τ sig) → Buf (Elt F) ℓ) : (tbl m 0 : S288.Idx → BitVec 32) = m (((0 : Dev nD).tc : Thread nD τ).loc main_arg3) :=
  V_main_arg3 m 0

/-- The precondition has the table's words name experts. -/
theorem words_of_pre (m : (ℓ : Loc nD τ sig) → Buf (Elt Ideal) ℓ) (h : Cert.Pre_Kernel3Ideal m) (y : S288.Idx) : (tbl m 0 y : BitVec 32).toNat < 32 :=
  (congrArg (fun w : S288.Idx → BitVec 32 => (w y).toNat < 32) (tbl_eq m)).mpr (Cert.Ffn1.words_lt _ _ _ _ (h 0) y)

/-- That is what the pipeline asks of the table. -/
theorem ok_of_pre (m : (ℓ : Loc nD τ sig) → Buf (Elt Ideal) ℓ) (h : Cert.Pre_Kernel3Ideal m) : Ok m :=
  ok_words (tbl m) (words_of_pre m h)

theorem frame : Cert.quiescent_Kernel3Ideal := fun m ρ h => Gen.frame m ρ (ok_of_pre m h)

/-! ## The values -/

open Idealize.SL Idealize.SL.Sem Idealize.ShloMosaic.StackMember
open Idealize.ShloMosaic.Pipeline (Dat)
open scoped BigOperators

/-- What a run leaves in the result's buffer: the body's one store, over the blocks. -/
theorem out_eq (c : Dev nD) (i : grid0.Coords) (arg3 : Memref sig .tc .vmem S256x4096 .f32) (harg3 : arg3.IsWhole) (arg4 : Memref sig .tc .vmem S1x4096x512 .bf16) (harg4 : arg4.IsWhole)
    (arg5 : Memref sig .tc .vmem S1x4096x512 .bf16) (harg5 : arg5.IsWhole) (arg6 : Memref sig .tc .vmem S1x1x512 .f32) (harg6 : arg6.IsWhole) (arg7 : Memref sig .tc .vmem S1x1x512 .f32)
    (harg7 : arg7.IsWhole) (arg8 : Memref sig .tc .vmem S256x512 .bf16) (harg8 : arg8.IsWhole) (x0 : Vec F S256x4096 .f32) (x1 x2 : Vec F S1x4096x512 .bf16) (x3 x4 : Vec F S1x1x512 .f32)
    (xt0 : TbBuf0 (F := F) c tbM0_0) :
    out0_A_5 c i arg3 harg3 arg4 harg4 arg5 harg5 arg6 harg6 arg7 harg7 arg8 harg8 x0 x1 x2 x3 x4 xt0 = k0_pay1 x0 x1 x3 x2 x4 := by
  unfold out0_A_5
  rw [View.read_writes_junk_eq_canon]
  show View.canon ([⟨Rect.unit ![0, 0] S256x512.size inb_S256x512_S256x512_0_0,
      k0_pay1
        (View.readAt (Elt F) arg3.view (Rect.unit ![0, 0] S256x4096.size inb_S256x4096_S256x4096_0_0).toLoadRect (harg3.unread x0))
        (View.readAt (Elt F) arg4.view (Rect.unit ![0, 0, 0] S1x4096x512.size inb_S1x4096x512_S1x4096x512_0_0_0).toLoadRect (harg4.unread x1))
        (View.readAt (Elt F) arg6.view (Rect.unit ![0, 0, 0] S1x1x512.size inb_S1x1x512_S1x1x512_0_0_0).toLoadRect (harg6.unread x3))
        (View.readAt (Elt F) arg5.view (Rect.unit ![0, 0, 0] S1x4096x512.size inb_S1x4096x512_S1x4096x512_0_0_0).toLoadRect (harg5.unread x2))
        (View.readAt (Elt F) arg7.view (Rect.unit ![0, 0, 0] S1x1x512.size inb_S1x1x512_S1x1x512_0_0_0).toLoadRect (harg7.unread x4))⟩] :
      List (View.Piece (Elt F) S256x512 .bf16)) = _
  rw [View.canon_unit_zero (by decide)]
  repeat rw [View.readAt_eq_ld]
  rw [harg3.read_unread, harg4.read_unread, harg5.read_unread, harg6.read_unread, harg7.read_unread]
  repeat rw [View.ld_unit_zero (by decide)]

/-- The gated activation of the two halves: the gate clipped above at 7 and the linear half clipped to ±7. -/
def act (g l : EReal) : EReal :=
  min g (Ideal.ofBits .f32 0x40E00000#32) * Ideal.logistic (Ideal.ofBits .f32 0x3FD9DB23#32 * min g (Ideal.ofBits .f32 0x40E00000#32))
    * (min (Ideal.ofBits .f32 0x40E00000#32) (max (Ideal.ofBits .f32 0xC0E00000#32) l) + Ideal.ofBits .f32 0x3F800000#32)

/-- A block of the result at an entry. -/
theorem pay_apply (x0 : Vec Ideal S256x4096 .f32) (x1 x2 : Vec Ideal S1x4096x512 .bf16) (x3 x4 : Vec Ideal S1x1x512 .f32) (y : S256x512.Idx) :
    (k0_pay1 (F := Ideal) x0 x1 x3 x2 x4 y : EReal)
      = act ((∑ k : Fin 4096, (x0 (ix2 (y 0) k) : EReal) * x1 (ix3 (0 : Fin 1) k (y 1))) + x3 (ix3 (0 : Fin 1) (0 : Fin 1) (y 1)))
          ((∑ k : Fin 4096, (x0 (ix2 (y 0) k) : EReal) * x2 (ix3 (0 : Fin 1) k (y 1))) + x4 (ix3 (0 : Fin 1) (0 : Fin 1) (y 1))) := by
  have hm : ∀ x : Vec Ideal S1x4096x512 .bf16, (matmul dot_S256x4096_S4096x512_S256x512_1_0_0_1_n_n none (truncf .bf16 x0 bitsLt_bf16_f32 : FVec Ideal S256x4096 .bf16)
      (shapeCast S4096x512 x shapeCasts_S1x4096x512_S4096x512) (constant S256x512 .f32 0x00000000#32) y : EReal)
      = ∑ k : Fin 4096, (x0 (ix2 (y 0) k) : EReal) * x (ix3 (0 : Fin 1) k (y 1)) := fun x =>
    (Dense.matmul_apply .bf16 .bf16 (truncf .bf16 x0 bitsLt_bf16_f32) (shapeCast S4096x512 x shapeCasts_S1x4096x512_S4096x512) y).trans
      (Finset.sum_congr (M := EReal) rfl fun k _ => congrArg (fun b : EReal => x0 (ix2 (y 0) k) * b)
        (shapeCast_apply _ _ _ (ix3 (0 : Fin 1) k (y 1)) (by
          refine (Shape.rowMajor_val_three _).trans (Eq.trans ?_ (Shape.rowMajor_val_two _).symm)
          show (0 * 4096 + k.val) * 512 + (y 1).val = k.val * 512 + (y 1).val
          omega)))
  have hb : ∀ x : Vec Ideal S1x1x512 .f32, (broadcastTo S256x512 (shapeCast S1x512 x shapeCasts_S1x1x512_S1x512) broadcasts_S1x512_S256x512 y : EReal)
      = x (ix3 (0 : Fin 1) (0 : Fin 1) (y 1)) := fun x => by
    refine (broadcastTo_apply _ _ y (ix2 (0 : Fin 1) (y 1)) fun a => ?_).trans (shapeCast_apply _ _ _ (ix3 (0 : Fin 1) (0 : Fin 1) (y 1)) ?_)
    · match a with
      | ⟨0, _⟩ => rfl
      | ⟨1, _⟩ => rfl
    · refine (Shape.rowMajor_val_three _).trans (Eq.trans ?_ (Shape.rowMajor_val_two _).symm)
      rfl
  exact congrArg₂ act (congrArg₂ (fun a b : EReal => a + b) (hm x1) (hb x3)) (congrArg₂ (fun a b : EReal => a + b) (hm x2) (hb x4))

variable (m : (ℓ : Loc nD τ sig) → Buf (Elt F) ℓ) (ρ : Dev nD → PrngReg)

/-- The result's blocks tile it: block (i, j) is the grid's point (j, i). -/
theorem covers5 (hO : Ok m) : ((cfgM m hO).win 5).Covers := by
  refine Pipeline.Window.covers_of_indexMap_surj _ rfl (fun a => ?_) fun β => ?_
  · match a with
    | ⟨0, _⟩ => show 0 < 256; omega
    | ⟨1, _⟩ => show 0 < 512; omega
  · have b0 : (β (0 : Fin 2)).val < 288 := Nat.lt_of_lt_of_eq (β (0 : Fin 2)).isLt (by simp [Pipeline.Window.nblk])
    have b1 : (β (1 : Fin 2)).val < 3 := Nat.lt_of_lt_of_eq (β (1 : Fin 2)).isLt (by simp [Pipeline.Window.nblk])
    refine ⟨fun | ⟨0, _⟩ => ⟨(β (1 : Fin 2)).val, b1⟩ | ⟨1, _⟩ => ⟨(β (0 : Fin 2)).val, b0⟩, fun a => ?_⟩
    match a with
    | ⟨0, _⟩ => exact (Nat.mod_eq_of_lt (Nat.lt_trans b0 (by decide)) : (BitVec.ofNat 32 (β (0 : Fin 2)).val).toNat = _)
    | ⟨1, _⟩ => exact (Nat.mod_eq_of_lt (Nat.lt_trans b1 (by decide)) : (BitVec.ofNat 32 (β (1 : Fin 2)).val).toNat = _)

/-- Each window's block at a point: the row block's for the rows and the result, the named expert's for the tables. -/
theorem idx_at (hO : Ok m) (t : Fin (cfgM m hO).N) :
    ((cfgM m hO).win 0).index t = ![(grid0.coords t 1).val, 0]
    ∧ ((cfgM m hO).win 1).index t = ![(tbl m 0 (ix1 (grid0.coords t 1)) : BitVec 32).toNat, 0, (grid0.coords t 0).val]
    ∧ ((cfgM m hO).win 2).index t = ![(tbl m 0 (ix1 (grid0.coords t 1)) : BitVec 32).toNat, 0, 3 + (grid0.coords t 0).val]
    ∧ ((cfgM m hO).win 3).index t = ![(tbl m 0 (ix1 (grid0.coords t 1)) : BitVec 32).toNat, 0, (grid0.coords t 0).val]
    ∧ ((cfgM m hO).win 4).index t = ![(tbl m 0 (ix1 (grid0.coords t 1)) : BitVec 32).toNat, 0, 3 + (grid0.coords t 0).val]
    ∧ ((cfgM m hO).win 5).index t = ![(grid0.coords t 1).val, (grid0.coords t 0).val] := by
  have b1 : (grid0.coords t 1).val < 288 := (grid0.coords t 1).isLt
  have e1 : (BitVec.ofNat 32 (grid0.coords t 1).val).toNat = (grid0.coords t 1).val := Nat.mod_eq_of_lt (by omega)
  obtain ⟨e0, e3⟩ := col (grid0.coords t)
  exact ⟨congrArg (fun n : ℕ => ![n, 0]) e1, (map1 (tbl m) _).trans (congrArg (fun n : ℕ => ![_, 0, n]) e0),
    (map2 (tbl m) _).trans (congrArg (fun n : ℕ => ![_, 0, n]) e3), (map3 (tbl m) _).trans (congrArg (fun n : ℕ => ![_, 0, n]) e0),
    (map4 (tbl m) _).trans (congrArg (fun n : ℕ => ![_, 0, n]) e3), congrArg₂ (fun n k : ℕ => ![n, k]) e1 e0⟩

/-- A row's product with its expert's first matrix, plus the expert's bias. -/
def pre (xs : S73728x4096.Idx → EReal) (w1 : S32x4096x3072.Idx → EReal) (b1 : Fin 32 → Fin 3072 → EReal) (e : Fin 288 → Fin 32)
    (r : Fin 73728) (f : Fin 3072) : EReal :=
  (∑ k : Fin 4096, xs (ix2 r k) * w1 (ix3 (e ⟨r.val / 256, by omega⟩) k f)) + b1 (e ⟨r.val / 256, by omega⟩) f

/-- The activated product: the first half of the columns gates the second. The two halves' biases come separately. -/
def ffn1 (xs : S73728x4096.Idx → EReal) (w1 : S32x4096x3072.Idx → EReal) (bg bl : Fin 32 → Fin 3072 → EReal) (e : Fin 288 → Fin 32)
    (r : Fin 73728) (f : Fin 1536) : EReal :=
  act (pre xs w1 bg e r ⟨f.val, by omega⟩) (pre xs w1 bl e r ⟨1536 + f.val, by omega⟩)

/-- The experts' numbers, off the table's words. -/
abbrev experts (w : S288.Idx → BitVec 32) : Fin 288 → Fin 32 := Cert.Blocks.owner 32 (by decide) w

/-- The result's array after the call, over the arrays as the call finds them. -/
theorem final_V (m : (ℓ : Loc nD τ sig) → Buf (Elt Ideal) ℓ) (hO : Ok m) (hw : ∀ y : S288.Idx, (tbl m 0 y : BitVec 32).toNat < 32) (c : Dev nD) :
    ((dats m hO 0 c).arrAt 5 (cfgM m hO).N : S73728x1536.Idx → EReal)
      = fun i : S73728x1536.Idx => ffn1 (V m c main_arg0) (V m c main_v0) (fun e f => (V m c main_v1 : S32x1x3072.Idx → EReal) (ix3 e (0 : Fin 1) f))
          (fun e f => (V m c main_v2 : S32x1x3072.Idx → EReal) (ix3 e (0 : Fin 1) f)) (experts (tbl m 0)) (i 0) (i 1) := by
  refine (dats m hO 0 c).arrAt_eq_of_covers 5 _ (covers5 m hO) fun t hf (y : S256x512.Idx) => ?_
  obtain ⟨h0, h1, h2, h3, h4, h5⟩ := idx_at m hO t
  have e5 : ((((cfgM m hO).win 5).blk t).view.emb y (0 : Fin 2)).val = (grid0.coords t 1).val * 256 + (y 0).val := by blk_simp [h5]
  have f5 : ((((cfgM m hO).win 5).blk t).view.emb y (1 : Fin 2)).val = (grid0.coords t 0).val * 512 + (y 1).val := by blk_simp [h5]
  have hb : ((((cfgM m hO).win 5).blk t).view.emb y (0 : Fin 2)).val / 256 = (grid0.coords t 1).val := by
    rw [e5]; idx_bounds y; omega
  have he : ∀ h, (experts (tbl m 0) ⟨((((cfgM m hO).win 5).blk t).view.emb y (0 : Fin 2)).val / 256, h⟩).val
      = (tbl m 0 (ix1 (grid0.coords t 1)) : BitVec 32).toNat := fun h => by
    rw [show (⟨((((cfgM m hO).win 5).blk t).view.emb y (0 : Fin 2)).val / 256, h⟩ : Fin 288) = grid0.coords t 1 from Fin.ext hb]
    exact Nat.mod_eq_of_lt (hw _)
  blk_simp
  rw [after0_5]
  unfold outsAt0
  refine (congrFun (out_eq c _ _ _ _ _ _ _ _ _ _ _ _ _ _ _ _ _ _ _) y).trans ((pay_apply _ _ _ _ _ y).trans ?_)
  have hx : ∀ k : Fin 4096, (iblk m hO c 0 t : S256x4096.Idx → EReal) (ix2 (y 0) k)
      = (V m c main_arg0 : S73728x4096.Idx → EReal) (ix2 ((((cfgM m hO).win 5).blk t).view.emb y (0 : Fin 2)) k) := fun k => by
    refine congrArg (V m c main_arg0) (funext fun a => Fin.ext ?_)
    match a with
    | ⟨0, _⟩ =>
      show ((((cfgM m hO).win 0).blk t).view.emb (ix2 (y 0) k : S256x4096.Idx) (0 : Fin 2)).val = ((((cfgM m hO).win 5).blk t).view.emb y (0 : Fin 2)).val
      rw [e5]; blk_simp [h0]
    | ⟨1, _⟩ =>
      show ((((cfgM m hO).win 0).blk t).view.emb (ix2 (y 0) k : S256x4096.Idx) (1 : Fin 2)).val = k.val
      blk_simp [h0]
  unfold ffn1 pre
  refine congrArg₂ act
    (congrArg₂ (fun a b : EReal => a + b) (Finset.sum_congr (M := EReal) rfl fun k _ => congrArg₂ (fun a b : EReal => a * b) (hx k) ?_) ?_)
    (congrArg₂ (fun a b : EReal => a + b) (Finset.sum_congr (M := EReal) rfl fun k _ => congrArg₂ (fun a b : EReal => a * b) (hx k) ?_) ?_)
  · refine congrArg (V m c main_v0) (funext fun a => Fin.ext ?_)
    match a with
    | ⟨0, _⟩ =>
      refine Eq.trans ?_ (he _).symm
      show ((((cfgM m hO).win 1).blk t).view.emb (ix3 (0 : Fin 1) k (y 1) : S1x4096x512.Idx) (0 : Fin 3)).val = _
      blk_simp [h1]
    | ⟨1, _⟩ =>
      show ((((cfgM m hO).win 1).blk t).view.emb (ix3 (0 : Fin 1) k (y 1) : S1x4096x512.Idx) (1 : Fin 3)).val = k.val
      blk_simp [h1]
    | ⟨2, _⟩ =>
      show ((((cfgM m hO).win 1).blk t).view.emb (ix3 (0 : Fin 1) k (y 1) : S1x4096x512.Idx) (2 : Fin 3)).val = ((((cfgM m hO).win 5).blk t).view.emb y (1 : Fin 2)).val
      rw [f5]; blk_simp [h1]
  · refine congrArg (V m c main_v1) (funext fun a => Fin.ext ?_)
    match a with
    | ⟨0, _⟩ =>
      refine Eq.trans ?_ (he _).symm
      show ((((cfgM m hO).win 3).blk t).view.emb (ix3 (0 : Fin 1) (0 : Fin 1) (y 1) : S1x1x512.Idx) (0 : Fin 3)).val = _
      blk_simp [h3]
    | ⟨1, _⟩ =>
      show ((((cfgM m hO).win 3).blk t).view.emb (ix3 (0 : Fin 1) (0 : Fin 1) (y 1) : S1x1x512.Idx) (1 : Fin 3)).val = 0
      blk_simp [h3]
    | ⟨2, _⟩ =>
      show ((((cfgM m hO).win 3).blk t).view.emb (ix3 (0 : Fin 1) (0 : Fin 1) (y 1) : S1x1x512.Idx) (2 : Fin 3)).val = ((((cfgM m hO).win 5).blk t).view.emb y (1 : Fin 2)).val
      rw [f5]; blk_simp [h3]
  · refine congrArg (V m c main_v0) (funext fun a => Fin.ext ?_)
    match a with
    | ⟨0, _⟩ =>
      refine Eq.trans ?_ (he _).symm
      show ((((cfgM m hO).win 2).blk t).view.emb (ix3 (0 : Fin 1) k (y 1) : S1x4096x512.Idx) (0 : Fin 3)).val = _
      blk_simp [h2]
    | ⟨1, _⟩ =>
      show ((((cfgM m hO).win 2).blk t).view.emb (ix3 (0 : Fin 1) k (y 1) : S1x4096x512.Idx) (1 : Fin 3)).val = k.val
      blk_simp [h2]
    | ⟨2, _⟩ =>
      show ((((cfgM m hO).win 2).blk t).view.emb (ix3 (0 : Fin 1) k (y 1) : S1x4096x512.Idx) (2 : Fin 3)).val = 1536 + ((((cfgM m hO).win 5).blk t).view.emb y (1 : Fin 2)).val
      rw [f5]; blk_simp [h2]; show (3 + _) * 512 + (y 1).val = _; omega
  · refine congrArg (V m c main_v2) (funext fun a => Fin.ext ?_)
    match a with
    | ⟨0, _⟩ =>
      refine Eq.trans ?_ (he _).symm
      show ((((cfgM m hO).win 4).blk t).view.emb (ix3 (0 : Fin 1) (0 : Fin 1) (y 1) : S1x1x512.Idx) (0 : Fin 3)).val = _
      blk_simp [h4]
    | ⟨1, _⟩ =>
      show ((((cfgM m hO).win 4).blk t).view.emb (ix3 (0 : Fin 1) (0 : Fin 1) (y 1) : S1x1x512.Idx) (1 : Fin 3)).val = 0
      blk_simp [h4]
    | ⟨2, _⟩ =>
      show ((((cfgM m hO).win 4).blk t).view.emb (ix3 (0 : Fin 1) (0 : Fin 1) (y 1) : S1x1x512.Idx) (2 : Fin 3)).val = 1536 + ((((cfgM m hO).win 5).blk t).view.emb y (1 : Fin 2)).val
      rw [f5]; blk_simp [h4]; show (3 + _) * 512 + (y 1).val = _; omega

section Run

variable (m : (ℓ : Loc nD τ sig) → Buf (Elt Ideal) ℓ) (ρ : Dev nD → PrngReg)

theorem V_v0 (c : Dev nD) : (V m c main_v0 : S32x4096x3072.Idx → EReal) = m ((c : Thread nD τ).loc main_arg1) := by
  show StableHlo.after hostOps0 _ (Proc.devRef .tc main_v0) = _
  unfold hostOps0; after_results; rfl

/-- A table of biases as the call takes it: a row of one per expert. -/
theorem bias_apply (b : S32x3072.Idx → EReal) (h : S32x3072.ShapeCasts S32x1x3072) (e : Fin 32) (f : Fin 3072) :
    shapeCast S32x1x3072 b h (ix3 e (0 : Fin 1) f) = b (ix2 e f) :=
  shapeCast_apply _ _ _ (ix2 e f) (by
    refine (Shape.rowMajor_val_two _).trans (Eq.trans ?_ (Shape.rowMajor_val_three _).symm)
    show e.val * 3072 + f.val = (e.val * 1 + 0) * 3072 + f.val
    omega)

theorem V_v1 (c : Dev nD) (e : Fin 32) (f : Fin 3072) :
    (V m c main_v1 : S32x1x3072.Idx → EReal) (ix3 e (0 : Fin 1) f) = (m ((c : Thread nD τ).loc main_arg2) : S32x3072.Idx → EReal) (ix2 e f) := by
  rw [show (V m c main_v1 : S32x1x3072.Idx → EReal) = shapeCast S32x1x3072 (m ((c : Thread nD τ).loc main_arg2)) shapeCasts_S32x3072_S32x1x3072 by
    show StableHlo.after hostOps0 _ (Proc.devRef .tc main_v1) = _
    unfold hostOps0; after_results; rfl]
  exact bias_apply _ _ e f

theorem V_v2 (c : Dev nD) (e : Fin 32) (f : Fin 3072) :
    (V m c main_v2 : S32x1x3072.Idx → EReal) (ix3 e (0 : Fin 1) f) = (m ((c : Thread nD τ).loc main_arg2) : S32x3072.Idx → EReal) (ix2 e f) := by
  rw [show (V m c main_v2 : S32x1x3072.Idx → EReal) = shapeCast S32x1x3072 (m ((c : Thread nD τ).loc main_arg2)) shapeCasts_S32x3072_S32x1x3072 by
    show StableHlo.after hostOps0 _ (Proc.devRef .tc main_v2) = _
    unfold hostOps0; after_results; rfl]
  exact bias_apply _ _ e f

/-- The result, off the arguments. -/
def result (c : Dev nD) : S73728x1536.Idx → EReal := fun i =>
  ffn1 (m ((c : Thread nD τ).loc main_arg0)) (m ((c : Thread nD τ).loc main_arg1))
    (fun e f => (m ((c : Thread nD τ).loc main_arg2) : S32x3072.Idx → EReal) (ix2 e f))
    (fun e f => (m ((c : Thread nD τ).loc main_arg2) : S32x3072.Idx → EReal) (ix2 e f))
    (experts (m ((c : Thread nD τ).loc main_arg3))) (i 0) (i 1)

theorem final (hO : Ok m) (hw : ∀ y : S288.Idx, (tbl m 0 y : BitVec 32).toNat < 32) (c : Dev nD) :
    ((dats m hO 0 c).arrAt 5 (cfgM m hO).N : S73728x1536.Idx → EReal) = result m c := by
  obtain rfl : c = 0 := Subsingleton.elim _ _
  refine (final_V m hO hw 0).trans (funext fun i => ?_)
  have e1 : (fun e f => (V m 0 main_v1 : S32x1x3072.Idx → EReal) (ix3 e (0 : Fin 1) f)) = _ := funext fun e => funext fun f => V_v1 m 0 e f
  have e2 : (fun e f => (V m 0 main_v2 : S32x1x3072.Idx → EReal) (ix3 e (0 : Fin 1) f)) = _ := funext fun e => funext fun f => V_v2 m 0 e f
  rw [e1, e2, V_main_arg0 m 0, V_v0 m 0, tbl_eq m]
  rfl

theorem run (h : Cert.Pre_Kernel3Ideal m) : θ_run defs (onTc (τ := τ) (main (F := Ideal))) ⟨m, fun _ => 0, ρ⟩ fun r => ∀ c : Dev nD,
    r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  have hO := ok_of_pre m h
  (θ_run defs _ _).mono (fun _ h' c => ⟨((h' c).1 5).trans (final m hO (words_of_pre m h) c),
      ((h' c).1 0).trans (((dats m hO 0 c).arrAt_in 0 rfl _).trans ((A_eq m hO c 0).trans (V_main_arg0 m c))),
      ((h' c).2 main_arg1 (by decide : main_arg1 ∈ Pipeline.restRefs sig spec0)).trans (V_main_arg1 m c),
      ((h' c).2 main_arg2 (by decide : main_arg2 ∈ Pipeline.restRefs sig spec0)).trans (V_main_arg2 m c),
      ((h' c).2 main_arg3 (by decide : main_arg3 ∈ Pipeline.restRefs sig spec0)).trans (V_main_arg3 m c)⟩) (run_main m ρ hO)

end Run

/-! ## The reference and the claims -/

open Cert.Reference3Ideal (S288x256x3072 S288x256x1536 S_)

/-- The reference's activation over blocks of rows, laid flat, read at a row and a column. -/
theorem ref_act (P : FVec Ideal S288x256x3072 .f32) (hg : S288x256x3072.Slices ![0, 0, 0] S288x256x1536) (hl : S288x256x3072.Slices ![0, 0, 1536] S288x256x1536)
    (hb : S_.BroadcastsInDim S288x256x1536 (![] : Fin 0 → Fin 3)) (hs : S288x256x1536.ShapeCasts S73728x1536) (ht : FTy.bits .bf16 < FTy.bits .f32)
    (r : Fin 73728) (f : Fin 1536) (g : Fin 288) (a : Fin 256) (hr : r.val = g.val * 256 + a.val) :
    (truncf .bf16 (shapeCast S73728x1536
      (mulf
        (mulf (minimumf (extractStridedSlice S288x256x1536 ![0, 0, 0] P hg) (broadcastInDim S288x256x1536 ![] hb (constant (F := Ideal) S_ .f32 0x40E00000#32)))
          (Host.divf (broadcastInDim S288x256x1536 ![] hb (constant (F := Ideal) S_ .f32 0x3F800000#32))
            (addf (broadcastInDim S288x256x1536 ![] hb (constant (F := Ideal) S_ .f32 0x3F800000#32))
              (Host.exp (Host.negf (mulf (broadcastInDim S288x256x1536 ![] hb (constant (F := Ideal) S_ .f32 0x3FD9DB23#32))
                (minimumf (extractStridedSlice S288x256x1536 ![0, 0, 0] P hg) (broadcastInDim S288x256x1536 ![] hb (constant (F := Ideal) S_ .f32 0x40E00000#32)))))))))
        (addf (minimumf (broadcastInDim S288x256x1536 ![] hb (id (constant (F := Ideal) S_ .f32 0x40E00000#32)))
            (maximumf (broadcastInDim S288x256x1536 ![] hb (id (constant (F := Ideal) S_ .f32 0xC0E00000#32))) (extractStridedSlice S288x256x1536 ![0, 0, 1536] P hl)))
          (broadcastInDim S288x256x1536 ![] hb (constant (F := Ideal) S_ .f32 0x3F800000#32)))) hs) ht (ix2 r f) : EReal)
      = act (P (ix3 g a (⟨f.val, by omega⟩ : Fin 3072))) (P (ix3 g a (⟨1536 + f.val, by omega⟩ : Fin 3072))) := by
  have one : (Ideal.ofBits .f32 0x3F800000#32 : EReal) = 1 := by
    simp [Ideal.ofBits, Ideal.ieee, -EReal.coe_mul]; norm_num
  have eg : (extractStridedSlice S288x256x1536 ![0, 0, 0] P hg (ix3 g a f) : EReal) = P (ix3 g a (⟨f.val, by omega⟩ : Fin 3072)) :=
    extractStridedSlice_apply _ _ hg _ _ fun ax => by
      match ax with
      | ⟨0, _⟩ => show g.val = 0 + g.val; omega
      | ⟨1, _⟩ => show a.val = 0 + a.val; omega
      | ⟨2, _⟩ => show f.val = 0 + f.val; omega
  have el : (extractStridedSlice S288x256x1536 ![0, 0, 1536] P hl (ix3 g a f) : EReal) = P (ix3 g a (⟨1536 + f.val, by omega⟩ : Fin 3072)) :=
    extractStridedSlice_apply _ _ hl _ _ fun ax => by
      match ax with
      | ⟨0, _⟩ => show g.val = 0 + g.val; omega
      | ⟨1, _⟩ => show a.val = 0 + a.val; omega
      | ⟨2, _⟩ => rfl
  have flat : ∀ X : FVec Ideal S288x256x1536 .f32, (truncf .bf16 (shapeCast S73728x1536 X hs) ht (ix2 r f) : EReal) = X (ix3 g a f) := fun X =>
    shapeCast_apply X hs (ix2 r f) (ix3 g a f) (by
      refine (Shape.rowMajor_val_three _).trans (Eq.trans ?_ (Shape.rowMajor_val_two _).symm)
      show (g.val * 256 + a.val) * 1536 + f.val = r.val * 1536 + f.val
      rw [hr])
  refine (flat _).trans ?_
  show min (extractStridedSlice S288x256x1536 ![0, 0, 0] P hg (ix3 g a f) : EReal) (Ideal.ofBits .f32 0x40E00000#32)
        * Ideal.div (Ideal.ofBits .f32 0x3F800000#32) (Ideal.ofBits .f32 0x3F800000#32
          + Ideal.exp (-(Ideal.ofBits .f32 0x3FD9DB23#32 * min (extractStridedSlice S288x256x1536 ![0, 0, 0] P hg (ix3 g a f) : EReal) (Ideal.ofBits .f32 0x40E00000#32))))
        * (min (Ideal.ofBits .f32 0x40E00000#32) (max (Ideal.ofBits .f32 0xC0E00000#32) (extractStridedSlice S288x256x1536 ![0, 0, 1536] P hl (ix3 g a f)))
          + Ideal.ofBits .f32 0x3F800000#32) = _
  rw [eg, el]
  unfold act Ideal.logistic
  rw [one]

/-- The reference's result is the kernel's, where the words name experts. -/
theorem ref_result (m' : (ℓ : Loc Cert.Reference3Ideal.nD Cert.Reference3Ideal.τ Cert.Reference3Ideal.sig) → Buf (Elt Ideal) ℓ) (c : Dev Cert.Reference3Ideal.nD)
    (xs : FVec Ideal S73728x4096 .f32) (w1 : FVec Ideal S32x4096x3072 .f32) (b1 : FVec Ideal S32x3072 .f32) (w : S288.Idx → BitVec 32)
    (h0 : m' ((c.tc : Thread Cert.Reference3Ideal.nD Cert.Reference3Ideal.τ).loc Cert.Reference3Ideal.main_arg0) = xs)
    (h1 : m' ((c.tc : Thread Cert.Reference3Ideal.nD Cert.Reference3Ideal.τ).loc Cert.Reference3Ideal.main_arg1) = w1)
    (h2 : m' ((c.tc : Thread Cert.Reference3Ideal.nD Cert.Reference3Ideal.τ).loc Cert.Reference3Ideal.main_arg2) = b1)
    (h3 : m' ((c.tc : Thread Cert.Reference3Ideal.nD Cert.Reference3Ideal.τ).loc Cert.Reference3Ideal.main_arg3) = w)
    (hw : ∀ y, (w y).toNat < 32) :
    (Cert.Reference3Ideal.Value.res_main_v37 m' c : S73728x1536.Idx → EReal)
      = fun i => ffn1 xs w1 (fun e f => b1 (ix2 e f)) (fun e f => b1 (ix2 e f)) (experts w) (i 0) (i 1) := by
  funext i
  obtain ⟨r, f, rfl⟩ : ∃ (r : Fin 73728) (f : Fin 1536), i = ix2 r f := ⟨i 0, i 1, eq_ix2 i⟩
  have hP : ∀ f' : Fin 3072, _ = pre xs w1 (fun e f => b1 (ix2 e f)) (experts w) r f' := fun f' =>
    Cert.Blocks.rows_apply (hE := by decide) xs Cert.Reference3Ideal.Facts₀.shapeCasts_S73728x4096_S288x256x4096 w1 b1 w _
      Cert.Reference3Ideal.Facts₀.dot_S288x256x4096_S288x4096x3072_S288x256x3072_2_1_1_2_0_0_wf
      Cert.Reference3Ideal.Facts₀.gather_S32x4096x3072_S288x1_S288x4096x3072_12_0_n_n_0_1_140963072_wf
      Cert.Reference3Ideal.gather_S32x3072_S288x1_S288x3072_1_0_n_n_0_1_13072 rfl rfl rfl rfl rfl
      Cert.Reference3Ideal.Facts₀.bcast_S288x1x3072_S288x256x3072_0_1_2 Cert.Reference3Ideal.Facts₀.bcast_S288x3072_S288x1x3072_0_2
      ⟨r.val / 256, by omega⟩ ⟨r.val % 256, by omega⟩ f' r (by show r.val = r.val / 256 * 256 + r.val % 256; omega)
      (Cert.Blocks.index_word 32#32 w Cert.Reference3Ideal.Facts₀.bcast_S_S288 Cert.Reference3Ideal.Facts₀.bcast_S288_S288x1_0 _ (Nat.lt_trans (hw _) (by decide)))
      (hw _) (by decide)
  unfold Cert.Reference3Ideal.Value.res_main_v37
  rw [h0, h1, h2, h3]
  refine (ref_act _ _ _ _ _ _ r f ⟨r.val / 256, by omega⟩ ⟨r.val % 256, by omega⟩ (by show r.val = r.val / 256 * 256 + r.val % 256; omega)).trans ?_
  exact congrArg₂ act (hP _) (hP _)

theorem algebraic : Cert.algebraic_Kernel3Ideal_Reference3Ideal := fun m ρ m' ρ' h e =>
  ⟨fun c => result m c, run m ρ h,
    (θ_run Cert.Reference3Ideal.defs _ _).mono (fun r h' c => ⟨(h' c).1.trans (by
        obtain ⟨a0, a1, a2, a3⟩ := e c
        obtain rfl : c = 0 := Subsingleton.elim _ _
        exact ref_result m' 0 _ _ _ _ a0 a1 a2 a3 fun y => (congrArg (fun w : S288.Idx → BitVec 32 => (w y).toNat < 32) (tbl_eq m)).mp (words_of_pre m h y)), (h' c).2⟩)
      (Cert.Reference3Ideal.Value.run m' ρ')⟩

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

theorem frame_reference_pre : Cert.quiescent_Reference3Ideal_pre_experts_in_range := fun m ρ _ => frame_reference m ρ trivial

end Cert.Kernel3Ideal.Hand

/-! ## The program as compiled: the same maps -/

namespace Cert.Kernel3.Hand

open Cert.Kernel3 Cert.Kernel3.Gen Idealize.ShloMosaic Idealize.ShloMosaic.TcCoe

/-- The precondition is what the pipeline asks of the table: the maps are the idealized program's. -/
theorem ok_of_pre (m : (ℓ : Loc nD τ sig) → Buf (Elt Bits) ℓ) (h : Cert.Pre_Kernel3 m) : Ok m := by
  have hw : ∀ y : S288.Idx, (tbl m 0 y : BitVec 32).toNat < 32 := fun y =>
    (congrArg (fun w : S288.Idx → BitVec 32 => (w y).toNat < 32) (V_main_arg3 m 0)).mpr (Cert.Ffn1.words_lt _ _ _ _ (h 0) y)
  exact Cert.Kernel3Ideal.Hand.ok_words (F := Bits) (fun | ⟨0, _⟩ => tbl m 0) hw

theorem frame : Cert.quiescent_Kernel3 := fun m ρ h => Gen.frame m ρ (ok_of_pre m h)

end Cert.Kernel3.Hand

end
-- ==== Proof.Ffn2.lean ====
module

public import proofs.«01_k».proof.Defs
public import proofs.«01_k».proof.Proof.Dense
public import proofs.«01_k».proof.Proof.Blocks
public import proofs.«01_k».proof.Proof.Ffn1
public import proofs.«01_k».proof.Proof.Gen.Kernel6.Frame
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Pre_owners_in_range
public import Idealize.ShloMosaic.Lib.ReduceAll
public import Idealize.ShloMosaic.Lib.Claim
public import Idealize.ShloMosaic.Lib.Pipeline.ValueKit.Geometry
public import Idealize.ShloMosaic.Lib.Pipeline.ValueKit.Acc
public import Idealize.ShloMosaic.Lib.Pipeline.Covers

@[expose] public section

/-! # The experts' second product and the slots' weights

A block of 256 activated rows goes through the second matrix of the expert that the block's word names; the expert's bias is
added and every row is scaled by its slot's weight. The words come in a table that the index maps read, so a run needs the
words to name experts. -/

noncomputable section

/-! ## The words, as the precondition bounds them -/

namespace Cert.Ffn2

open Idealize.ShloMosaic Idealize.ShloMosaic.ValueIdx

/-- The precondition's predicate bounds every block's word. -/
theorem words_lt {F : FTy → Type} [FloatOps F] (x : FVec F Cert.Pre_owners_in_range.S73728x1536 .bf16)
    (w2 : FVec F Cert.Pre_owners_in_range.S32x1536x4096 .f32) (b2 : FVec F Cert.Pre_owners_in_range.S32x4096 .f32)
    (s : FVec F Cert.Pre_owners_in_range.S73728 .f32)
    (e : IVec Cert.Pre_owners_in_range.S288 32) (h : Cert.Pre_owners_in_range.fn (F := F) x w2 b2 s e = fun _ => 1#1)
    (y : Cert.Pre_owners_in_range.S288.Idx) : (e y).toNat < 32 := by
  have : Subsingleton Cert.Pre_owners_in_range.S_.Idx := ⟨fun a b => funext fun i => i.elim0⟩
  have e := Host.reduce_andi_all _ _ _ _ _ (congrFun h (fun i => i.elim0)) y
  simp only [andi, cmpi, broadcastInDim, constantI, IntOp.cmpi, Cert.Ffn1.andi_ofBool, Cert.Ffn1.ofBool_eq_one, Bool.and_eq_true] at e
  obtain ⟨hge, hlt⟩ := e
  simp only [BitVec.sle, BitVec.slt, decide_eq_true_eq, BitVec.toInt, BitVec.toNat_ofNat] at hge hlt
  omega

end Cert.Ffn2

/-! ## The idealized program: every index map stays in its array -/

namespace Cert.Kernel6Ideal.Hand

open Cert.Kernel6Ideal Cert.Kernel6Ideal.Gen Idealize.ShloMosaic Idealize.ShloMosaic.TcCoe Idealize.ShloMosaic.ValueIdx

variable {F : FTy → Type} [FloatOps F]

/-- The word that the index maps read at a point is the table's at the point's block. -/
theorem word_at (pf : pre0.Contents (Elt F)) (i : grid0.Coords) :
    pf.at 0 (Rect.unit (s := S288) (k0_off1 i) S1.size (k0_off1_inb i)) numel1_S1 = pf 0 (ix1 (i 1)) := by
  refine congrArg (pf 0) (funext fun a => Fin.ext ?_)
  match a with
  | ⟨0, _⟩ =>
    show k0_off1 i 0 + 1 * 0 = (i 1).val
    rw [k0_off1_eq]
    rfl

/-- The column block's number, as the maps compute it. -/
theorem col (i : grid0.Coords) : (BitVec.ofNat 32 (i 0).val).toNat = (i 0).val :=
  (by decide : ∀ j : Fin 4, (BitVec.ofNat 32 j.val).toNat = j.val) (i 0)

theorem map1 (pf : pre0.Contents (Elt F)) (i : grid0.Coords) : cc0_transform_1 k0_off1_inb numel1_S1 pf i
    = ![(pf 0 (ix1 (i 1)) : BitVec 32).toNat, 0, (i 0).val] :=
  congrArg₂ (fun (w : BitVec 32) (n : ℕ) => ![w.toNat, 0, n]) (word_at pf i) (col i)

theorem map2 (pf : pre0.Contents (Elt F)) (i : grid0.Coords) : cc0_transform_2 k0_off1_inb numel1_S1 pf i
    = ![(pf 0 (ix1 (i 1)) : BitVec 32).toNat, 0, (i 0).val] :=
  congrArg₂ (fun (w : BitVec 32) (n : ℕ) => ![w.toNat, 0, n]) (word_at pf i) (col i)

/-- Words that name experts keep every block in its array. -/
theorem ok_words (pf : pre0.Contents (Elt F)) (h : ∀ y : S288.Idx, (pf 0 y : BitVec 32).toNat < 32) : ok0 pf := by
  have hi : ∀ i : grid0.Coords, (i 0).val < 4 := fun i => (i 0).isLt
  refine ⟨fun i => ?_, fun i => ?_⟩
  · refine Cert.Blocks.block_ok (E := 32) (K := 1536) (N := 4096) (B := 1024) .bf16 _ ?_ ?_ ?_ <;> rw [map1]
    · exact h _
    · rfl
    · show ((i 0).val + 1) * 1024 ≤ 4096
      have := hi i; omega
  · refine Cert.Blocks.block_ok (E := 32) (K := 1) (N := 4096) (B := 1024) .f32 _ ?_ ?_ ?_ <;> rw [map2]
    · exact h _
    · rfl
    · show ((i 0).val + 1) * 1024 ≤ 4096
      have := hi i; omega

theorem tbl_eq (m : (ℓ : Loc nD τ sig) → Buf (Elt F) ℓ) : (tbl m 0 : S288.Idx → BitVec 32) = m (((0 : Dev nD).tc : Thread nD τ).loc main_arg4) :=
  V_main_arg4 m 0

/-- The precondition has the table's words name experts. -/
theorem words_of_pre (m : (ℓ : Loc nD τ sig) → Buf (Elt Ideal) ℓ) (h : Cert.Pre_Kernel6Ideal m) (y : S288.Idx) : (tbl m 0 y : BitVec 32).toNat < 32 :=
  (congrArg (fun w : S288.Idx → BitVec 32 => (w y).toNat < 32) (tbl_eq m)).mpr (Cert.Ffn2.words_lt _ _ _ _ _ (h 0) y)

/-- That is what the pipeline asks of the table. -/
theorem ok_of_pre (m : (ℓ : Loc nD τ sig) → Buf (Elt Ideal) ℓ) (h : Cert.Pre_Kernel6Ideal m) : Ok m :=
  ok_words (tbl m) (words_of_pre m h)

theorem frame : Cert.quiescent_Kernel6Ideal := fun m ρ h => Gen.frame m ρ (ok_of_pre m h)

/-! ## The values -/

open Idealize.SL Idealize.SL.Sem Idealize.ShloMosaic.StackMember
open Idealize.ShloMosaic.Pipeline (Dat)
open scoped BigOperators

/-- What a run leaves in the result's buffer: the body's one store, over the blocks. -/
theorem out_eq (c : Dev nD) (i : grid0.Coords) (arg3 : Memref sig .tc .vmem S256x1536 .bf16) (harg3 : arg3.IsWhole) (arg4 : Memref sig .tc .vmem S1x1536x1024 .bf16) (harg4 : arg4.IsWhole)
    (arg5 : Memref sig .tc .vmem S1x1x1024 .f32) (harg5 : arg5.IsWhole) (arg6 : Memref sig .tc .vmem S256x1 .f32) (harg6 : arg6.IsWhole)
    (arg7 : Memref sig .tc .vmem S256x1024 .f32) (harg7 : arg7.IsWhole) (x0 : Vec F S256x1536 .bf16) (x1 : Vec F S1x1536x1024 .bf16) (x2 : Vec F S1x1x1024 .f32) (x3 : Vec F S256x1 .f32)
    (xt0 : TbBuf0 (F := F) c tbM0_0) :
    out0_A_4 c i arg3 harg3 arg4 harg4 arg5 harg5 arg6 harg6 arg7 harg7 x0 x1 x2 x3 xt0 = k0_pay1 x0 x1 x2 x3 := by
  unfold out0_A_4
  rw [View.read_writes_junk_eq_canon]
  show View.canon ([⟨Rect.unit ![0, 0] S256x1024.size inb_S256x1024_S256x1024_0_0,
      k0_pay1
        (View.readAt (Elt F) arg3.view (Rect.unit ![0, 0] S256x1536.size inb_S256x1536_S256x1536_0_0).toLoadRect (harg3.unread x0))
        (View.readAt (Elt F) arg4.view (Rect.unit ![0, 0, 0] S1x1536x1024.size inb_S1x1536x1024_S1x1536x1024_0_0_0).toLoadRect (harg4.unread x1))
        (View.readAt (Elt F) arg5.view (Rect.unit ![0, 0, 0] S1x1x1024.size inb_S1x1x1024_S1x1x1024_0_0_0).toLoadRect (harg5.unread x2))
        (View.readAt (Elt F) arg6.view (Rect.unit ![0, 0] S256x1.size inb_S256x1_S256x1_0_0).toLoadRect (harg6.unread x3))⟩] :
      List (View.Piece (Elt F) S256x1024 .f32)) = _
  rw [View.canon_unit_zero (by decide)]
  repeat rw [View.readAt_eq_ld]
  rw [harg3.read_unread, harg4.read_unread, harg5.read_unread, harg6.read_unread]
  repeat rw [View.ld_unit_zero (by decide)]

/-- A block of the result at an entry. -/
theorem pay_apply (x0 : Vec Ideal S256x1536 .bf16) (x1 : Vec Ideal S1x1536x1024 .bf16) (x2 : Vec Ideal S1x1x1024 .f32) (x3 : Vec Ideal S256x1 .f32) (y : S256x1024.Idx) :
    (k0_pay1 (F := Ideal) x0 x1 x2 x3 y : EReal)
      = ((∑ k : Fin 1536, (x0 (ix2 (y 0) k) : EReal) * x1 (ix3 (0 : Fin 1) k (y 1))) + x2 (ix3 (0 : Fin 1) (0 : Fin 1) (y 1)))
        * x3 (ix2 (y 0) (0 : Fin 1)) := by
  refine congrArg₂ (fun a b : EReal => a * b) (congrArg₂ (fun a b : EReal => a + b)
    ((Dense.matmul_apply .bf16 .bf16 x0 (shapeCast S1536x1024 x1 shapeCasts_S1x1536x1024_S1536x1024) y).trans
      (Finset.sum_congr (M := EReal) rfl fun k _ => congrArg (fun b : EReal => x0 (ix2 (y 0) k) * b)
        (shapeCast_apply _ _ _ (ix3 (0 : Fin 1) k (y 1)) ?_))) ?_) ?_
  · refine (Shape.rowMajor_val_three _).trans (Eq.trans ?_ (Shape.rowMajor_val_two _).symm)
    show (0 * 1536 + k.val) * 1024 + (y 1).val = k.val * 1024 + (y 1).val
    omega
  · refine (broadcastTo_apply _ _ y (ix2 (0 : Fin 1) (y 1)) fun a => ?_).trans (shapeCast_apply _ _ _ (ix3 (0 : Fin 1) (0 : Fin 1) (y 1)) ?_)
    · match a with
      | ⟨0, _⟩ => rfl
      | ⟨1, _⟩ => rfl
    · refine (Shape.rowMajor_val_three _).trans (Eq.trans ?_ (Shape.rowMajor_val_two _).symm)
      rfl
  · refine (broadcastTo_apply _ _ y (ix2 (y 0) (0 : Fin 1)) fun a => ?_).trans (congrFun (shapeCast_self _ _) _)
    match a with
    | ⟨0, _⟩ => rfl
    | ⟨1, _⟩ => rfl

section Blocks

variable (m : (ℓ : Loc nD τ sig) → Buf (Elt F) ℓ)

/-- The result's blocks tile it: block (i, j) is the grid's point (j, i). -/
theorem covers4 (hO : Ok m) : ((cfgM m hO).win 4).Covers := by
  refine Pipeline.Window.covers_of_indexMap_surj _ rfl (fun a => ?_) fun β => ?_
  · match a with
    | ⟨0, _⟩ => show 0 < 256; omega
    | ⟨1, _⟩ => show 0 < 1024; omega
  · have b0 : (β (0 : Fin 2)).val < 288 := Nat.lt_of_lt_of_eq (β (0 : Fin 2)).isLt (by simp [Pipeline.Window.nblk])
    have b1 : (β (1 : Fin 2)).val < 4 := Nat.lt_of_lt_of_eq (β (1 : Fin 2)).isLt (by simp [Pipeline.Window.nblk])
    refine ⟨fun | ⟨0, _⟩ => ⟨(β (1 : Fin 2)).val, b1⟩ | ⟨1, _⟩ => ⟨(β (0 : Fin 2)).val, b0⟩, fun a => ?_⟩
    match a with
    | ⟨0, _⟩ => exact (Nat.mod_eq_of_lt (Nat.lt_trans b0 (by decide)) : (BitVec.ofNat 32 (β (0 : Fin 2)).val).toNat = _)
    | ⟨1, _⟩ => exact (Nat.mod_eq_of_lt (Nat.lt_trans b1 (by decide)) : (BitVec.ofNat 32 (β (1 : Fin 2)).val).toNat = _)

/-- Each window's block at a point: the row block's for the rows, the weights and the result, the named expert's for the tables. -/
theorem idx_at (hO : Ok m) (t : Fin (cfgM m hO).N) :
    ((cfgM m hO).win 0).index t = ![(grid0.coords t 1).val, 0]
    ∧ ((cfgM m hO).win 1).index t = ![(tbl m 0 (ix1 (grid0.coords t 1)) : BitVec 32).toNat, 0, (grid0.coords t 0).val]
    ∧ ((cfgM m hO).win 2).index t = ![(tbl m 0 (ix1 (grid0.coords t 1)) : BitVec 32).toNat, 0, (grid0.coords t 0).val]
    ∧ ((cfgM m hO).win 3).index t = ![(grid0.coords t 1).val, 0]
    ∧ ((cfgM m hO).win 4).index t = ![(grid0.coords t 1).val, (grid0.coords t 0).val] := by
  have b1 : (grid0.coords t 1).val < 288 := (grid0.coords t 1).isLt
  have e1 : (BitVec.ofNat 32 (grid0.coords t 1).val).toNat = (grid0.coords t 1).val := Nat.mod_eq_of_lt (by omega)
  exact ⟨congrArg (fun n : ℕ => ![n, 0]) e1, map1 (tbl m) _, map2 (tbl m) _, congrArg (fun n : ℕ => ![n, 0]) e1,
    congrArg₂ (fun n k : ℕ => ![n, k]) e1 (col _)⟩

end Blocks

/-- An activated row's product with its expert's second matrix, plus the expert's bias, times the row's weight. -/
def ffn2 (a : S73728x1536.Idx → EReal) (w2 : S32x1536x4096.Idx → EReal) (b2 : Fin 32 → Fin 4096 → EReal) (s : Fin 73728 → EReal) (e : Fin 288 → Fin 32)
    (r : Fin 73728) (f : Fin 4096) : EReal :=
  ((∑ k : Fin 1536, a (ix2 r k) * w2 (ix3 (e ⟨r.val / 256, by omega⟩) k f)) + b2 (e ⟨r.val / 256, by omega⟩) f) * s r

/-- The experts' numbers, off the table's words. -/
abbrev experts (w : S288.Idx → BitVec 32) : Fin 288 → Fin 32 := Cert.Blocks.owner 32 (by decide) w

section Run

variable (m : (ℓ : Loc nD τ sig) → Buf (Elt Ideal) ℓ) (ρ : Dev nD → PrngReg)

/-- The result's array after the call, over the arrays as the call finds them. -/
theorem final_V (hO : Ok m) (hw : ∀ y : S288.Idx, (tbl m 0 y : BitVec 32).toNat < 32) (c : Dev nD) :
    ((dats m hO 0 c).arrAt 4 (cfgM m hO).N : S73728x4096.Idx → EReal)
      = fun i : S73728x4096.Idx => ffn2 (V m c main_arg0) (V m c main_v0) (fun e f => (V m c main_v1 : S32x1x4096.Idx → EReal) (ix3 e (0 : Fin 1) f))
          (fun r => (V m c main_v2 : S73728x1.Idx → EReal) (ix2 r (0 : Fin 1))) (experts (tbl m 0)) (i 0) (i 1) := by
  refine (dats m hO 0 c).arrAt_eq_of_covers 4 _ (covers4 m hO) fun t hf (y : S256x1024.Idx) => ?_
  obtain ⟨h0, h1, h2, h3, h4⟩ := idx_at m hO t
  have e4 : ((((cfgM m hO).win 4).blk t).view.emb y (0 : Fin 2)).val = (grid0.coords t 1).val * 256 + (y 0).val := by blk_simp [h4]
  have f4 : ((((cfgM m hO).win 4).blk t).view.emb y (1 : Fin 2)).val = (grid0.coords t 0).val * 1024 + (y 1).val := by blk_simp [h4]
  have hb : ((((cfgM m hO).win 4).blk t).view.emb y (0 : Fin 2)).val / 256 = (grid0.coords t 1).val := by
    rw [e4]; idx_bounds y; omega
  have he : ∀ h, (experts (tbl m 0) ⟨((((cfgM m hO).win 4).blk t).view.emb y (0 : Fin 2)).val / 256, h⟩).val
      = (tbl m 0 (ix1 (grid0.coords t 1)) : BitVec 32).toNat := fun h => by
    rw [show (⟨((((cfgM m hO).win 4).blk t).view.emb y (0 : Fin 2)).val / 256, h⟩ : Fin 288) = grid0.coords t 1 from Fin.ext hb]
    exact Nat.mod_eq_of_lt (hw _)
  blk_simp
  rw [after0_4]
  unfold outsAt0
  refine (congrFun (out_eq c _ _ _ _ _ _ _ _ _ _ _ _ _ _ _ _) y).trans ((pay_apply _ _ _ _ y).trans ?_)
  unfold ffn2
  refine congrArg₂ (fun a b : EReal => a * b)
    (congrArg₂ (fun a b : EReal => a + b) (Finset.sum_congr (M := EReal) rfl fun k _ => congrArg₂ (fun a b : EReal => a * b) ?_ ?_) ?_) ?_
  · refine congrArg (V m c main_arg0) (funext fun a => Fin.ext ?_)
    match a with
    | ⟨0, _⟩ =>
      show ((((cfgM m hO).win 0).blk t).view.emb (ix2 (y 0) k : S256x1536.Idx) (0 : Fin 2)).val = ((((cfgM m hO).win 4).blk t).view.emb y (0 : Fin 2)).val
      rw [e4]; blk_simp [h0]
    | ⟨1, _⟩ =>
      show ((((cfgM m hO).win 0).blk t).view.emb (ix2 (y 0) k : S256x1536.Idx) (1 : Fin 2)).val = k.val
      blk_simp [h0]
  · refine congrArg (V m c main_v0) (funext fun a => Fin.ext ?_)
    match a with
    | ⟨0, _⟩ =>
      refine Eq.trans ?_ (he _).symm
      show ((((cfgM m hO).win 1).blk t).view.emb (ix3 (0 : Fin 1) k (y 1) : S1x1536x1024.Idx) (0 : Fin 3)).val = _
      blk_simp [h1]
    | ⟨1, _⟩ =>
      show ((((cfgM m hO).win 1).blk t).view.emb (ix3 (0 : Fin 1) k (y 1) : S1x1536x1024.Idx) (1 : Fin 3)).val = k.val
      blk_simp [h1]
    | ⟨2, _⟩ =>
      show ((((cfgM m hO).win 1).blk t).view.emb (ix3 (0 : Fin 1) k (y 1) : S1x1536x1024.Idx) (2 : Fin 3)).val = ((((cfgM m hO).win 4).blk t).view.emb y (1 : Fin 2)).val
      rw [f4]; blk_simp [h1]
  · refine congrArg (V m c main_v1) (funext fun a => Fin.ext ?_)
    match a with
    | ⟨0, _⟩ =>
      refine Eq.trans ?_ (he _).symm
      show ((((cfgM m hO).win 2).blk t).view.emb (ix3 (0 : Fin 1) (0 : Fin 1) (y 1) : S1x1x1024.Idx) (0 : Fin 3)).val = _
      blk_simp [h2]
    | ⟨1, _⟩ =>
      show ((((cfgM m hO).win 2).blk t).view.emb (ix3 (0 : Fin 1) (0 : Fin 1) (y 1) : S1x1x1024.Idx) (1 : Fin 3)).val = 0
      blk_simp [h2]
    | ⟨2, _⟩ =>
      show ((((cfgM m hO).win 2).blk t).view.emb (ix3 (0 : Fin 1) (0 : Fin 1) (y 1) : S1x1x1024.Idx) (2 : Fin 3)).val = ((((cfgM m hO).win 4).blk t).view.emb y (1 : Fin 2)).val
      rw [f4]; blk_simp [h2]
  · refine congrArg (V m c main_v2) (funext fun a => Fin.ext ?_)
    match a with
    | ⟨0, _⟩ =>
      show ((((cfgM m hO).win 3).blk t).view.emb (ix2 (y 0) (0 : Fin 1) : S256x1.Idx) (0 : Fin 2)).val = ((((cfgM m hO).win 4).blk t).view.emb y (0 : Fin 2)).val
      rw [e4]; blk_simp [h3]
    | ⟨1, _⟩ =>
      show ((((cfgM m hO).win 3).blk t).view.emb (ix2 (y 0) (0 : Fin 1) : S256x1.Idx) (1 : Fin 2)).val = 0
      blk_simp [h3]

theorem V_v0 (c : Dev nD) : (V m c main_v0 : S32x1536x4096.Idx → EReal) = m ((c : Thread nD τ).loc main_arg1) := by
  show StableHlo.after hostOps0 _ (Proc.devRef .tc main_v0) = _
  unfold hostOps0; after_results; rfl

theorem V_v1 (c : Dev nD) (e : Fin 32) (f : Fin 4096) :
    (V m c main_v1 : S32x1x4096.Idx → EReal) (ix3 e (0 : Fin 1) f) = (m ((c : Thread nD τ).loc main_arg2) : S32x4096.Idx → EReal) (ix2 e f) := by
  rw [show (V m c main_v1 : S32x1x4096.Idx → EReal) = shapeCast S32x1x4096 (m ((c : Thread nD τ).loc main_arg2)) shapeCasts_S32x4096_S32x1x4096 by
    show StableHlo.after hostOps0 _ (Proc.devRef .tc main_v1) = _
    unfold hostOps0; after_results; rfl]
  refine shapeCast_apply _ _ _ (ix2 e f) ?_
  refine (Shape.rowMajor_val_two _).trans (Eq.trans ?_ (Shape.rowMajor_val_three _).symm)
  show e.val * 4096 + f.val = (e.val * 1 + 0) * 4096 + f.val
  omega

theorem V_v2 (c : Dev nD) (r : Fin 73728) :
    (V m c main_v2 : S73728x1.Idx → EReal) (ix2 r (0 : Fin 1)) = (m ((c : Thread nD τ).loc main_arg3) : S73728.Idx → EReal) (ix1 r) := by
  rw [show (V m c main_v2 : S73728x1.Idx → EReal) = shapeCast S73728x1 (m ((c : Thread nD τ).loc main_arg3)) shapeCasts_S73728_S73728x1 by
    show StableHlo.after hostOps0 _ (Proc.devRef .tc main_v2) = _
    unfold hostOps0; after_results; rfl]
  refine shapeCast_apply _ _ _ (ix1 r) ?_
  refine (Shape.rowMajor_val_one _).trans (Eq.trans ?_ (Shape.rowMajor_val_two _).symm)
  show r.val = r.val * 1 + 0
  omega

/-- The result, off the arguments. -/
def result (c : Dev nD) : S73728x4096.Idx → EReal := fun i =>
  ffn2 (m ((c : Thread nD τ).loc main_arg0)) (m ((c : Thread nD τ).loc main_arg1))
    (fun e f => (m ((c : Thread nD τ).loc main_arg2) : S32x4096.Idx → EReal) (ix2 e f))
    (fun r => (m ((c : Thread nD τ).loc main_arg3) : S73728.Idx → EReal) (ix1 r))
    (experts (m ((c : Thread nD τ).loc main_arg4))) (i 0) (i 1)

theorem final (hO : Ok m) (hw : ∀ y : S288.Idx, (tbl m 0 y : BitVec 32).toNat < 32) (c : Dev nD) :
    ((dats m hO 0 c).arrAt 4 (cfgM m hO).N : S73728x4096.Idx → EReal) = result m c := by
  obtain rfl : c = 0 := Subsingleton.elim _ _
  refine (final_V m hO hw 0).trans (funext fun i => ?_)
  have e1 : (fun e f => (V m 0 main_v1 : S32x1x4096.Idx → EReal) (ix3 e (0 : Fin 1) f)) = _ := funext fun e => funext fun f => V_v1 m 0 e f
  have e2 : (fun r => (V m 0 main_v2 : S73728x1.Idx → EReal) (ix2 r (0 : Fin 1))) = _ := funext fun r => V_v2 m 0 r
  rw [e1, e2, V_main_arg0 m 0, V_v0 m 0, tbl_eq m]
  rfl

theorem run (h : Cert.Pre_Kernel6Ideal m) : θ_run defs (onTc (τ := τ) (main (F := Ideal))) ⟨m, fun _ => 0, ρ⟩ fun r => ∀ c : Dev nD,
    r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  have hO := ok_of_pre m h
  (θ_run defs _ _).mono (fun _ h' c => ⟨((h' c).1 4).trans (final m hO (words_of_pre m h) c),
      ((h' c).1 0).trans (((dats m hO 0 c).arrAt_in 0 rfl _).trans ((A_eq m hO c 0).trans (V_main_arg0 m c))),
      ((h' c).2 main_arg1 (by decide : main_arg1 ∈ Pipeline.restRefs sig spec0)).trans (V_main_arg1 m c),
      ((h' c).2 main_arg2 (by decide : main_arg2 ∈ Pipeline.restRefs sig spec0)).trans (V_main_arg2 m c),
      ((h' c).2 main_arg3 (by decide : main_arg3 ∈ Pipeline.restRefs sig spec0)).trans (V_main_arg3 m c),
      ((h' c).2 main_arg4 (by decide : main_arg4 ∈ Pipeline.restRefs sig spec0)).trans (V_main_arg4 m c)⟩) (run_main m ρ hO)

end Run

/-! ## The reference and the claims -/

open Cert.Reference6Ideal (S288x256x4096 S288x256x1 S288x256)

/-- The reference's scaling over blocks of rows, laid flat, read at a row and a column. -/
theorem ref_scale (P : FVec Ideal S288x256x4096 .f32) (s : FVec Ideal S73728 .f32) (h1 : S288x256x1.BroadcastsInDim S288x256x4096 (![0, 1, 2] : Fin 3 → Fin 3))
    (h2 : S288x256.BroadcastsInDim S288x256x1 (![0, 1] : Fin 2 → Fin 3)) (hc : S73728.ShapeCasts S288x256) (hs : S288x256x4096.ShapeCasts S73728x4096)
    (r : Fin 73728) (f : Fin 4096) (g : Fin 288) (a : Fin 256) (hr : r.val = g.val * 256 + a.val) :
    (shapeCast S73728x4096 (mulf P (broadcastInDim S288x256x4096 ![0, 1, 2] h1 (broadcastInDim S288x256x1 ![0, 1] h2 (shapeCast S288x256 s hc)))) hs (ix2 r f) : EReal)
      = P (ix3 g a f) * s (ix1 r) := by
  refine (shapeCast_apply _ hs _ (ix3 g a f) ?_).trans (congrArg (fun b : EReal => P (ix3 g a f) * b) ?_)
  · refine (Shape.rowMajor_val_three _).trans (Eq.trans ?_ (Shape.rowMajor_val_two _).symm)
    show (g.val * 256 + a.val) * 4096 + f.val = r.val * 4096 + f.val
    rw [hr]
  · refine (broadcastInDim_apply _ _ _ _ (ix3 g a (0 : Fin 1)) fun ax => ?_).trans ((broadcastInDim_apply _ _ _ _ (ix2 g a) fun ax => ?_).trans
      (shapeCast_apply _ hc _ (ix1 r) ?_))
    · match ax with
      | ⟨0, _⟩ => rfl
      | ⟨1, _⟩ => rfl
      | ⟨2, _⟩ => rfl
    · match ax with
      | ⟨0, _⟩ => rfl
      | ⟨1, _⟩ => rfl
    · refine (Shape.rowMajor_val_one _).trans (Eq.trans ?_ (Shape.rowMajor_val_two _).symm)
      exact hr

theorem algebraic : Cert.algebraic_Kernel6Ideal_Reference6Ideal := fun m ρ m' ρ' h e =>
  ⟨fun c => result m c, run m ρ h,
    (θ_run Cert.Reference6Ideal.defs _ _).mono (fun r h' c => ⟨(h' c).1.trans (by
        obtain ⟨a0, a1, a2, a3, a4⟩ := e c
        obtain rfl : c = 0 := Subsingleton.elim _ _
        rw [a0, a1, a2, a3, a4]
        have hw : ∀ y, ((m (((0 : Dev nD).tc : Thread nD τ).loc main_arg4) : S288.Idx → BitVec 32) y).toNat < 32 := fun y =>
          (congrArg (fun w : S288.Idx → BitVec 32 => (w y).toNat < 32) (tbl_eq m)).mp (words_of_pre m h y)
        funext i
        obtain ⟨r, f, rfl⟩ : ∃ (r : Fin 73728) (f : Fin 4096), i = ix2 r f := ⟨i 0, i 1, eq_ix2 i⟩
        have hr : r.val = r.val / 256 * 256 + r.val % 256 := by omega
        refine (ref_scale _ _ _ _ _ _ r f ⟨r.val / 256, by omega⟩ ⟨r.val % 256, by omega⟩ hr).trans ?_
        refine congrArg (fun b : EReal => b * (m (((0 : Dev nD).tc : Thread nD τ).loc main_arg3) : S73728.Idx → EReal) (ix1 r)) ?_
        exact Cert.Blocks.rows_apply (hE := by decide) (extf .f32 (m (((0 : Dev nD).tc : Thread nD τ).loc main_arg0)) bitsLt_bf16_f32)
          Cert.Reference6Ideal.Facts₀.shapeCasts_S73728x1536_S288x256x1536 _ _ _ _
          Cert.Reference6Ideal.Facts₀.dot_S288x256x1536_S288x1536x4096_S288x256x4096_2_1_1_2_0_0_wf
          Cert.Reference6Ideal.Facts₀.gather_S32x1536x4096_S288x1_S288x1536x4096_12_0_n_n_0_1_115364096_wf
          Cert.Reference6Ideal.gather_S32x4096_S288x1_S288x4096_1_0_n_n_0_1_14096 rfl rfl rfl rfl rfl
          Cert.Reference6Ideal.Facts₀.bcast_S288x1x4096_S288x256x4096_0_1_2 Cert.Reference6Ideal.Facts₀.bcast_S288x4096_S288x1x4096_0_2
          ⟨r.val / 256, by omega⟩ ⟨r.val % 256, by omega⟩ f r hr
          (Cert.Blocks.index_word 32#32 _ Cert.Reference6Ideal.Facts₀.bcast_S_S288 Cert.Reference6Ideal.Facts₀.bcast_S288_S288x1_0 _ (Nat.lt_trans (hw _) (by decide)))
          (hw _) (by decide)), (h' c).2⟩)
      (Cert.Reference6Ideal.Value.run m' ρ')⟩

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

theorem frame_reference_pre : Cert.quiescent_Reference6Ideal_pre_owners_in_range := fun m ρ _ => frame_reference m ρ trivial

end Cert.Kernel6Ideal.Hand

/-! ## The program at the machine's words -/

namespace Cert.Kernel6.Hand

open Cert.Kernel6 Cert.Kernel6.Gen Idealize.ShloMosaic Idealize.ShloMosaic.TcCoe

/-- The precondition is what the pipeline asks of the table: the maps are the idealized program's. -/
theorem ok_of_pre (m : (ℓ : Loc nD τ sig) → Buf (Elt Bits) ℓ) (h : Cert.Pre_Kernel6 m) : Ok m := by
  have hw : ∀ y : S288.Idx, (tbl m 0 y : BitVec 32).toNat < 32 := fun y =>
    (congrArg (fun w : S288.Idx → BitVec 32 => (w y).toNat < 32) (V_main_arg4 m 0)).mpr (Cert.Ffn2.words_lt _ _ _ _ _ (h 0) y)
  exact Cert.Kernel6Ideal.Hand.ok_words (F := Bits) (fun | ⟨0, _⟩ => tbl m 0) hw

theorem frame : Cert.quiescent_Kernel6 := fun m ρ h => Gen.frame m ρ (ok_of_pre m h)

end Cert.Kernel6.Hand

end
-- ==== Proof.CombinePoint.lean ====
/- One grid point of the combination: 512 row copies into the scratch started on one DMA semaphore by a first loop and
   waited for by a second, then the four rows of each token added, gated, added to the token and normalised. Hand-written. -/
module

public import proofs.«01_k».proof.Proof.Gen.Kernel5Ideal.Skeleton
public import proofs.«01_k».proof.Proof.Gen.Kernel5Ideal.Loops
public import Idealize.ShloMosaic.Lib.Batch
public import Idealize.ShloMosaic.Lib.Ring
public import Idealize.ShloMosaic.Lib.VecWindow
public import Idealize.ShloMosaic.Lib.Tactic
public import Idealize.ShloMosaic.Lib.Pipeline.FrameBody
public import Idealize.ShloMosaic.Lib.Pipeline.FrameValue

@[expose] public section

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem trips1 : k0_t1_loop.trips = 512 := by decide
theorem trips2 : k0_t2_loop.trips = 512 := by decide

variable (c : Dev nD) (arg1 : Memref sig .tc .smem S512 .i32) (harg1 : arg1.IsWhole)

/-- The word the trip reads. -/
abbrev wordAt (f : Buf (Elt F) (arg1.view.loc (c : Thread nD τ))) (k : Fin k0_t1_loop.trips) : BitVec 32 :=
  View.readAt (Elt F) arg1.view (Rect.unit (s := S512) (k0_off1 k) S1.size (k0_off1_inb k)).toLoadRect f (Shape.Idx.first (numel1_S1.symm ▸ Nat.one_pos))

def dstRow (k : Fin k0_t1_loop.trips) : Memref sig .tc .vmem S1x4096 .f32 :=
  ((Memref.whole cc0_scratch0).slice (Rect.unit (s := S4x128x4096) (k0_off2 k) S1x1x4096.size (k0_off2_inb k)) (fun _ => rfl)).squeeze S1x4096 squeezes_S1x1x4096_S1x4096
def srcRow (w : BitVec 32) (h : k0_chk1 w) : Memref sig .tc .hbm S1x4096 .f32 :=
  (Memref.whole main_arg3).slice (Rect.unit (s := S73728x4096) (k0_off3 w) S1x4096.size (k0_off3_inb w h)) (fun _ => rfl)

/-- One row's amount on the semaphore. -/
abbrev NN : ℕ := sig.dmaCredit .tc (Kind.tc.table .vmem) cc0_scratch0.idx S1x4096 .f32

variable (f : Buf (Elt F) (arg1.view.loc (c : Thread nD τ))) (hw : ∀ k, k0_chk1 (wordAt c arg1 f k))
  (x : Buf (Elt F) ((c : Thread nD τ).loc main_arg3)) (y g : Buf (Elt F) ((c : Thread nD τ).loc cc0_scratch0))

/-- What the `k`-th copy delivers: its row of the scratch at the final contents, and its share of its source row. -/
def deliver (k : Fin k0_t1_loop.trips) : sProp 𝕄 :=
  iprop(((dstRow k).view.loc (c : Thread nD τ) ↦[(dstRow k).view.set]{fullShare} g)
    ∗ ((srcRow (wordAt c arg1 f k) (hw k)).view.loc (c : Thread nD τ) ↦[(srcRow (wordAt c arg1 f k) (hw k)).view.set]{Transfers.shareTokN fullShare k.val} x))

instance deliver_storable (k) : BI.Storable (upEmb : UEmb _ 𝕄) (deliver (F := F) c arg1 f hw x g k) := by
  unfold deliver dstRow srcRow; infer_instance

abbrev batch (j u : ℕ) : sProp 𝕄 :=
  Transfers.Batch (countersEmb (U := Pipeline.UD sig nD τ)) (c : Thread nD τ) (.dma cc0_scratch1.sem) () NN (deliver (F := F) c arg1 f hw x g) j u

/-- A row of the scratch in hand, at the contents it had. -/
def rowHeld (z : Buf (Elt F) ((c : Thread nD τ).loc cc0_scratch0)) (k : Fin k0_t1_loop.trips) : sProp 𝕄 :=
  (dstRow k).view.loc (c : Thread nD τ) ↦[(dstRow k).view.set]{fullShare} z

/-- A share of a source row in hand. -/
def srcHeld (k : Fin k0_t1_loop.trips) : sProp 𝕄 :=
  (srcRow (wordAt c arg1 f k) (hw k)).view.loc (c : Thread nD τ) ↦[(srcRow (wordAt c arg1 f k) (hw k)).view.set]{Transfers.shareTokN fullShare k.val} x

/-- The prefetched words, held. -/
abbrev wordsHeld : sProp 𝕄 := arg1.view.loc (c : Thread nD τ) ↦[arg1.view.set]{fullShare} f

/-- Before trip `k` of the first loop: `k` copies started, none waited for, the later rows and shares still in hand. -/
def issueAt (k : ℕ) (_ : Unit) : sProp 𝕄 :=
  iprop(wordsHeld c arg1 f ∗ batch c arg1 f hw x g k 0
    ∗ bigSep (Ring.rangeSet k0_t1_loop.trips k k0_t1_loop.trips) (rowHeld c y)
    ∗ bigSep (Ring.rangeSet k0_t1_loop.trips k k0_t1_loop.trips) (srcHeld c arg1 f hw x))

/-- A copied row lands at the final contents. -/
theorem landed (k : Fin k0_t1_loop.trips)
    (hg : (dstRow k).view.read (Elt F) g = (srcRow (wordAt c arg1 f k) (hw k)).view.read (Elt F) x) :
    iprop(((dstRow k).view.loc (c : Thread nD τ) ↦[(dstRow k).view.set]{fullShare}
        ((dstRow k).view.write (Elt F) y (ReadAs.same.apply ((srcRow (wordAt c arg1 f k) (hw k)).view.read (Elt F) x)) Finset.univ))
      ∗ ((srcRow (wordAt c arg1 f k) (hw k)).view.loc (c : Thread nD τ) ↦[(srcRow (wordAt c arg1 f k) (hw k)).view.set]{Transfers.shareTokN fullShare k.val} x))
    ⊢ deliver (F := F) c arg1 f hw x g k := by
  unfold deliver
  refine sep_mono (Entails.of_eq (pointsTo_congr fun j hj => ?_)) .rfl
  show (dstRow k).view.write (Elt F) y ((srcRow (wordAt c arg1 f k) (hw k)).view.read (Elt F) x) Finset.univ j = g j
  rw [← hg]
  exact (congrFun (View.write_read_eq_piecewise (v := (dstRow k).view) y g Finset.univ) j).trans (Finset.piecewise_eq_of_mem _ _ _ hj)

/-- One trip of the first loop. -/
theorem issue_step (i : grid0.Coords) (arg2 : Memref sig .tc .vmem S128x4096 .f32) (harg2 : arg2.IsWhole)
    (arg3 : Memref sig .tc .vmem S1x1x4096 .f32) (harg3 : arg3.IsWhole) (arg4 : Memref sig .tc .vmem S1x4096 .f32) (harg4 : arg4.IsWhole)
    (arg6 : Memref sig .tc .vmem S128x4096 .f32) (harg6 : arg6.IsWhole) (k : Fin k0_t1_loop.trips) (acc : Unit)
    (hg : (dstRow k).view.read (Elt F) g = (srcRow (wordAt c arg1 f k) (hw k)).view.read (Elt F) x) :
    issueAt c arg1 f hw x y g k acc ⊢ wp frame (wpE (defs₀ (F := F)) Variants.none (c : Thread nD τ) none) Set.univ
      (k0_t1_body (F := F) i arg1 harg1 arg2 harg2 arg3 harg3 arg4 harg4 (Memref.whole main_arg3) (Memref.isWhole_whole _) arg6 harg6 (Memref.whole cc0_scratch0) (Memref.isWhole_whole _) cc0_scratch1 k acc)
      (issueAt c arg1 f hw x y g (k.val + 1)) := by
  have hk := k.isLt
  unfold issueAt
  rw [Ring.bigSep_rangeSet_head (Φ := rowHeld c y) hk hk, Ring.bigSep_rangeSet_head (Φ := srcHeld c arg1 f hw x) hk hk]
  unfold k0_t1_body
  iintro ⟨HW, HB, ⟨HY, HYs⟩, HX, HXs⟩
  sl_exec
  unfold rowHeld srcHeld
  iapply (Transfers.wp_dmaBatch (countersEmb (U := Pipeline.UD sig nD τ)) Variants.none (c : Thread nD τ) none
    (src := srcRow (wordAt c arg1 f k) (hw k)) (dst := dstRow k) (via := .same) (sm := .dma cc0_scratch1.sem) (q := Transfers.shareTokN fullShare k.val)
    (fs := x) (fd := y) (Sd := (dstRow k).view.set) (D := deliver (F := F) c arg1 f hw x g) (j := k.val) (u := 0)
    () NN rfl (Finset.Subset.refl _) hk (Nat.zero_le _) (landed c arg1 f hw x y g k hg)) $$ [HX HY HB]
  · isplitl [HX]; · iexact HX
    isplitl [HY]; · iexact HY
    iexact HB
  iintro HB
  sl_step
  isplitl [HW]; · iexact HW
  isplitl [HB]; · iexact HB
  isplitl [HYs]; · iexact HYs
  iexact HXs

/-- Before trip `k` of the second loop: every copy started, the waits so far recorded; before the last trip the
    batch with `k` rows' units consumed, after it the semaphore at zero and every delivery. -/
def drainAt (k : ℕ) (_ : Unit) : sProp 𝕄 :=
  iprop(wordsHeld c arg1 f ∗ (∃ W, owes (c : Thread nD τ) 0 W)
    ∗ (if k < k0_t1_loop.trips then batch c arg1 f hw x g k0_t1_loop.trips (k * NN)
       else iprop(semVal ((c : Thread nD τ), SemLoc.dma cc0_scratch1.sem) 0 ∗ bigSep Finset.univ (deliver (F := F) c arg1 f hw x g))))

/-- The word a trip of the second loop reads. -/
abbrev wordAt2 (k : Fin k0_t2_loop.trips) : BitVec 32 :=
  View.readAt (Elt F) arg1.view (Rect.unit (s := S512) (k0_off4 k) S1.size (k0_off4_inb k)).toLoadRect f (Shape.Idx.first (numel1_S1.symm ▸ Nat.one_pos))

theorem NN_pos : 0 < NN := by decide

theorem drain_step (i : grid0.Coords) (arg2 : Memref sig .tc .vmem S128x4096 .f32) (harg2 : arg2.IsWhole)
    (arg3 : Memref sig .tc .vmem S1x1x4096 .f32) (harg3 : arg3.IsWhole) (arg4 : Memref sig .tc .vmem S1x4096 .f32) (harg4 : arg4.IsWhole)
    (arg6 : Memref sig .tc .vmem S128x4096 .f32) (harg6 : arg6.IsWhole) (k : Fin k0_t2_loop.trips) (acc : Unit) (hw2 : k0_chk2 (wordAt2 c arg1 f k)) :
    drainAt c arg1 f hw x g k acc ⊢ wp frame (wpE (defs₀ (F := F)) Variants.none (c : Thread nD τ) none) Set.univ
      (k0_t2_body (F := F) i arg1 harg1 arg2 harg2 arg3 harg3 arg4 harg4 (Memref.whole main_arg3) (Memref.isWhole_whole _) arg6 harg6 (Memref.whole cc0_scratch0) (Memref.isWhole_whole _) cc0_scratch1 k acc)
      (drainAt c arg1 f hw x g (k.val + 1)) := by
  have hk : k.val < k0_t1_loop.trips := k.isLt
  unfold drainAt
  rw [if_pos hk]
  rcases Nat.lt_or_ge (k.val + 1) k0_t1_loop.trips with h1 | h1
  · rw [if_pos h1]
    unfold k0_t2_body
    iintro ⟨HW, ⟨%W, HO⟩, HB⟩
    sl_exec
    iapply (Transfers.wp_waitBatch (countersEmb (U := Pipeline.UD sig nD τ)) Variants.none (c : Thread nD τ) none () (N := NN) rfl
      (D := deliver (F := F) c arg1 f hw x g) (u := k.val * NN) (W := W) ?_) $$ [HB HO]
    · have h2 := Nat.mul_lt_mul_of_pos_left h1 NN_pos
      rw [Nat.mul_comm NN (k.val + 1), Nat.succ_mul] at h2
      exact h2
    · isplitl [HB]; · iexact HB
      iexact HO
    iintro ⟨HB, HO⟩
    sl_step
    isplitl [HW]; · iexact HW
    isplitl [HO]; · iexists _; iexact HO
    rw [Nat.succ_mul]
    iexact HB
  · rw [if_neg (Nat.not_lt.mpr h1)]
    unfold k0_t2_body
    iintro ⟨HW, ⟨%W, HO⟩, HB⟩
    sl_exec
    iapply (Transfers.wp_waitBatchLast (countersEmb (U := Pipeline.UD sig nD τ)) Variants.none (c : Thread nD τ) none () (N := NN) rfl NN_pos
      (D := deliver (F := F) c arg1 f hw x g) (u := k.val * NN) (W := W) ?_) $$ [HB HO]
    · rw [← Nat.succ_mul, Nat.mul_comm]; congr 1; omega
    · isplitl [HB]; · iexact HB
      iexact HO
    iintro ⟨Hall, Hc, HO⟩
    sl_step
    isplitl [HW]; · iexact HW
    isplitl [HO]; · iexists _; iexact HO
    isplitl [Hc]; · iexact Hc
    iexact Hall

/-! ## The rows as sets of elements -/

theorem off2_nat : ∀ k : Fin 512, (k0_off2 (k.cast trips1.symm) 0 == k.val % 4 && k0_off2 (k.cast trips1.symm) 1 == k.val / 4) = true := by decide +kernel

/-- Where the `k`-th copy lands: quarter `k % 4` of the scratch, row `k / 4`. -/
theorem off2_eq (k : Fin k0_t1_loop.trips) : k0_off2 k = ![k.val % 4, k.val / 4, 0] := by
  have h := off2_nat (k.cast trips1)
  rw [Bool.and_eq_true, beq_iff_eq, beq_iff_eq] at h
  funext a
  match a with
  | ⟨0, _⟩ => exact h.1
  | ⟨1, _⟩ => exact h.2
  | ⟨2, _⟩ => rfl

/-- The elements of a row of the scratch. -/
def dstSet (k : Fin k0_t1_loop.trips) : Finset S4x128x4096.Idx :=
  (Rect.unit (s := S4x128x4096) (k0_off2 k) S1x1x4096.size (k0_off2_inb k)).set

theorem dstRow_set (k : Fin k0_t1_loop.trips) : (dstRow k).view.set = dstSet k :=
  (View.set_reshape _ _).trans (View.set_slice_whole _ _)

theorem mem_dstSet (k : Fin k0_t1_loop.trips) (j : S4x128x4096.Idx) :
    j ∈ dstSet k ↔ k.val = 4 * (j 1).val + (j 0).val := by
  unfold dstSet
  rw [Rect.mem_set_unit]
  have h0 : (j 0).val < 4 := (j 0).isLt
  have h1 : (j 2).val < 4096 := (j 2).isLt
  rw [off2_eq]
  constructor
  · intro H
    have a0 : k.val % 4 ≤ (j 0).val ∧ (j 0).val < k.val % 4 + 1 := H 0
    have a1 : k.val / 4 ≤ (j 1).val ∧ (j 1).val < k.val / 4 + 1 := H 1
    omega
  · intro H a; fin_cases a
    · show k.val % 4 ≤ (j 0).val ∧ (j 0).val < k.val % 4 + 1; omega
    · show k.val / 4 ≤ (j 1).val ∧ (j 1).val < k.val / 4 + 1; omega
    · show 0 ≤ (j 2).val ∧ (j 2).val < 0 + 4096; omega

/-- The rows are the whole scratch. -/
theorem dstSet_cover (j : S4x128x4096.Idx) : j ∈ Finset.univ.biUnion dstSet := by
  have h0 : (j 0).val < 4 := (j 0).isLt
  have h1 : (j 1).val < 128 := (j 1).isLt
  exact Finset.mem_biUnion.mpr ⟨⟨4 * (j 1).val + (j 0).val, by rw [trips1]; omega⟩, Finset.mem_univ _, (mem_dstSet _ _).mpr rfl⟩

theorem dstSet_disjoint (b b' : Fin k0_t1_loop.trips) (hne : b ≠ b') : Disjoint (dstSet b) (dstSet b') := by
  rw [Finset.disjoint_left]
  intro j hj hj'
  rw [mem_dstSet] at hj hj'
  exact hne (Fin.ext (by omega))

/-- The scratch held is its rows held. -/
theorem scratch_rows (z : Buf (Elt F) ((c : Thread nD τ).loc cc0_scratch0)) :
    ((c : Thread nD τ).loc cc0_scratch0 ↦{fullShare} z : sProp 𝕄) = bigSep Finset.univ (rowHeld c z) := by
  have hu : (Finset.univ.biUnion dstSet : Finset S4x128x4096.Idx) = Finset.univ := Finset.eq_univ_iff_forall.mpr dstSet_cover
  refine Eq.trans (congrArg (fun S : Finset S4x128x4096.Idx => ((c : Thread nD τ).loc cc0_scratch0 ↦[S]{fullShare} z : sProp 𝕄)) hu.symm) ?_
  refine (Ring.pointsTo_sub_blocks (ℓ := (c : Thread nD τ).loc cc0_scratch0) dstSet dstSet_disjoint (Finset.univ.biUnion dstSet) rfl z).trans
    (BI.bigSep_congr fun k _ => ?_)
  unfold rowHeld
  rw [dstRow_set]
  rfl

/-- The scratch held, its elements written as a whole memref's. -/
theorem scratch_view (z : Buf (Elt F) ((c : Thread nD τ).loc cc0_scratch0)) :
    ((c : Thread nD τ).loc cc0_scratch0 ↦{fullShare} z : sProp 𝕄)
      = ((Memref.whole cc0_scratch0).view.loc (c : Thread nD τ) ↦[(Memref.whole cc0_scratch0).view.set]{fullShare} z) := by
  rw [show (Memref.whole cc0_scratch0).view.set = Finset.univ from View.set_whole _]

/-- The elements of the source row a copy reads. -/
def srcSet (k : Fin k0_t1_loop.trips) : Finset S73728x4096.Idx :=
  (Rect.unit (s := S73728x4096) (k0_off3 (wordAt c arg1 f k)) S1x4096.size (k0_off3_inb _ (hw k))).set

theorem srcRow_set (k : Fin k0_t1_loop.trips) : (srcRow (wordAt c arg1 f k) (hw k)).view.set = srcSet c arg1 f hw k := View.set_slice_whole _ _

theorem srcHeld_eq (k : Fin k0_t1_loop.trips) :
    (srcHeld c arg1 f hw x k : sProp 𝕄) = ((c : Thread nD τ).loc main_arg3 ↦[srcSet c arg1 f hw k]{Transfers.shareTokN fullShare k.val} x) := by
  unfold srcHeld
  rw [srcRow_set]
  rfl

/-- What is left of a share of the source beside one row's. -/
def srcLeft (k : Fin k0_t1_loop.trips) : sProp 𝕄 :=
  (c : Thread nD τ).loc main_arg3 ↦[Finset.univ \ srcSet c arg1 f hw k]{Transfers.shareTokN fullShare k.val} x

/-- The source held whole: a remaining share, and for each copy a share of its row and of the other elements. -/
theorem src_shares :
    ((c : Thread nD τ).loc main_arg3 ↦{fullShare} x : sProp 𝕄)
      ⊣⊢ iprop(((c : Thread nD τ).loc main_arg3 ↦{Transfers.shareDrop fullShare k0_t1_loop.trips} x)
        ∗ bigSep Finset.univ (srcHeld c arg1 f hw x) ∗ bigSep Finset.univ (srcLeft c arg1 f hw x)) := by
  have hs : bigSep Finset.univ (fun k : Fin k0_t1_loop.trips => ((c : Thread nD τ).loc main_arg3 ↦{Transfers.shareTok fullShare _ k} x : sProp 𝕄))
      = iprop(bigSep Finset.univ (srcHeld c arg1 f hw x) ∗ bigSep Finset.univ (srcLeft c arg1 f hw x)) := by
    refine Eq.trans (BI.bigSep_congr fun k _ => ?_) (BI.bigSep_sep _ _ _)
    have h := pointsTo_split_subset (Ix := Unit) (Name := ℕ) (U := Pipeline.UD sig nD τ) (Lvl := ℕ) (ℓ := (c : Thread nD τ).loc main_arg3)
      (q := Transfers.shareTokN fullShare k.val) (f := x) (Finset.subset_univ (srcSet c arg1 f hw k))
    rw [srcHeld_eq]
    exact BI.equiv_iff.mp ⟨h.1, h.2⟩
  have ht := Transfers.pointsTo_toks (Ix := Unit) (Name := ℕ) (U := Pipeline.UD sig nD τ) (Lvl := ℕ) (ℓ := (c : Thread nD τ).loc main_arg3) (S := Finset.univ) (f := x) fullShare k0_t1_loop.trips
  rw [hs] at ht
  exact ht

/-- Every delivery is every row of the scratch at the final contents and every share of a source row. -/
theorem deliveries :
    (bigSep Finset.univ (deliver (F := F) c arg1 f hw x g) : sProp 𝕄)
      = iprop(bigSep Finset.univ (rowHeld c g) ∗ bigSep Finset.univ (srcHeld c arg1 f hw x)) :=
  BI.bigSep_sep _ _ _

/-! ## The whole point -/

/-- One of the four quarters of the scratch. -/
abbrev slab (g : S4x128x4096.Idx → Elt F .f32) (o : Fin 3 → ℕ) (h : ∀ a, o a + S1x128x4096.size a ≤ S4x128x4096.size a) : Vec F S1x128x4096 .f32 :=
  View.ld g (Rect.unit (s := S4x128x4096) o S1x128x4096.size h)

/-- What the point leaves in the result's block, from the rows in the scratch and the blocks of the other arguments. -/
def outBlk (g : S4x128x4096.Idx → Elt F .f32) (x2 : Vec F S128x4096 .f32) (x3 : Vec F S1x1x4096 .f32) (x4 : Vec F S1x4096 .f32) : Vec F S128x4096 .f32 :=
  k0_pay1 (k0_pay2 (slab g ![0, 0, 0] inb_S4x128x4096_S1x128x4096_0_0_0) (slab g ![1, 0, 0] inb_S4x128x4096_S1x128x4096_1_0_0)
    (slab g ![2, 0, 0] inb_S4x128x4096_S1x128x4096_2_0_0) (slab g ![3, 0, 0] inb_S4x128x4096_S1x128x4096_3_0_0) x2 x3) x4

/-- One grid point: the arguments unchanged, the semaphore at zero again, the scratch at the rows that the words name, and
    the result's block computed from these rows. -/
theorem point (i : grid0.Coords) (arg2 : Memref sig .tc .vmem S128x4096 .f32) (harg2 : arg2.IsWhole)
    (arg3 : Memref sig .tc .vmem S1x1x4096 .f32) (harg3 : arg3.IsWhole) (arg4 : Memref sig .tc .vmem S1x4096 .f32) (harg4 : arg4.IsWhole)
    (arg6 : Memref sig .tc .vmem S128x4096 .f32) (harg6 : arg6.IsWhole) (x2 : Vec F S128x4096 .f32) (x3 : Vec F S1x1x4096 .f32) (x4 : Vec F S1x4096 .f32)
    (hw2 : ∀ k, k0_chk2 (wordAt2 c arg1 f k))
    (hg : ∀ k, (dstRow k).view.read (Elt F) g = (srcRow (wordAt c arg1 f k) (hw k)).view.read (Elt F) x) (W : Waits sig Unit) :
    iprop(wordsHeld c arg1 f ∗ ((c : Thread nD τ).loc main_arg3 ↦{fullShare} x) ∗ ((c : Thread nD τ).loc cc0_scratch0 ↦{fullShare} y)
        ∗ semVal ((c : Thread nD τ), SemLoc.dma cc0_scratch1.sem) 0 ∗ owes (c : Thread nD τ) 0 W
        ∗ owns (c : Thread nD τ) arg2 fullShare x2 ∗ owns (c : Thread nD τ) arg3 fullShare x3 ∗ owns (c : Thread nD τ) arg4 fullShare x4
        ∗ (∃ d, owns (c : Thread nD τ) arg6 fullShare d))
      ⊢ wp frame (wpE (defs₀ (F := F)) Variants.none (c : Thread nD τ) none) Set.univ
        (cc0_combine (F := F) i arg1 harg1 arg2 harg2 arg3 harg3 arg4 harg4 (Memref.whole main_arg3) (Memref.isWhole_whole _) arg6 harg6 (Memref.whole cc0_scratch0) (Memref.isWhole_whole _) cc0_scratch1)
        (fun _ => iprop(wordsHeld c arg1 f ∗ ((c : Thread nD τ).loc main_arg3 ↦{fullShare} x) ∗ ((c : Thread nD τ).loc cc0_scratch0 ↦{fullShare} g)
          ∗ semVal ((c : Thread nD τ), SemLoc.dma cc0_scratch1.sem) 0 ∗ (∃ W, owes (c : Thread nD τ) 0 W)
          ∗ owns (c : Thread nD τ) arg2 fullShare x2 ∗ owns (c : Thread nD τ) arg3 fullShare x3 ∗ owns (c : Thread nD τ) arg4 fullShare x4
          ∗ owns (c : Thread nD τ) arg6 fullShare (outBlk g x2 x3 x4))) := by
  unfold owns
  iintro ⟨HW, HX, HY, Hc, HO, ⟨%f2, %hf2, H2⟩, ⟨%f3, %hf3, H3⟩, ⟨%f4, %hf4, H4⟩, ⟨%d6, %f6, -, H6⟩⟩
  subst hf2 hf3 hf4
  ihave HX' := (src_shares c arg1 f hw x).1 $$ HX
  icases HX' with ⟨HXd, HXr, HXl⟩
  ihave HYr := (Entails.of_eq (scratch_rows c y)) $$ HY
  imod (Transfers.batch_alloc' (Lvl := ℕ) (countersEmb (U := Pipeline.UD sig nD τ)) (c : Thread nD τ) () NN
    (deliver (F := F) c arg1 f hw x g) (sm := .dma cc0_scratch1.sem) (E := Set.univ)) $$ Hc with HB
  rw [cc0_combine_eq_skeleton]
  unfold cc0_combine_skel
  rw [k0_part1_eq_skeleton]
  unfold k0_part1_skel
  simp only [bind_assoc]
  sl_for (issueAt c arg1 f hw x y g) $$ [HW HB HYr HXr]
  · intro k acc; exact issue_step c arg1 harg1 f hw x y g i arg2 harg2 arg3 harg3 arg4 harg4 arg6 harg6 k acc (hg k)
  · unfold issueAt
    rw [Ring.rangeSet_univ]
    isplitl [HW]; · iexact HW
    isplitl [HB]; · iexact HB
    isplitl [HYr]; · iexact HYr
    iexact HXr
  iintro %acc HI
  ihave HI' := (show issueAt c arg1 f hw x y g k0_t1_loop.trips acc ⊢ iprop(wordsHeld c arg1 f ∗ batch c arg1 f hw x g k0_t1_loop.trips 0) from by
    unfold issueAt
    iintro ⟨HW, HB, -, -⟩
    isplitl [HW] <;> iassumption) $$ HI
  icases HI' with ⟨HW, HB⟩
  sl_for (drainAt c arg1 f hw x g) $$ [HW HB HO]
  · intro k acc; exact drain_step c arg1 harg1 f hw x g i arg2 harg2 arg3 harg3 arg4 harg4 arg6 harg6 k acc (hw2 k)
  · unfold drainAt
    rw [if_pos (by rw [trips1]; omega), Nat.zero_mul]
    isplitl [HW]; · iexact HW
    isplitl [HO]; · iexists _; iexact HO
    iexact HB
  iintro %acc HL
  ihave HL' := (show drainAt c arg1 f hw x g k0_t2_loop.trips acc ⊢ iprop(wordsHeld c arg1 f ∗ (∃ W, owes (c : Thread nD τ) 0 W)
      ∗ semVal ((c : Thread nD τ), SemLoc.dma cc0_scratch1.sem) 0 ∗ bigSep Finset.univ (deliver (F := F) c arg1 f hw x g)) from by
    unfold drainAt
    rw [if_neg (Nat.lt_irrefl _)]) $$ HL
  icases HL' with ⟨HW, HO, Hc, Hall⟩
  ihave Hd := (Entails.of_eq (deliveries c arg1 f hw x g)) $$ Hall
  icases Hd with ⟨HYr, HXr⟩
  ihave HY := (Entails.of_eq (scratch_rows c g).symm) $$ HYr
  ihave HY := (show ((c : Thread nD τ).loc cc0_scratch0 ↦{fullShare} g : sProp 𝕄)
      ⊢ (Memref.whole cc0_scratch0).view.loc (c : Thread nD τ) ↦[(Memref.whole cc0_scratch0).view.set]{fullShare} g from
    Entails.of_eq (scratch_view c g)) $$ HY
  sl_exec
  ihave HY := (Entails.of_eq (scratch_view c g).symm) $$ HY
  sl_step
  isplitl [HW]; · iexact HW
  isplitl [HXd HXr HXl]
  · iapply (src_shares c arg1 f hw x).2
    isplitl [HXd]; · iexact HXd
    isplitl [HXr] <;> iassumption
  isplitl [HY]; · iexact HY
  isplitl [Hc]; · iexact Hc
  isplitl [HO]; · iexact HO
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H6
  ipureintro
  refine (View.read_writes_full (s := S128x4096) arg6.view f6 (off := ![0, 0]) inb_S128x4096_S128x4096_0_0 _ []).trans ?_
  unfold outBlk slab
  refine congrArg₂ k0_pay1 ?_ (View.readAt_full (s := S1x4096) arg4.view f4 (off := ![0, 0]) inb_S1x4096_S1x4096_0_0)
  rw [← View.readAt_full (s := S128x4096) arg2.view f2 (off := ![0, 0]) inb_S128x4096_S128x4096_0_0,
    ← View.readAt_full (s := S1x1x4096) arg3.view f3 (off := ![0, 0, 0]) inb_S1x1x4096_S1x1x4096_0_0_0]
  rfl

end Cert.Kernel5Ideal.Hand

end
-- ==== Proof.CombineRun.lean ====
/- The combination as a whole: the rows that the slot table names, the launch over the grid, and the run to the result's
   blocks point by point. Hand-written. -/
module

public import proofs.«01_k».proof.Proof.CombinePoint
public import proofs.«01_k».proof.Proof.Gen.Kernel5Ideal.Frame
public import Idealize.ShloMosaic.Lib.Pipeline.ValueKit
public import Idealize.ShloMosaic.Lib.ValueIdxCore

@[expose] public section

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The rows in the scratch -/

/-- The row of `x` that the `r`-th word of `w` names, a word past the last row read as the last row. -/
def rowOf {α : Type} (w : S65536.Idx → BitVec 32) (x : S73728x4096.Idx → α) (r : Fin 65536) (d : Fin 4096) : α :=
  x (ix2 ⟨min (w (ix1 r)).toNat 73727, by omega⟩ d)

theorem lt128 (t : Fin cfg0.N) : t.val < 128 := lt_of_lt_of_eq t.isLt N_0

/-- The scratch at point `t`: in quarter `e`, row `r`, the row that the word of the `e`-th expert of the block's `r`-th
    token names. -/
def gathered (c : Dev nD) (t : Fin cfg0.N) : S4x128x4096.Idx → Elt F .f32 :=
  fun j => rowOf (V m c main_arg4) (V m c main_arg3)
    ⟨512 * t.val + 4 * (j 1).val + (j 0).val, by
      have h0 : (j 0).val < 4 := (j 0).isLt
      have h1 : (j 1).val < 128 := (j 1).isLt
      have := lt128 t
      omega⟩ (j 2)

/-! ## The words of a point -/

theorem coords0 (t : Fin cfg0.N) : (grid0.coords t 0).val = t.val := by
  have h := lt128 t
  have e := Pipeline.Grid.coords_val (G := grid0) t 0 (S := 1) (B := 128) (by decide) rfl
  omega

theorem index0 (t : Fin cfg0.N) : win0_0.index t = ![t.val] := by
  have h := lt128 t
  show cc0_transform_0 (grid0.coords t) = _
  unfold cc0_transform_0
  dsimp only
  rw [coords0, BitVec.toNat_ofNat, Nat.mod_eq_of_lt (by omega)]

theorem iblk0_apply (c : Dev nD) (t : Fin cfg0.N) (z : S512.Idx) (h : 512 * t.val + (z 0).val < 65536) :
    iblk m c 0 t z = V m c main_arg4 (ix1 ⟨512 * t.val + (z 0).val, h⟩) := by
  blk_ext [iblk, index0 t]

/-- The word a trip of the first loop reads, off the block of the slot table. -/
theorem wordAt_eq (c : Dev nD) (arg1 : Memref sig .tc .smem S512 .i32) (f : Buf (Elt F) (arg1.view.loc (c : Thread nD τ)))
    (t : Fin cfg0.N) (hf : arg1.view.read (Elt F) f = iblk m c 0 t) (k : Fin k0_t1_loop.trips) (h : 512 * t.val + k.val < 65536) :
    wordAt c arg1 f k = V m c main_arg4 (ix1 ⟨512 * t.val + k.val, h⟩) := by
  unfold wordAt
  rw [View.readAt_apply, hf]
  have e : ∀ z : S512.Idx, (z 0).val = k.val → iblk m c 0 t z = V m c main_arg4 (ix1 ⟨512 * t.val + k.val, h⟩) := fun z hz => by
    rw [iblk0_apply m c t z (by omega)]
    simp only [hz]
  refine e _ ?_
  show k0_off1 k 0 + 1 * 0 = k.val
  rw [k0_off1_eq]
  rfl

/-- The word a trip of the second loop reads. -/
theorem wordAt2_eq (c : Dev nD) (arg1 : Memref sig .tc .smem S512 .i32) (f : Buf (Elt F) (arg1.view.loc (c : Thread nD τ)))
    (t : Fin cfg0.N) (hf : arg1.view.read (Elt F) f = iblk m c 0 t) (k : Fin k0_t2_loop.trips) (h : 512 * t.val + k.val < 65536) :
    wordAt2 c arg1 f k = V m c main_arg4 (ix1 ⟨512 * t.val + k.val, h⟩) := by
  unfold wordAt2
  rw [View.readAt_apply, hf]
  have e : ∀ z : S512.Idx, (z 0).val = k.val → iblk m c 0 t z = V m c main_arg4 (ix1 ⟨512 * t.val + k.val, h⟩) := fun z hz => by
    rw [iblk0_apply m c t z (by omega)]
    simp only [hz]
  refine e _ ?_
  show k0_off4 k 0 + 1 * 0 = k.val
  rw [k0_off4_eq]
  rfl

/-- A word below 73728 names a row of the source. -/
theorem chk1_of_lt (v : BitVec 32) (h : v.toNat < 73728) : k0_chk1 v := by
  intro a
  fin_cases a
  · show v.toNat + 1 ≤ 73728; omega
  · show 0 + 4096 ≤ 4096; omega

theorem chk2_of_lt (v : BitVec 32) (h : v.toNat < 73728) : k0_chk2 v := by
  intro a
  fin_cases a
  · show v.toNat + 1 ≤ 73728; omega
  · show 0 + 4096 ≤ 4096; omega

/-- A row of the scratch at contents that are the named row there reads as the named source row. -/
theorem row_reads (k : Fin k0_t1_loop.trips) (v : BitVec 32) (hv : k0_chk1 v)
    (x : S73728x4096.Idx → Elt F .f32) (g : S4x128x4096.Idx → Elt F .f32) (h : v.toNat < 73728)
    (hg : ∀ j : S4x128x4096.Idx, k.val = 4 * (j 1).val + (j 0).val → g j = x (ix2 ⟨v.toNat, h⟩ (j 2))) :
    (dstRow k).view.read (Elt F) g = (srcRow v hv).view.read (Elt F) x := by
  funext z
  have hz0 : (z 0).val = 0 := by have : (z 0).val < 1 := (z 0).isLt; omega
  have hz1 : (z 1).val < 4096 := (z 1).isLt
  have hS : (dstRow k).view.read (Elt F) g = shapeCast S1x4096
      (View.readAt (Elt F) (Memref.whole cc0_scratch0).view (Rect.unit (s := S4x128x4096) (k0_off2 k) S1x1x4096.size (k0_off2_inb k)).toLoadRect g)
      shapeCasts_S1x1x4096_S1x4096 := rfl
  rw [hS]
  refine (shapeCast_apply _ shapeCasts_S1x1x4096_S1x4096 z (ix3 0 0 (z 1)) ?_).trans ?_
  · refine (Shape.rowMajor_val_three _).trans (Eq.trans ?_ (Shape.rowMajor_val_two _).symm)
    show (0 * 1 + 0) * 4096 + (z 1).val = (z 0).val * 4096 + (z 1).val
    omega
  obtain ⟨J, hJ⟩ : ∃ J : S4x128x4096.Idx, J = (Rect.unit (s := S4x128x4096) (k0_off2 k) S1x1x4096.size (k0_off2_inb k)).emb (ix3 0 0 (z 1)) := ⟨_, rfl⟩
  obtain ⟨K, hK⟩ : ∃ K : S73728x4096.Idx, K = (srcRow v hv).view.emb z := ⟨_, rfl⟩
  have hJ0 : (J 0).val = k.val % 4 := by
    rw [hJ]; show k0_off2 k 0 + 1 * 0 = _; rw [off2_eq]; rfl
  have hJ1 : (J 1).val = k.val / 4 := by
    rw [hJ]; show k0_off2 k 1 + 1 * 0 = _; rw [off2_eq]; rfl
  have hJ2 : (J 2).val = (z 1).val := by
    rw [hJ]; show k0_off2 k 2 + 1 * (z 1).val = _; rw [off2_eq]; show 0 + 1 * (z 1).val = _; omega
  have hK0 : (K 0).val = v.toNat := by
    rw [hK]; show v.toNat + 1 * (z 0).val = _; omega
  have hK1 : (K 1).val = (z 1).val := by
    rw [hK]; show 0 + 1 * (z 1).val = _; omega
  refine Eq.trans (congrArg g hJ.symm) (Eq.trans ?_ (congrArg x hK))
  rw [hg J (by omega)]
  refine congrArg x (funext fun a => Fin.ext ?_)
  match a with
  | ⟨0, _⟩ => exact hK0.symm
  | ⟨1, _⟩ => exact hJ2.trans hK1.symm

/-! ## The launch -/

/-- The kernel's own semaphore. -/
abbrev osem0 : Fin 1 → SemLoc sig := fun _ => SemLoc.dma cc0_scratch1.sem
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch1.sem) 0 := by
  rw [Pipeline.ownSems0_eq_of_list c osem0 [0] (by decide) (by decide)]; rfl

/-- The array the copies read. -/
def H0 : Finset (Ref sig .tc) := {main_arg3}
theorem H0_sub : H0 ⊆ Pipeline.restRefs sig spec0 := by decide
theorem read0_eq (c : Dev nD) :
    (bigSep H0 (fun b => ((c : Thread nD τ).loc b) ↦{fullShare} V m c b) : sProp 𝕄) = ((c : Thread nD τ).loc main_arg3 ↦{fullShare} V m c main_arg3) := by
  rw [BI.bigSep_eq_bigSepL_of_eq [main_arg3] (by decide) (by decide)]; rfl

/-- What the launch holds between points. -/
def Phi (c : Dev nD) : sProp 𝕄 := Pipeline.ΦD osem0 spec0 H0 (V m) c

theorem Phi_eq (c : Dev nD) :
    (Phi m c : sProp 𝕄) = iprop((∃ f : Buf (Elt F) ((c : Thread nD τ).loc cc0_scratch0), ((c : Thread nD τ).loc cc0_scratch0) ↦{fullShare} f) ∗ (∃ r, prngReg c r)
      ∗ semVal ((c : Thread nD τ), SemLoc.dma cc0_scratch1.sem) 0
      ∗ ((c : Thread nD τ).loc main_arg3 ↦{fullShare} V m c main_arg3)) := by
  unfold Phi
  rw [Pipeline.ΦD_eq, ownSems00_eq, read0_eq, scopedRest0_eq]

/-- The result's block at point `t`. -/
def outOf (c : Dev nD) (t : Fin cfg0.N) : Vec F S128x4096 .f32 :=
  outBlk (gathered m c t) (iblk m c 1 t) (iblk m c 2 t) (iblk m c 3 t)

/-- The proof data of the one pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outOf m c t
  Φ _ := Phi m c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outOf m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]) t d).trans
    (by unfold Dat.fetched Dat.blockOf iblk; rw [A_eq]; rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]) t d).trans
    (by unfold Dat.fetched Dat.blockOf iblk; rw [A_eq]; rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]) t d).trans
    (by unfold Dat.fetched Dat.blockOf iblk; rw [A_eq]; rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]) t d).trans
    (by unfold Dat.fetched Dat.blockOf iblk; rw [A_eq]; rfl)

/-- Every word of the slot table names a row. -/
abbrev InRange : Prop := ∀ c : Dev nD, ∀ y : S65536.Idx, BitVec.toNat (w := 32) (m ((c : Thread nD τ).loc main_arg4) y) < 73728

variable (hm : InRange m)

include hm in
theorem word_lt (c : Dev nD) (y : S65536.Idx) : BitVec.toNat (w := 32) (V m c main_arg4 y) < 73728 := by
  rw [V_main_arg4]; exact hm c y

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

include hm in
theorem sound_body (c : Dev nD) (t : Fin cfg0.N) :
    bodyPre m c t ⊢ wp frame (wpE (defs₀ (F := F)) Variants.none c none) Set.univ (bodyAt0 t) (fun _ => bodyPost m c t) := by
  have ht := lt128 t
  unfold bodyPre bodyPost bodyAt0
  rw [show (dats m 0 c).Φ t.castSucc = Phi m c from rfl, show (dats m 0 c).Φ t.succ = Phi m c from rfl, Phi_eq,
    after0_0, after0_1, after0_2, after0_3, after0_4]
  unfold Dat.owesAt Pipeline.owesWithin
  rw [show (dats m 0 c).owed t.castSucc = 0 from rfl, show (dats m 0 c).owed t.succ = 0 from rfl]
  simp only [before0_0, before0_1, before0_2, before0_3]
  iintro ⟨⟨⟨%y, HY⟩, Hg, Hc, HX⟩, ⟨%W, -, HO⟩, ⟨%d0, H0⟩, ⟨%d1, H1⟩, ⟨%d2, H2⟩, ⟨%d3, H3⟩, ⟨%d4, H4⟩⟩
  ihave H0' := (show owns (c : Thread nD τ) (st0_0 t) fullShare (iblk m c 0 t)
    ⊢ (iprop(∃ f, ⌜(st0_0 t).view.read (Elt F) f = iblk m c 0 t⌝ ∗ ((st0_0 t).view.loc (c : Thread nD τ) ↦[(st0_0 t).view.set]{fullShare} f)) : sProp 𝕄) from by
      unfold owns; exact .rfl) $$ H0
  icases H0' with ⟨%f, %hf, HW⟩
  have hlt : ∀ k : Fin k0_t1_loop.trips, 512 * t.val + k.val < 65536 := fun k => by have := lt_of_lt_of_eq k.isLt trips1; omega
  have hlt2 : ∀ k : Fin k0_t2_loop.trips, 512 * t.val + k.val < 65536 := fun k => by have := lt_of_lt_of_eq k.isLt trips2; omega
  have hw : ∀ k, k0_chk1 (wordAt c (st0_0 t) f k) := fun k => chk1_of_lt _ (by
    rw [wordAt_eq m c (st0_0 t) f t hf k (hlt k)]; exact word_lt m hm c _)
  have hw2 : ∀ k, k0_chk2 (wordAt2 c (st0_0 t) f k) := fun k => chk2_of_lt _ (by
    rw [wordAt2_eq m c (st0_0 t) f t hf k (hlt2 k)]; exact word_lt m hm c _)
  iapply (wp_wand_r _ _ _)
  isplitl [HW HX HY Hc HO H1 H2 H3 H4]
  · iapply (point c (st0_0 t) (hstage0_0 ((cfg0.slots t 0).cast nbuf0_0)) f hw (V m c main_arg3) y (gathered m c t) (grid0.coords t)
      (st0_1 t) (hstage0_1 ((cfg0.slots t 1).cast nbuf0_1)) (st0_2 t) (hstage0_2 ((cfg0.slots t 2).cast nbuf0_2))
      (st0_3 t) (hstage0_3 ((cfg0.slots t 3).cast nbuf0_3)) (st0_4 t) (hstage0_4 ((cfg0.slots t 4).cast nbuf0_4))
      (iblk m c 1 t) (iblk m c 2 t) (iblk m c 3 t) hw2 ?_ W)
    · intro k
      have e := wordAt_eq m c (st0_0 t) f t hf k (hlt k)
      refine row_reads k _ (hw k) _ _ (by rw [e]; exact word_lt m hm c _) fun j hj => ?_
      unfold gathered rowOf
      refine congrArg _ (congrArg (fun r => ix2 r (j 2)) (Fin.ext ?_))
      show min (V m c main_arg4 (ix1 ⟨512 * t.val + 4 * (j 1).val + (j 0).val, _⟩) : BitVec 32).toNat 73727 = (wordAt c (st0_0 t) f k).toNat
      have hi : (⟨512 * t.val + 4 * (j 1).val + (j 0).val, by have := hlt k; omega⟩ : Fin 65536) = ⟨512 * t.val + k.val, hlt k⟩ := Fin.ext (by
        show 512 * t.val + 4 * (j 1).val + (j 0).val = 512 * t.val + k.val; omega)
      rw [e, hi]
      have := word_lt m hm c (ix1 ⟨512 * t.val + k.val, hlt k⟩)
      omega
    isplitl [HW]; · iexact HW
    isplitl [HX]; · iexact HX
    isplitl [HY]; · iexact HY
    isplitl [Hc]; · iexact Hc
    isplitl [HO]; · iexact HO
    isplitl [H1]; · iexact H1
    isplitl [H2]; · iexact H2
    isplitl [H3]; · iexact H3
    iexists _; iexact H4
  iintro %_ ⟨HW, HX, HY, Hc, ⟨%W', HO⟩, H1, H2, H3, H4⟩
  isplitl [Hg Hc HX HY]
  · isplitl [HY]; · iexists _; iexact HY
    isplitl [Hg]; · iexact Hg
    isplitl [Hc]; · iexact Hc
    iexact HX
  isplitl [HO]
  · iexists W'; isplitr; · ipureintro; exact fun _ _ => Or.inl trivial
    iexact HO
  isplitl [HW]
  · unfold owns; iexists f
    isplitr; · ipureintro; exact hf
    iexact HW
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

include hm in
theorem body_obligation (c : Dev nD) : BodyObligation (dats (F := F) m 0 c) (defs₀ (F := F)) Variants.none () Set.univ := fun t => by
  rw [bigSep_W0, bigSep_W0, defs₀_row]
  exact triple_restated (sound_body m hm c t) rfl .rfl fun _ => .rfl

set_option backward.isDefEq.respectTransparency.types false in
include hm in
theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hm c).loose) (hshare := fun c => (dats m 0 c).share_full fun _ => rfl)
    (howed := fun _ _ => rfl) (V := V m) (hmain := hmainD m Variants.none) (hA := A_eq m)
    (hin := fun c => .rfl) (hout := fun c => .rfl)

end Cert.Kernel5Ideal.Hand

end
-- ==== Proof.CombineValue.lean ====
module

public import proofs.«01_k».proof.Proof.CombineRun
public import proofs.«01_k».proof.Proof.Norm
public import Idealize.ShloMosaic.Lib.Claim
public import Idealize.ShloMosaic.Lib.Pipeline.ValueKit.Geometry
public import Idealize.ShloMosaic.Lib.Pipeline.ValueKit.Acc

@[expose] public section

/-! # The combination's values

A token's row is its residual plus the gate times the sum of the four rows that the slot table names for it, divided by the root
of its mean square and scaled by the gain. Each block of the result is 128 such rows, so the array after the call is this
expression of the arguments. -/

noncomputable section

namespace Cert.Kernel5Ideal.Hand

open Cert.Kernel5Ideal Cert.Kernel5Ideal.Gen Idealize.ShloMosaic Idealize.ShloMosaic.TcCoe Idealize.SL.Sem
open Idealize.ShloMosaic.Pipeline (Dat)
open Cert.Norm (normed)
open scoped BigOperators

/-- The residual stream of token `r` at column `j`: the token plus the gate times the sum of the four named rows. -/
def comb (x : S16384x4096.Idx → EReal) (gt : S8x1x4096.Idx → EReal) (ys : S73728x4096.Idx → EReal) (w : S65536.Idx → BitVec 32)
    (r : Fin 16384) (j : Fin 4096) : EReal :=
  x (ix2 r j) + gt (ix3 (⟨r.val / 4096, by omega⟩ : Fin 8) (0 : Fin 1) j)
    * (rowOf w ys ⟨4 * r.val, by omega⟩ j + rowOf w ys ⟨4 * r.val + 1, by omega⟩ j
      + rowOf w ys ⟨4 * r.val + 2, by omega⟩ j + rowOf w ys ⟨4 * r.val + 3, by omega⟩ j)

/-- A quarter of the scratch, read at a row and a column. -/
theorem slab_apply (g : S4x128x4096.Idx → EReal) (e : Fin 4) (h : ∀ a, (![e.val, 0, 0] : Fin 3 → ℕ) a + S1x128x4096.size a ≤ S4x128x4096.size a)
    (y : S128x4096.Idx) :
    shapeCast S128x4096 (slab (F := Ideal) g ![e.val, 0, 0] h) shapeCasts_S1x128x4096_S128x4096 y = g (ix3 e (y 0) (y 1)) := by
  refine (shapeCast_apply _ _ _ (ix3 (0 : Fin 1) (y 0) (y 1)) ?_).trans ?_
  · refine (Shape.rowMajor_val_three _).trans (Eq.trans ?_ (Shape.rowMajor_val_two _).symm)
    show (0 * 128 + (y 0).val) * 4096 + (y 1).val = (y 0).val * 4096 + (y 1).val
    omega
  · unfold slab
    refine congrArg g (funext fun a => Fin.ext ?_)
    match a with
    | ⟨0, _⟩ => show e.val + 1 * 0 = e.val; omega
    | ⟨1, _⟩ => show 0 + 1 * (y 0).val = (y 0).val; omega
    | ⟨2, _⟩ => show 0 + 1 * (y 1).val = (y 1).val; omega

/-- A block of the result, from the rows in the scratch and the blocks of the other arguments. -/
theorem outBlk_apply (g : S4x128x4096.Idx → EReal) (x2 : Vec Ideal S128x4096 .f32) (x3 : Vec Ideal S1x1x4096 .f32)
    (x4 : Vec Ideal S1x4096 .f32) (y : S128x4096.Idx) :
    (outBlk (F := Ideal) g x2 x3 x4 y : EReal)
      = normed (fun k => x2 (ix2 (y 0) k) + x3 (ix3 (0 : Fin 1) (0 : Fin 1) k)
          * (g (ix3 (0 : Fin 4) (y 0) k) + g (ix3 (1 : Fin 4) (y 0) k) + g (ix3 (2 : Fin 4) (y 0) k) + g (ix3 (3 : Fin 4) (y 0) k))) (y 1)
        * x4 (ix2 (0 : Fin 1) (y 1)) := by
  unfold outBlk k0_pay1 k0_pay2
  rw [shapeCast_self]
  refine congrArg₂ (fun a b : EReal => a * b) ((congrArg _ (eq_ix2 y)).trans ((Norm.norm_apply _ reduces_S128x4096_S128 shapeCasts_S128_S128x1 broadcasts_S128x1_S128x4096 (y 0) (y 1)).trans (congrArg (fun z => normed z (y 1)) (funext fun k => ?_)))) ?_
  · refine congrArg (fun b : EReal => x2 (ix2 (y 0) k) + b) (congrArg₂ (fun a b : EReal => a * b) ?_ ?_)
    · refine (broadcastTo_apply _ _ (ix2 (y 0) k : S128x4096.Idx) (ix2 (0 : Fin 1) k) fun a => ?_).trans (shapeCast_apply _ _ _ _ ?_)
      · match a with
        | ⟨0, _⟩ => rfl
        | ⟨1, _⟩ => rfl
      · refine (Shape.rowMajor_val_three _).trans (Eq.trans ?_ (Shape.rowMajor_val_two _).symm)
        rfl
    · exact congrArg₂ (fun a b : EReal => a + b) (congrArg₂ (fun a b : EReal => a + b) (congrArg₂ (fun a b : EReal => a + b)
        (slab_apply g 0 _ (ix2 (y 0) k)) (slab_apply g 1 _ (ix2 (y 0) k))) (slab_apply g 2 _ (ix2 (y 0) k))) (slab_apply g 3 _ (ix2 (y 0) k))
  · refine broadcastTo_apply _ _ y (ix2 (0 : Fin 1) (y 1)) fun a => ?_
    match a with
    | ⟨0, _⟩ => rfl
    | ⟨1, _⟩ => rfl

/-! ## The array after the call -/

variable (m : (ℓ : Loc nD τ sig) → Buf (Elt Ideal) ℓ) (ρ : Dev nD → PrngReg)

theorem idx0 : ∀ t : Fin cfg0.N, win0_1.index t = ![t.val, 0] ∧ win0_2.index t = ![t.val / 32, 0, 0]
    ∧ win0_3.index t = ![0, 0] ∧ win0_4.index t = ![t.val, 0] := (by decide +kernel : ∀ t : Fin grid0.N, _)

/-- What the call leaves in the result, from the launch's arguments. -/
def result (c : Dev nD) : S16384x4096.Idx → EReal := fun i =>
  normed (comb (m ((c : Thread nD τ).loc main_arg0)) (m ((c : Thread nD τ).loc main_arg1)) (m ((c : Thread nD τ).loc main_arg3))
    (m ((c : Thread nD τ).loc main_arg4)) (i 0)) (i 1) * (m ((c : Thread nD τ).loc main_arg2) : S4096.Idx → EReal) (ix1 (i 1))

theorem V_gain (c : Dev nD) : V m c main_v0
    = shapeCast S1x4096 (m ((c : Thread nD τ).loc main_arg2) : S4096.Idx → EReal) shapeCasts_S4096_S1x4096 := by
  show StableHlo.after hostOps0 _ (Proc.devRef .tc main_v0) = _
  unfold hostOps0; after_results; rfl

/-- The result's array after the call. -/
theorem final (c : Dev nD) : (dats m 0 c).arrAt 4 cfg0.N = result m c := by
  refine (dats m 0 c).arrAt_eq_of_covers 4 _ (by decide +kernel) fun t hf y => ?_
  obtain ⟨h1, h2, h3, h4⟩ := idx0 t
  have ht := lt128 t
  blk_simp
  rw [after0_4]
  unfold outOf
  refine (outBlk_apply _ _ _ _ y).trans ?_
  have hr : ((win0_4.blk t).view.emb y 0).val = 128 * t.val + (y 0).val := by
    blk_simp [h4]
    omega
  have quarter : ∀ (e : Fin 4) (k : Fin 4096) (h : 4 * ((win0_4.blk t).view.emb y 0).val + e.val < 65536),
      gathered m c t (ix3 e (y 0) k) = rowOf (m ((c : Thread nD τ).loc main_arg4)) (m ((c : Thread nD τ).loc main_arg3))
        ⟨4 * ((win0_4.blk t).view.emb y 0).val + e.val, h⟩ k := fun e k h => by
    unfold gathered
    rw [V_main_arg4, V_main_arg3]
    refine congrArg (fun r => rowOf _ _ r k) (Fin.ext ?_)
    show 512 * t.val + 4 * (y 0).val + e.val = 4 * ((win0_4.blk t).view.emb y 0).val + e.val
    omega
  unfold result comb
  refine congrArg₂ (fun a b : EReal => a * b) ?_ ?_
  · refine congrArg₂ (fun z (j : Fin 4096) => normed z j) (funext fun k => ?_) (Fin.ext ?_)
    · refine congrArg₂ (fun a b : EReal => a + b) ?_ (congrArg₂ (fun a b : EReal => a * b) ?_
        (congrArg₂ (fun a b : EReal => a + b) (congrArg₂ (fun a b : EReal => a + b) (congrArg₂ (fun a b : EReal => a + b) ?_ ?_) ?_) ?_))
      · refine (congrArg (V m c main_arg0) (funext fun a => Fin.ext ?_)).trans (congrFun (V_main_arg0 m c) _)
        match a with
        | ⟨0, _⟩ =>
          show ((win0_1.blk t).view.emb (ix2 (y 0) k : S128x4096.Idx) 0).val = ((win0_4.blk t).view.emb y 0).val
          blk_simp [h1, h4]
        | ⟨1, _⟩ =>
          show ((win0_1.blk t).view.emb (ix2 (y 0) k : S128x4096.Idx) 1).val = k.val
          blk_simp [h1]
      · refine (congrArg (V m c main_arg1) (funext fun a => Fin.ext ?_)).trans (congrFun (V_main_arg1 m c) _)
        match a with
        | ⟨0, _⟩ =>
          show ((win0_2.blk t).view.emb (ix3 0 0 k : S1x1x4096.Idx) 0).val = ((win0_4.blk t).view.emb y 0).val / 4096
          blk_simp [h2, h4]
          idx_bounds y
          omega
        | ⟨1, _⟩ =>
          show ((win0_2.blk t).view.emb (ix3 0 0 k : S1x1x4096.Idx) 1).val = 0
          blk_simp [h2]; rfl
        | ⟨2, _⟩ =>
          show ((win0_2.blk t).view.emb (ix3 0 0 k : S1x1x4096.Idx) 2).val = k.val
          blk_simp [h2]
      · exact quarter 0 k _
      · exact quarter 1 k _
      · exact quarter 2 k _
      · exact quarter 3 k _
    · show (y 1).val = ((win0_4.blk t).view.emb y 1).val
      blk_simp [h4]
  · refine ((congrArg (V m c main_v0) (funext fun a => Fin.ext ?_)).trans (congrFun (V_gain m c) (ix2 (0 : Fin 1) (y 1)))).trans
      ((shapeCast_apply _ _ _ (ix1 (y 1)) ?_).trans (congrArg _ (congrArg ix1 (Fin.ext ?_))))
    · match a with
      | ⟨0, _⟩ =>
        show ((win0_3.blk t).view.emb (ix2 0 (y 1) : S1x4096.Idx) 0).val = 0
        blk_simp [h3]; rfl
      | ⟨1, _⟩ =>
        show ((win0_3.blk t).view.emb (ix2 0 (y 1) : S1x4096.Idx) 1).val = (y 1).val
        blk_simp [h3]
    · refine (Shape.rowMajor_val_one _).trans (Eq.trans ?_ (Shape.rowMajor_val_two _).symm)
      show (y 1).val = 0 * 4096 + (y 1).val
      omega
    · show (y 1).val = ((win0_4.blk t).view.emb y 1).val
      blk_simp [h4]

end Cert.Kernel5Ideal.Hand

end
-- ==== Proof.Combine.lean ====
/- The combination's claims: the precondition read as a bound on the slot table's words, the kernel's run to the result, and the
   reference's sum and normalization read as the same values. Hand-written. -/
module

public import proofs.«01_k».proof.Defs
public import proofs.«01_k».proof.Proof.CombineValue
public import proofs.«01_k».proof.Proof.Gen.Kernel5
public import proofs.«01_k».proof.Proof.Gen.Reference5Ideal
public import proofs.«01_k».proof.Proof.Gen.Reference5Ideal.Run
public import proofs.«01_k».proof.Proof.Gen.Pre_slots_in_range
public import proofs.«01_k».proof.Proof.Dispatch
public import Idealize.ShloMosaic.Lib.IdealHost

@[expose] public section

noncomputable section

namespace Cert.Kernel5Ideal.Hand

open Cert.Kernel5Ideal Cert.Kernel5Ideal.Gen
open Idealize.ShloMosaic Idealize.ShloMosaic.TcCoe Idealize.SL.Sem
open Cert.Norm (normed)
open scoped BigOperators

section AnyFloat

variable {F : FTy → Type} [FloatOps F]

/-- The precondition's predicate bounds every word of the slot table. -/
theorem words_lt (x : S16384x4096.Idx → F .f32) (gt : S8x1x4096.Idx → F .f32) (g : S4096.Idx → F .f32) (ys : S73728x4096.Idx → F .f32)
    (w : S65536.Idx → BitVec 32) (h : Cert.Pre_slots_in_range.fn (F := F) x gt g ys w = fun _ => 1#1) (y : S65536.Idx) :
    (w y).toNat < 73728 := by
  have : Subsingleton Cert.Pre_slots_in_range.S_.Idx := ⟨fun a b => funext fun i => i.elim0⟩
  have e := Host.reduce_andi_all _ _ _ _ _ (congrFun h (fun i => i.elim0)) y
  simp only [andi, cmpi, broadcastInDim, constantI, IntOp.cmpi, Cert.KernelIdeal.Hand.andi_ofBool,
    Cert.KernelIdeal.Hand.ofBool_eq_one, Bool.and_eq_true] at e
  obtain ⟨hge, hlt⟩ := e
  simp only [BitVec.sle, BitVec.slt, decide_eq_true_eq, BitVec.toInt, BitVec.toNat_ofNat] at hge hlt
  omega

variable (m : (ℓ : Loc nD τ sig) → Buf (Elt F) ℓ) (ρ : Dev nD → PrngReg)

/-- The combination's run, for any float values: the result is the array after the call, the arguments are unchanged and every
    semaphore is at zero. -/
theorem run_arr (hm : InRange m) : θ_run defs (onTc (τ := τ) (main (F := F))) ⟨m, fun _ => 0, ρ⟩ (fun r => (∀ c : Dev nD,
      r.2.mem ((c.tc : Thread nD τ).loc main_v1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c).1 4,
      ((h.1 c).1 1).trans (((dats m 0 c).arrAt_in 1 rfl _).trans ((A_eq m c 1).trans (V_main_arg0 m c))),
      ((h.1 c).1 2).trans (((dats m 0 c).arrAt_in 2 rfl _).trans ((A_eq m c 2).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).1 0).trans (((dats m 0 c).arrAt_in 0 rfl _).trans ((A_eq m c 0).trans (V_main_arg4 m c)))⟩, h.2⟩)
    (run_main m ρ hm)

/-- The reference's gather, at words in range, takes the named rows. -/
theorem gather_apply (w : S65536.Idx → BitVec 32) (x : S73728x4096.Idx → Elt F .f32) (hw : ∀ y, (w y).toNat < 73728)
    (r : Fin 65536) (y : Fin 4096) :
    Host.gather Cert.Reference5Ideal.gather_S73728x4096_S65536x1_S65536x4096_1_0_n_n_0_1_14096 x
      (broadcastInDim Cert.Reference5Ideal.S65536x1 ![0] Cert.Reference5Ideal.Gen.bcast_S65536_S65536x1_0
        (select (cmpi .slt w (broadcastInDim Cert.Reference5Ideal.S65536 ![] Cert.Reference5Ideal.Gen.bcast_S_S65536 (constantI Cert.Reference5Ideal.S_ 32 0#32)))
          (addi w (broadcastInDim Cert.Reference5Ideal.S65536 ![] Cert.Reference5Ideal.Gen.bcast_S_S65536 (constantI Cert.Reference5Ideal.S_ 32 73728#32))) w))
      (ix2 r y) = rowOf w x r y := by
  have h := hw (ix1 r)
  refine (Routing.gather_row (b := ⟨(w (ix1 r)).toNat, h⟩) _ rfl rfl rfl rfl rfl x _ r y ?_ (by decide)).trans ?_
  · have hs : BitVec.slt (w (ix1 r)) 0#32 = false := by
      simp only [BitVec.slt, BitVec.toInt, BitVec.toNat_ofNat, decide_eq_false_iff_not]
      omega
    have e : (select (cmpi .slt w (broadcastInDim Cert.Reference5Ideal.S65536 ![] Cert.Reference5Ideal.Gen.bcast_S_S65536 (constantI Cert.Reference5Ideal.S_ 32 0#32)))
          (addi w (broadcastInDim Cert.Reference5Ideal.S65536 ![] Cert.Reference5Ideal.Gen.bcast_S_S65536 (constantI Cert.Reference5Ideal.S_ 32 73728#32))) w) (ix1 r) = w (ix1 r) := by
      simp only [select, cmpi, IntOp.cmpi, broadcastInDim, constantI, hs]
      rfl
    refine Eq.trans ?_ (e.trans (by simp))
    unfold broadcastInDim
    refine congrArg _ (funext fun a => ?_)
    match a with
    | ⟨0, _⟩ => rfl
  · unfold rowOf
    refine congrArg x (congrArg (fun a => ix2 a y) (Fin.ext ?_))
    show (w (ix1 r)).toNat = min (w (ix1 r)).toNat 73727
    omega

/-! ## The frames -/

/-- The kernel's two printed body tables are one. -/
theorem defs₀_eq : Cert.Kernel5.defs₀ (F := F) = Cert.Kernel5Ideal.defs₀ (F := F) := by
  have h : @Cert.Kernel5.cc0_combine F _ _ = @Cert.Kernel5Ideal.cc0_combine F _ _ := rfl
  unfold Cert.Kernel5.defs₀ Cert.Kernel5Ideal.defs₀
  congr 1
  funext x y
  match x, y with
  | 0, (t, s) => exact congrFun (congrFun (congrFun (congrFun (congrFun (congrFun (congrFun (congrFun (congrFun (congrFun (congrFun (congrFun (congrFun (congrFun (congrFun (congrFun h _) _) _) _) _) _) _) _) _) _) _) _) _) _) _) _
  | ⟨_ + 1, h⟩, _ => exact absurd h (Nat.not_lt.2 (Nat.le_add_left _ _))

theorem defs_eq : Cert.Kernel5.defs (F := F) = Cert.Kernel5Ideal.defs (F := F) :=
  congrArg (Pipeline.defs Cert.Kernel5Ideal.pcfgs) defs₀_eq

end AnyFloat

theorem frame_kernel : Cert.quiescent_Kernel5 := fun m ρ h => by
  have hm : InRange (F := Bits) m := fun c => words_lt _ _ _ _ _ (h c)
  have r := run_arr (F := Bits) m ρ hm
  rw [← defs_eq] at r
  exact (θ_run (Cert.Kernel5.defs (F := Bits)) _ _).mono (fun _ h => ⟨fun c => (h.1 c).2, h.2⟩) r

theorem frame_kernelIdeal : Cert.quiescent_Kernel5Ideal := fun m ρ h =>
  (θ_run Cert.Kernel5Ideal.defs _ _).mono (fun _ h => ⟨fun c => (h.1 c).2, h.2⟩) (run_arr m ρ fun c => words_lt _ _ _ _ _ (h c))

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

theorem frame_reference_pre : Cert.quiescent_Reference5Ideal_pre_slots_in_range := fun m ρ _ =>
  (θ_run Cert.Reference5Ideal.defs _ _).mono (fun r h => ⟨fun c => (h c).2, sem_eq_zero_of_no_sems (by decide) r.2⟩)
    (Cert.Reference5Ideal.Value.run m ρ)

/-! ## The reference's values -/

/-- A row of the flattened tokens is the row of the sequence it falls in. -/
theorem flat_apply (x : Cert.Reference5Ideal.S4x4096x4096.Idx → EReal) (h : Cert.Reference5Ideal.S4x4096x4096.ShapeCasts S16384x4096)
    (r : Fin 16384) (j : Fin 4096) :
    shapeCast S16384x4096 x h (ix2 r j) = x (ix3 (⟨r.val / 4096, by omega⟩ : Fin 4) (⟨r.val % 4096, by omega⟩ : Fin 4096) j) := by
  refine shapeCast_apply _ _ _ _ ?_
  refine (Shape.rowMajor_val_three _).trans (Eq.trans ?_ (Shape.rowMajor_val_two _).symm)
  show (r.val / 4096 * 4096 + r.val % 4096) * 4096 + j.val = r.val * 4096 + j.val
  omega

/-- And a row of the sequences is the row of the flattened tokens. -/
theorem unflat_apply (x : S16384x4096.Idx → EReal) (h : S16384x4096.ShapeCasts Cert.Reference5Ideal.S4x4096x4096)
    (r : Fin 16384) (j : Fin 4096) :
    shapeCast Cert.Reference5Ideal.S4x4096x4096 x h (ix3 (⟨r.val / 4096, by omega⟩ : Fin 4) (⟨r.val % 4096, by omega⟩ : Fin 4096) j)
      = x (ix2 r j) := by
  refine shapeCast_apply _ _ _ _ ?_
  refine (Shape.rowMajor_val_two _).trans (Eq.trans ?_ (Shape.rowMajor_val_three _).symm)
  show r.val * 4096 + j.val = (r.val / 4096 * 4096 + r.val % 4096) * 4096 + j.val
  omega

/-- The reference's normalization and gain, read at a token and a column. -/
theorem ref_norm (X : FVec Ideal Cert.Reference5Ideal.S4x4096x4096 .f32) (g : FVec Ideal S4096 .f32) (r : Fin 16384) (j : Fin 4096) :
    (shapeCast S16384x4096 (mulf (mulf X (broadcastInDim Cert.Reference5Ideal.S4x4096x4096 ![0, 1, 2]
        Cert.Reference5Ideal.Gen.bcast_S4x4096x1_S4x4096x4096_0_1_2 (Host.rsqrt (addf (Host.divf
          (broadcastInDim Cert.Reference5Ideal.S4x4096x1 ![0, 1] Cert.Reference5Ideal.Gen.bcast_S4x4096_S4x4096x1_0_1
            (Host.reduceAdd (mulf X X) (constant (F := Ideal) Cert.Reference5Ideal.S_ .f32 0x00000000#32)
              Cert.Reference5Ideal.Gen.reducesTo_S4x4096x4096_S4x4096_d2 Cert.Reference5Ideal.Gen.h_S_))
          (broadcastInDim Cert.Reference5Ideal.S4x4096x1 ![] Cert.Reference5Ideal.Gen.bcast_S_S4x4096x1 (constant (F := Ideal) Cert.Reference5Ideal.S_ .f32 0x45800000#32)))
          (broadcastInDim Cert.Reference5Ideal.S4x4096x1 ![] Cert.Reference5Ideal.Gen.bcast_S_S4x4096x1 (constant (F := Ideal) Cert.Reference5Ideal.S_ .f32 0x358637BD#32))))))
      (broadcastInDim Cert.Reference5Ideal.S4x4096x4096 ![0, 1, 2] Cert.Reference5Ideal.Gen.bcast_S1x1x4096_S4x4096x4096_0_1_2
        (broadcastInDim Cert.Reference5Ideal.S1x1x4096 ![2] Cert.Reference5Ideal.Gen.bcast_S4096_S1x1x4096_2 g)))
      Cert.Reference5Ideal.Gen.shapeCasts_S4x4096x4096_S16384x4096 (ix2 r j) : EReal)
      = normed (fun k => X (ix3 (⟨r.val / 4096, by omega⟩ : Fin 4) (⟨r.val % 4096, by omega⟩ : Fin 4096) k)) j * g (ix1 j) := by
  rw [flat_apply]
  refine congrArg₂ (fun a b : EReal => a * b) (Norm.host_norm_apply X _ _ (by decide) _ _ _ _ _ j) ?_
  · refine (broadcastInDim_apply _ _ _ _ (ix3 (0 : Fin 1) (0 : Fin 1) j) fun a => ?_).trans (broadcastInDim_apply _ _ _ _ (ix1 j) fun a => ?_)
    · match a with
      | ⟨0, _⟩ => rfl
      | ⟨1, _⟩ => rfl
      | ⟨2, _⟩ => rfl
    · match a with
      | ⟨0, _⟩ => rfl

/-- The reference's residual stream, read at a token and a column: `G` is the gathered rows. -/
theorem ref_comb (x : FVec Ideal S16384x4096 .f32) (gt : FVec Ideal S8x1x4096 .f32) (ys : S73728x4096.Idx → EReal) (w : S65536.Idx → BitVec 32)
    (G : FVec Ideal Cert.Reference5Ideal.S65536x4096 .f32) (hG : ∀ r j, G (ix2 r j) = rowOf w ys r j) (r : Fin 16384) (j : Fin 4096) :
    (addf (shapeCast Cert.Reference5Ideal.S4x4096x4096 x Cert.Reference5Ideal.Gen.shapeCasts_S16384x4096_S4x4096x4096)
      (mulf (broadcastInDim Cert.Reference5Ideal.S4x4096x4096 ![0, 1, 2] Cert.Reference5Ideal.Gen.bcast_S4x1x4096_S4x4096x4096_0_1_2
          (extractStridedSlice Cert.Reference5Ideal.S4x1x4096 ![0, 0, 0] gt Cert.Reference5Ideal.Gen.slices_S8x1x4096_S4x1x4096_0_0_0))
        (shapeCast Cert.Reference5Ideal.S4x4096x4096 (Host.reduceAdd
          (shapeCast Cert.Reference5Ideal.S16384x4x4096 G Cert.Reference5Ideal.Gen.shapeCasts_S65536x4096_S16384x4x4096)
          (constant (F := Ideal) Cert.Reference5Ideal.S_ .f32 0x00000000#32) Cert.Reference5Ideal.Gen.reducesTo_S16384x4x4096_S16384x4096_d1
          Cert.Reference5Ideal.Gen.h_S_) Cert.Reference5Ideal.Gen.shapeCasts_S16384x4096_S4x4096x4096))
      (ix3 (⟨r.val / 4096, by omega⟩ : Fin 4) (⟨r.val % 4096, by omega⟩ : Fin 4096) j) : EReal)
      = comb x gt ys w r j := by
  have row : ∀ (e : Fin 4) (h : 4 * r.val + e.val < 65536),
      shapeCast Cert.Reference5Ideal.S16384x4x4096 G Cert.Reference5Ideal.Gen.shapeCasts_S65536x4096_S16384x4x4096 (ix3 r e j)
        = rowOf w ys ⟨4 * r.val + e.val, h⟩ j := fun e h => by
    refine (shapeCast_apply _ _ _ (ix2 (⟨4 * r.val + e.val, h⟩ : Fin 65536) j) ?_).trans (hG _ _)
    refine (Shape.rowMajor_val_two _).trans (Eq.trans ?_ (Shape.rowMajor_val_three _).symm)
    show (4 * r.val + e.val) * 4096 + j.val = (r.val * 4 + e.val) * 4096 + j.val
    omega
  unfold comb
  refine congrArg₂ (fun a b : EReal => a + b) (unflat_apply _ _ r j) (congrArg₂ (fun a b : EReal => a * b) ?_ ((unflat_apply _ _ r j).trans ?_))
  · refine (broadcastInDim_apply _ _ _ _ (ix3 (⟨r.val / 4096, by omega⟩ : Fin 4) (0 : Fin 1) j) fun a => ?_).trans
      (extractStridedSlice_apply _ _ _ _ _ fun a => ?_)
    · match a with
      | ⟨0, _⟩ => rfl
      | ⟨1, _⟩ => rfl
      | ⟨2, _⟩ => rfl
    · match a with
      | ⟨0, _⟩ => show r.val / 4096 = 0 + r.val / 4096; omega
      | ⟨1, _⟩ => rfl
      | ⟨2, _⟩ => show j.val = 0 + j.val; omega
  · refine (ValueIdx.hostReduceAdd_apply _ _ _ _ _).trans ((Ideal.hostReduceAdd_single _ (by decide) _ _ _).trans ?_)
    refine (congrArg₂ (fun a b : EReal => a + b) Ideal.ofBits_zero_f32
      (Finset.sum_congr (M := EReal) rfl fun e _ => ?_)).trans ((zero_add _).trans (Fin.sum_univ_four fun e : Fin 4 => rowOf w ys ⟨4 * r.val + e.val, by omega⟩ j))
    refine (congrArg (shapeCast Cert.Reference5Ideal.S16384x4x4096 G Cert.Reference5Ideal.Gen.shapeCasts_S65536x4096_S16384x4x4096)
      (funext fun a => ?_)).trans (row e _)
    match a with
    | ⟨0, _⟩ => rfl
    | ⟨1, _⟩ => rfl
    | ⟨2, _⟩ => rfl

theorem algebraic : Cert.algebraic_Kernel5Ideal_Reference5Ideal := fun m ρ m' ρ' h e =>
  have hm : InRange m := fun c => words_lt _ _ _ _ _ (h c)
  ⟨fun c => result m c,
    (θ_run Cert.Kernel5Ideal.defs _ _).mono (fun _ h c => ⟨(h.1 c).1.trans (final m c), (h.1 c).2⟩) (run_arr m ρ hm),
    (θ_run Cert.Reference5Ideal.defs _ _).mono (fun r h c => ⟨(h c).1.trans (by
        obtain ⟨a0, a1, a2, a3, a4⟩ := e c
        rw [a0, a1, a2, a3, a4]
        funext i
        rw [eq_ix2 i]
        refine (ref_norm _ _ (i 0) (i 1)).trans ?_
        unfold result
        refine congrArg (fun z => normed z (i 1) * _) (funext fun k => ?_)
        exact ref_comb _ _ _ _ _ (gather_apply _ _ (hm c)) (i 0) k), (h c).2⟩)
      (Cert.Reference5Ideal.Value.run m' ρ')⟩

end Cert.Kernel5Ideal.Hand

end
-- ==== Proof.Gelu.lean ====
module

public import proofs.«01_k».proof.Defs
public import proofs.«01_k».proof.Proof.Norm
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import Idealize.ShloMosaic.Lib.Claim
public import Idealize.ShloMosaic.Lib.KernelVsHost
public import Idealize.ShloMosaic.Lib.Pipeline.ValueKit.Geometry
public import Idealize.ShloMosaic.Lib.Pipeline.ValueKit.Acc

@[expose] public section

/-! # The activated columns and their layer norm

A block of the kernel holds 256 whole rows of the 2048 columns it normalizes: each row is activated, its mean is taken off, it is
divided by the root of its mean square, and the gain and the offset follow. The reference does the same to the sequences; its
activation multiplies by one half in another order. -/

noncomputable section

namespace Cert.Kernel7Ideal.Hand

open Cert.Kernel7Ideal Cert.Kernel7Ideal.Gen Idealize.ShloMosaic Idealize.ShloMosaic.TcCoe Idealize.SL.Sem
open Idealize.ShloMosaic.Pipeline (Dat)
open Idealize.ShloMosaic.ValueIdx
open scoped BigOperators

/-! ## The values -/

/-- The activation, its constants being the words that both programs carry. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

/-- What a row's entry is above the row's mean. -/
def above (z : Fin 2048 → EReal) (j : Fin 2048) : EReal := z j - Ideal.div (∑ k : Fin 2048, z k) (Ideal.ofBits .f32 0x45000000#32)

/-- The layer norm of a row. -/
def layer (z g h : Fin 2048 → EReal) (j : Fin 2048) : EReal := Norm.rms 0x45000000#32 (above z) j * g j + h j

/-- The row of the flattened tokens that place `l` of sequence `b` is. -/
def row (b : Fin 4) (l : Fin 4096) : Fin 16384 := ⟨b.val * 4096 + l.val, by omega⟩

/-- The normalized columns among the projections. -/
def late (j : Fin 2048) : Fin 20480 := ⟨10240 + j.val, by omega⟩

/-- The call's result. -/
def result (p : S16384x20480.Idx → EReal) (g h : S2048.Idx → EReal) : S4x4096x2048.Idx → EReal := fun i =>
  layer (fun k => gelu (p (ix2 (row (i 0) (i 1)) (late k)))) (fun k => g (ix1 k)) (fun k => h (ix1 k)) (i 2)

/-! ## A block of the kernel -/

/-- The kernel's layer norm of a block of rows. -/
theorem layer_apply (T : FVec Ideal S256x2048 .f32) (G H : FVec Ideal S1x2048 .f32) (hr : S256x2048.Reduces [1] S256) (hs : S256.ShapeCasts S256x1)
    (hb : S256x1.Broadcasts S256x2048) (hg : S1x2048.Broadcasts S256x2048) (r : Fin 256) (j : Fin 2048) (D : FVec Ideal S256x2048 .f32)
    (hD : D = subf T (broadcastTo S256x2048 (divf (shapeCast S256x1 (multiReduction .add [1] S256 T 0x00000000#32 hr (.inl rfl) rfl) hs)
      (broadcast S256x1 (Scalar.ofBits .f32 0x45000000#32))) hb)) :
    (addf (mulf (mulf D (broadcastTo S256x2048 (rsqrt (addf (divf (shapeCast S256x1 (multiReduction .add [1] S256 (mulf D D) 0x00000000#32 hr (.inl rfl) rfl) hs)
      (broadcast S256x1 (Scalar.ofBits .f32 0x45000000#32))) (broadcast S256x1 (Scalar.ofBits .f32 0x358637BD#32)))) hb)) (broadcastTo S256x2048 G hg))
      (broadcastTo S256x2048 H hg) (ix2 r j) : EReal)
      = layer (fun k => T (ix2 r k)) (fun k => G (ix2 (0 : Fin 1) k)) (fun k => H (ix2 (0 : Fin 1) k)) j := by
  have e : (fun k : Fin 2048 => (D (ix2 r k) : EReal)) = above fun k => T (ix2 r k) := funext fun k => by
    rw [hD]
    exact congrArg (fun a : EReal => T (ix2 r k) - a) ((Norm.spread_apply _ hb r k).trans
      (congrArg (fun a : EReal => Ideal.div a (Ideal.ofBits .f32 0x45000000#32)) (Norm.sum_apply T hr hs r)))
  exact congrArg₂ (fun a b : EReal => a + b) (congrArg₂ (fun a b : EReal => a * b) ((Norm.norm_apply D hr hs hb r j).trans
    (congrArg (fun z => Norm.rms 0x45000000#32 z j) e)) (Norm.row_apply G hg r j)) (Norm.row_apply H hg r j)

/-- The half taken first. -/
theorem half_first (x u : EReal) : Ideal.ofBits .f32 0x3F000000#32 * x * u = x * (Ideal.ofBits .f32 0x3F000000#32 * u) := by
  rw [mul_comm (Ideal.ofBits .f32 0x3F000000#32) x, mul_assoc]

/-- A block of the call, from its input blocks. -/
theorem out_apply (x0 : Vec Ideal S1x256x2048 .f32) (x1 x2 : Vec Ideal S1x2048 .f32) (y : S1x256x2048.Idx) :
    (out0_3 x0 x1 x2 y : EReal) = layer (fun k => gelu (x0 (ix3 (0 : Fin 1) (y 1) k))) (fun k => x1 (ix2 (0 : Fin 1) k)) (fun k => x2 (ix2 (0 : Fin 1) k)) (y 2) := by
  unfold out0_3
  rw [View.canon_unit_zero (by decide), show View.ld x0 r0_0 = x0 from View.ld_unit_zero (by decide) _ _,
    show View.ld x1 r0_1 = x1 from View.ld_unit_zero (by decide) _ _, show View.ld x2 r0_1 = x2 from View.ld_unit_zero (by decide) _ _]
  unfold k0_pay1 k0_pay2
  refine (shapeCast_apply _ _ _ (ix2 (y 1) (y 2) : S256x2048.Idx) ?_).trans ?_
  · refine (Shape.rowMajor_val_two _).trans (Eq.trans ?_ (Shape.rowMajor_val_three _).symm)
    have h0 : (y 0).val = 0 := by have := (y 0).isLt; change (y 0).val < 1 at this; omega
    show (y 1).val * 2048 + (y 2).val = ((y 0).val * 256 + (y 1).val) * 2048 + (y 2).val
    rw [h0]; omega
  · repeat rw [shapeCast_self]
    refine (layer_apply _ x1 x2 _ _ _ _ (y 1) (y 2) _ rfl).trans (congrArg (fun z => layer z (fun k => x1 (ix2 (0 : Fin 1) k)) (fun k => x2 (ix2 (0 : Fin 1) k)) (y 2))
      (funext fun k => (half_first _ _).trans (congrArg gelu ?_)))
    refine shapeCast_apply _ _ _ _ ?_
    refine (Shape.rowMajor_val_three _).trans (Eq.trans ?_ (Shape.rowMajor_val_two _).symm)
    show (0 * 256 + (y 1).val) * 2048 + k.val = (y 1).val * 2048 + k.val
    omega

/-! ## The array after the call -/

variable (m : (ℓ : Loc nD τ sig) → Buf (Elt Ideal) ℓ) (ρ : Dev nD → PrngReg)

theorem idx0 : ∀ t : Fin cfg0.N, win0_0.index t = ![(grid0.coords t 0).val, (grid0.coords t 1).val, 5] ∧ win0_1.index t = ![0, 0]
    ∧ win0_2.index t = ![0, 0] ∧ win0_3.index t = ![(grid0.coords t 0).val, (grid0.coords t 1).val, 0] := (by decide +kernel : ∀ t : Fin grid0.N, _)

/-- The sequence a step works on. -/
def seq (t : Fin cfg0.N) : Fin 4 := grid0.coords t 0

/-- The block of places a step works on. -/
def span (t : Fin cfg0.N) : Fin 16 := grid0.coords t 1

/-- A block's place among all. -/
def pos (t : Fin cfg0.N) (l : Fin 256) : Fin 4096 := ⟨(span t).val * 256 + l.val, by omega⟩

theorem blk0 (c : Dev nD) (t : Fin cfg0.N) (l : Fin 256) (k : Fin 2048) : (iblk m c 0 t : S1x256x2048.Idx → EReal) (ix3 (0 : Fin 1) l k)
    = (m ((c : Thread nD τ).loc main_arg0) : S16384x20480.Idx → EReal) (ix2 (row (seq t) (pos t l)) (late k)) := by
  have e : (V m c main_v0 : S4x4096x20480.Idx → EReal)
      = shapeCast S4x4096x20480 (m ((c : Thread nD τ).loc main_arg0) : S16384x20480.Idx → EReal) shapeCasts_S16384x20480_S4x4096x20480 := by
    show StableHlo.after hostOps0 (fun b => m (c, b)) (Proc.devRef .tc main_v0) = _
    unfold hostOps0; after_results; rfl
  have f : (V m c main_v0 : S4x4096x20480.Idx → EReal) (ix3 (seq t) (pos t l) (late k))
      = (m ((c : Thread nD τ).loc main_arg0) : S16384x20480.Idx → EReal) (ix2 (row (seq t) (pos t l)) (late k)) := by
    refine (congrFun e _).trans (shapeCast_apply _ _ _ _ ?_)
    refine (Shape.rowMajor_val_two _).trans (Eq.trans ?_ (Shape.rowMajor_val_three _).symm)
    rfl
  show (V m c main_v0 : S4x4096x20480.Idx → EReal) ((win0_0.blk t).view.emb (ix3 (0 : Fin 1) l k : S1x256x2048.Idx)) = _
  refine Eq.trans (congrArg (V m c main_v0 : S4x4096x20480.Idx → EReal) (funext fun a => Fin.ext ?_)) f
  match a with
  | ⟨0, _⟩ =>
    show ((win0_0.blk t).view.emb (ix3 (0 : Fin 1) l k : S1x256x2048.Idx) 0).val = (grid0.coords t 0).val
    blk_simp [idx0 t]
  | ⟨1, _⟩ =>
    show ((win0_0.blk t).view.emb (ix3 (0 : Fin 1) l k : S1x256x2048.Idx) 1).val = (grid0.coords t 1).val * 256 + l.val
    blk_simp [idx0 t]
    rfl
  | ⟨2, _⟩ =>
    show ((win0_0.blk t).view.emb (ix3 (0 : Fin 1) l k : S1x256x2048.Idx) 2).val = 10240 + k.val
    blk_simp [idx0 t]
    rfl

theorem blk1 (c : Dev nD) (t : Fin cfg0.N) (k : Fin 2048) : (iblk m c 1 t : S1x2048.Idx → EReal) (ix2 (0 : Fin 1) k)
    = (m ((c : Thread nD τ).loc main_arg1) : S2048.Idx → EReal) (ix1 k) := by
  have e : (V m c main_v1 : S1x2048.Idx → EReal) = shapeCast S1x2048 (m ((c : Thread nD τ).loc main_arg1) : S2048.Idx → EReal) shapeCasts_S2048_S1x2048 := by
    show StableHlo.after hostOps0 (fun b => m (c, b)) (Proc.devRef .tc main_v1) = _
    unfold hostOps0; after_results; rfl
  show (V m c main_v1 : S1x2048.Idx → EReal) ((win0_1.blk t).view.emb (ix2 (0 : Fin 1) k : S1x2048.Idx)) = _
  refine (congrFun e _).trans (shapeCast_apply _ _ _ _ ?_)
  refine (Shape.rowMajor_val_one _).trans (Eq.trans ?_ (Shape.rowMajor_val_two _).symm)
  show k.val = ((win0_1.blk t).view.emb (ix2 (0 : Fin 1) k : S1x2048.Idx) 0).val * 2048 + ((win0_1.blk t).view.emb (ix2 (0 : Fin 1) k : S1x2048.Idx) 1).val
  blk_simp [idx0 t]
  rfl

theorem blk2 (c : Dev nD) (t : Fin cfg0.N) (k : Fin 2048) : (iblk m c 2 t : S1x2048.Idx → EReal) (ix2 (0 : Fin 1) k)
    = (m ((c : Thread nD τ).loc main_arg2) : S2048.Idx → EReal) (ix1 k) := by
  have e : (V m c main_v2 : S1x2048.Idx → EReal) = shapeCast S1x2048 (m ((c : Thread nD τ).loc main_arg2) : S2048.Idx → EReal) shapeCasts_S2048_S1x2048 := by
    show StableHlo.after hostOps0 (fun b => m (c, b)) (Proc.devRef .tc main_v2) = _
    unfold hostOps0; after_results; rfl
  show (V m c main_v2 : S1x2048.Idx → EReal) ((win0_2.blk t).view.emb (ix2 (0 : Fin 1) k : S1x2048.Idx)) = _
  refine (congrFun e _).trans (shapeCast_apply _ _ _ _ ?_)
  refine (Shape.rowMajor_val_one _).trans (Eq.trans ?_ (Shape.rowMajor_val_two _).symm)
  show k.val = ((win0_2.blk t).view.emb (ix2 (0 : Fin 1) k : S1x2048.Idx) 0).val * 2048 + ((win0_2.blk t).view.emb (ix2 (0 : Fin 1) k : S1x2048.Idx) 1).val
  blk_simp [idx0 t]
  rfl

/-- The result array after the run. -/
theorem final (c : Dev nD) : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t hf y => ?_
  have ey : (win0_3.blk t).view.emb y = (ix3 (seq t) (pos t (y 1)) (y 2) : S4x4096x2048.Idx) := by
    refine funext fun a => Fin.ext ?_
    match a with
    | ⟨0, _⟩ =>
      have h0 : (y 0).val = 0 := by have := (y 0).isLt; change (y 0).val < 1 at this; omega
      show ((win0_3.blk t).view.emb y 0).val = (grid0.coords t 0).val
      blk_simp [idx0 t]
    | ⟨1, _⟩ =>
      show ((win0_3.blk t).view.emb y 1).val = (grid0.coords t 1).val * 256 + (y 1).val
      blk_simp [idx0 t]
    | ⟨2, _⟩ =>
      show ((win0_3.blk t).view.emb y 2).val = (y 2).val
      blk_simp [idx0 t]
  refine Eq.trans ?_ (congrArg (result (m ((c : Thread nD τ).loc main_arg0)) (m ((c : Thread nD τ).loc main_arg1)) (m ((c : Thread nD τ).loc main_arg2))) ey).symm
  blk_simp
  rw [after0_3, out_apply]
  refine (congrArg₂ (fun z g => layer z g (fun k => iblk m c 2 t (ix2 (0 : Fin 1) k)) (y 2)) (funext fun k => congrArg gelu (blk0 m c t (y 1) k)) (funext fun k => blk1 m c t k)).trans
    (congrArg (fun h => layer _ _ h (y 2)) (funext fun k => blk2 m c t k))

theorem run : θ_run defs (onTc (τ := τ) (main (F := Ideal))) ⟨m, fun _ => 0, ρ⟩ fun r => ∀ c : Dev nD,
    r.2.mem ((c.tc : Thread nD τ).loc main_v3)
        = result (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (Value.run_blocks m ρ)

end Cert.Kernel7Ideal.Hand

/-! ## The reference -/

namespace Cert.Reference7Ideal.Hand

open Cert.Reference7Ideal Cert.Reference7Ideal.Facts₀ Idealize.ShloMosaic Idealize.ShloMosaic.TcCoe Idealize.SL.Sem
open Idealize.ShloMosaic.ValueIdx
open Cert.Kernel7Ideal.Hand (gelu above layer row late result)
open scoped BigOperators

/-- The columns that are normalized, folded into the sequences. -/
def columns (P : FVec Ideal S16384x20480 .f32) : FVec Ideal S4x4096x2048 .f32 :=
  extractStridedSlice S4x4096x2048 ![0, 0, 10240] (shapeCast S4x4096x20480 P shapeCasts_S16384x20480_S4x4096x20480) slices_S4x4096x20480_S4x4096x2048_0_0_10240

theorem columns_apply (P : FVec Ideal S16384x20480 .f32) (b : Fin 4) (s : Fin 4096) (j : Fin 2048) : columns P (ix3 b s j) = P (ix2 (row b s) (late j)) := by
  refine (extractStridedSlice_apply _ _ _ _ (ix3 b s (late j)) fun a => ?_).trans (shapeCast_apply _ _ _ _ ?_)
  · match a with
    | ⟨0, _⟩ => show b.val = 0 + b.val; omega
    | ⟨1, _⟩ => show s.val = 0 + s.val; omega
    | ⟨2, _⟩ => rfl
  · refine (Shape.rowMajor_val_two _).trans (Eq.trans ?_ (Shape.rowMajor_val_three _).symm)
    rfl

/-- The reference's activation. -/
def activated (X : FVec Ideal S4x4096x2048 .f32) : FVec Ideal S4x4096x2048 .f32 :=
  mulf X (mulf (broadcastInDim S4x4096x2048 ![] bcast_S_S4x4096x2048 (constant S_ .f32 0x3F000000#32))
    (addf (broadcastInDim S4x4096x2048 ![] bcast_S_S4x4096x2048 (constant S_ .f32 0x3F800000#32))
      (Host.tanh (mulf (broadcastInDim S4x4096x2048 ![] bcast_S_S4x4096x2048 (constant S_ .f32 0x3F4C422A#32))
        (addf X (mulf (broadcastInDim S4x4096x2048 ![] bcast_S_S4x4096x2048 (constant S_ .f32 0x3D372713#32)) (mulf (mulf X X) X)))))))

/-- A row's mean, spread over the row. -/
def mean (T : FVec Ideal S4x4096x2048 .f32) : FVec Ideal S4x4096x1 .f32 :=
  Host.divf (broadcastInDim S4x4096x1 ![0, 1] bcast_S4x4096_S4x4096x1_0_1
    (Host.reduceAdd T (constant S_ .f32 0x00000000#32) reducesTo_S4x4096x2048_S4x4096_d2 h_S_))
    (broadcastInDim S4x4096x1 ![] bcast_S_S4x4096x1 (constant S_ .f32 0x45000000#32))

theorem mean_apply (T : FVec Ideal S4x4096x2048 .f32) (b : Fin 4) (s : Fin 4096) :
    (mean T (ix3 b s (0 : Fin 1)) : EReal) = Ideal.div (∑ k : Fin 2048, T (ix3 b s k)) (Ideal.ofBits .f32 0x45000000#32) := by
  refine congrArg (fun a : EReal => Ideal.div a (Ideal.ofBits .f32 0x45000000#32)) ?_
  refine (broadcastInDim_apply _ _ _ _ (ix2 b s) fun a => ?_).trans ((ValueIdx.hostReduceAdd_apply _ _ _ _ _).trans
    ((Ideal.hostReduceAdd_single _ (by decide) _ _ _).trans ?_))
  · match a with
    | ⟨0, _⟩ => rfl
    | ⟨1, _⟩ => rfl
  · refine (congrArg₂ (fun a b : EReal => a + b) Ideal.ofBits_zero_f32 (Finset.sum_congr (M := EReal) rfl fun k _ => ?_)).trans (zero_add _)
    refine congrArg T (funext fun a => ?_)
    match a with
    | ⟨0, _⟩ => rfl
    | ⟨1, _⟩ => rfl
    | ⟨2, _⟩ => rfl

/-- A value per row spread over the row. -/
theorem spread_apply (v : FVec Ideal S4x4096x1 .f32) (b : Fin 4) (s : Fin 4096) (j : Fin 2048) :
    broadcastInDim S4x4096x2048 ![0, 1, 2] bcast_S4x4096x1_S4x4096x2048_0_1_2 v (ix3 b s j) = v (ix3 b s (0 : Fin 1)) := by
  refine broadcastInDim_apply _ _ _ _ (ix3 b s (0 : Fin 1)) fun a => ?_
  match a with
  | ⟨0, _⟩ => rfl
  | ⟨1, _⟩ => rfl
  | ⟨2, _⟩ => rfl

/-- One row spread over all rows. -/
theorem row_apply (g : FVec Ideal S2048 .f32) (b : Fin 4) (s : Fin 4096) (j : Fin 2048) :
    broadcastInDim S4x4096x2048 ![0, 1, 2] bcast_S1x1x2048_S4x4096x2048_0_1_2 (broadcastInDim S1x1x2048 ![2] bcast_S2048_S1x1x2048_2 g) (ix3 b s j) = g (ix1 j) := by
  refine (broadcastInDim_apply _ _ _ _ (ix3 (0 : Fin 1) (0 : Fin 1) j) fun a => ?_).trans (broadcastInDim_apply _ _ _ _ (ix1 j) fun a => ?_)
  · match a with
    | ⟨0, _⟩ => rfl
    | ⟨1, _⟩ => rfl
    | ⟨2, _⟩ => rfl
  · match a with
    | ⟨0, _⟩ => rfl

/-- The rows above their means. -/
def centred (T : FVec Ideal S4x4096x2048 .f32) : FVec Ideal S4x4096x2048 .f32 :=
  subf T (broadcastInDim S4x4096x2048 ![0, 1, 2] bcast_S4x4096x1_S4x4096x2048_0_1_2 (mean T))

theorem centred_apply (T : FVec Ideal S4x4096x2048 .f32) (b : Fin 4) (s : Fin 4096) (j : Fin 2048) :
    (centred T (ix3 b s j) : EReal) = above (fun k => T (ix3 b s k)) j :=
  congrArg (fun a : EReal => T (ix3 b s j) - a) ((spread_apply _ b s j).trans (mean_apply T b s))

/-- The reference's layer norm. -/
def normal (T : FVec Ideal S4x4096x2048 .f32) (g h : FVec Ideal S2048 .f32) : FVec Ideal S4x4096x2048 .f32 :=
  addf (mulf (mulf (centred T) (broadcastInDim S4x4096x2048 ![0, 1, 2] bcast_S4x4096x1_S4x4096x2048_0_1_2
    (Host.rsqrt (addf (mean (mulf (centred T) (centred T))) (broadcastInDim S4x4096x1 ![] bcast_S_S4x4096x1 (constant S_ .f32 0x358637BD#32))))))
    (broadcastInDim S4x4096x2048 ![0, 1, 2] bcast_S1x1x2048_S4x4096x2048_0_1_2 (broadcastInDim S1x1x2048 ![2] bcast_S2048_S1x1x2048_2 g)))
    (broadcastInDim S4x4096x2048 ![0, 1, 2] bcast_S1x1x2048_S4x4096x2048_0_1_2 (broadcastInDim S1x1x2048 ![2] bcast_S2048_S1x1x2048_2 h))

theorem normal_apply (T : FVec Ideal S4x4096x2048 .f32) (g h : FVec Ideal S2048 .f32) (b : Fin 4) (s : Fin 4096) (j : Fin 2048) :
    (normal T g h (ix3 b s j) : EReal) = layer (fun k => T (ix3 b s k)) (fun k => g (ix1 k)) (fun k => h (ix1 k)) j := by
  refine congrArg₂ (fun a b : EReal => a + b) (congrArg₂ (fun a b : EReal => a * b) (congrArg₂ (fun a b : EReal => a * b) (centred_apply T b s j)
    ((spread_apply _ b s j).trans ?_)) (row_apply g b s j)) (row_apply h b s j)
  refine congrArg (fun a : EReal => Ideal.rsqrt (a + Ideal.ofBits .f32 0x358637BD#32)) ((mean_apply _ b s).trans ?_)
  exact congrArg (fun a : EReal => Ideal.div a (Ideal.ofBits .f32 0x45000000#32)) (Finset.sum_congr (M := EReal) rfl fun k _ =>
    congrArg₂ (fun a b : EReal => a * b) (centred_apply T b s k) (centred_apply T b s k))

variable (m : (ℓ : Loc nD τ sig) → Buf (Elt Ideal) ℓ)

/-- The reference's term is the same function of its arguments. -/
theorem term (c : Dev nD) : Value.res_main_v38 m c
    = result (m ((c : Thread nD τ).loc main_arg0)) (m ((c : Thread nD τ).loc main_arg1)) (m ((c : Thread nD τ).loc main_arg2)) := by
  show normal (activated (columns (m ((c : Thread nD τ).loc main_arg0)))) (m ((c : Thread nD τ).loc main_arg1)) (m ((c : Thread nD τ).loc main_arg2)) = _
  funext i
  refine (congrArg _ (eq_ix3 i)).trans ((normal_apply _ _ _ (i 0) (i 1) (i 2)).trans ?_)
  exact congrArg (fun z => layer z _ _ (i 2)) (funext fun k => congrArg gelu (columns_apply _ (i 0) (i 1) k))

end Cert.Reference7Ideal.Hand

namespace Cert.Kernel7Ideal.Hand

open Cert.Kernel7Ideal Cert.Kernel7Ideal.Gen Idealize.ShloMosaic Idealize.ShloMosaic.TcCoe Idealize.SL.Sem

theorem frame_kernel : Cert.quiescent_Kernel7 := fun m ρ _ => Cert.Kernel7.Gen.frame m ρ

theorem frame_kernelIdeal : Cert.quiescent_Kernel7Ideal := fun m ρ _ => frame m ρ

theorem frame_referenceIdeal : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

theorem algebraic : Cert.algebraic_Kernel7Ideal_Reference7Ideal := fun m ρ m' ρ' _ e =>
  ⟨fun c => result (m ((c : Thread nD τ).loc main_arg0)) (m ((c : Thread nD τ).loc main_arg1)) (m ((c : Thread nD τ).loc main_arg2)), run m ρ,
    (θ_run Cert.Reference7Ideal.defs _ _).mono (fun r h c => ⟨(h c).1.trans ((Cert.Reference7Ideal.Hand.term m' c).trans
      (by have e0 := e c; exact (congrArg₂ (fun p g => result p g _) e0.1 e0.2.1).trans (congrArg (result _ _) e0.2.2))), (h c).2⟩)
      (Cert.Reference7Ideal.Value.run m' ρ')⟩

end Cert.Kernel7Ideal.Hand

end
-- ==== Proof.Conv.lean ====
module

public import proofs.«01_k».proof.Defs
public import proofs.«01_k».proof.Proof.Heads
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import Idealize.ShloMosaic.Lib.Claim
public import Idealize.ShloMosaic.Lib.KernelVsHost
public import Idealize.ShloMosaic.Lib.IdealHost
public import Idealize.ShloMosaic.Lib.Pipeline.ValueKit.Geometry
public import Idealize.ShloMosaic.Lib.Pipeline.ValueKit.Acc

@[expose] public section

/-! # The short convolution

Five taps along each sequence, an activation, and for two of the three column ranges a division of each head by its length. A
block of the kernel reads its own 512 rows and eight rows on either side, which are zeros past the ends of the sequence: the
rows that the taps reach are the rows of the reference's padded sequence. The factor 1/√128 of the last range is a named
constant, and the reference divides by the root of 128. -/

noncomputable section

namespace Cert.Kernel8Ideal.Hand

open Cert.Kernel8Ideal Cert.Kernel8Ideal.Gen Idealize.ShloMosaic Idealize.ShloMosaic.TcCoe Idealize.SL.Sem
open Idealize.ShloMosaic.Pipeline (Dat)
open Idealize.ShloMosaic.ValueIdx
open Cert.Heads (mate place four_eq head_apply overLength host_unit_apply)
open scoped BigOperators

/-! ## The values -/

/-- A column of a sequence between two zeros before it and two behind it. -/
def padded (x : Fin 4096 → EReal) (n : ℕ) : EReal := if h : 2 ≤ n ∧ n < 4098 then x ⟨n - 2, by omega⟩ else 0

/-- Five products added up. -/
def taps (z w : Fin 5 → EReal) : EReal := z 0 * w 0 + z 1 * w 1 + z 2 * w 2 + z 3 * w 3 + z 4 * w 4

/-- A number times its logistic. -/
def silu (a : EReal) : EReal := a * Ideal.logistic a

/-- What a column is multiplied by, `v` being one over its head's length. -/
def factor (n : ℕ) (v : EReal) : EReal := if n < 2048 then v else if 4096 ≤ n then v * (((Real.sqrt 128)⁻¹ : ℝ) : EReal) else 1

/-- The row of the flattened tokens that place `l` of sequence `b` is. -/
def row (b : Fin 4) (l : Fin 4096) : Fin 16384 := ⟨b.val * 4096 + l.val, by omega⟩

/-- The convolution's columns among the projections. -/
def low (j : Fin 6144) : Fin 20480 := ⟨j.val, by omega⟩

/-- The activated convolution at place `l` of sequence `b`. -/
def act (p : S16384x20480.Idx → EReal) (w : S5x6144.Idx → EReal) (b : Fin 4) (l : Fin 4096) (j : Fin 6144) : EReal :=
  silu (taps (fun t => padded (fun l => p (ix2 (row b l) (low j))) (l.val + t.val)) (fun t => w (ix2 t j)))

/-- A column of a row times its factor. -/
def entry (Y : Fin 6144 → EReal) (j : Fin 6144) : EReal := Y j * factor j.val (overLength fun k => Y (mate (by decide) j k))

/-- The call's result. -/
def result (p : S16384x20480.Idx → EReal) (w : S5x6144.Idx → EReal) : S4x4096x6144.Idx → EReal := fun i => entry (act p w (i 0) (i 1)) (i 2)

/-! ## A block of the kernel -/

/-- The rows a block reads: eight before it, its own and eight behind it, the outer ones zeros past an end of the sequence. -/
def reach (n : ℕ) (x0 : S1x8x512.Idx → EReal) (x1 : S1x512x512.Idx → EReal) (x2 : S1x8x512.Idx → EReal) (r : Fin 528) (q : Fin 512) : EReal :=
  if h : r.val < 8 then (if 0 < n then x0 (ix3 (0 : Fin 1) ⟨r.val, h⟩ q) else 0)
  else if h' : r.val < 520 then x1 (ix3 (0 : Fin 1) ⟨r.val - 8, by omega⟩ q)
  else if n < 7 then x2 (ix3 (0 : Fin 1) ⟨r.val - 520, by omega⟩ q) else 0

theorem fold_apply {M : ℕ} {α : Type} (x : (⟨3, ![1, M, 512]⟩ : Shape).Idx → α) (h : (⟨3, ![1, M, 512]⟩ : Shape).ShapeCasts ⟨2, ![M, 512]⟩)
    (r : Fin M) (q : Fin 512) : shapeCast ⟨2, ![M, 512]⟩ x h (ix2 r q) = x (ix3 (0 : Fin 1) r q) := by
  refine shapeCast_apply _ _ _ _ ?_
  refine (Shape.rowMajor_val_three _).trans (Eq.trans ?_ (Shape.rowMajor_val_two _).symm)
  show (0 * M + r.val) * 512 + q.val = r.val * 512 + q.val
  omega

theorem after_start : ∀ n : Fin 8, Scalar.cmpi .sgt (BitVec.ofNat 32 n.val) 0#32 = 1 ↔ 0 < n.val := by decide
theorem before_end : ∀ n : Fin 8, Scalar.cmpi .slt (BitVec.ofNat 32 n.val) 7#32 = 1 ↔ n.val < 7 := by decide
theorem first_range : ∀ n : Fin 12, Scalar.cmpi .slt (BitVec.ofNat 32 n.val) 4#32 = 1 ↔ n.val < 4 := by decide
theorem last_range : ∀ n : Fin 12, Scalar.cmpi .sge (BitVec.ofNat 32 n.val) 8#32 = 1 ↔ 8 ≤ n.val := by decide

/-- The three pieces set one below the other. -/
theorem pay2_apply (i : grid0.Coords) (x0 : Vec Ideal S1x8x512 .f32) (x1 : Vec Ideal S1x512x512 .f32) (x2 : Vec Ideal S1x8x512 .f32)
    (r : Fin 528) (q : Fin 512) : (k0_pay2 (F := Ideal) i x0 x2 x1 (ix2 r q) : EReal) = reach (i 1).val x0 x1 x2 r q := by
  unfold k0_pay2 reach
  split_ifs with h hn h' hn
  · refine (concatenate_apply_piece (t := S528x512) (0 : Fin 2) [⟨S8x512, _⟩, ⟨S512x512, _⟩, ⟨S8x512, _⟩] _ (ix2 r q) 0 (by simp) S8x512 _ rfl rfl 0 rfl
      (ix2 (⟨r.val, h⟩ : Fin 8) q) (fun a ha => ?_) ?_).trans ?_
    · match a with
      | ⟨0, _⟩ => exact absurd rfl ha
      | ⟨1, _⟩ => rfl
    · exact Nat.zero_add _
    · unfold Scalar.select
      rw [if_pos ((after_start (i 1)).2 hn)]
      exact fold_apply (M := 8) x0 _ ⟨r.val, h⟩ q
  · refine (concatenate_apply_piece (t := S528x512) (0 : Fin 2) [⟨S8x512, _⟩, ⟨S512x512, _⟩, ⟨S8x512, _⟩] _ (ix2 r q) 0 (by simp) S8x512 _ rfl rfl 0 rfl
      (ix2 (⟨r.val, h⟩ : Fin 8) q) (fun a ha => ?_) ?_).trans ?_
    · match a with
      | ⟨0, _⟩ => exact absurd rfl ha
      | ⟨1, _⟩ => rfl
    · exact Nat.zero_add _
    · unfold Scalar.select
      rw [if_neg fun e => hn ((after_start (i 1)).1 e)]
      exact Ideal.ofBits_zero_f32
  · refine (concatenate_apply_piece (t := S528x512) (0 : Fin 2) [⟨S8x512, _⟩, ⟨S512x512, _⟩, ⟨S8x512, _⟩] _ (ix2 r q) 1 (by simp) S512x512 _ rfl rfl 8 rfl
      (ix2 (⟨r.val - 8, by omega⟩ : Fin 512) q) (fun a ha => ?_) ?_).trans ?_
    · match a with
      | ⟨0, _⟩ => exact absurd rfl ha
      | ⟨1, _⟩ => rfl
    · show 8 + (r.val - 8) = r.val
      omega
    · exact fold_apply (M := 512) x1 _ ⟨r.val - 8, by omega⟩ q
  · refine (concatenate_apply_piece (t := S528x512) (0 : Fin 2) [⟨S8x512, _⟩, ⟨S512x512, _⟩, ⟨S8x512, _⟩] _ (ix2 r q) 2 (by simp) S8x512 _ rfl rfl 520 rfl
      (ix2 (⟨r.val - 520, by omega⟩ : Fin 8) q) (fun a ha => ?_) ?_).trans ?_
    · match a with
      | ⟨0, _⟩ => exact absurd rfl ha
      | ⟨1, _⟩ => rfl
    · show 520 + (r.val - 520) = r.val
      omega
    · unfold Scalar.select
      rw [if_pos ((before_end (i 1)).2 hn)]
      exact fold_apply (M := 8) x2 _ ⟨r.val - 520, by omega⟩ q
  · refine (concatenate_apply_piece (t := S528x512) (0 : Fin 2) [⟨S8x512, _⟩, ⟨S512x512, _⟩, ⟨S8x512, _⟩] _ (ix2 r q) 2 (by simp) S8x512 _ rfl rfl 520 rfl
      (ix2 (⟨r.val - 520, by omega⟩ : Fin 8) q) (fun a ha => ?_) ?_).trans ?_
    · match a with
      | ⟨0, _⟩ => exact absurd rfl ha
      | ⟨1, _⟩ => rfl
    · show 520 + (r.val - 520) = r.val
      omega
    · unfold Scalar.select
      rw [if_neg fun e => hn ((before_end (i 1)).1 e)]
      exact Ideal.ofBits_zero_f32

/-- Rows 8 to 520 of a rotation are the rows that lie the rotation's amount away. -/
theorem shifted (X : S528x512.Idx → EReal) (sb : BitVec 32) (h : S528x512.Rotates 0 none) (hs : S528x512.Slices ![8, 0] S512x512)
    (l q : Fin 512) (r : Fin 528) (hr : r.val = (8 + l.val + 528 - sb.toNat % 528) % 528) :
    extractStridedSlice S512x512 ![8, 0] (dynamicRotate 0 sb none X h) hs (ix2 l q) = X (ix2 r q) := by
  refine (extractStridedSlice_apply _ _ hs _ (ix2 (⟨8 + l.val, by omega⟩ : Fin 528) q) fun a => ?_).trans
    (dynamicRotate_apply 0 sb X h _ (ix2 r q) fun b => ?_)
  · match a with
    | ⟨0, _⟩ => rfl
    | ⟨1, _⟩ => show q.val = 0 + q.val; omega
  · match b with
    | ⟨0, _⟩ => exact hr
    | ⟨1, _⟩ => rfl

/-- A row of the taps, spread over a block. -/
theorem tap_row (x : Vec Ideal S5x512 .f32) (n : ℕ) (hn : n < 5) (inb : ∀ a, (![n, 0] : Fin 2 → ℕ) a + S1x512.size a ≤ S5x512.size a)
    (hb : S1x512.Broadcasts S512x512) (l q : Fin 512) :
    broadcastTo S512x512 (View.ld (Val := Elt Ideal) x (Rect.unit (s := S5x512) ![n, 0] S1x512.size inb)) hb (ix2 l q) = x (ix2 (⟨n, hn⟩ : Fin 5) q) := by
  refine (Norm.row_apply _ hb l q).trans ((congrFun (View.ld_unit x _ _ inb) _).trans (extractStridedSlice_apply _ _ _ _ _ fun a => ?_))
  match a with
  | ⟨0, _⟩ => rfl
  | ⟨1, _⟩ => show q.val = 0 + q.val; omega

/-- The activated convolution of a block. -/
def actB (n : ℕ) (x0 : S1x8x512.Idx → EReal) (x1 : S1x512x512.Idx → EReal) (x2 : S1x8x512.Idx → EReal) (x3 : S5x512.Idx → EReal) (l q : Fin 512) : EReal :=
  silu (taps (fun t => reach n x0 x1 x2 ⟨6 + l.val + t.val, by omega⟩ q) (fun t => x3 (ix2 t q)))

theorem pay6_apply (i : grid0.Coords) (x0 : Vec Ideal S1x8x512 .f32) (x1 : Vec Ideal S1x512x512 .f32) (x2 : Vec Ideal S1x8x512 .f32)
    (x3 : Vec Ideal S5x512 .f32) (l q : Fin 512) :
    (k0_pay6 (F := Ideal) (k0_pay12 i x0 x1 x2 x3) (k0_pay13 i x0 x1 x2 x3) (k0_pay14 i x0 x1 x2 x3) (k0_pay15 i x0 x1 x2 x3) (View.ld x3 r0_6) (ix2 l q) : EReal)
      = actB (i 1).val x0 x1 x2 x3 l q := by
  unfold k0_pay12 k0_pay13 k0_pay14 k0_pay15
  rw [show View.ld x0 r0_0 = x0 from View.ld_unit_zero (by decide) _ _, show View.ld x1 r0_1 = x1 from View.ld_unit_zero (by decide) _ _,
    show View.ld x2 r0_0 = x2 from View.ld_unit_zero (by decide) _ _]
  unfold k0_pay6 k0_pay3 k0_pay4 k0_pay5
  have e : ∀ (sb : BitVec 32) (t : Fin 5) (_ : 6 + l.val + t.val = (8 + l.val + 528 - sb.toNat % 528) % 528),
      extractStridedSlice S512x512 ![8, 0] (dynamicRotate 0 sb none (k0_pay2 (F := Ideal) i x0 x2 x1) rotates_S528x512_d0) slices_S528x512_o8_0_S512x512 (ix2 l q)
        = reach (i 1).val x0 x1 x2 ⟨6 + l.val + t.val, by omega⟩ q := fun sb t ht =>
    (shifted _ sb _ _ l q ⟨6 + l.val + t.val, by omega⟩ ht).trans (pay2_apply i x0 x1 x2 _ q)
  have e2 : extractStridedSlice S512x512 ![8, 0] (k0_pay2 (F := Ideal) i x0 x2 x1) slices_S528x512_o8_0_S512x512 (ix2 l q)
      = reach (i 1).val x0 x1 x2 ⟨6 + l.val + (2 : Fin 5).val, by omega⟩ q := by
    refine (extractStridedSlice_apply _ _ _ _ (ix2 (⟨6 + l.val + (2 : Fin 5).val, by omega⟩ : Fin 528) q) fun a => ?_).trans (pay2_apply i x0 x1 x2 _ q)
    match a with
    | ⟨0, _⟩ => show 6 + l.val + 2 = 8 + l.val; omega
    | ⟨1, _⟩ => show q.val = 0 + q.val; omega
  refine congrArg silu ?_
  exact congrArg₂ (fun a b : EReal => a + b) (congrArg₂ (fun a b : EReal => a + b) (congrArg₂ (fun a b : EReal => a + b)
    (congrArg₂ (fun a b : EReal => a + b)
      (congrArg₂ (fun a b : EReal => a * b) (e 2#32 0 (by show 6 + l.val + 0 = (8 + l.val + 528 - 2 % 528) % 528; omega)) (tap_row x3 0 (by omega) _ _ l q))
      (congrArg₂ (fun a b : EReal => a * b) (e 1#32 1 (by show 6 + l.val + 1 = (8 + l.val + 528 - 1 % 528) % 528; omega)) (tap_row x3 1 (by omega) _ _ l q)))
    (congrArg₂ (fun a b : EReal => a * b) e2 (tap_row x3 2 (by omega) _ _ l q)))
    (congrArg₂ (fun a b : EReal => a * b) (e 527#32 3 (by show 6 + l.val + 3 = (8 + l.val + 528 - 527 % 528) % 528; omega)) (tap_row x3 3 (by omega) _ _ l q)))
    (congrArg₂ (fun a b : EReal => a * b) (e 526#32 4 (by show 6 + l.val + 4 = (8 + l.val + 528 - 526 % 528) % 528; omega)) (tap_row x3 4 (by omega) _ _ l q))

/-- The named constant is one over the root of 128. -/
theorem inv_sqrt_head : Named.named (F := Ideal) Cert.Kernel8Ideal.κ "inv_sqrt_head" (φ := .f32) 0x3DB504F3#32 = (((Real.sqrt 128)⁻¹ : ℝ) : EReal) :=
  IdealRules.named_const.ideal_named_scalar _ _ _ _ rfl

/-- One head of a block, scaled as its column range asks. -/
theorem scale_head (X : FVec Ideal S512x512 .f32) (off : ℕ) (hx : S512x512.Slices ![0, off] S512x128) (n : Fin 12)
    (hr : S512x128.Reduces [1] S512) (hs : S512.ShapeCasts S512x1) (hb : S512x1.Broadcasts S512x128) (l q : Fin 512) (hq : q.val / 128 * 128 = off) :
    (mulf (extractStridedSlice S512x128 ![0, off] X hx) (broadcastTo S512x128
      (Scalar.select (Scalar.cmpi .slt (BitVec.ofNat 32 n.val) 4#32)
        (rsqrt (addf (shapeCast S512x1 (multiReduction .add [1] S512 (mulf (extractStridedSlice S512x128 ![0, off] X hx) (extractStridedSlice S512x128 ![0, off] X hx))
          0x00000000#32 hr (.inl rfl) rfl) hs) (broadcast S512x1 (Scalar.ofBits .f32 0x358637BD#32))))
        (Scalar.select (Scalar.cmpi .sge (BitVec.ofNat 32 n.val) 8#32)
          (mulf (rsqrt (addf (shapeCast S512x1 (multiReduction .add [1] S512 (mulf (extractStridedSlice S512x128 ![0, off] X hx) (extractStridedSlice S512x128 ![0, off] X hx))
            0x00000000#32 hr (.inl rfl) rfl) hs) (broadcast S512x1 (Scalar.ofBits .f32 0x358637BD#32))))
            (broadcast S512x1 (Named.named Cert.Kernel8Ideal.κ "inv_sqrt_head" 0x3DB504F3#32)))
          (broadcast S512x1 (Scalar.ofBits .f32 0x3F800000#32)))) hb) (ix2 l (place q)) : EReal)
      = X (ix2 l q) * factor (n.val * 512 + q.val) (overLength fun k => X (ix2 l (mate (by decide) q k))) := by
  have e : ∀ k : Fin 128, (mate (by decide) q k : Fin 512).val = off + k.val := fun k => by rw [← hq]; rfl
  have hv : (rsqrt (addf (shapeCast S512x1 (multiReduction .add [1] S512 (mulf (extractStridedSlice S512x128 ![0, off] X hx) (extractStridedSlice S512x128 ![0, off] X hx))
      0x00000000#32 hr (.inl rfl) rfl) hs) (broadcast S512x1 (Scalar.ofBits .f32 0x358637BD#32))) (ix2 l (0 : Fin 1)) : EReal)
      = overLength fun k => X (ix2 l (mate (by decide) q k)) :=
    congrArg (fun a : EReal => Ideal.rsqrt (a + Ideal.ofBits .f32 0x358637BD#32)) ((Norm.sum_apply _ hr hs l).trans
      (Finset.sum_congr (M := EReal) rfl fun k _ => congrArg₂ (fun a b : EReal => a * b) (head_apply X off hx l k _ (e k)) (head_apply X off hx l k _ (e k))))
  refine congrArg₂ (fun a b : EReal => a * b) (head_apply X off hx l (place q) q ?_) ((Norm.spread_apply _ hb l (place q)).trans ?_)
  · show q.val = off + q.val % 128
    omega
  · have e1 : (Scalar.cmpi .slt (BitVec.ofNat 32 n.val) 4#32 = 1) = (n.val * 512 + q.val < 2048) :=
      propext ((first_range n).trans ⟨fun h => by omega, fun h => by omega⟩)
    have e2 : (Scalar.cmpi .sge (BitVec.ofNat 32 n.val) 8#32 = 1) = (4096 ≤ n.val * 512 + q.val) :=
      propext ((last_range n).trans ⟨fun h => by omega, fun h => by omega⟩)
    unfold Scalar.select factor
    simp only [e1, e2]
    split_ifs
    · exact hv
    · exact congrArg₂ (fun a b : EReal => a * b) hv inv_sqrt_head
    · exact Ideal.ofBits_one_f32

/-- A block of the call, from its input blocks. -/
theorem out0_apply (i : grid0.Coords) (x0 : Vec Ideal S1x8x512 .f32) (x1 : Vec Ideal S1x512x512 .f32) (x2 : Vec Ideal S1x8x512 .f32)
    (x3 : Vec Ideal S5x512 .f32) (y : S1x512x512.Idx) :
    (out0_4 i x0 x1 x2 x3 y : EReal) = actB (i 1).val x0 x1 x2 x3 (y 1) (y 2)
      * factor ((i 2).val * 512 + (y 2).val) (overLength fun k => actB (i 1).val x0 x1 x2 x3 (y 1) (mate (by decide) (y 2 : Fin 512) k)) := by
  unfold out0_4
  rw [View.canon_unit_zero (by decide)]
  unfold k0_pay1 k0_pay7 k0_pay8 k0_pay10 k0_pay9 k0_pay11
  have h := pay6_apply i x0 x1 x2 x3
  generalize k0_pay6 (F := Ideal) (k0_pay12 i x0 x1 x2 x3) (k0_pay13 i x0 x1 x2 x3) (k0_pay14 i x0 x1 x2 x3) (k0_pay15 i x0 x1 x2 x3) (View.ld x3 r0_6) = X at h ⊢
  have e : X (ix2 (y 1) (y 2)) * factor ((i 2).val * 512 + (y 2).val) (overLength fun k => X (ix2 (y 1) (mate (by decide) (y 2 : Fin 512) k))) = _ :=
    congrArg₂ (fun (a : EReal) b => a * factor ((i 2).val * 512 + (y 2).val) (overLength b)) (h (y 1) (y 2)) (funext fun k => h (y 1) (mate (by decide) (y 2 : Fin 512) k))
  refine (shapeCast_apply _ _ _ (ix2 (y 1) (y 2) : S512x512.Idx) ?_).trans ?_
  · refine (Shape.rowMajor_val_two _).trans (Eq.trans ?_ (Shape.rowMajor_val_three _).symm)
    have h0 : (y 0).val = 0 := by have := (y 0).isLt; change (y 0).val < 1 at this; omega
    show (y 1).val * 512 + (y 2).val = ((y 0).val * 512 + (y 1).val) * 512 + (y 2).val
    rw [h0]; omega
  · refine four_eq (M := 512) _ _ _ _ concatenates_S512x128_S512x128_S512x128_S512x128_S512x512_d1 (y 1) (y 2) _ (fun g => ?_) (fun g => ?_) (fun g => ?_) (fun g => ?_)
    · exact (scale_head X 0 slices_S512x512_o0_0_S512x128 (i 2) _ _ _ (y 1) (y 2) (by rw [g])).trans e
    · exact (scale_head X 128 slices_S512x512_o0_128_S512x128 (i 2) _ _ _ (y 1) (y 2) (by rw [g])).trans e
    · exact (scale_head X 256 slices_S512x512_o0_256_S512x128 (i 2) _ _ _ (y 1) (y 2) (by rw [g])).trans e
    · exact (scale_head X 384 slices_S512x512_o0_384_S512x128 (i 2) _ _ _ (y 1) (y 2) (by rw [g])).trans e

/-! ## The array after the call -/

variable (m : (ℓ : Loc nD τ sig) → Buf (Elt Ideal) ℓ) (ρ : Dev nD → PrngReg)

theorem idx0 : ∀ t : Fin cfg0.N, win0_0.index t = ![(grid0.coords t 0).val, (grid0.coords t 1).val * 64 - 1, (grid0.coords t 2).val]
    ∧ win0_1.index t = ![(grid0.coords t 0).val, (grid0.coords t 1).val, (grid0.coords t 2).val]
    ∧ win0_2.index t = ![(grid0.coords t 0).val, min (((grid0.coords t 1).val + 1) * 64) 511, (grid0.coords t 2).val]
    ∧ win0_3.index t = ![0, (grid0.coords t 2).val]
    ∧ win0_4.index t = ![(grid0.coords t 0).val, (grid0.coords t 1).val, (grid0.coords t 2).val] := (by decide +kernel : ∀ t : Fin grid0.N, _)

/-- The projections' rows, folded into the sequences. -/
theorem V_v0 (c : Dev nD) (b : Fin 4) (l : Fin 4096) (j : Fin 20480) : (V m c main_v0 : S4x4096x20480.Idx → EReal) (ix3 b l j)
    = (m ((c : Thread nD τ).loc main_arg0) : S16384x20480.Idx → EReal) (ix2 (row b l) j) := by
  have e : (V m c main_v0 : S4x4096x20480.Idx → EReal)
      = shapeCast S4x4096x20480 (m ((c : Thread nD τ).loc main_arg0) : S16384x20480.Idx → EReal) shapeCasts_S16384x20480_S4x4096x20480 := by
    show StableHlo.after hostOps0 (fun b => m (c, b)) (Proc.devRef .tc main_v0) = _
    unfold hostOps0; after_results; rfl
  refine (congrFun e _).trans (shapeCast_apply _ _ _ _ ?_)
  refine (Shape.rowMajor_val_two _).trans (Eq.trans ?_ (Shape.rowMajor_val_three _).symm)
  rfl

/-- The sequence a step works on. -/
def seq (t : Fin cfg0.N) : Fin 4 := grid0.coords t 0

/-- The block of places a step works on. -/
def span (t : Fin cfg0.N) : Fin 8 := grid0.coords t 1

/-- The block of columns a step works on. -/
def cols (t : Fin cfg0.N) : Fin 12 := grid0.coords t 2

/-- A block's column among all. -/
def col (t : Fin cfg0.N) (q : Fin 512) : Fin 6144 := ⟨(cols t).val * 512 + q.val, by omega⟩

/-- A block's place among all. -/
def pos (t : Fin cfg0.N) (l : Fin 512) : Fin 4096 := ⟨(span t).val * 512 + l.val, by omega⟩

theorem blk0 (c : Dev nD) (t : Fin cfg0.N) (r : Fin 8) (q : Fin 512) (L : Fin 4096) (hL : L.val = ((span t).val * 64 - 1) * 8 + r.val) :
    (iblk m c 0 t : S1x8x512.Idx → EReal) (ix3 (0 : Fin 1) r q)
      = (m ((c : Thread nD τ).loc main_arg0) : S16384x20480.Idx → EReal) (ix2 (row (seq t) L) (low (col t q))) := by
  show (V m c main_v0 : S4x4096x20480.Idx → EReal) ((win0_0.blk t).view.emb (ix3 (0 : Fin 1) r q : S1x8x512.Idx)) = _
  refine Eq.trans (congrArg (V m c main_v0 : S4x4096x20480.Idx → EReal) (funext fun a => Fin.ext ?_)) (V_v0 m c (seq t) L (low (col t q)))
  match a with
  | ⟨0, _⟩ =>
    show ((win0_0.blk t).view.emb (ix3 (0 : Fin 1) r q : S1x8x512.Idx) 0).val = (grid0.coords t 0).val
    blk_simp [idx0 t]
  | ⟨1, _⟩ =>
    show ((win0_0.blk t).view.emb (ix3 (0 : Fin 1) r q : S1x8x512.Idx) 1).val = L.val
    blk_simp [idx0 t]
    exact hL.symm
  | ⟨2, _⟩ =>
    show ((win0_0.blk t).view.emb (ix3 (0 : Fin 1) r q : S1x8x512.Idx) 2).val = (grid0.coords t 2).val * 512 + q.val
    blk_simp [idx0 t]
    rfl

theorem blk1 (c : Dev nD) (t : Fin cfg0.N) (r : Fin 512) (q : Fin 512) (L : Fin 4096) (hL : L.val = (span t).val * 512 + r.val) :
    (iblk m c 1 t : S1x512x512.Idx → EReal) (ix3 (0 : Fin 1) r q)
      = (m ((c : Thread nD τ).loc main_arg0) : S16384x20480.Idx → EReal) (ix2 (row (seq t) L) (low (col t q))) := by
  show (V m c main_v0 : S4x4096x20480.Idx → EReal) ((win0_1.blk t).view.emb (ix3 (0 : Fin 1) r q : S1x512x512.Idx)) = _
  refine Eq.trans (congrArg (V m c main_v0 : S4x4096x20480.Idx → EReal) (funext fun a => Fin.ext ?_)) (V_v0 m c (seq t) L (low (col t q)))
  match a with
  | ⟨0, _⟩ =>
    show ((win0_1.blk t).view.emb (ix3 (0 : Fin 1) r q : S1x512x512.Idx) 0).val = (grid0.coords t 0).val
    blk_simp [idx0 t]
  | ⟨1, _⟩ =>
    show ((win0_1.blk t).view.emb (ix3 (0 : Fin 1) r q : S1x512x512.Idx) 1).val = L.val
    blk_simp [idx0 t]
    exact hL.symm
  | ⟨2, _⟩ =>
    show ((win0_1.blk t).view.emb (ix3 (0 : Fin 1) r q : S1x512x512.Idx) 2).val = (grid0.coords t 2).val * 512 + q.val
    blk_simp [idx0 t]
    rfl

theorem blk2 (c : Dev nD) (t : Fin cfg0.N) (r : Fin 8) (q : Fin 512) (L : Fin 4096) (hL : L.val = min (((span t).val + 1) * 64) 511 * 8 + r.val) :
    (iblk m c 2 t : S1x8x512.Idx → EReal) (ix3 (0 : Fin 1) r q)
      = (m ((c : Thread nD τ).loc main_arg0) : S16384x20480.Idx → EReal) (ix2 (row (seq t) L) (low (col t q))) := by
  show (V m c main_v0 : S4x4096x20480.Idx → EReal) ((win0_2.blk t).view.emb (ix3 (0 : Fin 1) r q : S1x8x512.Idx)) = _
  refine Eq.trans (congrArg (V m c main_v0 : S4x4096x20480.Idx → EReal) (funext fun a => Fin.ext ?_)) (V_v0 m c (seq t) L (low (col t q)))
  match a with
  | ⟨0, _⟩ =>
    show ((win0_2.blk t).view.emb (ix3 (0 : Fin 1) r q : S1x8x512.Idx) 0).val = (grid0.coords t 0).val
    blk_simp [idx0 t]
  | ⟨1, _⟩ =>
    show ((win0_2.blk t).view.emb (ix3 (0 : Fin 1) r q : S1x8x512.Idx) 1).val = L.val
    blk_simp [idx0 t]
    exact hL.symm
  | ⟨2, _⟩ =>
    show ((win0_2.blk t).view.emb (ix3 (0 : Fin 1) r q : S1x8x512.Idx) 2).val = (grid0.coords t 2).val * 512 + q.val
    blk_simp [idx0 t]
    rfl

theorem blk3 (c : Dev nD) (t : Fin cfg0.N) (n : Fin 5) (q : Fin 512) : (iblk m c 3 t : S5x512.Idx → EReal) (ix2 n q)
    = (m ((c : Thread nD τ).loc main_arg1) : S5x6144.Idx → EReal) (ix2 n (col t q)) := by
  show (V m c main_arg1 : S5x6144.Idx → EReal) ((win0_3.blk t).view.emb (ix2 n q : S5x512.Idx)) = _
  rw [V_main_arg1]
  refine congrArg (m ((c : Thread nD τ).loc main_arg1) : S5x6144.Idx → EReal) (funext fun a => Fin.ext ?_)
  match a with
  | ⟨0, _⟩ =>
    show ((win0_3.blk t).view.emb (ix2 n q : S5x512.Idx) 0).val = n.val
    blk_simp [idx0 t]
    rfl
  | ⟨1, _⟩ =>
    show ((win0_3.blk t).view.emb (ix2 n q : S5x512.Idx) 1).val = (grid0.coords t 2).val * 512 + q.val
    blk_simp [idx0 t]
    rfl

/-- The rows that the taps reach are the padded sequence's. -/
theorem reach_eq (c : Dev nD) (t : Fin cfg0.N) (l : Fin 512) (n : Fin 5) (q : Fin 512) :
    reach (span t).val (iblk m c 0 t) (iblk m c 1 t) (iblk m c 2 t) ⟨6 + l.val + n.val, by omega⟩ q
      = padded (fun L => (m ((c : Thread nD τ).loc main_arg0) : S16384x20480.Idx → EReal) (ix2 (row (seq t) L) (low (col t q)))) ((pos t l).val + n.val) := by
  have hs := (span t).isLt
  have hp : (pos t l).val = (span t).val * 512 + l.val := rfl
  unfold reach padded
  by_cases h : 6 + l.val + n.val < 8
  · rw [dif_pos h]
    by_cases hn : 0 < (span t).val
    · rw [if_pos hn, dif_pos (by omega)]
      exact blk0 m c t _ q _ (by show (pos t l).val + n.val - 2 = _ + (6 + l.val + n.val); omega)
    · rw [if_neg hn, dif_neg (by omega)]
  · rw [dif_neg h]
    by_cases h' : 6 + l.val + n.val < 520
    · rw [dif_pos h', dif_pos (by omega)]
      exact blk1 m c t _ q _ (by show (pos t l).val + n.val - 2 = _ + (6 + l.val + n.val - 8); omega)
    · rw [dif_neg h']
      by_cases hn : (span t).val < 7
      · rw [if_pos hn, dif_pos (by omega)]
        exact blk2 m c t _ q _ (by show (pos t l).val + n.val - 2 = _ + (6 + l.val + n.val - 520); omega)
      · rw [if_neg hn, dif_neg (by omega)]

/-- A block's activated convolution is the whole's. -/
theorem actB_eq (c : Dev nD) (t : Fin cfg0.N) (l q : Fin 512) : actB (span t).val (iblk m c 0 t) (iblk m c 1 t) (iblk m c 2 t) (iblk m c 3 t) l q
    = act (m ((c : Thread nD τ).loc main_arg0)) (m ((c : Thread nD τ).loc main_arg1)) (seq t) (pos t l) (col t q) :=
  congrArg silu (congrArg₂ taps (funext fun n => reach_eq m c t l n q) (funext fun n => blk3 m c t n q))

/-- The result array after the run. -/
theorem final (c : Dev nD) : (dats m 0 c).arrAt 4 cfg0.N
    = result (m ((c : Thread nD τ).loc main_arg0)) (m ((c : Thread nD τ).loc main_arg1)) := by
  refine (dats m 0 c).arrAt_eq_of_covers 4 _ (by decide +kernel) fun t hf y => ?_
  have ey : (win0_4.blk t).view.emb y = (ix3 (seq t) (pos t (y 1)) (col t (y 2)) : S4x4096x6144.Idx) := by
    refine funext fun a => Fin.ext ?_
    match a with
    | ⟨0, _⟩ =>
      have h0 : (y 0).val = 0 := by have := (y 0).isLt; change (y 0).val < 1 at this; omega
      show ((win0_4.blk t).view.emb y 0).val = (grid0.coords t 0).val
      blk_simp [idx0 t]
    | ⟨1, _⟩ =>
      show ((win0_4.blk t).view.emb y 1).val = (grid0.coords t 1).val * 512 + (y 1).val
      blk_simp [idx0 t]
    | ⟨2, _⟩ =>
      show ((win0_4.blk t).view.emb y 2).val = (grid0.coords t 2).val * 512 + (y 2).val
      blk_simp [idx0 t]
  refine Eq.trans ?_ (congrArg (result (m ((c : Thread nD τ).loc main_arg0)) (m ((c : Thread nD τ).loc main_arg1))) ey).symm
  blk_simp
  rw [after0_4, out0_apply]
  refine congrArg₂ (fun a b : EReal => a * b) (actB_eq m c t (y 1) (y 2)) (congrArg (factor _) (congrArg overLength (funext fun k => (actB_eq m c t (y 1) _).trans
    (congrArg (act _ _ (seq t) (pos t (y 1))) (Fin.ext ?_)))))
  show (cols t).val * 512 + ((y 2).val / 128 * 128 + k.val) = ((cols t).val * 512 + (y 2).val) / 128 * 128 + k.val
  omega

theorem run : θ_run defs (onTc (τ := τ) (main (F := Ideal))) ⟨m, fun _ => 0, ρ⟩ fun r => ∀ c : Dev nD,
    r.2.mem ((c.tc : Thread nD τ).loc main_v1)
        = result (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.Kernel8Ideal.Hand

/-! ## The reference -/

namespace Cert.Reference8Ideal.Hand

open Cert.Reference8Ideal Cert.Reference8Ideal.Facts₀ Idealize.ShloMosaic Idealize.ShloMosaic.TcCoe Idealize.SL.Sem
open Idealize.ShloMosaic.ValueIdx
open Cert.Heads (mate place overLength host_unit_apply)
open Cert.Kernel8Ideal.Hand (padded taps silu factor row low act entry result)

/-- The padded columns of the reference. -/
theorem pad_apply (P : FVec Ideal S16384x20480 .f32) (b : Fin 4) (n : Fin 4100) (j : Fin 6144) :
    (pad S4x4100x6144 ![0, 2, 0] ![0, 2, 0] ![0, 0, 0] (extractStridedSlice S4x4096x6144 ![0, 0, 0]
      (shapeCast S4x4096x20480 P shapeCasts_S16384x20480_S4x4096x20480) slices_S4x4096x20480_S4x4096x6144_0_0_0) (sitofp (F := Ideal) .f32 (constantI S_ 32 0#32))
      pads_S4x4096x6144_S4x4100x6144_000_220_000 h_S_ (ix3 b n j) : EReal) = padded (fun l => P (ix2 (row b l) (low j))) n.val := by
  unfold padded
  split_ifs with h
  · refine (pad_apply_of_inside _ _ _ _ _ _ _ _ (ix3 b (⟨n.val - 2, by omega⟩ : Fin 4096) j) fun a => ?_).trans
      ((extractStridedSlice_apply _ _ _ _ (ix3 b (⟨n.val - 2, by omega⟩ : Fin 4096) (low j)) fun a => ?_).trans (shapeCast_apply _ _ _ _ ?_))
    · match a with
      | ⟨0, _⟩ => show b.val = 0 + b.val * (0 + 1); omega
      | ⟨1, _⟩ => show n.val = 2 + (n.val - 2) * (0 + 1); omega
      | ⟨2, _⟩ => show j.val = 0 + j.val * (0 + 1); omega
    · match a with
      | ⟨0, _⟩ => show b.val = 0 + b.val; omega
      | ⟨1, _⟩ => show n.val - 2 = 0 + (n.val - 2); omega
      | ⟨2, _⟩ => show j.val = 0 + j.val; omega
    · refine (Shape.rowMajor_val_two _).trans (Eq.trans ?_ (Shape.rowMajor_val_three _).symm)
      rfl
  · refine (pad_apply_of_not_inside _ _ _ _ _ _ _ _ (1 : Fin 3) fun e => ?_).trans ?_
    · have e1 : 2 ≤ n.val := e.1
      have e2 : (n.val - 2) / (0 + 1) < 4096 := e.2.2
      omega
    · show (((0#32 : BitVec 32).toInt : ℝ) : EReal) = 0
      simp

/-- One tap of the reference: a shifted stretch of the padded columns times a row of the taps. -/
theorem tap_apply (P : FVec Ideal S16384x20480 .f32) (W : FVec Ideal S5x6144 .f32) (t : ℕ) (ht : t < 5)
    (h1 : S4x4100x6144.Slices ![0, t, 0] S4x4096x6144) (h2 : S5x6144.Slices ![t, 0] S1x6144) (b : Fin 4) (s : Fin 4096) (j : Fin 6144) :
    (mulf (F := Ideal) (φ := .f32) (extractStridedSlice S4x4096x6144 ![0, t, 0] (pad S4x4100x6144 ![0, 2, 0] ![0, 2, 0] ![0, 0, 0] (extractStridedSlice S4x4096x6144 ![0, 0, 0]
      (shapeCast S4x4096x20480 P shapeCasts_S16384x20480_S4x4096x20480) slices_S4x4096x20480_S4x4096x6144_0_0_0) (sitofp .f32 (constantI S_ 32 0#32))
      pads_S4x4096x6144_S4x4100x6144_000_220_000 h_S_) h1)
      (broadcastInDim S4x4096x6144 ![0, 1, 2] bcast_S1x1x6144_S4x4096x6144_0_1_2 (broadcastInDim S1x1x6144 ![2] bcast_S6144_S1x1x6144_2
        (shapeCast S6144 (extractStridedSlice S1x6144 ![t, 0] W h2) shapeCasts_S1x6144_S6144))) (ix3 b s j) : EReal)
      = padded (fun l => P (ix2 (row b l) (low j))) (s.val + t) * W (ix2 (⟨t, ht⟩ : Fin 5) j) := by
  refine congrArg₂ (fun a b : EReal => a * b) ((extractStridedSlice_apply _ _ h1 _ (ix3 b (⟨s.val + t, by omega⟩ : Fin 4100) j) fun a => ?_).trans (pad_apply P b _ j)) ?_
  · match a with
    | ⟨0, _⟩ => show b.val = 0 + b.val; omega
    | ⟨1, _⟩ => show s.val + t = t + s.val; omega
    | ⟨2, _⟩ => show j.val = 0 + j.val; omega
  · refine (broadcastInDim_apply _ _ _ _ (ix3 (0 : Fin 1) (0 : Fin 1) j) fun a => ?_).trans ((broadcastInDim_apply _ _ _ _ (ix1 j) fun a => ?_).trans
      ((shapeCast_apply _ _ _ (ix2 (0 : Fin 1) j) ?_).trans (extractStridedSlice_apply _ _ h2 _ _ fun a => ?_)))
    · match a with
      | ⟨0, _⟩ => rfl
      | ⟨1, _⟩ => rfl
      | ⟨2, _⟩ => rfl
    · match a with
      | ⟨0, _⟩ => rfl
    · refine (Shape.rowMajor_val_two _).trans (Eq.trans ?_ (Shape.rowMajor_val_one _).symm)
      show 0 * 6144 + j.val = j.val
      omega
    · match a with
      | ⟨0, _⟩ => rfl
      | ⟨1, _⟩ => show j.val = 0 + j.val; omega

/-- One tap's product, as an array. -/
def tap (P : FVec Ideal S16384x20480 .f32) (W : FVec Ideal S5x6144 .f32) (t : ℕ) (h1 : S4x4100x6144.Slices ![0, t, 0] S4x4096x6144)
    (h2 : S5x6144.Slices ![t, 0] S1x6144) : FVec Ideal S4x4096x6144 .f32 :=
  mulf (extractStridedSlice S4x4096x6144 ![0, t, 0] (pad S4x4100x6144 ![0, 2, 0] ![0, 2, 0] ![0, 0, 0] (extractStridedSlice S4x4096x6144 ![0, 0, 0]
      (shapeCast S4x4096x20480 P shapeCasts_S16384x20480_S4x4096x20480) slices_S4x4096x20480_S4x4096x6144_0_0_0) (sitofp .f32 (constantI S_ 32 0#32))
      pads_S4x4096x6144_S4x4100x6144_000_220_000 h_S_) h1)
    (broadcastInDim S4x4096x6144 ![0, 1, 2] bcast_S1x1x6144_S4x4096x6144_0_1_2 (broadcastInDim S1x1x6144 ![2] bcast_S6144_S1x1x6144_2
      (shapeCast S6144 (extractStridedSlice S1x6144 ![t, 0] W h2) shapeCasts_S1x6144_S6144)))

/-- The five taps added up. -/
def conv (P : FVec Ideal S16384x20480 .f32) (W : FVec Ideal S5x6144 .f32) : FVec Ideal S4x4096x6144 .f32 :=
  addf (addf (addf (addf (addf (broadcastInDim S4x4096x6144 ![] bcast_S_S4x4096x6144 (constant S_ .f32 0x00000000#32))
    (tap P W 0 slices_S4x4100x6144_S4x4096x6144_0_0_0 slices_S5x6144_S1x6144_0_0)) (tap P W 1 slices_S4x4100x6144_S4x4096x6144_0_1_0 slices_S5x6144_S1x6144_1_0))
    (tap P W 2 slices_S4x4100x6144_S4x4096x6144_0_2_0 slices_S5x6144_S1x6144_2_0)) (tap P W 3 slices_S4x4100x6144_S4x4096x6144_0_3_0 slices_S5x6144_S1x6144_3_0))
    (tap P W 4 slices_S4x4100x6144_S4x4096x6144_0_4_0 slices_S5x6144_S1x6144_4_0)

/-- The activation of the reference. -/
def activated (C : FVec Ideal S4x4096x6144 .f32) : FVec Ideal S4x4096x6144 .f32 :=
  mulf C (Host.divf (broadcastInDim S4x4096x6144 ![] bcast_S_S4x4096x6144 (constant S_ .f32 0x3F800000#32))
    (addf (broadcastInDim S4x4096x6144 ![] bcast_S_S4x4096x6144 (constant S_ .f32 0x3F800000#32)) (Host.exp (Host.negf C))))

theorem conv_apply (P : FVec Ideal S16384x20480 .f32) (W : FVec Ideal S5x6144 .f32) (b : Fin 4) (s : Fin 4096) (j : Fin 6144) :
    (conv P W (ix3 b s j) : EReal) = taps (fun t => padded (fun l => P (ix2 (row b l) (low j))) (s.val + t.val)) (fun t => W (ix2 t j)) := by
  have z : ∀ a : EReal, Ideal.ofBits .f32 0x00000000#32 + a = a := fun a => by rw [Ideal.ofBits_zero_f32, zero_add]
  have e := fun t ht h1 h2 => tap_apply P W t ht h1 h2 b s j
  exact congrArg₂ (fun a b : EReal => a + b) (congrArg₂ (fun a b : EReal => a + b) (congrArg₂ (fun a b : EReal => a + b)
    (congrArg₂ (fun a b : EReal => a + b) ((z _).trans (e 0 (by omega) _ _)) (e 1 (by omega) _ _)) (e 2 (by omega) _ _)) (e 3 (by omega) _ _)) (e 4 (by omega) _ _)

theorem activated_apply (P : FVec Ideal S16384x20480 .f32) (W : FVec Ideal S5x6144 .f32) (b : Fin 4) (s : Fin 4096) (j : Fin 6144) :
    (activated (conv P W) (ix3 b s j) : EReal) = act P W b s j := by
  refine Eq.trans ?_ (congrArg silu (conv_apply P W b s j))
  exact congrArg (fun a : EReal => conv P W (ix3 b s j) * a) (Norm.logistic_quotient _)

/-- Dividing by the root of 128 is multiplying by one over it. -/
theorem over_root (a : EReal) : Ideal.div a (Ideal.sqrt (Ideal.ofBits .f32 0x43000000#32)) = a * (((Real.sqrt 128)⁻¹ : ℝ) : EReal) := by
  have e : Ideal.ofBits .f32 0x43000000#32 = ((128 : ℝ) : EReal) := by
    simp [Ideal.ofBits, Ideal.ieee, -EReal.coe_mul]; norm_num
  rw [e]
  simp only [Ideal.sqrt_coe, show ¬(128 : ℝ) < 0 by norm_num, ↓reduceIte, Ideal.div_coe (show Real.sqrt 128 ≠ 0 from (Real.sqrt_pos.mpr (by norm_num)).ne'), one_div]

/-- Heads of unit length, as the reference writes them. -/
def units (Y : FVec Ideal S4x4096x6144 .f32) (off : ℕ) (hy : S4x4096x6144.Slices ![0, 0, off] S4x4096x2048) : FVec Ideal S4x4096x2048 .f32 :=
  shapeCast S4x4096x2048 (mulf (shapeCast S4x4096x16x128 (extractStridedSlice S4x4096x2048 ![0, 0, off] Y hy) shapeCasts_S4x4096x2048_S4x4096x16x128)
    (broadcastInDim S4x4096x16x128 ![0, 1, 2, 3] bcast_S4x4096x16x1_S4x4096x16x128_0_1_2_3 (Host.rsqrt (addf
      (broadcastInDim S4x4096x16x1 ![0, 1, 2] bcast_S4x4096x16_S4x4096x16x1_0_1_2 (Host.reduceAdd
        (mulf (shapeCast S4x4096x16x128 (extractStridedSlice S4x4096x2048 ![0, 0, off] Y hy) shapeCasts_S4x4096x2048_S4x4096x16x128)
          (shapeCast S4x4096x16x128 (extractStridedSlice S4x4096x2048 ![0, 0, off] Y hy) shapeCasts_S4x4096x2048_S4x4096x16x128))
        (constant (F := Ideal) S_ .f32 0x00000000#32) reducesTo_S4x4096x16x128_S4x4096x16_d3 h_S_))
      (broadcastInDim S4x4096x16x1 ![] bcast_S_S4x4096x16x1 (constant (F := Ideal) S_ .f32 0x358637BD#32)))))) shapeCasts_S4x4096x16x128_S4x4096x2048

theorem units_apply (Y : FVec Ideal S4x4096x6144 .f32) (off : ℕ) (ho : off + 2048 ≤ 6144) (h128 : off % 128 = 0) (hy : S4x4096x6144.Slices ![0, 0, off] S4x4096x2048)
    (b : Fin 4) (s : Fin 4096) (j : Fin 2048) (J : Fin 6144) (hJ : J.val = off + j.val) :
    (units Y off hy (ix3 b s j) : EReal) = Y (ix3 b s J) * overLength (fun k => Y (ix3 b s (mate (by decide) J k))) := by
  refine (host_unit_apply Y off ho hy _ _ _ _ (by decide) _ _ _ b s j).trans (congrArg₂ (fun a b : EReal => a * b) (congrArg (fun J => Y (ix3 b s J)) (Fin.ext hJ.symm))
    (congrArg overLength (funext fun k => congrArg (fun J => Y (ix3 b s J)) (Fin.ext ?_))))
  show off + (j.val / 128 * 128 + k.val) = J.val / 128 * 128 + k.val
  rw [hJ]
  omega

/-- The three column ranges side by side. -/
theorem ranges (Y : FVec Ideal S4x4096x6144 .f32) : concatenate S4x4096x6144 2 [⟨S4x4096x2048, units Y 0 slices_S4x4096x6144_S4x4096x2048_0_0_0⟩,
      ⟨S4x4096x2048, extractStridedSlice S4x4096x2048 ![0, 0, 2048] Y slices_S4x4096x6144_S4x4096x2048_0_0_2048⟩,
      ⟨S4x4096x2048, Host.divf (units Y 4096 slices_S4x4096x6144_S4x4096x2048_0_0_4096)
        (broadcastInDim S4x4096x2048 ![] bcast_S_S4x4096x2048 (Host.sqrt (constant (F := Ideal) S_ .f32 0x43000000#32)))⟩]
      concatenates_S4x4096x2048_S4x4096x2048_S4x4096x2048_S4x4096x6144_d2 = fun i => (entry (fun J => Y (ix3 (i 0) (i 1) J)) (i 2) : EReal) := by
  have key : ∀ (b : Fin 4) (s : Fin 4096) (J : Fin 6144), _ = (entry (fun J => Y (ix3 b s J)) J : EReal) := fun b s J => by
    unfold entry factor
    split_ifs with h1 h2
    · exact (concatenate_apply_piece (t := S4x4096x6144) (2 : Fin 3) [⟨S4x4096x2048, units Y 0 slices_S4x4096x6144_S4x4096x2048_0_0_0⟩,
        ⟨S4x4096x2048, extractStridedSlice S4x4096x2048 ![0, 0, 2048] Y slices_S4x4096x6144_S4x4096x2048_0_0_2048⟩,
        ⟨S4x4096x2048, Host.divf (units Y 4096 slices_S4x4096x6144_S4x4096x2048_0_0_4096)
          (broadcastInDim S4x4096x2048 ![] bcast_S_S4x4096x2048 (Host.sqrt (constant (F := Ideal) S_ .f32 0x43000000#32)))⟩]
        concatenates_S4x4096x2048_S4x4096x2048_S4x4096x2048_S4x4096x6144_d2 (ix3 b s J) 0 (by simp) S4x4096x2048 _ rfl rfl 0 rfl
        (ix3 b s (⟨J.val, h1⟩ : Fin 2048)) (fun a ha => by
          match a with
          | ⟨0, _⟩ => rfl
          | ⟨1, _⟩ => rfl
          | ⟨2, _⟩ => exact absurd rfl ha) (Nat.zero_add _)).trans (units_apply Y 0 (by omega) rfl _ b s _ J (Nat.zero_add _).symm)
    · refine (concatenate_apply_piece (t := S4x4096x6144) (2 : Fin 3) [⟨S4x4096x2048, _⟩, ⟨S4x4096x2048, _⟩, ⟨S4x4096x2048, _⟩]
        concatenates_S4x4096x2048_S4x4096x2048_S4x4096x2048_S4x4096x6144_d2 (ix3 b s J) 2 (by simp) S4x4096x2048 _ rfl rfl 4096 rfl
        (ix3 b s (⟨J.val - 4096, by omega⟩ : Fin 2048)) (fun a ha => by
          match a with
          | ⟨0, _⟩ => rfl
          | ⟨1, _⟩ => rfl
          | ⟨2, _⟩ => exact absurd rfl ha) (by show 4096 + (J.val - 4096) = J.val; omega)).trans ((over_root _).trans ?_)
      rw [units_apply Y 4096 (by omega) (by omega) _ b s _ J (by show J.val = 4096 + (J.val - 4096); omega), mul_assoc]
    · refine (concatenate_apply_piece (t := S4x4096x6144) (2 : Fin 3) [⟨S4x4096x2048, _⟩, ⟨S4x4096x2048, _⟩, ⟨S4x4096x2048, _⟩]
        concatenates_S4x4096x2048_S4x4096x2048_S4x4096x2048_S4x4096x6144_d2 (ix3 b s J) 1 (by simp) S4x4096x2048 _ rfl rfl 2048 rfl
        (ix3 b s (⟨J.val - 2048, by omega⟩ : Fin 2048)) (fun a ha => by
          match a with
          | ⟨0, _⟩ => rfl
          | ⟨1, _⟩ => rfl
          | ⟨2, _⟩ => exact absurd rfl ha) (by show 2048 + (J.val - 2048) = J.val; omega)).trans ((extractStridedSlice_apply _ _ _ _ (ix3 b s J) fun a => ?_).trans (mul_one _).symm)
      match a with
      | ⟨0, _⟩ => show b.val = 0 + b.val; omega
      | ⟨1, _⟩ => show s.val = 0 + s.val; omega
      | ⟨2, _⟩ => show J.val = 2048 + (J.val - 2048); omega
  funext i
  exact (congrArg _ (eq_ix3 i)).trans (key (i 0) (i 1) (i 2))

variable (m : (ℓ : Loc nD τ sig) → Buf (Elt Ideal) ℓ)

/-- The reference's term is the same function of its arguments. -/
theorem term (c : Dev nD) : Value.res_main_v66 m c = result (m ((c : Thread nD τ).loc main_arg0)) (m ((c : Thread nD τ).loc main_arg1)) := by
  refine Eq.trans (ranges (activated (conv (m ((c : Thread nD τ).loc main_arg0)) (m ((c : Thread nD τ).loc main_arg1))))) (funext fun i => ?_)
  exact congrArg (fun Y => entry Y (i 2)) (funext fun J => activated_apply _ _ (i 0) (i 1) J)

end Cert.Reference8Ideal.Hand

namespace Cert.Kernel8Ideal.Hand

open Cert.Kernel8Ideal Cert.Kernel8Ideal.Gen Idealize.ShloMosaic Idealize.ShloMosaic.TcCoe Idealize.SL.Sem

theorem frame_kernel : Cert.quiescent_Kernel8 := fun m ρ _ => Cert.Kernel8.Gen.frame m ρ

theorem frame_kernelIdeal : Cert.quiescent_Kernel8Ideal := fun m ρ _ => frame m ρ

theorem frame_referenceIdeal : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

theorem preserves : Cert.preserves_Kernel8_Kernel8Ideal :=
  IdealRules.named_const.statement Cert.Kernel8Ideal.κ "inv_sqrt_head" .f32 0x3DB504F3#32 (((Real.sqrt 128)⁻¹ : ℝ) : EReal) rfl

theorem algebraic : Cert.algebraic_Kernel8Ideal_Reference8Ideal := fun m ρ m' ρ' _ e =>
  ⟨fun c => result (m ((c : Thread nD τ).loc main_arg0)) (m ((c : Thread nD τ).loc main_arg1)), run m ρ,
    (θ_run Cert.Reference8Ideal.defs _ _).mono (fun r h c => ⟨(h c).1.trans ((Cert.Reference8Ideal.Hand.term m' c).trans (congrArg₂ result (e c).1 (e c).2)), (h c).2⟩)
      (Cert.Reference8Ideal.Value.run m' ρ')⟩

end Cert.Kernel8Ideal.Hand

end
-- ==== Proof.Context.lean ====
module

public import proofs.«01_k».proof.Defs
public import proofs.«01_k».proof.Proof.InProj
public import proofs.«01_k».proof.Proof.Conv
public import proofs.«01_k».proof.Proof.Gen.Kernel9.Frame
public import proofs.«01_k».proof.Proof.Gen.Kernel9Ideal.Frame
public import proofs.«01_k».proof.Proof.Gen.Reference9Ideal
public import proofs.«01_k».proof.Proof.Gen.Reference9Ideal.Run

@[expose] public section

/-! # The context's keys and values

Four tiled calls in a row: the modulation, the modulated norm of the context's rows, their product with the first columns of
the input weights, and the short convolution along each context. The norm reads the one row of the modulation that belongs to
the context. A block of the convolution holds a context whole, so the rows on either side of it are zeros. -/

noncomputable section

namespace Cert.Kernel9Ideal.Hand

open Cert.Kernel9Ideal Cert.Kernel9Ideal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)
open Idealize.ShloMosaic.ValueIdx
open Cert.Norm (normed)
open Cert.Heads (mate place four_eq head_apply overLength)
open Cert.Kernel2Ideal.Hand (col modul modRows modded side_by_side range_apply)
open Cert.Kernel8Ideal.Hand (taps silu factor fold_apply)
open scoped BigOperators

/-! ## The values -/

/-- The product of the rows `a` and the columns `b`. -/
def prod (a : S1024x4096.Idx → EReal) (b : S4096x4096.Idx → EReal) (r : Fin 1024) (j : Fin 4096) : EReal :=
  ∑ k : Fin 4096, a (ix2 r k) * b (ix2 k j)

/-- The modulated norm at context `b`, position `s` and column `j`: the shift is the modulation's first column range, the scale its second. -/
def hid (x : S4x256x4096.Idx → EReal) (cn : S4096.Idx → EReal) (wm : S4096x24576.Idx → EReal) (bm : S24576.Idx → EReal)
    (g : S4096.Idx → EReal) (b : Fin 4) (s : Fin 256) (j : Fin 4096) : EReal :=
  modded (fun k => x (ix3 b s k)) (g (ix1 j)) (modul (fun k => cn (ix1 k)) wm bm ⟨4096 + j.val, by omega⟩)
    (modul (fun k => cn (ix1 k)) wm bm ⟨0 + j.val, by omega⟩) j

/-- A column among the input weights' and among the taps'. -/
def wide (j : Fin 4096) : Fin 20544 := ⟨j.val, by omega⟩
def low (j : Fin 4096) : Fin 6144 := ⟨j.val, by omega⟩

/-- The row of the flattened contexts that place `l` of context `b` is. -/
def row (b : Fin 4) (l : Fin 256) : Fin 1024 := ⟨b.val * 256 + l.val, by omega⟩

/-- The context that a row of the flattened contexts falls in, and its place there. -/
def seqOf (r : Fin 1024) : Fin 4 := ⟨r.val / 256, by omega⟩
def posOf (r : Fin 1024) : Fin 256 := ⟨r.val % 256, by omega⟩

/-- The projection at context `b`, place `l` and column `j`. -/
def proj (x : S4x256x4096.Idx → EReal) (cn : S4096.Idx → EReal) (wm : S4096x24576.Idx → EReal) (bm : S24576.Idx → EReal)
    (g : S4096.Idx → EReal) (w : S4096x20544.Idx → EReal) (b : Fin 4) (l : Fin 256) (j : Fin 4096) : EReal :=
  ∑ k : Fin 4096, hid x cn wm bm g b l k * w (ix2 k (wide j))

/-- A column of a context between two zeros before it and two behind it. -/
def padded (x : Fin 256 → EReal) (n : ℕ) : EReal := if h : 2 ≤ n ∧ n < 258 then x ⟨n - 2, by omega⟩ else 0

/-- The activated convolution at place `l` of context `b`. -/
def act (p : Fin 4 → Fin 256 → Fin 4096 → EReal) (w : Fin 5 → Fin 4096 → EReal) (b : Fin 4) (l : Fin 256) (j : Fin 4096) : EReal :=
  silu (taps (fun t => padded (fun l => p b l j) (l.val + t.val)) (fun t => w t j))

/-- A column of a row times its factor. -/
def entry (Y : Fin 4096 → EReal) (j : Fin 4096) : EReal := Y j * factor j.val (overLength fun k => Y (mate (by decide) j k))

/-- The convolution of the projections `p` under the taps `w`. -/
def convolved (p : Fin 4 → Fin 256 → Fin 4096 → EReal) (w : Fin 5 → Fin 4096 → EReal) : S4x256x4096.Idx → EReal :=
  fun i => entry (act p w (i 0) (i 1)) (i 2)

/-- The four calls' result, from the arguments. -/
def outp (x : S4x256x4096.Idx → EReal) (cn : S4096.Idx → EReal) (wm : S4096x24576.Idx → EReal) (bm : S24576.Idx → EReal)
    (g : S4096.Idx → EReal) (w : S4096x20544.Idx → EReal) (cw : S5x6144.Idx → EReal) : S4x256x4096.Idx → EReal :=
  convolved (proj x cn wm bm g w) (fun t j => cw (ix2 t (low j)))

/-! ## A block of each call -/

/-- A block of the modulation, from its input blocks. -/
theorem out0_apply (x0 : Vec Ideal S8x4096 .f32) (x1 : Vec Ideal S4096x512 .f32) (x2 : Vec Ideal S1x512 .f32) (y : S8x512.Idx) :
    (out0_3 x0 x1 x2 y : EReal)
      = (∑ k : Fin 4096, (x0 (ix2 (y 0) k) : EReal) * Ideal.logistic (x0 (ix2 (y 0) k)) * x1 (ix2 k (y 1))) + x2 (ix2 (0 : Fin 1) (y 1)) := by
  unfold out0_3
  rw [View.canon_unit_zero (by decide)]
  repeat rw [View.ld_unit_zero (by decide)]
  unfold k0_pay1
  rw [shapeCast_self, shapeCast_self]
  have e1 := Dense.matmul_apply .bf16 .bf16 (truncf (F := Ideal) .bf16 (mulf x0 (logistic x0)) bitsLt_bf16_f32)
    (truncf (F := Ideal) .bf16 x1 bitsLt_bf16_f32) y
  refine congrArg₂ (fun a b : EReal => a + b) e1 (broadcastTo_apply _ _ y (ix2 (0 : Fin 1) (y 1)) fun a => ?_)
  match a with
  | ⟨0, _⟩ => rfl
  | ⟨1, _⟩ => rfl

/-- A block of the modulated norm, from its input blocks. -/
theorem out1_apply (x0 : Vec Ideal S1x256x4096 .f32) (x1 : Vec Ideal S1x4096 .f32) (x2 x3 : Vec Ideal S1x1x4096 .f32)
    (y : S1x256x4096.Idx) :
    (out1_4 x0 x1 x2 x3 y : EReal)
      = modded (fun k => x0 (ix3 (0 : Fin 1) (y 1) k)) (x1 (ix2 (0 : Fin 1) (y 2))) (x2 (ix3 (0 : Fin 1) (0 : Fin 1) (y 2)))
          (x3 (ix3 (0 : Fin 1) (0 : Fin 1) (y 2))) (y 2) := by
  unfold out1_4
  rw [View.canon_unit_zero (by decide)]
  repeat rw [View.ld_unit_zero (by decide)]
  unfold k1_pay1
  rw [shapeCast_self]
  have row : ∀ x : Vec Ideal S1x1x4096 .f32, broadcastTo S256x4096 (shapeCast S1x4096 x shapeCasts_S1x1x4096_S1x4096)
      broadcasts_S1x4096_S256x4096 (ix2 (y 1) (y 2) : S256x4096.Idx) = x (ix3 (0 : Fin 1) (0 : Fin 1) (y 2)) := fun x => by
    refine (broadcastTo_apply _ _ _ (ix2 (0 : Fin 1) (y 2)) fun a => ?_).trans (shapeCast_apply _ _ _ _ ?_)
    · match a with
      | ⟨0, _⟩ => rfl
      | ⟨1, _⟩ => rfl
    · refine (Shape.rowMajor_val_three _).trans (Eq.trans ?_ (Shape.rowMajor_val_two _).symm)
      rfl
  refine (shapeCast_apply _ _ _ (ix2 (y 1) (y 2) : S256x4096.Idx) ?_).trans ?_
  · refine (Shape.rowMajor_val_two _).trans (Eq.trans ?_ (Shape.rowMajor_val_three _).symm)
    have h0 : (y 0).val = 0 := by have := (y 0).isLt; change (y 0).val < 1 at this; omega
    show (y 1).val * 4096 + (y 2).val = ((y 0).val * 256 + (y 1).val) * 4096 + (y 2).val
    rw [h0]; omega
  · unfold modded
    refine congrArg₂ (fun a b : EReal => a + b) (congrArg₂ (fun a b : EReal => a * b) (congrArg₂ (fun a b : EReal => a * b)
      ((Norm.norm_apply (shapeCast S256x4096 x0 shapeCasts_S1x256x4096_S256x4096) reduces_S256x4096_S256 shapeCasts_S256_S256x1
        broadcasts_S256x1_S256x4096 (y 1) (y 2)).trans (congrArg (fun z => normed z (y 2)) (funext fun k => ?_))) ?_) ?_) (row x3)
    · refine shapeCast_apply _ _ _ _ ?_
      refine (Shape.rowMajor_val_three _).trans (Eq.trans ?_ (Shape.rowMajor_val_two _).symm)
      show (0 * 256 + (y 1).val) * 4096 + k.val = (y 1).val * 4096 + k.val
      omega
    · refine broadcastTo_apply _ _ _ (ix2 (0 : Fin 1) (y 2)) fun a => ?_
      match a with
      | ⟨0, _⟩ => rfl
      | ⟨1, _⟩ => rfl
    · refine (broadcastTo_apply _ _ _ (ix2 (0 : Fin 1) (y 2)) fun a => ?_).trans
        (congrArg (fun a : EReal => Ideal.ofBits .f32 0x3F800000#32 + a) (shapeCast_apply _ _ _ (ix3 (0 : Fin 1) (0 : Fin 1) (y 2)) ?_))
      · match a with
        | ⟨0, _⟩ => rfl
        | ⟨1, _⟩ => rfl
      · refine (Shape.rowMajor_val_three _).trans (Eq.trans ?_ (Shape.rowMajor_val_two _).symm)
        rfl

/-- A block of the projection is the product of its two input blocks. -/
theorem out2_apply (x0 : Vec Ideal S1024x4096 .bf16) (x1 : Vec Ideal S4096x1024 .bf16) (y : S1024x1024.Idx) :
    out2_2 x0 x1 y = ∑ k : Fin 4096, (x0 (ix2 (y 0) k) : EReal) * x1 (ix2 k (y 1)) := by
  unfold out2_2
  rw [View.canon_unit_zero (by decide), View.ld_unit_zero (by decide), View.ld_unit_zero (by decide)]
  unfold k2_pay1
  rw [shapeCast_self, shapeCast_self]
  exact Dense.matmul_apply .bf16 .bf16 x0 x1 y

/-- The rows a block of the convolution reads: its own, between eight zeros before it and eight behind it. -/
def reach (x : S1x256x512.Idx → EReal) (r : Fin 272) (q : Fin 512) : EReal :=
  if h : 8 ≤ r.val ∧ r.val < 264 then x (ix3 (0 : Fin 1) ⟨r.val - 8, by omega⟩ q) else 0

theorem none_before : ∀ n : Fin 1, ¬Scalar.cmpi .sgt (BitVec.ofNat 32 n.val) 0#32 = 1 := by decide
theorem none_behind : ∀ n : Fin 1, ¬Scalar.cmpi .slt (BitVec.ofNat 32 n.val) 0#32 = 1 := by decide
theorem first_range : ∀ n : Fin 8, Scalar.cmpi .slt (BitVec.ofNat 32 n.val) 4#32 = 1 ↔ n.val < 4 := by decide
theorem no_last_range : ∀ n : Fin 8, ¬Scalar.cmpi .sge (BitVec.ofNat 32 n.val) 8#32 = 1 := by decide

/-- The three pieces set one below the other. -/
theorem pay2_apply (i : grid3.Coords) (x0 : Vec Ideal S1x8x512 .f32) (x1 : Vec Ideal S1x256x512 .f32) (x2 : Vec Ideal S1x8x512 .f32)
    (r : Fin 272) (q : Fin 512) : (k3_pay2 (F := Ideal) i x0 x2 x1 (ix2 r q) : EReal) = reach x1 r q := by
  unfold k3_pay2 reach
  by_cases h : r.val < 8
  · rw [dif_neg (by omega)]
    refine (concatenate_apply_piece (t := S272x512) (0 : Fin 2) [⟨S8x512, _⟩, ⟨S256x512, _⟩, ⟨S8x512, _⟩] _ (ix2 r q) 0 (by simp) S8x512 _ rfl rfl 0 rfl
      (ix2 (⟨r.val, h⟩ : Fin 8) q) (fun a ha => ?_) ?_).trans ?_
    · match a with
      | ⟨0, _⟩ => exact absurd rfl ha
      | ⟨1, _⟩ => rfl
    · exact Nat.zero_add _
    · unfold Scalar.select
      rw [if_neg (none_before (i 1))]
      exact Ideal.ofBits_zero_f32
  · by_cases h' : r.val < 264
    · rw [dif_pos ⟨by omega, h'⟩]
      refine (concatenate_apply_piece (t := S272x512) (0 : Fin 2) [⟨S8x512, _⟩, ⟨S256x512, _⟩, ⟨S8x512, _⟩] _ (ix2 r q) 1 (by simp) S256x512 _ rfl rfl 8 rfl
        (ix2 (⟨r.val - 8, by omega⟩ : Fin 256) q) (fun a ha => ?_) ?_).trans ?_
      · match a with
        | ⟨0, _⟩ => exact absurd rfl ha
        | ⟨1, _⟩ => rfl
      · show 8 + (r.val - 8) = r.val
        omega
      · exact fold_apply (M := 256) x1 _ ⟨r.val - 8, by omega⟩ q
    · rw [dif_neg (by omega)]
      refine (concatenate_apply_piece (t := S272x512) (0 : Fin 2) [⟨S8x512, _⟩, ⟨S256x512, _⟩, ⟨S8x512, _⟩] _ (ix2 r q) 2 (by simp) S8x512 _ rfl rfl 264 rfl
        (ix2 (⟨r.val - 264, by omega⟩ : Fin 8) q) (fun a ha => ?_) ?_).trans ?_
      · match a with
        | ⟨0, _⟩ => exact absurd rfl ha
        | ⟨1, _⟩ => rfl
      · show 264 + (r.val - 264) = r.val
        omega
      · unfold Scalar.select
        rw [if_neg (none_behind (i 1))]
        exact Ideal.ofBits_zero_f32

/-- Rows 8 to 264 of a rotation are the rows that lie the rotation's amount away. -/
theorem shifted (X : S272x512.Idx → EReal) (sb : BitVec 32) (h : S272x512.Rotates 0 none) (hs : S272x512.Slices ![8, 0] S256x512)
    (l : Fin 256) (q : Fin 512) (r : Fin 272) (hr : r.val = (8 + l.val + 272 - sb.toNat % 272) % 272) :
    extractStridedSlice S256x512 ![8, 0] (dynamicRotate 0 sb none X h) hs (ix2 l q) = X (ix2 r q) := by
  refine (extractStridedSlice_apply _ _ hs _ (ix2 (⟨8 + l.val, by omega⟩ : Fin 272) q) fun a => ?_).trans
    (dynamicRotate_apply 0 sb X h _ (ix2 r q) fun b => ?_)
  · match a with
    | ⟨0, _⟩ => rfl
    | ⟨1, _⟩ => show q.val = 0 + q.val; omega
  · match b with
    | ⟨0, _⟩ => exact hr
    | ⟨1, _⟩ => rfl

/-- A row of the taps, spread over a block. -/
theorem tap_row (x : Vec Ideal S5x512 .f32) (n : ℕ) (hn : n < 5) (inb : ∀ a, (![n, 0] : Fin 2 → ℕ) a + S1x512.size a ≤ S5x512.size a)
    (hb : S1x512.Broadcasts S256x512) (l : Fin 256) (q : Fin 512) :
    broadcastTo S256x512 (shapeCast S1x512 (View.ld (Val := Elt Ideal) x (Rect.unit (s := S5x512) ![n, 0] S1x512.size inb)) shapeCasts_S1x512_S1x512) hb (ix2 l q)
      = x (ix2 (⟨n, hn⟩ : Fin 5) q) := by
  refine (congrArg (fun v : S1x512.Idx → EReal => broadcastTo S256x512 v hb (ix2 l q)) (shapeCast_self _ shapeCasts_S1x512_S1x512)).trans ?_
  refine (Norm.row_apply _ hb l q).trans ((congrFun (View.ld_unit x _ _ inb) _).trans (extractStridedSlice_apply _ _ _ _ _ fun a => ?_))
  match a with
  | ⟨0, _⟩ => rfl
  | ⟨1, _⟩ => show q.val = 0 + q.val; omega

/-- The activated convolution of a block. -/
def actB (x1 : S1x256x512.Idx → EReal) (x3 : S5x512.Idx → EReal) (l : Fin 256) (q : Fin 512) : EReal :=
  silu (taps (fun t => reach x1 ⟨6 + l.val + t.val, by omega⟩ q) (fun t => x3 (ix2 t q)))

theorem pay5_apply (i : grid3.Coords) (x0 : Vec Ideal S1x8x512 .f32) (x1 : Vec Ideal S1x256x512 .f32) (x2 : Vec Ideal S1x8x512 .f32)
    (x3 : Vec Ideal S5x512 .f32) (l : Fin 256) (q : Fin 512) :
    (k3_pay5 (F := Ideal) (k3_pay10 i x0 x1 x2 x3) (k3_pay11 i x0 x1 x2 x3) (k3_pay12 i x0 x1 x2 x3) (View.ld x3 r3_5) (View.ld x3 r3_6) (ix2 l q) : EReal)
      = actB x1 x3 l q := by
  unfold k3_pay10 k3_pay11 k3_pay12
  rw [show View.ld x0 r3_0 = x0 from View.ld_unit_zero (by decide) _ _, show View.ld x1 r3_1 = x1 from View.ld_unit_zero (by decide) _ _,
    show View.ld x2 r3_0 = x2 from View.ld_unit_zero (by decide) _ _]
  unfold k3_pay5 k3_pay3 k3_pay4
  have e : ∀ (sb : BitVec 32) (t : Fin 5) (_ : 6 + l.val + t.val = (8 + l.val + 272 - sb.toNat % 272) % 272),
      extractStridedSlice S256x512 ![8, 0] (dynamicRotate 0 sb none (k3_pay2 (F := Ideal) i x0 x2 x1) rotates_S272x512_d0) slices_S272x512_o8_0_S256x512 (ix2 l q)
        = reach x1 ⟨6 + l.val + t.val, by omega⟩ q := fun sb t ht =>
    (shifted _ sb _ _ l q ⟨6 + l.val + t.val, by omega⟩ ht).trans (pay2_apply i x0 x1 x2 _ q)
  have e2 : extractStridedSlice S256x512 ![8, 0] (k3_pay2 (F := Ideal) i x0 x2 x1) slices_S272x512_o8_0_S256x512 (ix2 l q)
      = reach x1 ⟨6 + l.val + (2 : Fin 5).val, by omega⟩ q := by
    refine (extractStridedSlice_apply _ _ _ _ (ix2 (⟨6 + l.val + (2 : Fin 5).val, by omega⟩ : Fin 272) q) fun a => ?_).trans (pay2_apply i x0 x1 x2 _ q)
    match a with
    | ⟨0, _⟩ => show 6 + l.val + 2 = 8 + l.val; omega
    | ⟨1, _⟩ => show q.val = 0 + q.val; omega
  refine congrArg silu ?_
  exact congrArg₂ (fun a b : EReal => a + b) (congrArg₂ (fun a b : EReal => a + b) (congrArg₂ (fun a b : EReal => a + b)
    (congrArg₂ (fun a b : EReal => a + b)
      (congrArg₂ (fun a b : EReal => a * b) (e 2#32 0 (by show 6 + l.val + 0 = (8 + l.val + 272 - 2 % 272) % 272; omega)) (tap_row x3 0 (by omega) _ _ l q))
      (congrArg₂ (fun a b : EReal => a * b) (e 1#32 1 (by show 6 + l.val + 1 = (8 + l.val + 272 - 1 % 272) % 272; omega)) (tap_row x3 1 (by omega) _ _ l q)))
    (congrArg₂ (fun a b : EReal => a * b) e2 (tap_row x3 2 (by omega) _ _ l q)))
    (congrArg₂ (fun a b : EReal => a * b) (e 271#32 3 (by show 6 + l.val + 3 = (8 + l.val + 272 - 271 % 272) % 272; omega)) (tap_row x3 3 (by omega) _ _ l q)))
    (congrArg₂ (fun a b : EReal => a * b) (e 270#32 4 (by show 6 + l.val + 4 = (8 + l.val + 272 - 270 % 272) % 272; omega)) (tap_row x3 4 (by omega) _ _ l q))

/-- One head of a block, scaled as its column range asks: no block lies in the range that the named constant scales. -/
theorem scale_head (X : FVec Ideal S256x512 .f32) (off : ℕ) (hx : S256x512.Slices ![0, off] S256x128) (n : Fin 8)
    (hr : S256x128.Reduces [1] S256) (hs : S256.ShapeCasts S256x1) (hb : S256x1.Broadcasts S256x128) (u : FVec Ideal S256x1 .f32)
    (l : Fin 256) (q : Fin 512) (hq : q.val / 128 * 128 = off) :
    (mulf (extractStridedSlice S256x128 ![0, off] X hx) (broadcastTo S256x128
      (Scalar.select (Scalar.cmpi .slt (BitVec.ofNat 32 n.val) 4#32)
        (rsqrt (addf (shapeCast S256x1 (multiReduction .add [1] S256 (mulf (extractStridedSlice S256x128 ![0, off] X hx) (extractStridedSlice S256x128 ![0, off] X hx))
          0x00000000#32 hr (.inl rfl) rfl) hs) (broadcast S256x1 (Scalar.ofBits .f32 0x358637BD#32))))
        (Scalar.select (Scalar.cmpi .sge (BitVec.ofNat 32 n.val) 8#32) u (broadcast S256x1 (Scalar.ofBits .f32 0x3F800000#32)))) hb) (ix2 l (place q)) : EReal)
      = X (ix2 l q) * factor (n.val * 512 + q.val) (overLength fun k => X (ix2 l (mate (by decide) q k))) := by
  have e : ∀ k : Fin 128, (mate (by decide) q k : Fin 512).val = off + k.val := fun k => by rw [← hq]; rfl
  refine congrArg₂ (fun a b : EReal => a * b) (head_apply X off hx l (place q) q ?_) ((Norm.spread_apply _ hb l (place q)).trans ?_)
  · show q.val = off + q.val % 128
    omega
  · have e1 : (Scalar.cmpi .slt (BitVec.ofNat 32 n.val) 4#32 = 1) = (n.val * 512 + q.val < 2048) :=
      propext ((first_range n).trans ⟨fun h => by omega, fun h => by omega⟩)
    unfold Scalar.select factor
    rw [if_neg (no_last_range n), if_neg (show ¬4096 ≤ n.val * 512 + q.val by omega)]
    simp only [e1]
    split_ifs
    · exact congrArg (fun a : EReal => Ideal.rsqrt (a + Ideal.ofBits .f32 0x358637BD#32)) ((Norm.sum_apply _ hr hs l).trans
        (Finset.sum_congr (M := EReal) rfl fun k _ => congrArg₂ (fun a b : EReal => a * b) (head_apply X off hx l k _ (e k)) (head_apply X off hx l k _ (e k))))
    · exact Ideal.ofBits_one_f32

/-- A block of the convolution, from its input blocks. -/
theorem out3_apply (i : grid3.Coords) (x0 : Vec Ideal S1x8x512 .f32) (x1 : Vec Ideal S1x256x512 .f32) (x2 : Vec Ideal S1x8x512 .f32)
    (x3 : Vec Ideal S5x512 .f32) (y : S1x256x512.Idx) :
    (out3_4 i x0 x1 x2 x3 y : EReal) = actB x1 x3 (y 1) (y 2)
      * factor ((i 2).val * 512 + (y 2).val) (overLength fun k => actB x1 x3 (y 1) (mate (by decide) (y 2 : Fin 512) k)) := by
  unfold out3_4
  rw [View.canon_unit_zero (by decide)]
  unfold k3_pay1 k3_pay6 k3_pay7 k3_pay9 k3_pay8
  have h := pay5_apply i x0 x1 x2 x3
  generalize k3_pay5 (F := Ideal) (k3_pay10 i x0 x1 x2 x3) (k3_pay11 i x0 x1 x2 x3) (k3_pay12 i x0 x1 x2 x3) (View.ld x3 r3_5) (View.ld x3 r3_6) = X at h ⊢
  have e : X (ix2 (y 1) (y 2)) * factor ((i 2).val * 512 + (y 2).val) (overLength fun k => X (ix2 (y 1) (mate (by decide) (y 2 : Fin 512) k))) = _ :=
    congrArg₂ (fun (a : EReal) b => a * factor ((i 2).val * 512 + (y 2).val) (overLength b)) (h (y 1) (y 2)) (funext fun k => h (y 1) (mate (by decide) (y 2 : Fin 512) k))
  refine (shapeCast_apply _ _ _ (ix2 (y 1) (y 2) : S256x512.Idx) ?_).trans ?_
  · refine (Shape.rowMajor_val_two _).trans (Eq.trans ?_ (Shape.rowMajor_val_three _).symm)
    have h0 : (y 0).val = 0 := by have := (y 0).isLt; change (y 0).val < 1 at this; omega
    show (y 1).val * 512 + (y 2).val = ((y 0).val * 256 + (y 1).val) * 512 + (y 2).val
    rw [h0]; omega
  · refine four_eq (M := 256) _ _ _ _ concatenates_S256x128_S256x128_S256x128_S256x128_S256x512_d1 (y 1) (y 2) _ (fun g => ?_) (fun g => ?_) (fun g => ?_) (fun g => ?_)
    · exact (scale_head X 0 slices_S256x512_o0_0_S256x128 (i 2) _ _ _ _ (y 1) (y 2) (by rw [g])).trans e
    · exact (scale_head X 128 slices_S256x512_o0_128_S256x128 (i 2) _ _ _ _ (y 1) (y 2) (by rw [g])).trans e
    · exact (scale_head X 256 slices_S256x512_o0_256_S256x128 (i 2) _ _ _ _ (y 1) (y 2) (by rw [g])).trans e
    · exact (scale_head X 384 slices_S256x512_o0_384_S256x128 (i 2) _ _ _ _ (y 1) (y 2) (by rw [g])).trans e

/-! ## The arrays after the four calls -/

theorem idx0 : ∀ t : Fin cfg0.N, win0_0.index t = ![0, 0] ∧ win0_1.index t = ![0, (grid0.coords t 0).val]
    ∧ win0_2.index t = ![0, (grid0.coords t 0).val] ∧ win0_3.index t = ![0, (grid0.coords t 0).val] :=
  (by decide +kernel : ∀ t : Fin grid0.N, _)

theorem idx1 : ∀ t : Fin cfg1.N, win1_0.index t = ![(grid1.coords t 0).val, (grid1.coords t 1).val, 0] ∧ win1_1.index t = ![0, 0]
    ∧ win1_2.index t = ![4, 0, 0] ∧ win1_3.index t = ![4, 0, 0]
    ∧ win1_4.index t = ![(grid1.coords t 0).val, (grid1.coords t 1).val, 0] := (by decide +kernel : ∀ t : Fin grid1.N, _)

theorem idx2 : ∀ t : Fin cfg2.N, win2_0.index t = ![(grid2.coords t 0).val, 0] ∧ win2_1.index t = ![0, (grid2.coords t 1).val]
    ∧ win2_2.index t = ![(grid2.coords t 0).val, (grid2.coords t 1).val] := (by decide +kernel : ∀ t : Fin grid2.N, _)

theorem idx3 : ∀ t : Fin cfg3.N, win3_1.index t = ![(grid3.coords t 0).val, 0, (grid3.coords t 2).val] ∧ win3_3.index t = ![0, (grid3.coords t 2).val]
    ∧ win3_4.index t = ![(grid3.coords t 0).val, 0, (grid3.coords t 2).val] := (by decide +kernel : ∀ t : Fin grid3.N, _)

variable (V : (c : Dev nD) → (b : Ref sig .tc) → Buf (Elt Ideal) ((c : Thread nD τ).loc b)) (c : Dev nD)

/-- The modulation's array after its call. -/
theorem final0 (i : S8x24576.Idx) : ((dat0 V c).arrAt 3 cfg0.N i : EReal)
    = modRows (V c main_v2) (V c main_arg3) (V c main_v3) (i 0) (i 1) := by
  have h : (dat0 V c).arrAt 3 cfg0.N = fun i : S8x24576.Idx =>
      modRows (V c main_v2) (V c main_arg3) (V c main_v3) (i 0) (i 1) := by
    refine (dat0 V c).arrAt_eq_of_covers 3 _ (by decide +kernel) fun t hf y => ?_
    obtain ⟨h0, h1, h2, h3⟩ := idx0 t
    blk_simp
    rw [after0_3, out0_apply]
    unfold modRows
    refine congrArg₂ (fun a b : EReal => a + b) (Finset.sum_congr (M := EReal) rfl fun k _ => congrArg₂ (fun a b : EReal => a * b)
      (congrArg (fun a : EReal => a * Ideal.logistic a) (congrArg (V c main_v2) (funext fun a => Fin.ext ?_)))
      (congrArg (V c main_arg3) (funext fun a => Fin.ext ?_))) (congrArg (V c main_v3) (funext fun a => Fin.ext ?_))
    · match a with
      | ⟨0, _⟩ =>
        show ((win0_0.blk t).view.emb (ix2 (y 0) k : S8x4096.Idx) 0).val = ((win0_3.blk t).view.emb y 0).val
        blk_simp [h0, h3]; rfl
      | ⟨1, _⟩ =>
        show ((win0_0.blk t).view.emb (ix2 (y 0) k : S8x4096.Idx) 1).val = k.val
        blk_simp [h0]; rfl
    · match a with
      | ⟨0, _⟩ =>
        show ((win0_1.blk t).view.emb (ix2 k (y 1) : S4096x512.Idx) 0).val = k.val
        blk_simp [h1]; rfl
      | ⟨1, _⟩ =>
        show ((win0_1.blk t).view.emb (ix2 k (y 1) : S4096x512.Idx) 1).val = ((win0_3.blk t).view.emb y 1).val
        blk_simp [h1, h3]; rfl
    · match a with
      | ⟨0, _⟩ =>
        show ((win0_2.blk t).view.emb (ix2 0 (y 1) : S1x512.Idx) 0).val = 0
        blk_simp [h2]
      | ⟨1, _⟩ =>
        show ((win0_2.blk t).view.emb (ix2 0 (y 1) : S1x512.Idx) 1).val = ((win0_3.blk t).view.emb y 1).val
        blk_simp [h2, h3]; rfl
  exact congrFun h i

/-- The modulated norm's array after its call. -/
theorem final1 (b : Fin 4) (s : Fin 256) (j : Fin 4096) : ((dat1 V c).arrAt 4 cfg1.N (ix3 b s j) : EReal)
    = modded (fun k => V c main_arg0 (ix3 b s k)) (V c main_v13 (ix2 (0 : Fin 1) j))
        (V c main_v8 (ix3 (4 : Fin 8) (0 : Fin 1) j)) (V c main_v6 (ix3 (4 : Fin 8) (0 : Fin 1) j)) j := by
  have h : (dat1 V c).arrAt 4 cfg1.N = fun i : S4x256x4096.Idx =>
      modded (fun k => V c main_arg0 (ix3 (i 0 : Fin 4) (i 1 : Fin 256) k)) (V c main_v13 (ix2 (0 : Fin 1) (i 2 : Fin 4096)))
        (V c main_v8 (ix3 (4 : Fin 8) (0 : Fin 1) (i 2 : Fin 4096)))
        (V c main_v6 (ix3 (4 : Fin 8) (0 : Fin 1) (i 2 : Fin 4096))) (i 2 : Fin 4096) := by
    refine (dat1 V c).arrAt_eq_of_covers 4 _ (by decide +kernel) fun t hf y => ?_
    obtain ⟨h0, h1, h2, h3, h4⟩ := idx1 t
    blk_simp
    rw [after1_4, out1_apply]
    have ej : (y 2 : Fin 4096) = ((win1_4.blk t).view.emb y 2 : Fin 4096) := Fin.ext (by
      show (y 2).val = ((win1_4.blk t).view.emb y 2).val
      blk_simp [h4])
    have row : ∀ k : Fin 4096, iblk1 V c 0 t (ix3 (0 : Fin 1) (y 1) k : S1x256x4096.Idx)
        = V c main_arg0 (ix3 ((win1_4.blk t).view.emb y 0 : Fin 4) ((win1_4.blk t).view.emb y 1 : Fin 256) k) := fun k => by
      refine congrArg (V c main_arg0) (funext fun a => Fin.ext ?_)
      match a with
      | ⟨0, _⟩ =>
        show ((win1_0.blk t).view.emb (ix3 0 (y 1) k : S1x256x4096.Idx) 0).val = ((win1_4.blk t).view.emb y 0).val
        blk_simp [h0, h4]
      | ⟨1, _⟩ =>
        show ((win1_0.blk t).view.emb (ix3 0 (y 1) k : S1x256x4096.Idx) 1).val = ((win1_4.blk t).view.emb y 1).val
        blk_simp [h0, h4]; rfl
      | ⟨2, _⟩ =>
        show ((win1_0.blk t).view.emb (ix3 0 (y 1) k : S1x256x4096.Idx) 2).val = k.val
        blk_simp [h0]; rfl
    have gain : iblk1 V c 1 t (ix2 (0 : Fin 1) (y 2) : S1x4096.Idx) = V c main_v13 (ix2 (0 : Fin 1) ((win1_4.blk t).view.emb y 2 : Fin 4096)) := by
      refine congrArg (V c main_v13) (funext fun a => Fin.ext ?_)
      match a with
      | ⟨0, _⟩ =>
        show ((win1_1.blk t).view.emb (ix2 0 (y 2) : S1x4096.Idx) 0).val = 0
        blk_simp [h1]
      | ⟨1, _⟩ =>
        show ((win1_1.blk t).view.emb (ix2 0 (y 2) : S1x4096.Idx) 1).val = ((win1_4.blk t).view.emb y 2).val
        blk_simp [h1, h4]; rfl
    have scale : iblk1 V c 2 t (ix3 (0 : Fin 1) (0 : Fin 1) (y 2) : S1x1x4096.Idx)
        = V c main_v8 (ix3 (4 : Fin 8) (0 : Fin 1) ((win1_4.blk t).view.emb y 2 : Fin 4096)) := by
      refine congrArg (V c main_v8) (funext fun a => Fin.ext ?_)
      match a with
      | ⟨0, _⟩ =>
        show ((win1_2.blk t).view.emb (ix3 0 0 (y 2) : S1x1x4096.Idx) 0).val = 4
        blk_simp [h2]
      | ⟨1, _⟩ =>
        show ((win1_2.blk t).view.emb (ix3 0 0 (y 2) : S1x1x4096.Idx) 1).val = 0
        blk_simp [h2]
      | ⟨2, _⟩ =>
        show ((win1_2.blk t).view.emb (ix3 0 0 (y 2) : S1x1x4096.Idx) 2).val = ((win1_4.blk t).view.emb y 2).val
        blk_simp [h2, h4]; rfl
    have shift : iblk1 V c 3 t (ix3 (0 : Fin 1) (0 : Fin 1) (y 2) : S1x1x4096.Idx)
        = V c main_v6 (ix3 (4 : Fin 8) (0 : Fin 1) ((win1_4.blk t).view.emb y 2 : Fin 4096)) := by
      refine congrArg (V c main_v6) (funext fun a => Fin.ext ?_)
      match a with
      | ⟨0, _⟩ =>
        show ((win1_3.blk t).view.emb (ix3 0 0 (y 2) : S1x1x4096.Idx) 0).val = 4
        blk_simp [h3]
      | ⟨1, _⟩ =>
        show ((win1_3.blk t).view.emb (ix3 0 0 (y 2) : S1x1x4096.Idx) 1).val = 0
        blk_simp [h3]
      | ⟨2, _⟩ =>
        show ((win1_3.blk t).view.emb (ix3 0 0 (y 2) : S1x1x4096.Idx) 2).val = ((win1_4.blk t).view.emb y 2).val
        blk_simp [h3, h4]; rfl
    rw [gain, scale, shift]
    exact congrArg₂ (fun (z : Fin 4096 → EReal) (j : Fin 4096) => modded z _ _ _ j) (funext row) ej
  exact congrFun h (ix3 b s j)

/-- The projection's array after its call. -/
theorem final2 (i : S1024x4096.Idx) : ((dat2 V c).arrAt 2 cfg2.N i : EReal)
    = prod (V c main_v15) (V c main_v16) (i 0) (i 1) := by
  have h : (dat2 V c).arrAt 2 cfg2.N
      = fun i : S1024x4096.Idx => prod (V c main_v15) (V c main_v16) (i 0) (i 1) := by
    refine (dat2 V c).arrAt_eq_of_covers 2 _ (by decide +kernel) fun t hf y => ?_
    obtain ⟨h0, h1, h2⟩ := idx2 t
    blk_simp
    rw [after2_2, out2_apply]
    unfold prod
    refine Finset.sum_congr (M := EReal) rfl fun k _ => congrArg₂ (fun a b : EReal => a * b)
      (congrArg (V c main_v15) (funext fun a => Fin.ext ?_)) (congrArg (V c main_v16) (funext fun a => Fin.ext ?_))
    · match a with
      | ⟨0, _⟩ =>
        show ((win2_0.blk t).view.emb (ix2 (y 0) k : S1024x4096.Idx) 0).val = ((win2_2.blk t).view.emb y 0).val
        blk_simp [h0, h2]; rfl
      | ⟨1, _⟩ =>
        show ((win2_0.blk t).view.emb (ix2 (y 0) k : S1024x4096.Idx) 1).val = k.val
        blk_simp [h0]; rfl
    · match a with
      | ⟨0, _⟩ =>
        show ((win2_1.blk t).view.emb (ix2 k (y 1) : S4096x1024.Idx) 0).val = k.val
        blk_simp [h1]; rfl
      | ⟨1, _⟩ =>
        show ((win2_1.blk t).view.emb (ix2 k (y 1) : S4096x1024.Idx) 1).val = ((win2_2.blk t).view.emb y 1).val
        blk_simp [h1, h2]; rfl
  exact congrFun h i

/-- The context a step of the convolution works on. -/
def seq (t : Fin cfg3.N) : Fin 4 := grid3.coords t 0

/-- The block of columns a step of the convolution works on. -/
def cols (t : Fin cfg3.N) : Fin 8 := grid3.coords t 2

/-- A block's column among all. -/
def colAt (t : Fin cfg3.N) (q : Fin 512) : Fin 4096 := ⟨(cols t).val * 512 + q.val, by omega⟩

theorem blk1 (t : Fin cfg3.N) (r : Fin 256) (q : Fin 512) : (iblk3 V c 1 t : S1x256x512.Idx → EReal) (ix3 (0 : Fin 1) r q)
    = (V c main_v18 : S4x256x4096.Idx → EReal) (ix3 (seq t) r (colAt t q)) := by
  obtain ⟨h1, h3, h4⟩ := idx3 t
  show (V c main_v18 : S4x256x4096.Idx → EReal) ((win3_1.blk t).view.emb (ix3 (0 : Fin 1) r q : S1x256x512.Idx)) = _
  refine congrArg (V c main_v18 : S4x256x4096.Idx → EReal) (funext fun a => Fin.ext ?_)
  match a with
  | ⟨0, _⟩ =>
    show ((win3_1.blk t).view.emb (ix3 (0 : Fin 1) r q : S1x256x512.Idx) 0).val = (grid3.coords t 0).val
    blk_simp [h1]
  | ⟨1, _⟩ =>
    show ((win3_1.blk t).view.emb (ix3 (0 : Fin 1) r q : S1x256x512.Idx) 1).val = r.val
    blk_simp [h1]
    rfl
  | ⟨2, _⟩ =>
    show ((win3_1.blk t).view.emb (ix3 (0 : Fin 1) r q : S1x256x512.Idx) 2).val = (grid3.coords t 2).val * 512 + q.val
    blk_simp [h1]
    rfl

theorem blk3 (t : Fin cfg3.N) (n : Fin 5) (q : Fin 512) : (iblk3 V c 3 t : S5x512.Idx → EReal) (ix2 n q)
    = (V c main_v19 : S5x4096.Idx → EReal) (ix2 n (colAt t q)) := by
  obtain ⟨h1, h3, h4⟩ := idx3 t
  show (V c main_v19 : S5x4096.Idx → EReal) ((win3_3.blk t).view.emb (ix2 n q : S5x512.Idx)) = _
  refine congrArg (V c main_v19 : S5x4096.Idx → EReal) (funext fun a => Fin.ext ?_)
  match a with
  | ⟨0, _⟩ =>
    show ((win3_3.blk t).view.emb (ix2 n q : S5x512.Idx) 0).val = n.val
    blk_simp [h3]
    rfl
  | ⟨1, _⟩ =>
    show ((win3_3.blk t).view.emb (ix2 n q : S5x512.Idx) 1).val = (grid3.coords t 2).val * 512 + q.val
    blk_simp [h3]
    rfl

/-- The rows that the taps reach are the padded context's. -/
theorem reach_eq (t : Fin cfg3.N) (l : Fin 256) (n : Fin 5) (q : Fin 512) :
    reach (iblk3 V c 1 t) ⟨6 + l.val + n.val, by omega⟩ q
      = padded (fun L => (V c main_v18 : S4x256x4096.Idx → EReal) (ix3 (seq t) L (colAt t q))) (l.val + n.val) := by
  unfold reach padded
  by_cases h : 2 ≤ l.val + n.val ∧ l.val + n.val < 258
  · rw [dif_pos h, dif_pos (show 8 ≤ 6 + l.val + n.val ∧ 6 + l.val + n.val < 264 by omega)]
    refine (blk1 V c t _ q).trans (congrArg (fun L : Fin 256 => (V c main_v18 : S4x256x4096.Idx → EReal) (ix3 (seq t) L (colAt t q))) (Fin.ext ?_))
    show 6 + l.val + n.val - 8 = l.val + n.val - 2
    omega
  · rw [dif_neg h, dif_neg (show ¬(8 ≤ 6 + l.val + n.val ∧ 6 + l.val + n.val < 264) by omega)]

/-- A block's activated convolution is the whole's. -/
theorem actB_eq (t : Fin cfg3.N) (l : Fin 256) (q : Fin 512) : actB (iblk3 V c 1 t) (iblk3 V c 3 t) l q
    = act (fun b l j => (V c main_v18 : S4x256x4096.Idx → EReal) (ix3 b l j)) (fun n j => (V c main_v19 : S5x4096.Idx → EReal) (ix2 n j)) (seq t) l (colAt t q) :=
  congrArg silu (congrArg₂ taps (funext fun n => reach_eq V c t l n q) (funext fun n => blk3 V c t n q))

/-- The convolution's array after its call. -/
theorem final3 : (dat3 V c).arrAt 4 cfg3.N
    = convolved (fun b l j => (V c main_v18 : S4x256x4096.Idx → EReal) (ix3 b l j)) (fun n j => (V c main_v19 : S5x4096.Idx → EReal) (ix2 n j)) := by
  refine (dat3 V c).arrAt_eq_of_covers 4 _ (by decide +kernel) fun t hf y => ?_
  obtain ⟨h1, h3, h4⟩ := idx3 t
  have ey : (win3_4.blk t).view.emb y = (ix3 (seq t) (y 1 : Fin 256) (colAt t (y 2)) : S4x256x4096.Idx) := by
    refine funext fun a => Fin.ext ?_
    match a with
    | ⟨0, _⟩ =>
      have h0 : (y 0).val = 0 := by have := (y 0).isLt; change (y 0).val < 1 at this; omega
      show ((win3_4.blk t).view.emb y 0).val = (grid3.coords t 0).val
      blk_simp [h4]
    | ⟨1, _⟩ =>
      show ((win3_4.blk t).view.emb y 1).val = (y 1).val
      blk_simp [h4]
    | ⟨2, _⟩ =>
      show ((win3_4.blk t).view.emb y 2).val = (grid3.coords t 2).val * 512 + (y 2).val
      blk_simp [h4]
  refine Eq.trans ?_ (congrArg (convolved _ _) ey).symm
  blk_simp
  rw [after3_4, out3_apply]
  refine congrArg₂ (fun a b : EReal => a * b) (actB_eq V c t (y 1) (y 2)) (congrArg (factor _) (congrArg overLength (funext fun k => (actB_eq V c t (y 1) _).trans
    (congrArg (act _ _ (seq t) (y 1)) (Fin.ext ?_)))))
  show (cols t).val * 512 + ((y 2).val / 128 * 128 + k.val) = ((cols t).val * 512 + (y 2).val) / 128 * 128 + k.val
  omega

/-! ## The run -/

variable (m : (ℓ : Loc nD τ sig) → Buf (Elt Ideal) ℓ) (ρ : Dev nD → PrngReg)

/-- What the four calls leave in the result, from the launch's arguments. -/
def result (c : Dev nD) : S4x256x4096.Idx → EReal :=
  outp (m ((c : Thread nD τ).loc main_arg0)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The fifth of the eight stacked rows. -/
theorem fifth_apply (x : S4x4096.Idx → EReal) (p : S1x4096.Idx → EReal) (q : S3x4096.Idx → EReal)
    (h : Shape.Concatenates [S4x4096, S1x4096, S3x4096] S8x4096 0) (k : Fin 4096) :
    concatenate S8x4096 0 [⟨S4x4096, x⟩, ⟨S1x4096, p⟩, ⟨S3x4096, q⟩] h (ix2 (4 : Fin 8) k) = p (ix2 (0 : Fin 1) k) := by
  refine concatenate_apply_piece (t := S8x4096) (0 : Fin 2) [⟨S4x4096, x⟩, ⟨S1x4096, p⟩, ⟨S3x4096, q⟩] h (ix2 (4 : Fin 8) k) 1
    (by simp) S1x4096 p rfl rfl 4 rfl (ix2 (0 : Fin 1) k) (fun a ha => ?_) rfl
  match a with
  | ⟨0, _⟩ => exact absurd rfl ha
  | ⟨1, _⟩ => rfl

/-- The conditioning rows when the first call starts: the fifth is the context's. -/
theorem V1_v2 (k : Fin 4096) : (V1 m ρ c main_v2 : S8x4096.Idx → EReal) (ix2 (4 : Fin 8) k)
    = (m ((c : Thread nD τ).loc main_arg2) : S4096.Idx → EReal) (ix1 k) := by
  have e : (V1 m ρ c main_v2 : S8x4096.Idx → EReal) = concatenate S8x4096 0
      [⟨S4x4096, (m ((c : Thread nD τ).loc main_arg1) : S4x4096.Idx → EReal)⟩,
       ⟨S1x4096, broadcastInDim S1x4096 ![1] bcast_S4096_S1x4096_1 (m ((c : Thread nD τ).loc main_arg2) : S4096.Idx → EReal)⟩,
       ⟨S3x4096, broadcastInDim S3x4096 ![] bcast_S_S3x4096 (constant (F := Ideal) S_ .f32 0x00000000#32)⟩]
      concatenates_S4x4096_S1x4096_S3x4096_S8x4096_d0 := by
    show StableHlo.after hostOps0 (W0 m ρ c) (Proc.devRef .tc main_v2) = _
    unfold hostOps0; after_results; rfl
  refine (congrFun e _).trans ((fifth_apply _ _ _ _ k).trans (broadcastInDim_apply _ _ _ _ _ fun a => ?_))
  match a with
  | ⟨0, _⟩ => rfl

theorem V1_v3 (j : Fin 24576) : (V1 m ρ c main_v3 : S1x24576.Idx → EReal) (ix2 (0 : Fin 1) j)
    = (m ((c : Thread nD τ).loc main_arg4) : S24576.Idx → EReal) (ix1 j) := by
  have e : (V1 m ρ c main_v3 : S1x24576.Idx → EReal)
      = shapeCast S1x24576 (m ((c : Thread nD τ).loc main_arg4) : S24576.Idx → EReal) shapeCasts_S24576_S1x24576 := by
    show StableHlo.after hostOps0 (W0 m ρ c) (Proc.devRef .tc main_v3) = _
    unfold hostOps0; after_results; rfl
  refine (congrFun e _).trans (shapeCast_apply _ _ _ _ ?_)
  refine (Shape.rowMajor_val_one _).trans (Eq.trans ?_ (Shape.rowMajor_val_two _).symm)
  show j.val = 0 * 24576 + j.val
  omega

/-- The modulation when the second call starts, at the context's row. -/
theorem W2_v4 (j : Fin 24576) : (W2 m ρ c (Proc.devRef .tc main_v4) : S8x24576.Idx → EReal) (ix2 (4 : Fin 8) j)
    = modul (fun k => (m ((c : Thread nD τ).loc main_arg2) : S4096.Idx → EReal) (ix1 k)) (m ((c : Thread nD τ).loc main_arg3))
        (m ((c : Thread nD τ).loc main_arg4)) j := by
  refine (congrFun (W2_arr m ρ c 3) (ix2 (4 : Fin 8) j)).trans ((final0 (V1 m ρ) c (ix2 (4 : Fin 8) j)).trans ?_)
  unfold modRows modul
  rw [show V1 m ρ c main_arg3 = m ((c : Thread nD τ).loc main_arg3) from W1_args m ρ c main_arg3 (by decide)]
  refine congrArg₂ (fun a b : EReal => a + b) (Finset.sum_congr (M := EReal) rfl fun k _ =>
    congrArg (fun a : EReal => a * Ideal.logistic a * _) (V1_v2 c m ρ k)) (V1_v3 c m ρ j)

theorem V3_v6 (j : Fin 4096) : (V3 m ρ c main_v6 : S8x1x4096.Idx → EReal) (ix3 (4 : Fin 8) (0 : Fin 1) j)
    = modul (fun k => (m ((c : Thread nD τ).loc main_arg2) : S4096.Idx → EReal) (ix1 k)) (m ((c : Thread nD τ).loc main_arg3))
        (m ((c : Thread nD τ).loc main_arg4)) ⟨0 + j.val, by omega⟩ := by
  have e : (V3 m ρ c main_v6 : S8x1x4096.Idx → EReal) = shapeCast S8x1x4096 (extractStridedSlice S8x4096 ![0, 0]
      (W2 m ρ c (Proc.devRef .tc main_v4) : S8x24576.Idx → EReal) slices_S8x24576_S8x4096_0_0) shapeCasts_S8x4096_S8x1x4096 := by
    show StableHlo.after hostOps1 (W2 m ρ c) (Proc.devRef .tc main_v6) = _
    unfold hostOps1; after_results; rfl
  exact (congrFun e _).trans ((range_apply _ 0 (by omega) _ _ _ _).trans (W2_v4 c m ρ _))

theorem V3_v8 (j : Fin 4096) : (V3 m ρ c main_v8 : S8x1x4096.Idx → EReal) (ix3 (4 : Fin 8) (0 : Fin 1) j)
    = modul (fun k => (m ((c : Thread nD τ).loc main_arg2) : S4096.Idx → EReal) (ix1 k)) (m ((c : Thread nD τ).loc main_arg3))
        (m ((c : Thread nD τ).loc main_arg4)) ⟨4096 + j.val, by omega⟩ := by
  have e : (V3 m ρ c main_v8 : S8x1x4096.Idx → EReal) = shapeCast S8x1x4096 (extractStridedSlice S8x4096 ![0, 4096]
      (W2 m ρ c (Proc.devRef .tc main_v4) : S8x24576.Idx → EReal) slices_S8x24576_S8x4096_0_4096) shapeCasts_S8x4096_S8x1x4096 := by
    show StableHlo.after hostOps1 (W2 m ρ c) (Proc.devRef .tc main_v8) = _
    unfold hostOps1; after_results; rfl
  exact (congrFun e _).trans ((range_apply _ 4096 (by omega) _ _ _ _).trans (W2_v4 c m ρ _))

theorem V3_v13 (j : Fin 4096) : (V3 m ρ c main_v13 : S1x4096.Idx → EReal) (ix2 (0 : Fin 1) j)
    = (m ((c : Thread nD τ).loc main_arg5) : S4096.Idx → EReal) (ix1 j) := by
  have e : (V3 m ρ c main_v13 : S1x4096.Idx → EReal)
      = shapeCast S1x4096 (m ((c : Thread nD τ).loc main_arg5) : S4096.Idx → EReal) shapeCasts_S4096_S1x4096 := by
    refine Eq.trans ?_ (congrArg (fun x : S4096.Idx → EReal => shapeCast S1x4096 x shapeCasts_S4096_S1x4096) (W2_args m ρ c main_arg5 (by decide)))
    show StableHlo.after hostOps1 (W2 m ρ c) (Proc.devRef .tc main_v13) = _
    unfold hostOps1; after_results; rfl
  refine (congrFun e _).trans (shapeCast_apply _ _ _ _ ?_)
  refine (Shape.rowMajor_val_one _).trans (Eq.trans ?_ (Shape.rowMajor_val_two _).symm)
  show j.val = 0 * 4096 + j.val
  omega

/-- The weights when the third call starts: the first columns. -/
theorem V5_v16 (k j : Fin 4096) : (V5 m ρ c main_v16 : S4096x4096.Idx → EReal) (ix2 k j)
    = (m ((c : Thread nD τ).loc main_arg6) : S4096x20544.Idx → EReal) (ix2 k (wide j)) := by
  have e : (V3 m ρ c main_v12 : S4096x20480.Idx → EReal) = concatenate S4096x20480 1
      [⟨S4096x4096, extractStridedSlice S4096x4096 ![0, 0] (m ((c : Thread nD τ).loc main_arg6) : S4096x20544.Idx → EReal) slices_S4096x20544_S4096x4096_0_0⟩,
       ⟨S4096x16384, extractStridedSlice S4096x16384 ![0, 4160] (m ((c : Thread nD τ).loc main_arg6) : S4096x20544.Idx → EReal) slices_S4096x20544_S4096x16384_0_4160⟩]
      concatenates_S4096x4096_S4096x16384_S4096x20480_d1 := by
    rw [← W2_args m ρ c main_arg6 (by decide)]
    show StableHlo.after hostOps1 (W2 m ρ c) (Proc.devRef .tc main_v12) = _
    unfold hostOps1; after_results; rfl
  have e' : (V5 m ρ c main_v16 : S4096x4096.Idx → EReal)
      = extractStridedSlice S4096x4096 ![0, 0] (V3 m ρ c main_v12 : S4096x20480.Idx → EReal) slices_S4096x20480_S4096x4096_0_0 := by
    rw [show (V3 m ρ c main_v12 : S4096x20480.Idx → EReal) = W4 m ρ c (Proc.devRef .tc main_v12) from (W4_of m ρ c main_v12 (by decide)).symm]
    show StableHlo.after hostOps2 (W4 m ρ c) (Proc.devRef .tc main_v16) = _
    unfold hostOps2; after_results
  refine (congrFun e' _).trans ((extractStridedSlice_apply _ _ _ _ (ix2 k (⟨j.val, by omega⟩ : Fin 20480)) fun a => ?_).trans ((congrFun e _).trans
    ((side_by_side _ slices_S4096x20544_S4096x4096_0_0 slices_S4096x20544_S4096x16384_0_4160
      concatenates_S4096x4096_S4096x16384_S4096x20480_d1 k _).trans (congrArg (fun J : Fin 20544 => (m ((c : Thread nD τ).loc main_arg6) : S4096x20544.Idx → EReal) (ix2 k J)) (dif_pos j.isLt)))))
  match a with
  | ⟨0, _⟩ => exact (Nat.zero_add _).symm
  | ⟨1, _⟩ => exact (Nat.zero_add _).symm

/-- A row of the flattened contexts is the row of the context it falls in. -/
theorem flat_apply (x : S4x256x4096.Idx → EReal) (h : S4x256x4096.ShapeCasts S1024x4096) (r : Fin 1024) (j : Fin 4096) :
    shapeCast S1024x4096 x h (ix2 r j) = x (ix3 (seqOf r) (posOf r) j) := by
  refine shapeCast_apply _ _ _ _ ?_
  refine (Shape.rowMajor_val_three _).trans (Eq.trans ?_ (Shape.rowMajor_val_two _).symm)
  show (r.val / 256 * 256 + r.val % 256) * 4096 + j.val = r.val * 4096 + j.val
  omega

/-- The rows of the flattened contexts, folded back. -/
theorem folded (x : S1024x4096.Idx → EReal) (h : S1024x4096.ShapeCasts S4x256x4096) (b : Fin 4) (l : Fin 256) (j : Fin 4096) :
    shapeCast S4x256x4096 x h (ix3 b l j) = x (ix2 (row b l) j) := by
  refine shapeCast_apply _ _ _ _ ?_
  refine (Shape.rowMajor_val_two _).trans (Eq.trans ?_ (Shape.rowMajor_val_three _).symm)
  rfl

theorem seqOf_row (b : Fin 4) (l : Fin 256) : seqOf (row b l) = b := Fin.ext (by show (b.val * 256 + l.val) / 256 = b.val; omega)
theorem posOf_row (b : Fin 4) (l : Fin 256) : posOf (row b l) = l := Fin.ext (by show (b.val * 256 + l.val) % 256 = l.val; omega)

/-- The rows that the projection reads. -/
theorem V5_v15 (r : Fin 1024) (k : Fin 4096) : (V5 m ρ c main_v15 : S1024x4096.Idx → EReal) (ix2 r k)
    = hid (m ((c : Thread nD τ).loc main_arg0)) (m ((c : Thread nD τ).loc main_arg2)) (m ((c : Thread nD τ).loc main_arg3))
      (m ((c : Thread nD τ).loc main_arg4)) (m ((c : Thread nD τ).loc main_arg5)) (seqOf r) (posOf r) k := by
  have e : (V5 m ρ c main_v15 : S1024x4096.Idx → EReal)
      = shapeCast S1024x4096 (W4 m ρ c (Proc.devRef .tc main_v14) : S4x256x4096.Idx → EReal) shapeCasts_S4x256x4096_S1024x4096 := by
    show StableHlo.after hostOps2 (W4 m ρ c) (Proc.devRef .tc main_v15) = _
    unfold hostOps2; after_results; rfl
  refine (congrFun e _).trans ((flat_apply _ _ r k).trans ((congrFun (W4_arr m ρ c 4) _).trans ((final1 (V3 m ρ) c _ _ k).trans ?_)))
  unfold hid
  rw [V3_v6, V3_v8, V3_v13, show V3 m ρ c main_arg0 = m ((c : Thread nD τ).loc main_arg0) from W3_args m ρ c main_arg0 (by decide)]

/-- The projections when the last call starts. -/
theorem V7_v18 (b : Fin 4) (l : Fin 256) (j : Fin 4096) : (V7 m ρ c main_v18 : S4x256x4096.Idx → EReal) (ix3 b l j)
    = proj (m ((c : Thread nD τ).loc main_arg0)) (m ((c : Thread nD τ).loc main_arg2)) (m ((c : Thread nD τ).loc main_arg3))
      (m ((c : Thread nD τ).loc main_arg4)) (m ((c : Thread nD τ).loc main_arg5)) (m ((c : Thread nD τ).loc main_arg6)) b l j := by
  have e : (V7 m ρ c main_v18 : S4x256x4096.Idx → EReal)
      = shapeCast S4x256x4096 (W6 m ρ c (Proc.devRef .tc main_v17) : S1024x4096.Idx → EReal) shapeCasts_S1024x4096_S4x256x4096 := by
    show StableHlo.after hostOps3 (W6 m ρ c) (Proc.devRef .tc main_v18) = _
    unfold hostOps3; after_results; rfl
  refine (congrFun e _).trans ((folded _ _ b l j).trans ((congrFun (W6_arr m ρ c 2) _).trans ((final2 (V5 m ρ) c _).trans ?_)))
  refine Finset.sum_congr (M := EReal) rfl fun k _ => congrArg₂ (fun a b : EReal => a * b) ((V5_v15 c m ρ (row b l) k).trans ?_) (V5_v16 c m ρ k j)
  rw [seqOf_row, posOf_row]

/-- The taps when the last call starts. -/
theorem V7_v19 (n : Fin 5) (j : Fin 4096) : (V7 m ρ c main_v19 : S5x4096.Idx → EReal) (ix2 n j)
    = (m ((c : Thread nD τ).loc main_arg7) : S5x6144.Idx → EReal) (ix2 n (low j)) := by
  have e : (V7 m ρ c main_v19 : S5x4096.Idx → EReal)
      = extractStridedSlice S5x4096 ![0, 0] (m ((c : Thread nD τ).loc main_arg7) : S5x6144.Idx → EReal) slices_S5x6144_S5x4096_0_0 := by
    rw [← W6_args m ρ c main_arg7 (by decide)]
    show StableHlo.after hostOps3 (W6 m ρ c) (Proc.devRef .tc main_v19) = _
    unfold hostOps3; after_results
  refine (congrFun e _).trans (extractStridedSlice_apply _ _ _ _ _ fun a => ?_)
  match a with
  | ⟨0, _⟩ => exact (Nat.zero_add _).symm
  | ⟨1, _⟩ => exact (Nat.zero_add _).symm

/-- The last array, from the arguments. -/
theorem W8_result : (W8 m ρ c (Proc.devRef .tc main_v20) : S4x256x4096.Idx → EReal) = result m c :=
  (W8_arr m ρ c 4).trans ((final3 (V7 m ρ) c).trans (congrArg₂ convolved
    (funext fun b => funext fun l => funext fun j => V7_v18 c m ρ b l j) (funext fun n => funext fun j => V7_v19 c m ρ n j)))

set_option backward.isDefEq.respectTransparency.types false in
/-- The launch over the eight stretches of the program, read at the result and at the arguments. -/
theorem run : θ_run defs (onTc (τ := τ) (main (F := Ideal))) ⟨m, fun _ => 0, ρ⟩ (fun r => ∀ c : Dev nD,
      r.2.mem ((c.tc : Thread nD τ).loc main_v20) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ))
        ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨(h c _ (mem_uc main_v20 (by decide))).trans (W8_result c m ρ),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.Kernel9Ideal.Hand

/-! ## The reference -/

namespace Cert.Reference9Ideal.Hand

open Cert.Reference9Ideal Cert.Reference9Ideal.Facts₀ Idealize.ShloMosaic Idealize.ShloMosaic.TcCoe Idealize.SL.Sem
open Idealize.ShloMosaic.ValueIdx
open Cert.Heads (mate place overLength host_unit_apply)
open Cert.Kernel2Ideal.Hand (modul modded)
open Cert.Kernel8Ideal.Hand (taps silu factor)
open Cert.Kernel9Ideal.Hand (padded low wide row hid proj act entry convolved outp flat_apply folded seqOf_row posOf_row)
open scoped BigOperators

/-- The padded projections of the reference. -/
theorem pad_apply (X : FVec Ideal S4x256x4096 .f32) (b : Fin 4) (n : Fin 260) (j : Fin 4096) :
    (pad S4x260x4096 ![0, 2, 0] ![0, 2, 0] ![0, 0, 0] X (sitofp (F := Ideal) .f32 (constantI S_ 32 0#32))
      pads_S4x256x4096_S4x260x4096_000_220_000 h_S_ (ix3 b n j) : EReal) = padded (fun l => X (ix3 b l j)) n.val := by
  unfold padded
  split_ifs with h
  · refine pad_apply_of_inside _ _ _ _ _ _ _ _ (ix3 b (⟨n.val - 2, by omega⟩ : Fin 256) j) fun a => ?_
    match a with
    | ⟨0, _⟩ => show b.val = 0 + b.val * (0 + 1); omega
    | ⟨1, _⟩ => show n.val = 2 + (n.val - 2) * (0 + 1); omega
    | ⟨2, _⟩ => show j.val = 0 + j.val * (0 + 1); omega
  · refine (pad_apply_of_not_inside _ _ _ _ _ _ _ _ (1 : Fin 3) fun e => ?_).trans ?_
    · have e1 : 2 ≤ n.val := e.1
      have e2 : (n.val - 2) / (0 + 1) < 256 := e.2.2
      omega
    · show (((0#32 : BitVec 32).toInt : ℝ) : EReal) = 0
      simp

/-- One tap's product, as an array. -/
def tap (X : FVec Ideal S4x256x4096 .f32) (W : FVec Ideal S5x6144 .f32) (t : ℕ) (h1 : S4x260x4096.Slices ![0, t, 0] S4x256x4096)
    (h2 : S5x6144.Slices ![t, 0] S1x4096) : FVec Ideal S4x256x4096 .f32 :=
  mulf (extractStridedSlice S4x256x4096 ![0, t, 0] (pad S4x260x4096 ![0, 2, 0] ![0, 2, 0] ![0, 0, 0] X (sitofp .f32 (constantI S_ 32 0#32))
      pads_S4x256x4096_S4x260x4096_000_220_000 h_S_) h1)
    (broadcastInDim S4x256x4096 ![0, 1, 2] bcast_S1x1x4096_S4x256x4096_0_1_2 (broadcastInDim S1x1x4096 ![2] bcast_S4096_S1x1x4096_2
      (shapeCast S4096 (extractStridedSlice S1x4096 ![t, 0] W h2) shapeCasts_S1x4096_S4096)))

/-- One row set at every place of every context. -/
theorem spread_apply (z : S1x1x4096.Idx → EReal) (b : Fin 4) (l : Fin 256) (j : Fin 4096) :
    broadcastInDim S4x256x4096 ![0, 1, 2] bcast_S1x1x4096_S4x256x4096_0_1_2 z (ix3 b l j) = z (ix3 (0 : Fin 1) (0 : Fin 1) j) := by
  refine broadcastInDim_apply _ _ _ _ _ fun a => ?_
  match a with
  | ⟨0, _⟩ => rfl
  | ⟨1, _⟩ => rfl
  | ⟨2, _⟩ => rfl

/-- A vector set as such a row. -/
theorem lift_apply (z : S4096.Idx → EReal) (j : Fin 4096) :
    broadcastInDim S1x1x4096 ![2] bcast_S4096_S1x1x4096_2 z (ix3 (0 : Fin 1) (0 : Fin 1) j) = z (ix1 j) := by
  refine broadcastInDim_apply _ _ _ _ _ fun a => ?_
  match a with
  | ⟨0, _⟩ => rfl

theorem tap_apply (X : FVec Ideal S4x256x4096 .f32) (W : FVec Ideal S5x6144 .f32) (t : ℕ) (ht : t < 5)
    (h1 : S4x260x4096.Slices ![0, t, 0] S4x256x4096) (h2 : S5x6144.Slices ![t, 0] S1x4096) (b : Fin 4) (s : Fin 256) (j : Fin 4096) :
    (tap X W t h1 h2 (ix3 b s j) : EReal) = padded (fun l => X (ix3 b l j)) (s.val + t) * W (ix2 (⟨t, ht⟩ : Fin 5) (low j)) := by
  refine congrArg₂ (fun a b : EReal => a * b) ((extractStridedSlice_apply _ _ h1 _ (ix3 b (⟨s.val + t, by omega⟩ : Fin 260) j) fun a => ?_).trans (pad_apply X b _ j))
    ((spread_apply _ b s j).trans ((lift_apply _ j).trans ((shapeCast_apply _ _ _ (ix2 (0 : Fin 1) j) ?_).trans (extractStridedSlice_apply _ _ h2 _ _ fun a => ?_))))
  · match a with
    | ⟨0, _⟩ => show b.val = 0 + b.val; omega
    | ⟨1, _⟩ => show s.val + t = t + s.val; omega
    | ⟨2, _⟩ => show j.val = 0 + j.val; omega
  · refine (Shape.rowMajor_val_two _).trans (Eq.trans ?_ (Shape.rowMajor_val_one _).symm)
    show 0 * 4096 + j.val = j.val
    omega
  · match a with
    | ⟨0, _⟩ => rfl
    | ⟨1, _⟩ => show j.val = 0 + j.val; omega

/-- The five taps added up. -/
def conv (X : FVec Ideal S4x256x4096 .f32) (W : FVec Ideal S5x6144 .f32) : FVec Ideal S4x256x4096 .f32 :=
  addf (addf (addf (addf (addf (broadcastInDim S4x256x4096 ![] bcast_S_S4x256x4096 (constant S_ .f32 0x00000000#32))
    (tap X W 0 slices_S4x260x4096_S4x256x4096_0_0_0 slices_S5x6144_S1x4096_0_0)) (tap X W 1 slices_S4x260x4096_S4x256x4096_0_1_0 slices_S5x6144_S1x4096_1_0))
    (tap X W 2 slices_S4x260x4096_S4x256x4096_0_2_0 slices_S5x6144_S1x4096_2_0)) (tap X W 3 slices_S4x260x4096_S4x256x4096_0_3_0 slices_S5x6144_S1x4096_3_0))
    (tap X W 4 slices_S4x260x4096_S4x256x4096_0_4_0 slices_S5x6144_S1x4096_4_0)

/-- The activation of the reference. -/
def activated (C : FVec Ideal S4x256x4096 .f32) : FVec Ideal S4x256x4096 .f32 :=
  mulf C (Host.divf (broadcastInDim S4x256x4096 ![] bcast_S_S4x256x4096 (constant S_ .f32 0x3F800000#32))
    (addf (broadcastInDim S4x256x4096 ![] bcast_S_S4x256x4096 (constant S_ .f32 0x3F800000#32)) (Host.exp (Host.negf C))))

theorem conv_apply (X : FVec Ideal S4x256x4096 .f32) (W : FVec Ideal S5x6144 .f32) (b : Fin 4) (s : Fin 256) (j : Fin 4096) :
    (conv X W (ix3 b s j) : EReal) = taps (fun t => padded (fun l => X (ix3 b l j)) (s.val + t.val)) (fun t => W (ix2 t (low j))) := by
  have z : ∀ a : EReal, Ideal.ofBits .f32 0x00000000#32 + a = a := fun a => by rw [Ideal.ofBits_zero_f32, zero_add]
  have e := fun t ht h1 h2 => tap_apply X W t ht h1 h2 b s j
  exact congrArg₂ (fun a b : EReal => a + b) (congrArg₂ (fun a b : EReal => a + b) (congrArg₂ (fun a b : EReal => a + b)
    (congrArg₂ (fun a b : EReal => a + b) ((z _).trans (e 0 (by omega) _ _)) (e 1 (by omega) _ _)) (e 2 (by omega) _ _)) (e 3 (by omega) _ _)) (e 4 (by omega) _ _)

theorem activated_apply (X : FVec Ideal S4x256x4096 .f32) (W : FVec Ideal S5x6144 .f32) (b : Fin 4) (s : Fin 256) (j : Fin 4096) :
    (activated (conv X W) (ix3 b s j) : EReal) = act (fun b l j => X (ix3 b l j)) (fun t j => W (ix2 t (low j))) b s j := by
  refine Eq.trans ?_ (congrArg silu (conv_apply X W b s j))
  exact congrArg (fun a : EReal => conv X W (ix3 b s j) * a) (Norm.logistic_quotient _)

/-- Heads of unit length, as the reference writes them. -/
def units (Y : FVec Ideal S4x256x4096 .f32) : FVec Ideal S4x256x2048 .f32 :=
  shapeCast S4x256x2048 (mulf (shapeCast S4x256x16x128 (extractStridedSlice S4x256x2048 ![0, 0, 0] Y slices_S4x256x4096_S4x256x2048_0_0_0) shapeCasts_S4x256x2048_S4x256x16x128)
    (broadcastInDim S4x256x16x128 ![0, 1, 2, 3] bcast_S4x256x16x1_S4x256x16x128_0_1_2_3 (Host.rsqrt (addf
      (broadcastInDim S4x256x16x1 ![0, 1, 2] bcast_S4x256x16_S4x256x16x1_0_1_2 (Host.reduceAdd
        (mulf (shapeCast S4x256x16x128 (extractStridedSlice S4x256x2048 ![0, 0, 0] Y slices_S4x256x4096_S4x256x2048_0_0_0) shapeCasts_S4x256x2048_S4x256x16x128)
          (shapeCast S4x256x16x128 (extractStridedSlice S4x256x2048 ![0, 0, 0] Y slices_S4x256x4096_S4x256x2048_0_0_0) shapeCasts_S4x256x2048_S4x256x16x128))
        (constant (F := Ideal) S_ .f32 0x00000000#32) reducesTo_S4x256x16x128_S4x256x16_d3 h_S_))
      (broadcastInDim S4x256x16x1 ![] bcast_S_S4x256x16x1 (constant (F := Ideal) S_ .f32 0x358637BD#32)))))) shapeCasts_S4x256x16x128_S4x256x2048

theorem units_apply (Y : FVec Ideal S4x256x4096 .f32) (b : Fin 4) (s : Fin 256) (j : Fin 2048) (J : Fin 4096) (hJ : J.val = j.val) :
    (units Y (ix3 b s j) : EReal) = Y (ix3 b s J) * overLength (fun k => Y (ix3 b s (mate (by decide) J k))) := by
  refine (host_unit_apply Y 0 (by omega) _ _ _ _ _ (by decide) _ _ _ b s j).trans (congrArg₂ (fun a b : EReal => a * b)
    (congrArg (fun J => Y (ix3 b s J)) (Fin.ext ((Nat.zero_add _).trans hJ.symm)))
    (congrArg overLength (funext fun k => congrArg (fun J => Y (ix3 b s J)) (Fin.ext ?_))))
  show 0 + (j.val / 128 * 128 + k.val) = J.val / 128 * 128 + k.val
  rw [hJ, Nat.zero_add]

/-- The two column ranges side by side. -/
theorem ranges (Y : FVec Ideal S4x256x4096 .f32) : concatenate S4x256x4096 2 [⟨S4x256x2048, units Y⟩,
      ⟨S4x256x2048, extractStridedSlice S4x256x2048 ![0, 0, 2048] Y slices_S4x256x4096_S4x256x2048_0_0_2048⟩]
      concatenates_S4x256x2048_S4x256x2048_S4x256x4096_d2 = fun i => (entry (fun J => Y (ix3 (i 0) (i 1) J)) (i 2) : EReal) := by
  have key : ∀ (b : Fin 4) (s : Fin 256) (J : Fin 4096), concatenate S4x256x4096 2 [⟨S4x256x2048, units Y⟩,
      ⟨S4x256x2048, extractStridedSlice S4x256x2048 ![0, 0, 2048] Y slices_S4x256x4096_S4x256x2048_0_0_2048⟩]
      concatenates_S4x256x2048_S4x256x2048_S4x256x4096_d2 (ix3 b s J) = (entry (fun J => Y (ix3 b s J)) J : EReal) := fun b s J => by
    unfold entry factor
    split_ifs with h1 h2
    · exact (concatenate_apply_piece (t := S4x256x4096) (2 : Fin 3) [⟨S4x256x2048, units Y⟩,
        ⟨S4x256x2048, extractStridedSlice S4x256x2048 ![0, 0, 2048] Y slices_S4x256x4096_S4x256x2048_0_0_2048⟩]
        concatenates_S4x256x2048_S4x256x2048_S4x256x4096_d2 (ix3 b s J) 0 (by simp) S4x256x2048 _ rfl rfl 0 rfl
        (ix3 b s (⟨J.val, h1⟩ : Fin 2048)) (fun a ha => by
          match a with
          | ⟨0, _⟩ => rfl
          | ⟨1, _⟩ => rfl
          | ⟨2, _⟩ => exact absurd rfl ha) (Nat.zero_add _)).trans (units_apply Y b s _ J rfl)
    · omega
    · refine (concatenate_apply_piece (t := S4x256x4096) (2 : Fin 3) [⟨S4x256x2048, units Y⟩,
        ⟨S4x256x2048, extractStridedSlice S4x256x2048 ![0, 0, 2048] Y slices_S4x256x4096_S4x256x2048_0_0_2048⟩]
        concatenates_S4x256x2048_S4x256x2048_S4x256x4096_d2 (ix3 b s J) 1 (by simp) S4x256x2048 _ rfl rfl 2048 rfl
        (ix3 b s (⟨J.val - 2048, by omega⟩ : Fin 2048)) (fun a ha => by
          match a with
          | ⟨0, _⟩ => rfl
          | ⟨1, _⟩ => rfl
          | ⟨2, _⟩ => exact absurd rfl ha) (by show 2048 + (J.val - 2048) = J.val; omega)).trans
        ((extractStridedSlice_apply _ _ _ _ (ix3 b s J) fun a => ?_).trans (mul_one _).symm)
      match a with
      | ⟨0, _⟩ => show b.val = 0 + b.val; omega
      | ⟨1, _⟩ => show s.val = 0 + s.val; omega
      | ⟨2, _⟩ => show J.val = 2048 + (J.val - 2048); omega
  funext i
  exact (congrArg _ (eq_ix3 i)).trans (key (i 0) (i 1) (i 2))

/-- The reference's modulation of the one conditioning row. -/
def modulation (cn : FVec Ideal S4096 .f32) (wm : FVec Ideal S4096x24576 .f32) (bm : FVec Ideal S24576 .f32) : FVec Ideal S1x24576 .f32 :=
  addf (Host.dotGeneral dot_S1x4096_S4096x24576_S1x24576_1_0_0_1_n_n none (mulf (broadcastInDim S1x4096 ![1] bcast_S4096_S1x4096_1 cn) (Host.divf
      (broadcastInDim S1x4096 ![] bcast_S_S1x4096 (constant (F := Ideal) S_ .f32 0x3F800000#32))
      (addf (broadcastInDim S1x4096 ![] bcast_S_S1x4096 (constant (F := Ideal) S_ .f32 0x3F800000#32))
        (Host.exp (Host.negf (broadcastInDim S1x4096 ![1] bcast_S4096_S1x4096_1 cn)))))) wm)
    (broadcastInDim S1x24576 ![1] bcast_S24576_S1x24576_1 bm)

/-- A column range of it, set as one row. -/
theorem modulation_apply (cn : FVec Ideal S4096 .f32) (wm : FVec Ideal S4096x24576 .f32) (bm : FVec Ideal S24576 .f32) (off : ℕ) (ho : off + 4096 ≤ 24576)
    (hs : S1x24576.Slices ![0, off] S1x4096) (j : Fin 4096) :
    (broadcastInDim S1x1x4096 ![0, 2] bcast_S1x4096_S1x1x4096_0_2 (extractStridedSlice S1x4096 ![0, off]
      (modulation cn wm bm) hs) (ix3 (0 : Fin 1) (0 : Fin 1) j) : EReal)
      = modul (fun k => cn (ix1 k)) wm bm ⟨off + j.val, by omega⟩ := by
  have e : ∀ k : Fin 4096, (broadcastInDim S1x4096 ![1] bcast_S4096_S1x4096_1 cn (ix2 (0 : Fin 1) k) : EReal) = cn (ix1 k) := fun k => by
    refine broadcastInDim_apply _ _ _ _ _ fun a => ?_
    match a with
    | ⟨0, _⟩ => rfl
  refine (broadcastInDim_apply _ _ _ _ (ix2 (0 : Fin 1) j) fun a => ?_).trans ((extractStridedSlice_apply _ _ hs _
    (ix2 (0 : Fin 1) (⟨off + j.val, by omega⟩ : Fin 24576)) fun a => ?_).trans ?_)
  · match a with
    | ⟨0, _⟩ => rfl
    | ⟨1, _⟩ => rfl
  · match a with
    | ⟨0, _⟩ => rfl
    | ⟨1, _⟩ => rfl
  · refine congrArg₂ (fun a b : EReal => a + b) ((Dense.dot_apply .f32 .f32 _ wm (ix2 (0 : Fin 1) (⟨off + j.val, by omega⟩ : Fin 24576))).trans
      (Finset.sum_congr (M := EReal) rfl fun k _ => congrArg (fun a : EReal => a * wm (ix2 k (⟨off + j.val, by omega⟩ : Fin 24576)))
        (congrArg₂ (fun a b : EReal => a * b) (e k) ((Norm.logistic_quotient _).trans (congrArg Ideal.logistic (e k)))))) ?_
    refine broadcastInDim_apply _ _ _ _ (ix1 (⟨off + j.val, by omega⟩ : Fin 24576)) fun a => ?_
    match a with
    | ⟨0, _⟩ => rfl

/-- The reference's projections of the contexts, with the rows that they are taken of left open. -/
def projected (H : FVec Ideal S4x256x4096 .f32) (w : FVec Ideal S4096x20544 .f32) : FVec Ideal S4x256x4096 .f32 :=
  shapeCast S4x256x4096 (Host.dotGeneral dot_S1024x4096_S4096x4096_S1024x4096_1_0_0_1_n_n none (shapeCast S1024x4096 H shapeCasts_S4x256x4096_S1024x4096)
    (extractStridedSlice S4096x4096 ![0, 0] w slices_S4096x20544_S4096x4096_0_0)) shapeCasts_S1024x4096_S4x256x4096

theorem projected_apply (H : FVec Ideal S4x256x4096 .f32) (w : FVec Ideal S4096x20544 .f32) (b : Fin 4) (l : Fin 256) (j : Fin 4096) :
    (projected H w (ix3 b l j) : EReal) = ∑ k : Fin 4096, H (ix3 b l k) * w (ix2 k (wide j)) := by
  refine (folded _ _ b l j).trans ((Dense.dot_apply .f32 .f32 _ _ (ix2 (row b l) j)).trans (Finset.sum_congr (M := EReal) rfl fun k _ =>
    congrArg₂ (fun a b : EReal => a * b) ((flat_apply _ _ (row b l) k).trans ?_) (extractStridedSlice_apply _ _ _ _ _ fun a => ?_)))
  · rw [seqOf_row, posOf_row]
  · match a with
    | ⟨0, _⟩ => exact (Nat.zero_add _).symm
    | ⟨1, _⟩ => exact (Nat.zero_add _).symm

/-- The reference's modulated norm. -/
def hidden (x : FVec Ideal S4x256x4096 .f32) (cn : FVec Ideal S4096 .f32) (wm : FVec Ideal S4096x24576 .f32) (bm : FVec Ideal S24576 .f32)
    (g : FVec Ideal S4096 .f32) : FVec Ideal S4x256x4096 .f32 :=
  addf (mulf (mulf (mulf x (broadcastInDim S4x256x4096 ![0, 1, 2] bcast_S4x256x1_S4x256x4096_0_1_2 (Host.rsqrt (addf (Host.divf
        (broadcastInDim S4x256x1 ![0, 1] bcast_S4x256_S4x256x1_0_1 (Host.reduceAdd (mulf x x) (constant S_ .f32 0x00000000#32) reducesTo_S4x256x4096_S4x256_d2 h_S_))
        (broadcastInDim S4x256x1 ![] bcast_S_S4x256x1 (constant S_ .f32 0x45800000#32)))
        (broadcastInDim S4x256x1 ![] bcast_S_S4x256x1 (constant S_ .f32 0x358637BD#32))))))
      (broadcastInDim S4x256x4096 ![0, 1, 2] bcast_S1x1x4096_S4x256x4096_0_1_2 (broadcastInDim S1x1x4096 ![2] bcast_S4096_S1x1x4096_2 g)))
      (broadcastInDim S4x256x4096 ![0, 1, 2] bcast_S1x1x4096_S4x256x4096_0_1_2 (addf (broadcastInDim S1x1x4096 ![] bcast_S_S1x1x4096 (constant S_ .f32 0x3F800000#32))
        (broadcastInDim S1x1x4096 ![0, 2] bcast_S1x4096_S1x1x4096_0_2 (extractStridedSlice S1x4096 ![0, 4096] (modulation cn wm bm) slices_S1x24576_S1x4096_0_4096)))))
    (broadcastInDim S4x256x4096 ![0, 1, 2] bcast_S1x1x4096_S4x256x4096_0_1_2
      (broadcastInDim S1x1x4096 ![0, 2] bcast_S1x4096_S1x1x4096_0_2 (extractStridedSlice S1x4096 ![0, 0] (modulation cn wm bm) slices_S1x24576_S1x4096_0_0)))

theorem hidden_apply (x : FVec Ideal S4x256x4096 .f32) (cn : FVec Ideal S4096 .f32) (wm : FVec Ideal S4096x24576 .f32) (bm : FVec Ideal S24576 .f32)
    (g : FVec Ideal S4096 .f32) (b : Fin 4) (l : Fin 256) (k : Fin 4096) : (hidden x cn wm bm g (ix3 b l k) : EReal) = hid x cn wm bm g b l k := by
  unfold hid modded
  exact congrArg₂ (fun a b : EReal => a + b) (congrArg₂ (fun a b : EReal => a * b) (congrArg₂ (fun a b : EReal => a * b)
    (Norm.host_norm_apply x _ _ (by decide) _ _ _ b l k) ((spread_apply _ b l k).trans (lift_apply g k)))
    ((spread_apply _ b l k).trans (congrArg (fun a : EReal => Ideal.ofBits .f32 0x3F800000#32 + a) (modulation_apply cn wm bm 4096 (by omega) _ k))))
    ((spread_apply _ b l k).trans (modulation_apply cn wm bm 0 (by omega) _ k))

/-- The reference's term, from the arguments. -/
def whole (x : FVec Ideal S4x256x4096 .f32) (cn : FVec Ideal S4096 .f32) (wm : FVec Ideal S4096x24576 .f32) (bm : FVec Ideal S24576 .f32)
    (g : FVec Ideal S4096 .f32) (w : FVec Ideal S4096x20544 .f32) (cw : FVec Ideal S5x6144 .f32) : FVec Ideal S4x256x4096 .f32 :=
  concatenate S4x256x4096 2 [⟨S4x256x2048, units (activated (conv (projected (hidden x cn wm bm g) w) cw))⟩,
    ⟨S4x256x2048, extractStridedSlice S4x256x2048 ![0, 0, 2048] (activated (conv (projected (hidden x cn wm bm g) w) cw)) slices_S4x256x4096_S4x256x2048_0_0_2048⟩]
    concatenates_S4x256x2048_S4x256x2048_S4x256x4096_d2

/-- The reference's term is the same function of its arguments. -/
theorem whole_eq (x : FVec Ideal S4x256x4096 .f32) (cn : FVec Ideal S4096 .f32) (wm : FVec Ideal S4096x24576 .f32) (bm : FVec Ideal S24576 .f32)
    (g : FVec Ideal S4096 .f32) (w : FVec Ideal S4096x20544 .f32) (cw : FVec Ideal S5x6144 .f32) : whole x cn wm bm g w cw = outp x cn wm bm g w cw := by
  refine Eq.trans (ranges _) (funext fun i => ?_)
  refine congrArg (fun Y => entry Y (i 2)) (funext fun J => (activated_apply _ _ (i 0) (i 1) J).trans ?_)
  refine congrArg (fun p => act p (fun t j => cw (ix2 t (low j))) (i 0) (i 1) J) (funext fun b => funext fun l => funext fun j => (projected_apply _ _ b l j).trans ?_)
  exact Finset.sum_congr (M := EReal) rfl fun k _ => congrArg (fun a : EReal => a * w (ix2 k (wide j))) (hidden_apply x cn wm bm g b l k)

end Cert.Reference9Ideal.Hand

/-! ## The claims -/

namespace Cert.Kernel9Ideal.Hand

open Cert.Kernel9Ideal Cert.Kernel9Ideal.Gen Idealize.ShloMosaic Idealize.ShloMosaic.TcCoe Idealize.SL.Sem

theorem frame_kernel : Cert.quiescent_Kernel9 := fun m ρ _ => Cert.Kernel9.Gen.frame m ρ

theorem frame_kernelIdeal : Cert.quiescent_Kernel9Ideal := fun m ρ _ => frame m ρ

theorem frame_referenceIdeal : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

theorem preserves : Cert.preserves_Kernel9_Kernel9Ideal :=
  IdealRules.named_const.statement Cert.Kernel9Ideal.κ "inv_sqrt_head" .f32 0x3DB504F3#32 (((Real.sqrt 128)⁻¹ : ℝ) : EReal) rfl

theorem algebraic : Cert.algebraic_Kernel9Ideal_Reference9Ideal := fun m ρ m' ρ' _ e =>
  ⟨fun c => result m c, run m ρ,
    (θ_run Cert.Reference9Ideal.defs _ _).mono (fun r h c => ⟨(h c).1.trans (Eq.trans (Cert.Reference9Ideal.Hand.whole_eq
        (m' ((c.tc : Thread _ _).loc Cert.Reference9Ideal.main_arg0)) (m' ((c.tc : Thread _ _).loc Cert.Reference9Ideal.main_arg2))
        (m' ((c.tc : Thread _ _).loc Cert.Reference9Ideal.main_arg3)) (m' ((c.tc : Thread _ _).loc Cert.Reference9Ideal.main_arg4))
        (m' ((c.tc : Thread _ _).loc Cert.Reference9Ideal.main_arg5)) (m' ((c.tc : Thread _ _).loc Cert.Reference9Ideal.main_arg6))
        (m' ((c.tc : Thread _ _).loc Cert.Reference9Ideal.main_arg7))) (by
        obtain ⟨a0, a1, a2, a3, a4, a5, a6, a7⟩ := e c
        rw [a0, a2, a3, a4, a5, a6, a7]
        rfl)), (h c).2⟩)
      (Cert.Reference9Ideal.Value.run m' ρ')⟩

end Cert.Kernel9Ideal.Hand

end
-- ==== Proof.lean ====
module

public import proofs.«01_k».proof.Defs
public import proofs.«01_k».proof.Proof.Dispatch
public import proofs.«01_k».proof.Proof.InProj
public import proofs.«01_k».proof.Proof.Merge
public import proofs.«01_k».proof.Proof.Ffn1
public import proofs.«01_k».proof.Proof.Ffn2
public import proofs.«01_k».proof.Proof.Combine
public import proofs.«01_k».proof.Proof.Gelu
public import proofs.«01_k».proof.Proof.Conv
public import proofs.«01_k».proof.Proof.Context

@[expose] public section

noncomputable section

namespace Cert.Proof

open Cert.KernelIdeal.Hand

theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel6.Gen.facts, Cert.Kernel6Ideal.Gen.facts, Cert.Reference6Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Pre_tokens_in_range.Gen.facts, Cert.Pre_experts_in_range.Gen.facts, Cert.Pre_owners_in_range.Gen.facts,
    Cert.Pre_slots_in_range.Gen.facts,
    frame_kernel, frame_kernelIdeal, frame_referenceIdeal, frame_referenceIdeal_pre, frame_reference,
    Kernel2Ideal.Hand.frame_kernel, Kernel2Ideal.Hand.frame_kernelIdeal, Kernel2Ideal.Hand.frame_referenceIdeal,
    Kernel3.Hand.frame, Kernel3Ideal.Hand.frame, Kernel3Ideal.Hand.frame_reference, Kernel3Ideal.Hand.frame_reference_pre,
    Kernel6.Hand.frame, Kernel6Ideal.Hand.frame, Kernel6Ideal.Hand.frame_reference, Kernel6Ideal.Hand.frame_reference_pre,
    Kernel4Ideal.Hand.frame_kernel, Kernel4Ideal.Hand.frame_kernelIdeal, Kernel4Ideal.Hand.frame_referenceIdeal,
    Kernel5Ideal.Hand.frame_kernel, Kernel5Ideal.Hand.frame_kernelIdeal, Kernel5Ideal.Hand.frame_reference, Kernel5Ideal.Hand.frame_reference_pre,
    Kernel7Ideal.Hand.frame_kernel, Kernel7Ideal.Hand.frame_kernelIdeal, Kernel7Ideal.Hand.frame_referenceIdeal,
    Kernel8Ideal.Hand.frame_kernel, Kernel8Ideal.Hand.frame_kernelIdeal, Kernel8Ideal.Hand.frame_referenceIdeal,
    Kernel9Ideal.Hand.frame_kernel, Kernel9Ideal.Hand.frame_kernelIdeal, Kernel9Ideal.Hand.frame_referenceIdeal,
    trivial, algebraic, bitexact, trivial, Kernel2Ideal.Hand.algebraic, trivial, Kernel3Ideal.Hand.algebraic, trivial, Kernel6Ideal.Hand.algebraic,
    trivial, Kernel4Ideal.Hand.algebraic, trivial, Kernel5Ideal.Hand.algebraic,
    trivial, Kernel7Ideal.Hand.algebraic, Kernel8Ideal.Hand.preserves, Kernel8Ideal.Hand.algebraic,
    Kernel9Ideal.Hand.preserves, Kernel9Ideal.Hand.algebraic⟩

end Cert.Proof

end
